-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "slope0" .f32 0x400C4936#32 ((25600 / 11679 : ℝ) : EReal)
  ∧ IdealRules.named_const.Statement Cert.KernelIdeal.κ "offset0" .f32 0xC3878BBD#32 ((-62080 / 229 : ℝ) : EReal)
  ∧ IdealRules.named_const.Statement Cert.KernelIdeal.κ "slope1" .f32 0x400F6AD9#32 ((800 / 357 : ℝ) : EReal)
  ∧ IdealRules.named_const.Statement Cert.KernelIdeal.κ "offset1" .f32 0xC3824925#32 ((-1824 / 7 : ℝ) : EReal)
  ∧ IdealRules.named_const.Statement Cert.KernelIdeal.κ "slope2" .f32 0xC00EC7AB#32 ((-1024 / 459 : ℝ) : EReal)
  ∧ IdealRules.named_const.Statement Cert.KernelIdeal.κ "offset2" .f32 0xC366F809#32 ((-51968 / 225 : ℝ) : EReal)
  ∧ IdealRules.named_const.Statement Cert.KernelIdeal.κ "mean0" .f32 0x3EF851EC#32 ((97 / 200 : ℝ) : EReal)
  ∧ IdealRules.named_const.Statement Cert.KernelIdeal.κ "std0" .f32 0x3E6A7EFA#32 ((229 / 1000 : ℝ) : EReal)
  ∧ IdealRules.named_const.Statement Cert.KernelIdeal.κ "mean1" .f32 0x3EE978D5#32 ((57 / 125 : ℝ) : EReal)
  ∧ IdealRules.named_const.Statement Cert.KernelIdeal.κ "std1" .f32 0x3E656042#32 ((28 / 125 : ℝ) : EReal)
  ∧ IdealRules.named_const.Statement Cert.KernelIdeal.κ "mean2" .f32 0x3ECFDF3B#32 ((203 / 500 : ℝ) : EReal)
  ∧ IdealRules.named_const.Statement Cert.KernelIdeal.κ "std2" .f32 0x3E666666#32 ((9 / 40 : ℝ) : EReal)

def algebraic_KernelIdeal_ReferenceIdeal_on_covered [hKernelIdeal : Cert.KernelIdeal.Facts] [hReferenceIdeal : Cert.ReferenceIdeal.Facts] [hOn_covered : Cert.On_covered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v70_0)) (v1 : (c : Dev Cert.KernelIdeal.nD) → Buf (Elt Ideal) ((c.tc : Thread Cert.KernelIdeal.nD Cert.KernelIdeal.τ).loc Cert.KernelIdeal.main_v70_1)) (v2 : (c : Dev Cert.KernelIdeal.nD) → Buf (Elt Ideal) ((c.tc : Thread Cert.KernelIdeal.nD Cert.KernelIdeal.τ).loc Cert.KernelIdeal.main_v70_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![56, 72, 64, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v70_0) i = v0 c i)
          ∧ (∀ i : (⟨4, ![224, 3, 288, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v70_1) i = v1 c i)
          ∧ (∀ i : (⟨2, ![3, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.KernelIdeal.nD Cert.KernelIdeal.τ).loc Cert.KernelIdeal.main_v70_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![56, 72, 64, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v56) i = v0 c i)
          ∧ (∀ i : (⟨4, ![224, 3, 288, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v57) i = v1 c i)
          ∧ (∀ i : (⟨2, ![3, 128]⟩ : Shape).Idx, (Cert.On_covered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 i = 1#1 → r.2.mem ((c.tc : Thread Cert.ReferenceIdeal.nD Cert.ReferenceIdeal.τ).loc Cert.ReferenceIdeal.main_v9_1) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hOn_covered : Cert.On_covered.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_covered (hKernelIdeal := hKernelIdeal) (hReferenceIdeal := hReferenceIdeal) (hOn_covered := hOn_covered)
-- ==== On_covered.lean ====
abbrev S128x224x288x3 : Shape := ⟨4, ![128, 224, 288, 3]⟩
abbrev S7x7x3x64 : Shape := ⟨4, ![7, 7, 3, 64]⟩
abbrev S64 : Shape := ⟨1, ![64]⟩
abbrev S_ : Shape := ⟨0, ![]⟩
abbrev S1x1x64x1 : Shape := ⟨4, ![1, 1, 64, 1]⟩
abbrev S56x72x64x128 : Shape := ⟨4, ![56, 72, 64, 128]⟩
abbrev S224x3x288x128 : Shape := ⟨4, ![224, 3, 288, 128]⟩
abbrev S3x128 : Shape := ⟨2, ![3, 128]⟩

class Facts : Prop where
  bcast_S_S64 : S_.BroadcastsInDim S64 (![] : Fin 0 → Fin S64.rank)
  bcast_S64_S1x1x64x1_2 : S64.BroadcastsInDim S1x1x64x1 (![2] : Fin 1 → Fin S1x1x64x1.rank)
  bcast_S1x1x64x1_S56x72x64x128_0_1_2_3 : S1x1x64x1.BroadcastsInDim S56x72x64x128 (![0, 1, 2, 3] : Fin 4 → Fin S56x72x64x128.rank)
  bcast_S_S224x3x288x128 : S_.BroadcastsInDim S224x3x288x128 (![] : Fin 0 → Fin S224x3x288x128.rank)
  bcast_S_S3x128 : S_.BroadcastsInDim S3x128 (![] : Fin 0 → Fin S3x128.rank)

variable [Facts]

def fn {F : FTy → Type} [FloatOps F] (main_arg0 : IVec S128x224x288x3 8) (main_arg1 : FVec F S7x7x3x64 .fp8e4m3) (main_arg2 : FVec F S64 .f32) (main_arg3 : FVec F S64 .f32) (main_arg4 : FVec F S64 .f32) : IVec S56x72x64x128 1 × IVec S224x3x288x128 1 × IVec S3x128 1 :=
  let main_v0 : FVec F S64 .f32 := mulf main_arg2 main_arg3
  let main_cst : FVec F S_ .f32 := constant S_ .f32 0x00000000#32
  let main_v1 : FVec F S64 .f32 := broadcastInDim S64 ![] bcast_S_S64 main_cst
  let main_v2 : IVec S64 1 := cmpf .oge main_v0 main_v1
  let main_v3 : IVec S1x1x64x1 1 := broadcastInDim S1x1x64x1 ![2] bcast_S64_S1x1x64x1_2 main_v2
  let main_v4 : IVec S56x72x64x128 1 := broadcastInDim S56x72x64x128 ![0, 1, 2, 3] bcast_S1x1x64x1_S56x72x64x128_0_1_2_3 main_v3
  let main_c : IVec S_ 1 := constantI S_ 1 1#1
  let main_v5 : IVec S224x3x288x128 1 := broadcastInDim S224x3x288x128 ![] bcast_S_S224x3x288x128 main_c
  let main_c_0 : IVec S_ 1 := constantI S_ 1 1#1
  let main_v6 : IVec S3x128 1 := broadcastInDim S3x128 ![] bcast_S_S3x128 main_c_0
  (main_v4, main_v5, main_v6)
-- ==== Kernel.lean ====
abbrev S128x224x288x3 : Shape := ⟨4, ![128, 224, 288, 3]⟩
abbrev S7x7x3x64 : Shape := ⟨4, ![7, 7, 3, 64]⟩
abbrev S64 : Shape := ⟨1, ![64]⟩
abbrev S224x3x288x128 : Shape := ⟨4, ![224, 3, 288, 128]⟩
abbrev S64x7x7x3 : Shape := ⟨4, ![64, 7, 7, 3]⟩
abbrev S64x7x1x3 : Shape := ⟨4, ![64, 7, 1, 3]⟩
abbrev S64x7x4x3 : Shape := ⟨4, ![64, 7, 4, 3]⟩
abbrev S64x7x12x3 : Shape := ⟨4, ![64, 7, 12, 3]⟩
abbrev S64x7x3x4x3 : Shape := ⟨5, ![64, 7, 3, 4, 3]⟩
abbrev S64x7x3x3x4 : Shape := ⟨5, ![64, 7, 3, 3, 4]⟩
abbrev S64x7x9x4 : Shape := ⟨4, ![64, 7, 9, 4]⟩
abbrev S64x7x8x4 : Shape := ⟨4, ![64, 7, 8, 4]⟩
abbrev S64x224 : Shape := ⟨2, ![64, 224]⟩
abbrev S64x7x1x4 : Shape := ⟨4, ![64, 7, 1, 4]⟩
abbrev S64x7x4 : Shape := ⟨3, ![64, 7, 4]⟩
abbrev S64x0x4 : Shape := ⟨3, ![64, 0, 4]⟩
abbrev S64x1x4 : Shape := ⟨3, ![64, 1, 4]⟩
abbrev S64x8x4 : Shape := ⟨3, ![64, 8, 4]⟩
abbrev S64x32 : Shape := ⟨2, ![64, 32]⟩
abbrev S64x256 : Shape := ⟨2, ![64, 256]⟩
abbrev S64x7x3x3 : Shape := ⟨4, ![64, 7, 3, 3]⟩
abbrev S64x7x2x3 : Shape := ⟨4, ![64, 7, 2, 3]⟩
abbrev S128x256 : Shape := ⟨2, ![128, 256]⟩
abbrev S_ : Shape := ⟨0, ![]⟩
abbrev S64x1x1x1 : Shape := ⟨4, ![64, 1, 1, 1]⟩
abbrev S64x1 : Shape := ⟨2, ![64, 1]⟩
abbrev S64x128 : Shape := ⟨2, ![64, 128]⟩
abbrev S56x72x64x128 : Shape := ⟨4, ![56, 72, 64, 128]⟩
abbrev S3x128 : Shape := ⟨2, ![3, 128]⟩
abbrev S8x3x288x128 : Shape := ⟨4, ![8, 3, 288, 128]⟩
abbrev S1x72x64x128 : Shape := ⟨4, ![1, 72, 64, 128]⟩
abbrev S4x3x288x128 : Shape := ⟨4, ![4, 3, 288, 128]⟩
abbrev S230x75x3x4x128 : Shape := ⟨5, ![230, 75, 3, 4, 128]⟩
abbrev S72x64x128 : Shape := ⟨3, ![72, 64, 128]⟩
abbrev S2x64x128 : Shape := ⟨3, ![2, 64, 128]⟩
abbrev S6x16x128 : Shape := ⟨3, ![6, 16, 128]⟩
abbrev S3x8x128 : Shape := ⟨3, ![3, 8, 128]⟩
abbrev S75x3x4x128 : Shape := ⟨4, ![75, 3, 4, 128]⟩
abbrev S1x75x3x4x128 : Shape := ⟨5, ![1, 75, 3, 4, 128]⟩
abbrev S3x3x4x128 : Shape := ⟨4, ![3, 3, 4, 128]⟩
abbrev S1x3x3x4x128 : Shape := ⟨5, ![1, 3, 3, 4, 128]⟩
abbrev S16x128 : Shape := ⟨2, ![16, 128]⟩
abbrev S1x16x128 : Shape := ⟨3, ![1, 16, 128]⟩
abbrev S1x1x32x128 : Shape := ⟨4, ![1, 1, 32, 128]⟩
abbrev S32x128 : Shape := ⟨2, ![32, 128]⟩
abbrev S8x4x128 : Shape := ⟨3, ![8, 4, 128]⟩
abbrev S1x8x1x4x128 : Shape := ⟨5, ![1, 8, 1, 4, 128]⟩
abbrev S128 : Shape := ⟨1, ![128]⟩
abbrev S1x128 : Shape := ⟨2, ![1, 128]⟩
abbrev S8x128 : Shape := ⟨2, ![8, 128]⟩
abbrev S1x8x128 : Shape := ⟨3, ![1, 8, 128]⟩
abbrev S8x1x128 : Shape := ⟨3, ![8, 1, 128]⟩
abbrev S1x64x128 : Shape := ⟨3, ![1, 64, 128]⟩
abbrev S36x128 : Shape := ⟨2, ![36, 128]⟩
abbrev S8x1x1x4x128 : Shape := ⟨5, ![8, 1, 1, 4, 128]⟩
abbrev S256x128 : Shape := ⟨2, ![256, 128]⟩
abbrev S256x256 : Shape := ⟨2, ![256, 256]⟩
abbrev S1x1x64x128 : Shape := ⟨4, ![1, 1, 64, 128]⟩

abbrev nBuf : Space → Nat
  | .hbm => 92
  | .vmem => 16
  | .smem => 0
  | _ => 0

abbrev bufTy : (tb : Table) → Fin (tcTables nBuf tb) → BufTy
  | .hbm, ⟨0, _⟩ => ⟨S128x224x288x3, .i8⟩
  | .hbm, ⟨1, _⟩ => ⟨S7x7x3x64, .fp8e4m3⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S224x3x288x128, .i8⟩
  | .hbm, ⟨6, _⟩ => ⟨S64, .f32⟩
  | .hbm, ⟨7, _⟩ => ⟨S64x7x7x3, .fp8e4m3⟩
  | .hbm, ⟨8, _⟩ => ⟨S64x7x1x3, .fp8e4m3⟩
  | .hbm, ⟨9, _⟩ => ⟨S64x7x4x3, .fp8e4m3⟩
  | .hbm, ⟨10, _⟩ => ⟨S64x7x12x3, .fp8e4m3⟩
  | .hbm, ⟨11, _⟩ => ⟨S64x7x3x4x3, .fp8e4m3⟩
  | .hbm, ⟨12, _⟩ => ⟨S64x7x3x3x4, .fp8e4m3⟩
  | .hbm, ⟨13, _⟩ => ⟨S64x7x9x4, .fp8e4m3⟩
  | .hbm, ⟨14, _⟩ => ⟨S64x7x8x4, .fp8e4m3⟩
  | .hbm, ⟨15, _⟩ => ⟨S64x224, .fp8e4m3⟩
  | .hbm, ⟨16, _⟩ => ⟨S64x7x1x4, .fp8e4m3⟩
  | .hbm, ⟨17, _⟩ => ⟨S64x7x4, .fp8e4m3⟩
  | .hbm, ⟨18, _⟩ => ⟨S64x0x4, .fp8e4m3⟩
  | .hbm, ⟨19, _⟩ => ⟨S64x1x4, .fp8e4m3⟩
  | .hbm, ⟨20, _⟩ => ⟨S64x8x4, .fp8e4m3⟩
  | .hbm, ⟨21, _⟩ => ⟨S64x32, .fp8e4m3⟩
  | .hbm, ⟨22, _⟩ => ⟨S64x256, .fp8e4m3⟩
  | .hbm, ⟨23, _⟩ => ⟨S64x7x3x3, .fp8e4m3⟩
  | .hbm, ⟨24, _⟩ => ⟨S64x7x2x3, .fp8e4m3⟩
  | .hbm, ⟨25, _⟩ => ⟨S64x7x12x3, .fp8e4m3⟩
  | .hbm, ⟨26, _⟩ => ⟨S64x7x3x4x3, .fp8e4m3⟩
  | .hbm, ⟨27, _⟩ => ⟨S64x7x3x3x4, .fp8e4m3⟩
  | .hbm, ⟨28, _⟩ => ⟨S64x7x9x4, .fp8e4m3⟩
  | .hbm, ⟨29, _⟩ => ⟨S64x7x8x4, .fp8e4m3⟩
  | .hbm, ⟨30, _⟩ => ⟨S64x224, .fp8e4m3⟩
  | .hbm, ⟨31, _⟩ => ⟨S64x7x1x4, .fp8e4m3⟩
  | .hbm, ⟨32, _⟩ => ⟨S64x7x4, .fp8e4m3⟩
  | .hbm, ⟨33, _⟩ => ⟨S64x0x4, .fp8e4m3⟩
  | .hbm, ⟨34, _⟩ => ⟨S64x1x4, .fp8e4m3⟩
  | .hbm, ⟨35, _⟩ => ⟨S64x8x4, .fp8e4m3⟩
  | .hbm, ⟨36, _⟩ => ⟨S64x32, .fp8e4m3⟩
  | .hbm, ⟨37, _⟩ => ⟨S64x256, .fp8e4m3⟩
  | .hbm, ⟨38, _⟩ => ⟨S128x256, .fp8e4m3⟩
  | .hbm, ⟨39, _⟩ => ⟨S_, .f32⟩
  | .hbm, ⟨40, _⟩ => ⟨S64, .f32⟩
  | .hbm, ⟨41, _⟩ => ⟨S64, .i1⟩
  | .hbm, ⟨42, _⟩ => ⟨S_, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64x1x1x1, .f32⟩
  | .hbm, ⟨49, _⟩ => ⟨S64x7x7x3, .f32⟩
  | .hbm, ⟨50, _⟩ => ⟨S_, .i32⟩
  | .hbm, ⟨51, _⟩ => ⟨S_, .f32⟩
  | .hbm, ⟨52, _⟩ => ⟨S64x7x12x3, .f32⟩
  | .hbm, ⟨53, _⟩ => ⟨S64x7x3x4x3, .f32⟩
  | .hbm, ⟨54, _⟩ => ⟨S64x7x3x3x4, .f32⟩
  | .hbm, ⟨55, _⟩ => ⟨S64x7x9x4, .f32⟩
  | .hbm, ⟨56, _⟩ => ⟨S64x7x8x4, .f32⟩
  | .hbm, ⟨57, _⟩ => ⟨S64x224, .f32⟩
  | .hbm, ⟨58, _⟩ => ⟨S64x7x1x4, .f32⟩
  | .hbm, ⟨59, _⟩ => ⟨S64x7x4, .f32⟩
  | .hbm, ⟨60, _⟩ => ⟨S_, .i32⟩
  | .hbm, ⟨61, _⟩ => ⟨S_, .f32⟩
  | .hbm, ⟨62, _⟩ => ⟨S64x8x4, .f32⟩
  | .hbm, ⟨63, _⟩ => ⟨S64x32, .f32⟩
  | .hbm, ⟨64, _⟩ => ⟨S64x256, .f32⟩
  | .hbm, ⟨65, _⟩ => ⟨S_, .i32⟩
  | .hbm, ⟨66, _⟩ => ⟨S_, .f32⟩
  | .hbm, ⟨67, _⟩ => ⟨S64x7x12x3, .f32⟩
  | .hbm, ⟨68, _⟩ => ⟨S64x7x3x4x3, .f32⟩
  | .hbm, ⟨69, _⟩ => ⟨S64x7x3x3x4, .f32⟩
  | .hbm, ⟨70, _⟩ => ⟨S64x7x9x4, .f32⟩
  | .hbm, ⟨71, _⟩ => ⟨S64x7x8x4, .f32⟩
  | .hbm, ⟨72, _⟩ => ⟨S64x224, .f32⟩
  | .hbm, ⟨73, _⟩ => ⟨S64x7x1x4, .f32⟩
  | .hbm, ⟨74, _⟩ => ⟨S64x7x4, .f32⟩
  | .hbm, ⟨75, _⟩ => ⟨S_, .i32⟩
  | .hbm, ⟨76, _⟩ => ⟨S_, .f32⟩
  | .hbm, ⟨77, _⟩ => ⟨S64x8x4, .f32⟩
  | .hbm, ⟨78, _⟩ => ⟨S64x32, .f32⟩
  | .hbm, ⟨79, _⟩ => ⟨S64x256, .f32⟩
  | .hbm, ⟨80, _⟩ => ⟨S128x256, .f32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64x1, .f32⟩
  | .hbm, ⟨86, _⟩ => ⟨S64x128, .f32⟩
  | .hbm, ⟨87, _⟩ => ⟨S64x1, .f32⟩
  | .hbm, ⟨88, _⟩ => ⟨S64x128, .f32⟩
  | .hbm, ⟨89, _⟩ => ⟨S56x72x64x128, .bf16⟩
  | .hbm, ⟨90, _⟩ => ⟨S224x3x288x128, .fp8e4m3⟩
  | .hbm, ⟨91, _⟩ => ⟨S3x128, .f32⟩
  | .local _ .vmem, ⟨0, _⟩ => ⟨S8x3x288x128, .i8⟩
  | .local _ .vmem, ⟨1, _⟩ => ⟨S8x3x288x128, .i8⟩
  | .local _ .vmem, ⟨2, _⟩ => ⟨S128x256, .fp8e4m3⟩
  | .local _ .vmem, ⟨3, _⟩ => ⟨S128x256, .f32⟩
  | .local _ .vmem, ⟨4, _⟩ => ⟨S64x128, .f32⟩
  | .local _ .vmem, ⟨5, _⟩ => ⟨S64x128, .f32⟩
  | .local _ .vmem, ⟨6, _⟩ => ⟨S1x72x64x128, .bf16⟩
  | .local _ .vmem, ⟨7, _⟩ => ⟨S1x72x64x128, .bf16⟩
  | .local _ .vmem, ⟨8, _⟩ => ⟨S4x3x288x128, .fp8e4m3⟩
  | .local _ .vmem, ⟨9, _⟩ => ⟨S4x3x288x128, .fp8e4m3⟩
  | .local _ .vmem, ⟨10, _⟩ => ⟨S3x128, .f32⟩
  | .local _ .vmem, ⟨11, _⟩ => ⟨S230x75x3x4x128, .fp8e4m3⟩
  | .local _ .vmem, ⟨12, _⟩ => ⟨S72x64x128, .f32⟩
  | .local _ .vmem, ⟨13, _⟩ => ⟨S2x64x128, .f32⟩
  | .local _ .vmem, ⟨14, _⟩ => ⟨S6x16x128, .bf16⟩
  | .local _ .vmem, ⟨15, _⟩ => ⟨S3x8x128, .i32⟩
  | _, _ => ⟨S128x224x288x3, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst : Ref sig .tc := ⟨.hbm, 39, rfl⟩
abbrev main_v34 : Ref sig .tc := ⟨.hbm, 40, rfl⟩
abbrev main_v35 : Ref sig .tc := ⟨.hbm, 41, rfl⟩
abbrev main_cst_0 : Ref sig .tc := ⟨.hbm, 42, rfl⟩
abbrev main_cst_1 : Ref sig .tc := ⟨.hbm, 43, rfl⟩
abbrev main_call0_v0 : Ref sig .tc := ⟨.hbm, 44, rfl⟩
abbrev main_call0_v1 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c : Ref sig .tc := ⟨.hbm, 50, rfl⟩
abbrev main_call1_v0 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_2 : Ref sig .tc := ⟨.hbm, 60, rfl⟩
abbrev main_call2_v0 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_3 : Ref sig .tc := ⟨.hbm, 65, rfl⟩
abbrev main_call3_v0 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_4 : Ref sig .tc := ⟨.hbm, 75, rfl⟩
abbrev main_call4_v0 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_5 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70_0 : Ref sig .tc := ⟨.hbm, 89, rfl⟩
abbrev main_v70_1 : Ref sig .tc := ⟨.hbm, 90, rfl⟩
abbrev main_v70_2 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10

abbrev nD : Nat := 1
abbrev τ : Topo := Topo.v7x

variable {F : FTy → Type} [FloatOps F]

abbrev grid0 : Pipeline.Grid := ⟨1, ![84], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c3_i32 : BitVec 32 := 3#32
  let c224_i32 : BitVec 32 := 224#32
  let v31 : BitVec 32 := Scalar.addi c3_i32 c224_i32
  let c1_i32 : BitVec 32 := 1#32
  ⟨c3_i32, v31, c1_i32⟩
def k0_off1 (k0_t1 : Fin k0_t1_loop.trips) : Fin 5 → Nat :=
  let c3_i32 : BitVec 32 := 3#32
  let c1_i32 : BitVec 32 := 1#32
  let arg14 : BitVec 32 := Scf.iv c3_i32 c1_i32 k0_t1
  let v57 : Index := Scalar.indexCast arg14
  let c0_53 : Index := 0#32
  let c0_54 : Index := 0#32
  let c0_55 : Index := 0#32
  let c0_56 : Index := 0#32
  ![v57.toNat, 0, 0, 0, 0]
def k0_off2 (k0_t1 : Fin k0_t1_loop.trips) : Fin 5 → Nat :=
  let c3_i32 : BitVec 32 := 3#32
  let c1_i32 : BitVec 32 := 1#32
  let arg14 : BitVec 32 := Scf.iv c3_i32 c1_i32 k0_t1
  let v62 : Index := Scalar.indexCast arg14
  let c72 : Index := 72#32
  let c0_58 : Index := 0#32
  let c0_59 : Index := 0#32
  let c0_60 : Index := 0#32
  ![v62.toNat, 72, 0, 0, 0]
def k0_cond2 (i : grid0.Coords) : BitVec 1 :=
  let arg0 : BitVec 32 := BitVec.ofNat 32 (i 0).val
  let c28_i32 : BitVec 32 := 28#32
  let v3 : BitVec 1 := Scalar.cmpi .slt arg0 c28_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_6 : BitVec 32 := 0#32
  let c8_i32 : BitVec 32 := 8#32
  let v12 : BitVec 32 := Scalar.addi c0_i32_6 c8_i32
  let c1_i32 : BitVec 32 := 1#32
  ⟨c0_i32_6, v12, c1_i32⟩
def k0_off3 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v17 : Index := Scalar.indexCast arg14
  let c0_12 : Index := 0#32
  let c0_13 : Index := 0#32
  let c0_14 : Index := 0#32
  ![v17.toNat, 0, 0, 0]
def k0_off4 (i : grid0.Coords) (k0_t2 : Fin k0_t2_loop.trips) : Fin 5 → Nat :=
  let arg0 : BitVec 32 := BitVec.ofNat 32 (i 0).val
  let c8_i32_18 : BitVec 32 := 8#32
  let v38 : BitVec 32 := Scalar.muli arg0 c8_i32_18
  let c0_i32_6 : BitVec 32 := 0#32
  let c1_i32 : BitVec 32 := 1#32
  let arg14 : BitVec 32 := Scf.iv c0_i32_6 c1_i32 k0_t2
  let v39 : BitVec 32 := Scalar.addi v38 arg14
  let c3_i32 : BitVec 32 := 3#32
  let v40 : BitVec 32 := Scalar.addi v39 c3_i32
  let v41 : Index := Scalar.indexCast v40
  let c1_19 : Index := 1#32
  let c0_20 : Index := 0#32
  let c0_21 : Index := 0#32
  let c0_22 : Index := 0#32
  ![v41.toNat, 1, 0, 0, 0]
def k0_off5 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v45 : Index := Scalar.indexCast arg14
  let c0_23 : Index := 0#32
  let c32 : Index := 32#32
  let c0_24 : Index := 0#32
  ![v45.toNat, 0, 32, 0]
def k0_off6 (i : grid0.Coords) (k0_t2 : Fin k0_t2_loop.trips) : Fin 5 → Nat :=
  let arg0 : BitVec 32 := BitVec.ofNat 32 (i 0).val
  let c8_i32_29 : BitVec 32 := 8#32
  let v66 : BitVec 32 := Scalar.muli arg0 c8_i32_29
  let c0_i32_6 : BitVec 32 := 0#32
  let c1_i32 : BitVec 32 := 1#32
  let arg14 : BitVec 32 := Scf.iv c0_i32_6 c1_i32 k0_t2
  let v67 : BitVec 32 := Scalar.addi v66 arg14
  let c3_i32_30 : BitVec 32 := 3#32
  let v68 : BitVec 32 := Scalar.addi v67 c3_i32_30
  let v69 : Index := Scalar.indexCast v68
  let c9 : Index := 9#32
  let c0_31 : Index := 0#32
  let c0_32 : Index := 0#32
  let c0_33 : Index := 0#32
  ![v69.toNat, 9, 0, 0, 0]
def k0_off7 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v73 : Index := Scalar.indexCast arg14
  let c0_34 : Index := 0#32
  let c64 : Index := 64#32
  let c0_35 : Index := 0#32
  ![v73.toNat, 0, 64, 0]
def k0_off8 (i : grid0.Coords) (k0_t2 : Fin k0_t2_loop.trips) : Fin 5 → Nat :=
  let arg0 : BitVec 32 := BitVec.ofNat 32 (i 0).val
  let c8_i32_40 : BitVec 32 := 8#32
  let v94 : BitVec 32 := Scalar.muli arg0 c8_i32_40
  let c0_i32_6 : BitVec 32 := 0#32
  let c1_i32 : BitVec 32 := 1#32
  let arg14 : BitVec 32 := Scf.iv c0_i32_6 c1_i32 k0_t2
  let v95 : BitVec 32 := Scalar.addi v94 arg14
  let c3_i32_41 : BitVec 32 := 3#32
  let v96 : BitVec 32 := Scalar.addi v95 c3_i32_41
  let v97 : Index := Scalar.indexCast v96
  let c17 : Index := 17#32
  let c0_42 : Index := 0#32
  let c0_43 : Index := 0#32
  let c0_44 : Index := 0#32
  ![v97.toNat, 17, 0, 0, 0]
def k0_off9 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v101 : Index := Scalar.indexCast arg14
  let c0_45 : Index := 0#32
  let c96 : Index := 96#32
  let c0_46 : Index := 0#32
  ![v101.toNat, 0, 96, 0]
def k0_off10 (i : grid0.Coords) (k0_t2 : Fin k0_t2_loop.trips) : Fin 5 → Nat :=
  let arg0 : BitVec 32 := BitVec.ofNat 32 (i 0).val
  let c8_i32_51 : BitVec 32 := 8#32
  let v122 : BitVec 32 := Scalar.muli arg0 c8_i32_51
  let c0_i32_6 : BitVec 32 := 0#32
  let c1_i32 : BitVec 32 := 1#32
  let arg14 : BitVec 32 := Scf.iv c0_i32_6 c1_i32 k0_t2
  let v123 : BitVec 32 := Scalar.addi v122 arg14
  let c3_i32_52 : BitVec 32 := 3#32
  let v124 : BitVec 32 := Scalar.addi v123 c3_i32_52
  let v125 : Index := Scalar.indexCast v124
  let c25 : Index := 25#32
  let c0_53 : Index := 0#32
  let c0_54 : Index := 0#32
  let c0_55 : Index := 0#32
  ![v125.toNat, 25, 0, 0, 0]
def k0_off11 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v129 : Index := Scalar.indexCast arg14
  let c0_56 : Index := 0#32
  let c128 : Index := 128#32
  let c0_57 : Index := 0#32
  ![v129.toNat, 0, 128, 0]
def k0_off12 (i : grid0.Coords) (k0_t2 : Fin k0_t2_loop.trips) : Fin 5 → Nat :=
  let arg0 : BitVec 32 := BitVec.ofNat 32 (i 0).val
  let c8_i32_62 : BitVec 32 := 8#32
  let v150 : BitVec 32 := Scalar.muli arg0 c8_i32_62
  let c0_i32_6 : BitVec 32 := 0#32
  let c1_i32 : BitVec 32 := 1#32
  let arg14 : BitVec 32 := Scf.iv c0_i32_6 c1_i32 k0_t2
  let v151 : BitVec 32 := Scalar.addi v150 arg14
  let c3_i32_63 : BitVec 32 := 3#32
  let v152 : BitVec 32 := Scalar.addi v151 c3_i32_63
  let v153 : Index := Scalar.indexCast v152
  let c33 : Index := 33#32
  let c0_64 : Index := 0#32
  let c0_65 : Index := 0#32
  let c0_66 : Index := 0#32
  ![v153.toNat, 33, 0, 0, 0]
def k0_off13 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v157 : Index := Scalar.indexCast arg14
  let c0_67 : Index := 0#32
  let c160 : Index := 160#32
  let c0_68 : Index := 0#32
  ![v157.toNat, 0, 160, 0]
def k0_off14 (i : grid0.Coords) (k0_t2 : Fin k0_t2_loop.trips) : Fin 5 → Nat :=
  let arg0 : BitVec 32 := BitVec.ofNat 32 (i 0).val
  let c8_i32_73 : BitVec 32 := 8#32
  let v178 : BitVec 32 := Scalar.muli arg0 c8_i32_73
  let c0_i32_6 : BitVec 32 := 0#32
  let c1_i32 : BitVec 32 := 1#32
  let arg14 : BitVec 32 := Scf.iv c0_i32_6 c1_i32 k0_t2
  let v179 : BitVec 32 := Scalar.addi v178 arg14
  let c3_i32_74 : BitVec 32 := 3#32
  let v180 : BitVec 32 := Scalar.addi v179 c3_i32_74
  let v181 : Index := Scalar.indexCast v180
  let c41 : Index := 41#32
  let c0_75 : Index := 0#32
  let c0_76 : Index := 0#32
  let c0_77 : Index := 0#32
  ![v181.toNat, 41, 0, 0, 0]
def k0_off15 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v185 : Index := Scalar.indexCast arg14
  let c0_78 : Index := 0#32
  let c192 : Index := 192#32
  let c0_79 : Index := 0#32
  ![v185.toNat, 0, 192, 0]
def k0_off16 (i : grid0.Coords) (k0_t2 : Fin k0_t2_loop.trips) : Fin 5 → Nat :=
  let arg0 : BitVec 32 := BitVec.ofNat 32 (i 0).val
  let c8_i32_84 : BitVec 32 := 8#32
  let v206 : BitVec 32 := Scalar.muli arg0 c8_i32_84
  let c0_i32_6 : BitVec 32 := 0#32
  let c1_i32 : BitVec 32 := 1#32
  let arg14 : BitVec 32 := Scf.iv c0_i32_6 c1_i32 k0_t2
  let v207 : BitVec 32 := Scalar.addi v206 arg14
  let c3_i32_85 : BitVec 32 := 3#32
  let v208 : BitVec 32 := Scalar.addi v207 c3_i32_85
  let v209 : Index := Scalar.indexCast v208
  let c49 : Index := 49#32
  let c0_86 : Index := 0#32
  let c0_87 : Index := 0#32
  let c0_88 : Index := 0#32
  ![v209.toNat, 49, 0, 0, 0]
def k0_off17 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v213 : Index := Scalar.indexCast arg14
  let c0_89 : Index := 0#32
  let c224 : Index := 224#32
  let c0_90 : Index := 0#32
  ![v213.toNat, 0, 224, 0]
def k0_off18 (i : grid0.Coords) (k0_t2 : Fin k0_t2_loop.trips) : Fin 5 → Nat :=
  let arg0 : BitVec 32 := BitVec.ofNat 32 (i 0).val
  let c8_i32_95 : BitVec 32 := 8#32
  let v234 : BitVec 32 := Scalar.muli arg0 c8_i32_95
  let c0_i32_6 : BitVec 32 := 0#32
  let c1_i32 : BitVec 32 := 1#32
  let arg14 : BitVec 32 := Scf.iv c0_i32_6 c1_i32 k0_t2
  let v235 : BitVec 32 := Scalar.addi v234 arg14
  let c3_i32_96 : BitVec 32 := 3#32
  let v236 : BitVec 32 := Scalar.addi v235 c3_i32_96
  let v237 : Index := Scalar.indexCast v236
  let c57 : Index := 57#32
  let c0_97 : Index := 0#32
  let c0_98 : Index := 0#32
  let c0_99 : Index := 0#32
  ![v237.toNat, 57, 0, 0, 0]
def k0_off19 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v241 : Index := Scalar.indexCast arg14
  let c0_100 : Index := 0#32
  let c256 : Index := 256#32
  let c0_101 : Index := 0#32
  ![v241.toNat, 0, 256, 0]
def k0_off20 (i : grid0.Coords) (k0_t2 : Fin k0_t2_loop.trips) : Fin 5 → Nat :=
  let arg0 : BitVec 32 := BitVec.ofNat 32 (i 0).val
  let c8_i32_106 : BitVec 32 := 8#32
  let v262 : BitVec 32 := Scalar.muli arg0 c8_i32_106
  let c0_i32_6 : BitVec 32 := 0#32
  let c1_i32 : BitVec 32 := 1#32
  let arg14 : BitVec 32 := Scf.iv c0_i32_6 c1_i32 k0_t2
  let v263 : BitVec 32 := Scalar.addi v262 arg14
  let c3_i32_107 : BitVec 32 := 3#32
  let v264 : BitVec 32 := Scalar.addi v263 c3_i32_107
  let v265 : Index := Scalar.indexCast v264
  let c65 : Index := 65#32
  let c0_108 : Index := 0#32
  let c0_109 : Index := 0#32
  let c0_110 : Index := 0#32
  ![v265.toNat, 65, 0, 0, 0]
def k0_off21 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v279 : Index := Scalar.indexCast arg14
  let c1_121 : Index := 1#32
  let c0_122 : Index := 0#32
  let c0_123 : Index := 0#32
  ![v279.toNat, 1, 0, 0]
def k0_off22 (i : grid0.Coords) (k0_t2 : Fin k0_t2_loop.trips) : Fin 5 → Nat :=
  let arg0 : BitVec 32 := BitVec.ofNat 32 (i 0).val
  let c8_i32_128 : BitVec 32 := 8#32
  let v300 : BitVec 32 := Scalar.muli arg0 c8_i32_128
  let c0_i32_6 : BitVec 32 := 0#32
  let c1_i32 : BitVec 32 := 1#32
  let arg14 : BitVec 32 := Scf.iv c0_i32_6 c1_i32 k0_t2
  let v301 : BitVec 32 := Scalar.addi v300 arg14
  let c3_i32_129 : BitVec 32 := 3#32
  let v302 : BitVec 32 := Scalar.addi v301 c3_i32_129
  let v303 : Index := Scalar.indexCast v302
  let c1_130 : Index := 1#32
  let c1_131 : Index := 1#32
  let c0_132 : Index := 0#32
  let c0_133 : Index := 0#32
  ![v303.toNat, 1, 1, 0, 0]
def k0_off23 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v307 : Index := Scalar.indexCast arg14
  let c1_134 : Index := 1#32
  let c32_135 : Index := 32#32
  let c0_136 : Index := 0#32
  ![v307.toNat, 1, 32, 0]
def k0_off24 (i : grid0.Coords) (k0_t2 : Fin k0_t2_loop.trips) : Fin 5 → Nat :=
  let arg0 : BitVec 32 := BitVec.ofNat 32 (i 0).val
  let c8_i32_141 : BitVec 32 := 8#32
  let v328 : BitVec 32 := Scalar.muli arg0 c8_i32_141
  let c0_i32_6 : BitVec 32 := 0#32
  let c1_i32 : BitVec 32 := 1#32
  let arg14 : BitVec 32 := Scf.iv c0_i32_6 c1_i32 k0_t2
  let v329 : BitVec 32 := Scalar.addi v328 arg14
  let c3_i32_142 : BitVec 32 := 3#32
  let v330 : BitVec 32 := Scalar.addi v329 c3_i32_142
  let v331 : Index := Scalar.indexCast v330
  let c9_143 : Index := 9#32
  let c1_144 : Index := 1#32
  let c0_145 : Index := 0#32
  let c0_146 : Index := 0#32
  ![v331.toNat, 9, 1, 0, 0]
def k0_off25 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v335 : Index := Scalar.indexCast arg14
  let c1_147 : Index := 1#32
  let c64_148 : Index := 64#32
  let c0_149 : Index := 0#32
  ![v335.toNat, 1, 64, 0]
def k0_off26 (i : grid0.Coords) (k0_t2 : Fin k0_t2_loop.trips) : Fin 5 → Nat :=
  let arg0 : BitVec 32 := BitVec.ofNat 32 (i 0).val
  let c8_i32_154 : BitVec 32 := 8#32
  let v356 : BitVec 32 := Scalar.muli arg0 c8_i32_154
  let c0_i32_6 : BitVec 32 := 0#32
  let c1_i32 : BitVec 32 := 1#32
  let arg14 : BitVec 32 := Scf.iv c0_i32_6 c1_i32 k0_t2
  let v357 : BitVec 32 := Scalar.addi v356 arg14
  let c3_i32_155 : BitVec 32 := 3#32
  let v358 : BitVec 32 := Scalar.addi v357 c3_i32_155
  let v359 : Index := Scalar.indexCast v358
  let c17_156 : Index := 17#32
  let c1_157 : Index := 1#32
  let c0_158 : Index := 0#32
  let c0_159 : Index := 0#32
  ![v359.toNat, 17, 1, 0, 0]
def k0_off27 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v363 : Index := Scalar.indexCast arg14
  let c1_160 : Index := 1#32
  let c96_161 : Index := 96#32
  let c0_162 : Index := 0#32
  ![v363.toNat, 1, 96, 0]
def k0_off28 (i : grid0.Coords) (k0_t2 : Fin k0_t2_loop.trips) : Fin 5 → Nat :=
  let arg0 : BitVec 32 := BitVec.ofNat 32 (i 0).val
  let c8_i32_167 : BitVec 32 := 8#32
  let v384 : BitVec 32 := Scalar.muli arg0 c8_i32_167
  let c0_i32_6 : BitVec 32 := 0#32
  let c1_i32 : BitVec 32 := 1#32
  let arg14 : BitVec 32 := Scf.iv c0_i32_6 c1_i32 k0_t2
  let v385 : BitVec 32 := Scalar.addi v384 arg14
  let c3_i32_168 : BitVec 32 := 3#32
  let v386 : BitVec 32 := Scalar.addi v385 c3_i32_168
  let v387 : Index := Scalar.indexCast v386
  let c25_169 : Index := 25#32
  let c1_170 : Index := 1#32
  let c0_171 : Index := 0#32
  let c0_172 : Index := 0#32
  ![v387.toNat, 25, 1, 0, 0]
def k0_off29 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v391 : Index := Scalar.indexCast arg14
  let c1_173 : Index := 1#32
  let c128_174 : Index := 128#32
  let c0_175 : Index := 0#32
  ![v391.toNat, 1, 128, 0]
def k0_off30 (i : grid0.Coords) (k0_t2 : Fin k0_t2_loop.trips) : Fin 5 → Nat :=
  let arg0 : BitVec 32 := BitVec.ofNat 32 (i 0).val
  let c8_i32_180 : BitVec 32 := 8#32
  let v412 : BitVec 32 := Scalar.muli arg0 c8_i32_180
  let c0_i32_6 : BitVec 32 := 0#32
  let c1_i32 : BitVec 32 := 1#32
  let arg14 : BitVec 32 := Scf.iv c0_i32_6 c1_i32 k0_t2
  let v413 : BitVec 32 := Scalar.addi v412 arg14
  let c3_i32_181 : BitVec 32 := 3#32
  let v414 : BitVec 32 := Scalar.addi v413 c3_i32_181
  let v415 : Index := Scalar.indexCast v414
  let c33_182 : Index := 33#32
  let c1_183 : Index := 1#32
  let c0_184 : Index := 0#32
  let c0_185 : Index := 0#32
  ![v415.toNat, 33, 1, 0, 0]
def k0_off31 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v419 : Index := Scalar.indexCast arg14
  let c1_186 : Index := 1#32
  let c160_187 : Index := 160#32
  let c0_188 : Index := 0#32
  ![v419.toNat, 1, 160, 0]
def k0_off32 (i : grid0.Coords) (k0_t2 : Fin k0_t2_loop.trips) : Fin 5 → Nat :=
  let arg0 : BitVec 32 := BitVec.ofNat 32 (i 0).val
  let c8_i32_193 : BitVec 32 := 8#32
  let v440 : BitVec 32 := Scalar.muli arg0 c8_i32_193
  let c0_i32_6 : BitVec 32 := 0#32
  let c1_i32 : BitVec 32 := 1#32
  let arg14 : BitVec 32 := Scf.iv c0_i32_6 c1_i32 k0_t2
  let v441 : BitVec 32 := Scalar.addi v440 arg14
  let c3_i32_194 : BitVec 32 := 3#32
  let v442 : BitVec 32 := Scalar.addi v441 c3_i32_194
  let v443 : Index := Scalar.indexCast v442
  let c41_195 : Index := 41#32
  let c1_196 : Index := 1#32
  let c0_197 : Index := 0#32
  let c0_198 : Index := 0#32
  ![v443.toNat, 41, 1, 0, 0]
def k0_off33 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v447 : Index := Scalar.indexCast arg14
  let c1_199 : Index := 1#32
  let c192_200 : Index := 192#32
  let c0_201 : Index := 0#32
  ![v447.toNat, 1, 192, 0]
def k0_off34 (i : grid0.Coords) (k0_t2 : Fin k0_t2_loop.trips) : Fin 5 → Nat :=
  let arg0 : BitVec 32 := BitVec.ofNat 32 (i 0).val
  let c8_i32_206 : BitVec 32 := 8#32
  let v468 : BitVec 32 := Scalar.muli arg0 c8_i32_206
  let c0_i32_6 : BitVec 32 := 0#32
  let c1_i32 : BitVec 32 := 1#32
  let arg14 : BitVec 32 := Scf.iv c0_i32_6 c1_i32 k0_t2
  let v469 : BitVec 32 := Scalar.addi v468 arg14
  let c3_i32_207 : BitVec 32 := 3#32
  let v470 : BitVec 32 := Scalar.addi v469 c3_i32_207
  let v471 : Index := Scalar.indexCast v470
  let c49_208 : Index := 49#32
  let c1_209 : Index := 1#32
  let c0_210 : Index := 0#32
  let c0_211 : Index := 0#32
  ![v471.toNat, 49, 1, 0, 0]
def k0_off35 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v475 : Index := Scalar.indexCast arg14
  let c1_212 : Index := 1#32
  let c224_213 : Index := 224#32
  let c0_214 : Index := 0#32
  ![v475.toNat, 1, 224, 0]
def k0_off36 (i : grid0.Coords) (k0_t2 : Fin k0_t2_loop.trips) : Fin 5 → Nat :=
  let arg0 : BitVec 32 := BitVec.ofNat 32 (i 0).val
  let c8_i32_219 : BitVec 32 := 8#32
  let v496 : BitVec 32 := Scalar.muli arg0 c8_i32_219
  let c0_i32_6 : BitVec 32 := 0#32
  let c1_i32 : BitVec 32 := 1#32
  let arg14 : BitVec 32 := Scf.iv c0_i32_6 c1_i32 k0_t2
  let v497 : BitVec 32 := Scalar.addi v496 arg14
  let c3_i32_220 : BitVec 32 := 3#32
  let v498 : BitVec 32 := Scalar.addi v497 c3_i32_220
  let v499 : Index := Scalar.indexCast v498
  let c57_221 : Index := 57#32
  let c1_222 : Index := 1#32
  let c0_223 : Index := 0#32
  let c0_224 : Index := 0#32
  ![v499.toNat, 57, 1, 0, 0]
def k0_off37 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v503 : Index := Scalar.indexCast arg14
  let c1_225 : Index := 1#32
  let c256_226 : Index := 256#32
  let c0_227 : Index := 0#32
  ![v503.toNat, 1, 256, 0]
def k0_off38 (i : grid0.Coords) (k0_t2 : Fin k0_t2_loop.trips) : Fin 5 → Nat :=
  let arg0 : BitVec 32 := BitVec.ofNat 32 (i 0).val
  let c8_i32_232 : BitVec 32 := 8#32
  let v524 : BitVec 32 := Scalar.muli arg0 c8_i32_232
  let c0_i32_6 : BitVec 32 := 0#32
  let c1_i32 : BitVec 32 := 1#32
  let arg14 : BitVec 32 := Scf.iv c0_i32_6 c1_i32 k0_t2
  let v525 : BitVec 32 := Scalar.addi v524 arg14
  let c3_i32_233 : BitVec 32 := 3#32
  let v526 : BitVec 32 := Scalar.addi v525 c3_i32_233
  let v527 : Index := Scalar.indexCast v526
  let c65_234 : Index := 65#32
  let c1_235 : Index := 1#32
  let c0_236 : Index := 0#32
  let c0_237 : Index := 0#32
  ![v527.toNat, 65, 1, 0, 0]
def k0_off39 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v541 : Index := Scalar.indexCast arg14
  let c2_248 : Index := 2#32
  let c0_249 : Index := 0#32
  let c0_250 : Index := 0#32
  ![v541.toNat, 2, 0, 0]
def k0_off40 (i : grid0.Coords) (k0_t2 : Fin k0_t2_loop.trips) : Fin 5 → Nat :=
  let arg0 : BitVec 32 := BitVec.ofNat 32 (i 0).val
  let c8_i32_255 : BitVec 32 := 8#32
  let v562 : BitVec 32 := Scalar.muli arg0 c8_i32_255
  let c0_i32_6 : BitVec 32 := 0#32
  let c1_i32 : BitVec 32 := 1#32
  let arg14 : BitVec 32 := Scf.iv c0_i32_6 c1_i32 k0_t2
  let v563 : BitVec 32 := Scalar.addi v562 arg14
  let c3_i32_256 : BitVec 32 := 3#32
  let v564 : BitVec 32 := Scalar.addi v563 c3_i32_256
  let v565 : Index := Scalar.indexCast v564
  let c1_257 : Index := 1#32
  let c2_258 : Index := 2#32
  let c0_259 : Index := 0#32
  let c0_260 : Index := 0#32
  ![v565.toNat, 1, 2, 0, 0]
def k0_off41 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v569 : Index := Scalar.indexCast arg14
  let c2_261 : Index := 2#32
  let c32_262 : Index := 32#32
  let c0_263 : Index := 0#32
  ![v569.toNat, 2, 32, 0]
def k0_off42 (i : grid0.Coords) (k0_t2 : Fin k0_t2_loop.trips) : Fin 5 → Nat :=
  let arg0 : BitVec 32 := BitVec.ofNat 32 (i 0).val
  let c8_i32_268 : BitVec 32 := 8#32
  let v590 : BitVec 32 := Scalar.muli arg0 c8_i32_268
  let c0_i32_6 : BitVec 32 := 0#32
  let c1_i32 : BitVec 32 := 1#32
  let arg14 : BitVec 32 := Scf.iv c0_i32_6 c1_i32 k0_t2
  let v591 : BitVec 32 := Scalar.addi v590 arg14
  let c3_i32_269 : BitVec 32 := 3#32
  let v592 : BitVec 32 := Scalar.addi v591 c3_i32_269
  let v593 : Index := Scalar.indexCast v592
  let c9_270 : Index := 9#32
  let c2_271 : Index := 2#32
  let c0_272 : Index := 0#32
  let c0_273 : Index := 0#32
  ![v593.toNat, 9, 2, 0, 0]
def k0_off43 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v597 : Index := Scalar.indexCast arg14
  let c2_274 : Index := 2#32
  let c64_275 : Index := 64#32
  let c0_276 : Index := 0#32
  ![v597.toNat, 2, 64, 0]
def k0_off44 (i : grid0.Coords) (k0_t2 : Fin k0_t2_loop.trips) : Fin 5 → Nat :=
  let arg0 : BitVec 32 := BitVec.ofNat 32 (i 0).val
  let c8_i32_281 : BitVec 32 := 8#32
  let v618 : BitVec 32 := Scalar.muli arg0 c8_i32_281
  let c0_i32_6 : BitVec 32 := 0#32
  let c1_i32 : BitVec 32 := 1#32
  let arg14 : BitVec 32 := Scf.iv c0_i32_6 c1_i32 k0_t2
  let v619 : BitVec 32 := Scalar.addi v618 arg14
  let c3_i32_282 : BitVec 32 := 3#32
  let v620 : BitVec 32 := Scalar.addi v619 c3_i32_282
  let v621 : Index := Scalar.indexCast v620
  let c17_283 : Index := 17#32
  let c2_284 : Index := 2#32
  let c0_285 : Index := 0#32
  let c0_286 : Index := 0#32
  ![v621.toNat, 17, 2, 0, 0]
def k0_off45 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v625 : Index := Scalar.indexCast arg14
  let c2_287 : Index := 2#32
  let c96_288 : Index := 96#32
  let c0_289 : Index := 0#32
  ![v625.toNat, 2, 96, 0]
def k0_off46 (i : grid0.Coords) (k0_t2 : Fin k0_t2_loop.trips) : Fin 5 → Nat :=
  let arg0 : BitVec 32 := BitVec.ofNat 32 (i 0).val
  let c8_i32_294 : BitVec 32 := 8#32
  let v646 : BitVec 32 := Scalar.muli arg0 c8_i32_294
  let c0_i32_6 : BitVec 32 := 0#32
  let c1_i32 : BitVec 32 := 1#32
  let arg14 : BitVec 32 := Scf.iv c0_i32_6 c1_i32 k0_t2
  let v647 : BitVec 32 := Scalar.addi v646 arg14
  let c3_i32_295 : BitVec 32 := 3#32
  let v648 : BitVec 32 := Scalar.addi v647 c3_i32_295
  let v649 : Index := Scalar.indexCast v648
  let c25_296 : Index := 25#32
  let c2_297 : Index := 2#32
  let c0_298 : Index := 0#32
  let c0_299 : Index := 0#32
  ![v649.toNat, 25, 2, 0, 0]
def k0_off47 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v653 : Index := Scalar.indexCast arg14
  let c2_300 : Index := 2#32
  let c128_301 : Index := 128#32
  let c0_302 : Index := 0#32
  ![v653.toNat, 2, 128, 0]
def k0_off48 (i : grid0.Coords) (k0_t2 : Fin k0_t2_loop.trips) : Fin 5 → Nat :=
  let arg0 : BitVec 32 := BitVec.ofNat 32 (i 0).val
  let c8_i32_307 : BitVec 32 := 8#32
  let v674 : BitVec 32 := Scalar.muli arg0 c8_i32_307
  let c0_i32_6 : BitVec 32 := 0#32
  let c1_i32 : BitVec 32 := 1#32
  let arg14 : BitVec 32 := Scf.iv c0_i32_6 c1_i32 k0_t2
  let v675 : BitVec 32 := Scalar.addi v674 arg14
  let c3_i32_308 : BitVec 32 := 3#32
  let v676 : BitVec 32 := Scalar.addi v675 c3_i32_308
  let v677 : Index := Scalar.indexCast v676
  let c33_309 : Index := 33#32
  let c2_310 : Index := 2#32
  let c0_311 : Index := 0#32
  let c0_312 : Index := 0#32
  ![v677.toNat, 33, 2, 0, 0]
def k0_off49 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v681 : Index := Scalar.indexCast arg14
  let c2_313 : Index := 2#32
  let c160_314 : Index := 160#32
  let c0_315 : Index := 0#32
  ![v681.toNat, 2, 160, 0]
def k0_off50 (i : grid0.Coords) (k0_t2 : Fin k0_t2_loop.trips) : Fin 5 → Nat :=
  let arg0 : BitVec 32 := BitVec.ofNat 32 (i 0).val
  let c8_i32_320 : BitVec 32 := 8#32
  let v702 : BitVec 32 := Scalar.muli arg0 c8_i32_320
  let c0_i32_6 : BitVec 32 := 0#32
  let c1_i32 : BitVec 32 := 1#32
  let arg14 : BitVec 32 := Scf.iv c0_i32_6 c1_i32 k0_t2
  let v703 : BitVec 32 := Scalar.addi v702 arg14
  let c3_i32_321 : BitVec 32 := 3#32
  let v704 : BitVec 32 := Scalar.addi v703 c3_i32_321
  let v705 : Index := Scalar.indexCast v704
  let c41_322 : Index := 41#32
  let c2_323 : Index := 2#32
  let c0_324 : Index := 0#32
  let c0_325 : Index := 0#32
  ![v705.toNat, 41, 2, 0, 0]
def k0_off51 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v709 : Index := Scalar.indexCast arg14
  let c2_326 : Index := 2#32
  let c192_327 : Index := 192#32
  let c0_328 : Index := 0#32
  ![v709.toNat, 2, 192, 0]
def k0_off52 (i : grid0.Coords) (k0_t2 : Fin k0_t2_loop.trips) : Fin 5 → Nat :=
  let arg0 : BitVec 32 := BitVec.ofNat 32 (i 0).val
  let c8_i32_333 : BitVec 32 := 8#32
  let v730 : BitVec 32 := Scalar.muli arg0 c8_i32_333
  let c0_i32_6 : BitVec 32 := 0#32
  let c1_i32 : BitVec 32 := 1#32
  let arg14 : BitVec 32 := Scf.iv c0_i32_6 c1_i32 k0_t2
  let v731 : BitVec 32 := Scalar.addi v730 arg14
  let c3_i32_334 : BitVec 32 := 3#32
  let v732 : BitVec 32 := Scalar.addi v731 c3_i32_334
  let v733 : Index := Scalar.indexCast v732
  let c49_335 : Index := 49#32
  let c2_336 : Index := 2#32
  let c0_337 : Index := 0#32
  let c0_338 : Index := 0#32
  ![v733.toNat, 49, 2, 0, 0]
def k0_off53 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v737 : Index := Scalar.indexCast arg14
  let c2_339 : Index := 2#32
  let c224_340 : Index := 224#32
  let c0_341 : Index := 0#32
  ![v737.toNat, 2, 224, 0]
def k0_off54 (i : grid0.Coords) (k0_t2 : Fin k0_t2_loop.trips) : Fin 5 → Nat :=
  let arg0 : BitVec 32 := BitVec.ofNat 32 (i 0).val
  let c8_i32_346 : BitVec 32 := 8#32
  let v758 : BitVec 32 := Scalar.muli arg0 c8_i32_346
  let c0_i32_6 : BitVec 32 := 0#32
  let c1_i32 : BitVec 32 := 1#32
  let arg14 : BitVec 32 := Scf.iv c0_i32_6 c1_i32 k0_t2
  let v759 : BitVec 32 := Scalar.addi v758 arg14
  let c3_i32_347 : BitVec 32 := 3#32
  let v760 : BitVec 32 := Scalar.addi v759 c3_i32_347
  let v761 : Index := Scalar.indexCast v760
  let c57_348 : Index := 57#32
  let c2_349 : Index := 2#32
  let c0_350 : Index := 0#32
  let c0_351 : Index := 0#32
  ![v761.toNat, 57, 2, 0, 0]
def k0_off55 (k0_t2 : Fin k0_t2_loop.trips) : Fin 4 → Nat :=
  let c0_i32_6 : BitVec 32 := 0#32
  let c1_i32 : BitVec 32 := 1#32
  let arg14 : BitVec 32 := Scf.iv c0_i32_6 c1_i32 k0_t2
  let v765 : Index := Scalar.indexCast arg14
  let c2_352 : Index := 2#32
  let c256_353 : Index := 256#32
  let c0_354 : Index := 0#32
  ![v765.toNat, 2, 256, 0]
def k0_off56 (i : grid0.Coords) (k0_t2 : Fin k0_t2_loop.trips) : Fin 5 → Nat :=
  let arg0 : BitVec 32 := BitVec.ofNat 32 (i 0).val
  let c8_i32_359 : BitVec 32 := 8#32
  let v786 : BitVec 32 := Scalar.muli arg0 c8_i32_359
  let c0_i32_6 : BitVec 32 := 0#32
  let c1_i32 : BitVec 32 := 1#32
  let arg14 : BitVec 32 := Scf.iv c0_i32_6 c1_i32 k0_t2
  let v787 : BitVec 32 := Scalar.addi v786 arg14
  let c3_i32_360 : BitVec 32 := 3#32
  let v788 : BitVec 32 := Scalar.addi v787 c3_i32_360
  let v789 : Index := Scalar.indexCast v788
  let c65_361 : Index := 65#32
  let c2_362 : Index := 2#32
  let c0_363 : Index := 0#32
  let c0_364 : Index := 0#32
  ![v789.toNat, 65, 2, 0, 0]
def k0_cond4 (i : grid0.Coords) : BitVec 1 :=
  let arg0 : BitVec 32 := BitVec.ofNat 32 (i 0).val
  let c28_i32_4 : BitVec 32 := 28#32
  let v9 : BitVec 1 := Scalar.cmpi .sge arg0 c28_i32_4
  let v10 : BitVec 32 := Scalar.extui v9
  let c0_i32_5 : BitVec 32 := 0#32
  let v11 : BitVec 1 := Scalar.cmpi .ne v10 c0_i32_5
  v11

def k0_off57 (i : grid0.Coords) (c0_i32_9 : BitVec 32) : Fin 5 → Nat :=
  let c4_i32 : BitVec 32 := 4#32
  let arg0 : BitVec 32 := BitVec.ofNat 32 (i 0).val
  let c28_i32_6 : BitVec 32 := 28#32
  let v12 : BitVec 32 := Scalar.subi arg0 c28_i32_6
  let v17 : BitVec 32 := Scalar.muli c4_i32 v12
  let v18 : BitVec 32 := Scalar.addi v17 c0_i32_9
  let c3_i32 : BitVec 32 := 3#32
  let v19 : BitVec 32 := Scalar.addi v18 c3_i32
  let v20 : Index := Scalar.indexCast v19
  let c1 : Index := 1#32
  let c0_10 : Index := 0#32
  let c0_11 : Index := 0#32
  let c0_12 : Index := 0#32
  ![v20.toNat, 1, 0, 0, 0]
def k0_off58 (i : grid0.Coords) (c0_i32_18 : BitVec 32) : Fin 5 → Nat :=
  let c4_i32_17 : BitVec 32 := 4#32
  let arg0 : BitVec 32 := BitVec.ofNat 32 (i 0).val
  let c28_i32_6 : BitVec 32 := 28#32
  let v12 : BitVec 32 := Scalar.subi arg0 c28_i32_6
  let v31 : BitVec 32 := Scalar.muli c4_i32_17 v12
  let v32 : BitVec 32 := Scalar.addi v31 c0_i32_18
  let c3_i32_19 : BitVec 32 := 3#32
  let v33 : BitVec 32 := Scalar.addi v32 c3_i32_19
  let v34 : Index := Scalar.indexCast v33
  let c9 : Index := 9#32
  let c0_20 : Index := 0#32
  let c0_21 : Index := 0#32
  let c0_22 : Index := 0#32
  ![v34.toNat, 9, 0, 0, 0]
def k0_off59 (i : grid0.Coords) (c0_i32_27 : BitVec 32) : Fin 5 → Nat :=
  let c4_i32_26 : BitVec 32 := 4#32
  let arg0 : BitVec 32 := BitVec.ofNat 32 (i 0).val
  let c28_i32_6 : BitVec 32 := 28#32
  let v12 : BitVec 32 := Scalar.subi arg0 c28_i32_6
  let v45 : BitVec 32 := Scalar.muli c4_i32_26 v12
  let v46 : BitVec 32 := Scalar.addi v45 c0_i32_27
  let c3_i32_28 : BitVec 32 := 3#32
  let v47 : BitVec 32 := Scalar.addi v46 c3_i32_28
  let v48 : Index := Scalar.indexCast v47
  let c17 : Index := 17#32
  let c0_29 : Index := 0#32
  let c0_30 : Index := 0#32
  let c0_31 : Index := 0#32
  ![v48.toNat, 17, 0, 0, 0]
def k0_off60 (i : grid0.Coords) (c0_i32_36 : BitVec 32) : Fin 5 → Nat :=
  let c4_i32_35 : BitVec 32 := 4#32
  let arg0 : BitVec 32 := BitVec.ofNat 32 (i 0).val
  let c28_i32_6 : BitVec 32 := 28#32
  let v12 : BitVec 32 := Scalar.subi arg0 c28_i32_6
  let v59 : BitVec 32 := Scalar.muli c4_i32_35 v12
  let v60 : BitVec 32 := Scalar.addi v59 c0_i32_36
  let c3_i32_37 : BitVec 32 := 3#32
  let v61 : BitVec 32 := Scalar.addi v60 c3_i32_37
  let v62 : Index := Scalar.indexCast v61
  let c25 : Index := 25#32
  let c0_38 : Index := 0#32
  let c0_39 : Index := 0#32
  let c0_40 : Index := 0#32
  ![v62.toNat, 25, 0, 0, 0]
def k0_off61 (i : grid0.Coords) (c0_i32_45 : BitVec 32) : Fin 5 → Nat :=
  let c4_i32_44 : BitVec 32 := 4#32
  let arg0 : BitVec 32 := BitVec.ofNat 32 (i 0).val
  let c28_i32_6 : BitVec 32 := 28#32
  let v12 : BitVec 32 := Scalar.subi arg0 c28_i32_6
  let v73 : BitVec 32 := Scalar.muli c4_i32_44 v12
  let v74 : BitVec 32 := Scalar.addi v73 c0_i32_45
  let c3_i32_46 : BitVec 32 := 3#32
  let v75 : BitVec 32 := Scalar.addi v74 c3_i32_46
  let v76 : Index := Scalar.indexCast v75
  let c33 : Index := 33#32
  let c0_47 : Index := 0#32
  let c0_48 : Index := 0#32
  let c0_49 : Index := 0#32
  ![v76.toNat, 33, 0, 0, 0]
def k0_off62 (i : grid0.Coords) (c0_i32_54 : BitVec 32) : Fin 5 → Nat :=
  let c4_i32_53 : BitVec 32 := 4#32
  let arg0 : BitVec 32 := BitVec.ofNat 32 (i 0).val
  let c28_i32_6 : BitVec 32 := 28#32
  let v12 : BitVec 32 := Scalar.subi arg0 c28_i32_6
  let v87 : BitVec 32 := Scalar.muli c4_i32_53 v12
  let v88 : BitVec 32 := Scalar.addi v87 c0_i32_54
  let c3_i32_55 : BitVec 32 := 3#32
  let v89 : BitVec 32 := Scalar.addi v88 c3_i32_55
  let v90 : Index := Scalar.indexCast v89
  let c41 : Index := 41#32
  let c0_56 : Index := 0#32
  let c0_57 : Index := 0#32
  let c0_58 : Index := 0#32
  ![v90.toNat, 41, 0, 0, 0]
def k0_off63 (i : grid0.Coords) (c0_i32_63 : BitVec 32) : Fin 5 → Nat :=
  let c4_i32_62 : BitVec 32 := 4#32
  let arg0 : BitVec 32 := BitVec.ofNat 32 (i 0).val
  let c28_i32_6 : BitVec 32 := 28#32
  let v12 : BitVec 32 := Scalar.subi arg0 c28_i32_6
  let v101 : BitVec 32 := Scalar.muli c4_i32_62 v12
  let v102 : BitVec 32 := Scalar.addi v101 c0_i32_63
  let c3_i32_64 : BitVec 32 := 3#32
  let v103 : BitVec 32 := Scalar.addi v102 c3_i32_64
  let v104 : Index := Scalar.indexCast v103
  let c49 : Index := 49#32
  let c0_65 : Index := 0#32
  let c0_66 : Index := 0#32
  let c0_67 : Index := 0#32
  ![v104.toNat, 49, 0, 0, 0]
def k0_off64 (i : grid0.Coords) (c0_i32_72 : BitVec 32) : Fin 5 → Nat :=
  let c4_i32_71 : BitVec 32 := 4#32
  let arg0 : BitVec 32 := BitVec.ofNat 32 (i 0).val
  let c28_i32_6 : BitVec 32 := 28#32
  let v12 : BitVec 32 := Scalar.subi arg0 c28_i32_6
  let v115 : BitVec 32 := Scalar.muli c4_i32_71 v12
  let v116 : BitVec 32 := Scalar.addi v115 c0_i32_72
  let c3_i32_73 : BitVec 32 := 3#32
  let v117 : BitVec 32 := Scalar.addi v116 c3_i32_73
  let v118 : Index := Scalar.indexCast v117
  let c57 : Index := 57#32
  let c0_74 : Index := 0#32
  let c0_75 : Index := 0#32
  let c0_76 : Index := 0#32
  ![v118.toNat, 57, 0, 0, 0]
def k0_off65 (i : grid0.Coords) (c0_i32_81 : BitVec 32) : Fin 5 → Nat :=
  let c4_i32_80 : BitVec 32 := 4#32
  let arg0 : BitVec 32 := BitVec.ofNat 32 (i 0).val
  let c28_i32_6 : BitVec 32 := 28#32
  let v12 : BitVec 32 := Scalar.subi arg0 c28_i32_6
  let v129 : BitVec 32 := Scalar.muli c4_i32_80 v12
  let v130 : BitVec 32 := Scalar.addi v129 c0_i32_81
  let c3_i32_82 : BitVec 32 := 3#32
  let v131 : BitVec 32 := Scalar.addi v130 c3_i32_82
  let v132 : Index := Scalar.indexCast v131
  let c65 : Index := 65#32
  let c0_83 : Index := 0#32
  let c0_84 : Index := 0#32
  let c0_85 : Index := 0#32
  ![v132.toNat, 65, 0, 0, 0]
def k0_off66 (i : grid0.Coords) (c0_i32_93 : BitVec 32) : Fin 5 → Nat :=
  let c4_i32_92 : BitVec 32 := 4#32
  let arg0 : BitVec 32 := BitVec.ofNat 32 (i 0).val
  let c28_i32_6 : BitVec 32 := 28#32
  let v12 : BitVec 32 := Scalar.subi arg0 c28_i32_6
  let v147 : BitVec 32 := Scalar.muli c4_i32_92 v12
  let v148 : BitVec 32 := Scalar.addi v147 c0_i32_93
  let c3_i32_94 : BitVec 32 := 3#32
  let v149 : BitVec 32 := Scalar.addi v148 c3_i32_94
  let v150 : Index := Scalar.indexCast v149
  let c1_95 : Index := 1#32
  let c1_96 : Index := 1#32
  let c0_97 : Index := 0#32
  let c0_98 : Index := 0#32
  ![v150.toNat, 1, 1, 0, 0]
def k0_off67 (i : grid0.Coords) (c0_i32_104 : BitVec 32) : Fin 5 → Nat :=
  let c4_i32_103 : BitVec 32 := 4#32
  let arg0 : BitVec 32 := BitVec.ofNat 32 (i 0).val
  let c28_i32_6 : BitVec 32 := 28#32
  let v12 : BitVec 32 := Scalar.subi arg0 c28_i32_6
  let v161 : BitVec 32 := Scalar.muli c4_i32_103 v12
  let v162 : BitVec 32 := Scalar.addi v161 c0_i32_104
  let c3_i32_105 : BitVec 32 := 3#32
  let v163 : BitVec 32 := Scalar.addi v162 c3_i32_105
  let v164 : Index := Scalar.indexCast v163
  let c9_106 : Index := 9#32
  let c1_107 : Index := 1#32
  let c0_108 : Index := 0#32
  let c0_109 : Index := 0#32
  ![v164.toNat, 9, 1, 0, 0]
def k0_off68 (i : grid0.Coords) (c0_i32_115 : BitVec 32) : Fin 5 → Nat :=
  let c4_i32_114 : BitVec 32 := 4#32
  let arg0 : BitVec 32 := BitVec.ofNat 32 (i 0).val
  let c28_i32_6 : BitVec 32 := 28#32
  let v12 : BitVec 32 := Scalar.subi arg0 c28_i32_6
  let v175 : BitVec 32 := Scalar.muli c4_i32_114 v12
  let v176 : BitVec 32 := Scalar.addi v175 c0_i32_115
  let c3_i32_116 : BitVec 32 := 3#32
  let v177 : BitVec 32 := Scalar.addi v176 c3_i32_116
  let v178 : Index := Scalar.indexCast v177
  let c17_117 : Index := 17#32
  let c1_118 : Index := 1#32
  let c0_119 : Index := 0#32
  let c0_120 : Index := 0#32
  ![v178.toNat, 17, 1, 0, 0]
def k0_off69 (i : grid0.Coords) (c0_i32_126 : BitVec 32) : Fin 5 → Nat :=
  let c4_i32_125 : BitVec 32 := 4#32
  let arg0 : BitVec 32 := BitVec.ofNat 32 (i 0).val
  let c28_i32_6 : BitVec 32 := 28#32
  let v12 : BitVec 32 := Scalar.subi arg0 c28_i32_6
  let v189 : BitVec 32 := Scalar.muli c4_i32_125 v12
  let v190 : BitVec 32 := Scalar.addi v189 c0_i32_126
  let c3_i32_127 : BitVec 32 := 3#32
  let v191 : BitVec 32 := Scalar.addi v190 c3_i32_127
  let v192 : Index := Scalar.indexCast v191
  let c25_128 : Index := 25#32
  let c1_129 : Index := 1#32
  let c0_130 : Index := 0#32
  let c0_131 : Index := 0#32
  ![v192.toNat, 25, 1, 0, 0]
def k0_off70 (i : grid0.Coords) (c0_i32_137 : BitVec 32) : Fin 5 → Nat :=
  let c4_i32_136 : BitVec 32 := 4#32
  let arg0 : BitVec 32 := BitVec.ofNat 32 (i 0).val
  let c28_i32_6 : BitVec 32 := 28#32
  let v12 : BitVec 32 := Scalar.subi arg0 c28_i32_6
  let v203 : BitVec 32 := Scalar.muli c4_i32_136 v12
  let v204 : BitVec 32 := Scalar.addi v203 c0_i32_137
  let c3_i32_138 : BitVec 32 := 3#32
  let v205 : BitVec 32 := Scalar.addi v204 c3_i32_138
  let v206 : Index := Scalar.indexCast v205
  let c33_139 : Index := 33#32
  let c1_140 : Index := 1#32
  let c0_141 : Index := 0#32
  let c0_142 : Index := 0#32
  ![v206.toNat, 33, 1, 0, 0]
def k0_off71 (i : grid0.Coords) (c0_i32_148 : BitVec 32) : Fin 5 → Nat :=
  let c4_i32_147 : BitVec 32 := 4#32
  let arg0 : BitVec 32 := BitVec.ofNat 32 (i 0).val
  let c28_i32_6 : BitVec 32 := 28#32
  let v12 : BitVec 32 := Scalar.subi arg0 c28_i32_6
  let v217 : BitVec 32 := Scalar.muli c4_i32_147 v12
  let v218 : BitVec 32 := Scalar.addi v217 c0_i32_148
  let c3_i32_149 : BitVec 32 := 3#32
  let v219 : BitVec 32 := Scalar.addi v218 c3_i32_149
  let v220 : Index := Scalar.indexCast v219
  let c41_150 : Index := 41#32
  let c1_151 : Index := 1#32
  let c0_152 : Index := 0#32
  let c0_153 : Index := 0#32
  ![v220.toNat, 41, 1, 0, 0]
def k0_off72 (i : grid0.Coords) (c0_i32_159 : BitVec 32) : Fin 5 → Nat :=
  let c4_i32_158 : BitVec 32 := 4#32
  let arg0 : BitVec 32 := BitVec.ofNat 32 (i 0).val
  let c28_i32_6 : BitVec 32 := 28#32
  let v12 : BitVec 32 := Scalar.subi arg0 c28_i32_6
  let v231 : BitVec 32 := Scalar.muli c4_i32_158 v12
  let v232 : BitVec 32 := Scalar.addi v231 c0_i32_159
  let c3_i32_160 : BitVec 32 := 3#32
  let v233 : BitVec 32 := Scalar.addi v232 c3_i32_160
  let v234 : Index := Scalar.indexCast v233
  let c49_161 : Index := 49#32
  let c1_162 : Index := 1#32
  let c0_163 : Index := 0#32
  let c0_164 : Index := 0#32
  ![v234.toNat, 49, 1, 0, 0]
def k0_off73 (i : grid0.Coords) (c0_i32_170 : BitVec 32) : Fin 5 → Nat :=
  let c4_i32_169 : BitVec 32 := 4#32
  let arg0 : BitVec 32 := BitVec.ofNat 32 (i 0).val
  let c28_i32_6 : BitVec 32 := 28#32
  let v12 : BitVec 32 := Scalar.subi arg0 c28_i32_6
  let v245 : BitVec 32 := Scalar.muli c4_i32_169 v12
  let v246 : BitVec 32 := Scalar.addi v245 c0_i32_170
  let c3_i32_171 : BitVec 32 := 3#32
  let v247 : BitVec 32 := Scalar.addi v246 c3_i32_171
  let v248 : Index := Scalar.indexCast v247
  let c57_172 : Index := 57#32
  let c1_173 : Index := 1#32
  let c0_174 : Index := 0#32
  let c0_175 : Index := 0#32
  ![v248.toNat, 57, 1, 0, 0]
def k0_off74 (i : grid0.Coords) (c0_i32_181 : BitVec 32) : Fin 5 → Nat :=
  let c4_i32_180 : BitVec 32 := 4#32
  let arg0 : BitVec 32 := BitVec.ofNat 32 (i 0).val
  let c28_i32_6 : BitVec 32 := 28#32
  let v12 : BitVec 32 := Scalar.subi arg0 c28_i32_6
  let v259 : BitVec 32 := Scalar.muli c4_i32_180 v12
  let v260 : BitVec 32 := Scalar.addi v259 c0_i32_181
  let c3_i32_182 : BitVec 32 := 3#32
  let v261 : BitVec 32 := Scalar.addi v260 c3_i32_182
  let v262 : Index := Scalar.indexCast v261
  let c65_183 : Index := 65#32
  let c1_184 : Index := 1#32
  let c0_185 : Index := 0#32
  let c0_186 : Index := 0#32
  ![v262.toNat, 65, 1, 0, 0]
def k0_off75 (i : grid0.Coords) (c0_i32_194 : BitVec 32) : Fin 5 → Nat :=
  let c4_i32_193 : BitVec 32 := 4#32
  let arg0 : BitVec 32 := BitVec.ofNat 32 (i 0).val
  let c28_i32_6 : BitVec 32 := 28#32
  let v12 : BitVec 32 := Scalar.subi arg0 c28_i32_6
  let v277 : BitVec 32 := Scalar.muli c4_i32_193 v12
  let v278 : BitVec 32 := Scalar.addi v277 c0_i32_194
  let c3_i32_195 : BitVec 32 := 3#32
  let v279 : BitVec 32 := Scalar.addi v278 c3_i32_195
  let v280 : Index := Scalar.indexCast v279
  let c1_196 : Index := 1#32
  let c2_197 : Index := 2#32
  let c0_198 : Index := 0#32
  let c0_199 : Index := 0#32
  ![v280.toNat, 1, 2, 0, 0]
def k0_off76 (i : grid0.Coords) (c0_i32_205 : BitVec 32) : Fin 5 → Nat :=
  let c4_i32_204 : BitVec 32 := 4#32
  let arg0 : BitVec 32 := BitVec.ofNat 32 (i 0).val
  let c28_i32_6 : BitVec 32 := 28#32
  let v12 : BitVec 32 := Scalar.subi arg0 c28_i32_6
  let v291 : BitVec 32 := Scalar.muli c4_i32_204 v12
  let v292 : BitVec 32 := Scalar.addi v291 c0_i32_205
  let c3_i32_206 : BitVec 32 := 3#32
  let v293 : BitVec 32 := Scalar.addi v292 c3_i32_206
  let v294 : Index := Scalar.indexCast v293
  let c9_207 : Index := 9#32
  let c2_208 : Index := 2#32
  let c0_209 : Index := 0#32
  let c0_210 : Index := 0#32
  ![v294.toNat, 9, 2, 0, 0]
def k0_off77 (i : grid0.Coords) (c0_i32_216 : BitVec 32) : Fin 5 → Nat :=
  let c4_i32_215 : BitVec 32 := 4#32
  let arg0 : BitVec 32 := BitVec.ofNat 32 (i 0).val
  let c28_i32_6 : BitVec 32 := 28#32
  let v12 : BitVec 32 := Scalar.subi arg0 c28_i32_6
  let v305 : BitVec 32 := Scalar.muli c4_i32_215 v12
  let v306 : BitVec 32 := Scalar.addi v305 c0_i32_216
  let c3_i32_217 : BitVec 32 := 3#32
  let v307 : BitVec 32 := Scalar.addi v306 c3_i32_217
  let v308 : Index := Scalar.indexCast v307
  let c17_218 : Index := 17#32
  let c2_219 : Index := 2#32
  let c0_220 : Index := 0#32
  let c0_221 : Index := 0#32
  ![v308.toNat, 17, 2, 0, 0]
def k0_off78 (i : grid0.Coords) (c0_i32_227 : BitVec 32) : Fin 5 → Nat :=
  let c4_i32_226 : BitVec 32 := 4#32
  let arg0 : BitVec 32 := BitVec.ofNat 32 (i 0).val
  let c28_i32_6 : BitVec 32 := 28#32
  let v12 : BitVec 32 := Scalar.subi arg0 c28_i32_6
  let v319 : BitVec 32 := Scalar.muli c4_i32_226 v12
  let v320 : BitVec 32 := Scalar.addi v319 c0_i32_227
  let c3_i32_228 : BitVec 32 := 3#32
  let v321 : BitVec 32 := Scalar.addi v320 c3_i32_228
  let v322 : Index := Scalar.indexCast v321
  let c25_229 : Index := 25#32
  let c2_230 : Index := 2#32
  let c0_231 : Index := 0#32
  let c0_232 : Index := 0#32
  ![v322.toNat, 25, 2, 0, 0]
def k0_off79 (i : grid0.Coords) (c0_i32_238 : BitVec 32) : Fin 5 → Nat :=
  let c4_i32_237 : BitVec 32 := 4#32
  let arg0 : BitVec 32 := BitVec.ofNat 32 (i 0).val
  let c28_i32_6 : BitVec 32 := 28#32
  let v12 : BitVec 32 := Scalar.subi arg0 c28_i32_6
  let v333 : BitVec 32 := Scalar.muli c4_i32_237 v12
  let v334 : BitVec 32 := Scalar.addi v333 c0_i32_238
  let c3_i32_239 : BitVec 32 := 3#32
  let v335 : BitVec 32 := Scalar.addi v334 c3_i32_239
  let v336 : Index := Scalar.indexCast v335
  let c33_240 : Index := 33#32
  let c2_241 : Index := 2#32
  let c0_242 : Index := 0#32
  let c0_243 : Index := 0#32
  ![v336.toNat, 33, 2, 0, 0]
def k0_off80 (i : grid0.Coords) (c0_i32_249 : BitVec 32) : Fin 5 → Nat :=
  let c4_i32_248 : BitVec 32 := 4#32
  let arg0 : BitVec 32 := BitVec.ofNat 32 (i 0).val
  let c28_i32_6 : BitVec 32 := 28#32
  let v12 : BitVec 32 := Scalar.subi arg0 c28_i32_6
  let v347 : BitVec 32 := Scalar.muli c4_i32_248 v12
  let v348 : BitVec 32 := Scalar.addi v347 c0_i32_249
  let c3_i32_250 : BitVec 32 := 3#32
  let v349 : BitVec 32 := Scalar.addi v348 c3_i32_250
  let v350 : Index := Scalar.indexCast v349
  let c41_251 : Index := 41#32
  let c2_252 : Index := 2#32
  let c0_253 : Index := 0#32
  let c0_254 : Index := 0#32
  ![v350.toNat, 41, 2, 0, 0]
def k0_off81 (i : grid0.Coords) (c0_i32_260 : BitVec 32) : Fin 5 → Nat :=
  let c4_i32_259 : BitVec 32 := 4#32
  let arg0 : BitVec 32 := BitVec.ofNat 32 (i 0).val
  let c28_i32_6 : BitVec 32 := 28#32
  let v12 : BitVec 32 := Scalar.subi arg0 c28_i32_6
  let v361 : BitVec 32 := Scalar.muli c4_i32_259 v12
  let v362 : BitVec 32 := Scalar.addi v361 c0_i32_260
  let c3_i32_261 : BitVec 32 := 3#32
  let v363 : BitVec 32 := Scalar.addi v362 c3_i32_261
  let v364 : Index := Scalar.indexCast v363
  let c49_262 : Index := 49#32
  let c2_263 : Index := 2#32
  let c0_264 : Index := 0#32
  let c0_265 : Index := 0#32
  ![v364.toNat, 49, 2, 0, 0]
def k0_off82 (i : grid0.Coords) (c0_i32_271 : BitVec 32) : Fin 5 → Nat :=
  let c4_i32_270 : BitVec 32 := 4#32
  let arg0 : BitVec 32 := BitVec.ofNat 32 (i 0).val
  let c28_i32_6 : BitVec 32 := 28#32
  let v12 : BitVec 32 := Scalar.subi arg0 c28_i32_6
  let v375 : BitVec 32 := Scalar.muli c4_i32_270 v12
  let v376 : BitVec 32 := Scalar.addi v375 c0_i32_271
  let c3_i32_272 : BitVec 32 := 3#32
  let v377 : BitVec 32 := Scalar.addi v376 c3_i32_272
  let v378 : Index := Scalar.indexCast v377
  let c57_273 : Index := 57#32
  let c2_274 : Index := 2#32
  let c0_275 : Index := 0#32
  let c0_276 : Index := 0#32
  ![v378.toNat, 57, 2, 0, 0]
def k0_off83 (i : grid0.Coords) (c0_i32_282 : BitVec 32) : Fin 5 → Nat :=
  let c4_i32_281 : BitVec 32 := 4#32
  let arg0 : BitVec 32 := BitVec.ofNat 32 (i 0).val
  let c28_i32_6 : BitVec 32 := 28#32
  let v12 : BitVec 32 := Scalar.subi arg0 c28_i32_6
  let v389 : BitVec 32 := Scalar.muli c4_i32_281 v12
  let v390 : BitVec 32 := Scalar.addi v389 c0_i32_282
  let c3_i32_283 : BitVec 32 := 3#32
  let v391 : BitVec 32 := Scalar.addi v390 c3_i32_283
  let v392 : Index := Scalar.indexCast v391
  let c65_284 : Index := 65#32
  let c2_285 : Index := 2#32
  let c0_286 : Index := 0#32
  let c0_287 : Index := 0#32
  ![v392.toNat, 65, 2, 0, 0]
def k0_cond5 (i : grid0.Coords) : BitVec 1 :=
  let arg0 : BitVec 32 := BitVec.ofNat 32 (i 0).val
  let c28_i32_6 : BitVec 32 := 28#32
  let v12 : BitVec 32 := Scalar.subi arg0 c28_i32_6
  let c0_i32_1207 : BitVec 32 := 0#32
  let v1573 : BitVec 1 := Scalar.cmpi .eq v12 c0_i32_1207
  let v1574 : BitVec 32 := Scalar.extui v1573
  let c0_i32_1208 : BitVec 32 := 0#32
  let v1575 : BitVec 1 := Scalar.cmpi .ne v1574 c0_i32_1208
  v1575

@[reducible] def k0_t3_loop : Scf.Loop 32 :=
  let c0_i32_1216 : BitVec 32 := 0#32
  let c72_i32 : BitVec 32 := 72#32
  let v1582 : BitVec 32 := Scalar.addi c0_i32_1216 c72_i32
  let c1_i32_1217 : BitVec 32 := 1#32
  ⟨c0_i32_1216, v1582, c1_i32_1217⟩
def k0_off84 (k0_t3 : Fin k0_t3_loop.trips) : Fin 3 → Nat :=
  let c0_i32_1216 : BitVec 32 := 0#32
  let c1_i32_1217 : BitVec 32 := 1#32
  let arg14 : BitVec 32 := Scf.iv c0_i32_1216 c1_i32_1217 k0_t3
  let v1584 : Index := Scalar.indexCast arg14
  let c0_1220 : Index := 0#32
  let c0_1221 : Index := 0#32
  ![v1584.toNat, 0, 0]
@[reducible] def k0_t4_loop : Scf.Loop 32 :=
  let c0_i32_1213 : BitVec 32 := 0#32
  let c9_i32 : BitVec 32 := 9#32
  let v1581 : BitVec 32 := Scalar.addi c0_i32_1213 c9_i32
  let c1_i32_1214 : BitVec 32 := 1#32
  ⟨c0_i32_1213, v1581, c1_i32_1214⟩
def k0_off85 (i : grid0.Coords) (k0_t4 : Fin k0_t4_loop.trips) (c0_i32_1229 : BitVec 32) (c0_i32_1228 : BitVec 32) : Fin 5 → Nat :=
  let c4_i32_1212 : BitVec 32 := 4#32
  let arg0 : BitVec 32 := BitVec.ofNat 32 (i 0).val
  let c28_i32_6 : BitVec 32 := 28#32
  let v12 : BitVec 32 := Scalar.subi arg0 c28_i32_6
  let v1580 : BitVec 32 := Scalar.muli c4_i32_1212 v12
  let v1599 : BitVec 32 := Scalar.addi v1580 c0_i32_1229
  let v1600 : Index := Scalar.indexCast v1599
  let c0_i32_1213 : BitVec 32 := 0#32
  let c1_i32_1214 : BitVec 32 := 1#32
  let arg14 : BitVec 32 := Scf.iv c0_i32_1213 c1_i32_1214 k0_t4
  let c8_i32 : BitVec 32 := 8#32
  let v1597 : BitVec 32 := Scalar.muli arg14 c8_i32
  let v1598 : BitVec 32 := Scalar.addi v1597 c0_i32_1228
  let v1601 : Index := Scalar.indexCast v1598
  let c0_1230 : Index := 0#32
  let c0_1231 : Index := 0#32
  let c0_1232 : Index := 0#32
  ![v1600.toNat, v1601.toNat, 0, 0, 0]
def k0_off86 (i : grid0.Coords) (k0_t4 : Fin k0_t4_loop.trips) (c0_i32_1262 : BitVec 32) (c0_i32_1228 : BitVec 32) : Fin 5 → Nat :=
  let c4_i32_1212 : BitVec 32 := 4#32
  let arg0 : BitVec 32 := BitVec.ofNat 32 (i 0).val
  let c28_i32_6 : BitVec 32 := 28#32
  let v12 : BitVec 32 := Scalar.subi arg0 c28_i32_6
  let v1580 : BitVec 32 := Scalar.muli c4_i32_1212 v12
  let v1662 : BitVec 32 := Scalar.addi v1580 c0_i32_1262
  let v1664 : Index := Scalar.indexCast v1662
  let c0_i32_1213 : BitVec 32 := 0#32
  let c1_i32_1214 : BitVec 32 := 1#32
  let arg14 : BitVec 32 := Scf.iv c0_i32_1213 c1_i32_1214 k0_t4
  let c8_i32 : BitVec 32 := 8#32
  let v1597 : BitVec 32 := Scalar.muli arg14 c8_i32
  let v1598 : BitVec 32 := Scalar.addi v1597 c0_i32_1228
  let c2_i32_1263 : BitVec 32 := 2#32
  let v1663 : BitVec 32 := Scalar.addi v1598 c2_i32_1263
  let v1665 : Index := Scalar.indexCast v1663
  let c2_1264 : Index := 2#32
  let c0_1265 : Index := 0#32
  let c0_1266 : Index := 0#32
  ![v1664.toNat, v1665.toNat, 2, 0, 0]
def k0_off87 (k0_t4 : Fin k0_t4_loop.trips) (c0_i32_1228 : BitVec 32) : Fin 3 → Nat :=
  let c0_i32_1213 : BitVec 32 := 0#32
  let c1_i32_1214 : BitVec 32 := 1#32
  let arg14 : BitVec 32 := Scf.iv c0_i32_1213 c1_i32_1214 k0_t4
  let c8_i32 : BitVec 32 := 8#32
  let v1597 : BitVec 32 := Scalar.muli arg14 c8_i32
  let v1598 : BitVec 32 := Scalar.addi v1597 c0_i32_1228
  let v1689 : Index := Scalar.indexCast v1598
  let c0_1273 : Index := 0#32
  let c0_1274 : Index := 0#32
  ![v1689.toNat, 0, 0]
def k0_off88 (k0_t4 : Fin k0_t4_loop.trips) (c0_i32_1228 : BitVec 32) : Fin 4 → Nat :=
  let c0_1282 : Index := 0#32
  let c0_i32_1213 : BitVec 32 := 0#32
  let c1_i32_1214 : BitVec 32 := 1#32
  let arg14 : BitVec 32 := Scf.iv c0_i32_1213 c1_i32_1214 k0_t4
  let c8_i32 : BitVec 32 := 8#32
  let v1597 : BitVec 32 := Scalar.muli arg14 c8_i32
  let v1598 : BitVec 32 := Scalar.addi v1597 c0_i32_1228
  let v1706 : Index := Scalar.indexCast v1598
  let c0_1283 : Index := 0#32
  let c0_1284 : Index := 0#32
  ![0, v1706.toNat, 0, 0]
def k0_cond3 (i : grid0.Coords) : BitVec 1 :=
  let arg0 : BitVec 32 := BitVec.ofNat 32 (i 0).val
  let c28_i32_2 : BitVec 32 := 28#32
  let v6 : BitVec 1 := Scalar.cmpi .eq arg0 c28_i32_2
  let v7 : BitVec 32 := Scalar.extui v6
  let c0_i32_3 : BitVec 32 := 0#32
  let v8 : BitVec 1 := Scalar.cmpi .ne v7 c0_i32_3
  v8

def cc0_transform_0 (i : grid0.Coords) : Fin 4 → Nat :=
  let arg0 : BitVec 32 := BitVec.ofNat 32 (i 0).val
  let c27_i32 : BitVec 32 := 27#32
  let v0 : BitVec 32 := Scalar.minsi arg0 c27_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c28_i32 : BitVec 32 := 28#32
  let v0 : BitVec 32 := Scalar.subi arg0 c28_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_6 (i : grid0.Coords) : Fin 4 → Nat :=
  let arg0 : BitVec 32 := BitVec.ofNat 32 (i 0).val
  let c28_i32 : BitVec 32 := 28#32
  let v0 : BitVec 32 := Scalar.subi arg0 c28_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x3x288x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x72x64x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x3x288x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== KernelIdeal.lean ====
variable {F : FTy → Type} [FloatOps F] [Named F]
def κ : String → Option EReal := fun
  | "mean0" => some ((97 / 200 : ℝ) : EReal)
  | "mean1" => some ((57 / 125 : ℝ) : EReal)
  | "mean2" => some ((203 / 500 : ℝ) : EReal)
  | "offset0" => some ((-62080 / 229 : ℝ) : EReal)
  | "offset1" => some ((-1824 / 7 : ℝ) : EReal)
  | "offset2" => some ((-51968 / 225 : ℝ) : EReal)
  | "slope0" => some ((25600 / 11679 : ℝ) : EReal)
  | "slope1" => some ((800 / 357 : ℝ) : EReal)
  | "slope2" => some ((-1024 / 459 : ℝ) : EReal)
  | "std0" => some ((229 / 1000 : ℝ) : EReal)
  | "std1" => some ((28 / 125 : ℝ) : EReal)
  | "std2" => some ((9 / 40 : ℝ) : EReal)
  | _ => none
-- ==== ReferenceIdeal.lean ====
abbrev S128x224x288x3 : Shape := ⟨4, ![128, 224, 288, 3]⟩
abbrev S7x7x3x64 : Shape := ⟨4, ![7, 7, 3, 64]⟩
abbrev S64 : Shape := ⟨1, ![64]⟩
abbrev S254 : Shape := ⟨1, ![254]⟩
abbrev S_ : Shape := ⟨0, ![]⟩
abbrev S3x224x288x128 : Shape := ⟨4, ![3, 224, 288, 128]⟩
abbrev S254x1 : Shape := ⟨2, ![254, 1]⟩
abbrev S254x128 : Shape := ⟨2, ![254, 128]⟩
abbrev S3x128 : Shape := ⟨2, ![3, 128]⟩
abbrev S1x224x288x128 : Shape := ⟨4, ![1, 224, 288, 128]⟩
abbrev S224x288x128 : Shape := ⟨3, ![224, 288, 128]⟩
abbrev S128 : Shape := ⟨1, ![128]⟩
abbrev S1x128 : Shape := ⟨2, ![1, 128]⟩
abbrev S1x1x128 : Shape := ⟨3, ![1, 1, 128]⟩
abbrev S3x230x294x128 : Shape := ⟨4, ![3, 230, 294, 128]⟩
abbrev S3x112x294x128 : Shape := ⟨4, ![3, 112, 294, 128]⟩
abbrev S1x3x112x294x128 : Shape := ⟨5, ![1, 3, 112, 294, 128]⟩
abbrev S7x3x112x294x128 : Shape := ⟨5, ![7, 3, 112, 294, 128]⟩
abbrev S7x3x112x144x128 : Shape := ⟨5, ![7, 3, 112, 144, 128]⟩
abbrev S1x7x3x112x144x128 : Shape := ⟨6, ![1, 7, 3, 112, 144, 128]⟩
abbrev S7x7x3x112x144x128 : Shape := ⟨6, ![7, 7, 3, 112, 144, 128]⟩
abbrev S112x144x128x64 : Shape := ⟨4, ![112, 144, 128, 64]⟩
abbrev S1x1x1x64 : Shape := ⟨4, ![1, 1, 1, 64]⟩
abbrev S56x72x128x64 : Shape := ⟨4, ![56, 72, 128, 64]⟩
abbrev S56x72x64x128 : Shape := ⟨4, ![56, 72, 64, 128]⟩
abbrev S224x3x288x128 : Shape := ⟨4, ![224, 3, 288, 128]⟩

abbrev nBuf : Space → Nat
  | .hbm => 72
  | .vmem => 7
  | .smem => 0
  | _ => 0

abbrev bufTy : (tb : Table) → Fin (tcTables nBuf tb) → BufTy
  | .hbm, ⟨0, _⟩ => ⟨S128x224x288x3, .i8⟩
  | .hbm, ⟨1, _⟩ => ⟨S7x7x3x64, .fp8e4m3⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S254, .i32⟩
  | .hbm, ⟨6, _⟩ => ⟨S_, .i32⟩
  | .hbm, ⟨7, _⟩ => ⟨S254, .i32⟩
  | .hbm, ⟨8, _⟩ => ⟨S254, .i32⟩
  | .hbm, ⟨9, _⟩ => ⟨S_, .i32⟩
  | .hbm, ⟨10, _⟩ => ⟨S254, .i32⟩
  | .hbm, ⟨11, _⟩ => ⟨S254, .i32⟩
  | .hbm, ⟨12, _⟩ => ⟨S254, .f32⟩
  | .hbm, ⟨13, _⟩ => ⟨S3x224x288x128, .i8⟩
  | .hbm, ⟨14, _⟩ => ⟨S254x1, .f32⟩
  | .hbm, ⟨15, _⟩ => ⟨S254x128, .f32⟩
  | .hbm, ⟨16, _⟩ => ⟨S3x224x288x128, .fp8e4m3⟩
  | .hbm, ⟨17, _⟩ => ⟨S3x128, .f32⟩
  | .hbm, ⟨18, _⟩ => ⟨S3x224x288x128, .bf16⟩
  | .hbm, ⟨19, _⟩ => ⟨S7x7x3x64, .bf16⟩
  | .hbm, ⟨20, _⟩ => ⟨S_, .i32⟩
  | .hbm, ⟨21, _⟩ => ⟨S_, .bf16⟩
  | .hbm, ⟨22, _⟩ => ⟨S3x230x294x128, .bf16⟩
  | .hbm, ⟨23, _⟩ => ⟨S3x112x294x128, .bf16⟩
  | .hbm, ⟨24, _⟩ => ⟨S3x112x294x128, .bf16⟩
  | .hbm, ⟨25, _⟩ => ⟨S3x112x294x128, .bf16⟩
  | .hbm, ⟨26, _⟩ => ⟨S3x112x294x128, .bf16⟩
  | .hbm, ⟨27, _⟩ => ⟨S3x112x294x128, .bf16⟩
  | .hbm, ⟨28, _⟩ => ⟨S3x112x294x128, .bf16⟩
  | .hbm, ⟨29, _⟩ => ⟨S3x112x294x128, .bf16⟩
  | .hbm, ⟨30, _⟩ => ⟨S1x3x112x294x128, .bf16⟩
  | .hbm, ⟨31, _⟩ => ⟨S1x3x112x294x128, .bf16⟩
  | .hbm, ⟨32, _⟩ => ⟨S1x3x112x294x128, .bf16⟩
  | .hbm, ⟨33, _⟩ => ⟨S1x3x112x294x128, .bf16⟩
  | .hbm, ⟨34, _⟩ => ⟨S1x3x112x294x128, .bf16⟩
  | .hbm, ⟨35, _⟩ => ⟨S1x3x112x294x128, .bf16⟩
  | .hbm, ⟨36, _⟩ => ⟨S1x3x112x294x128, .bf16⟩
  | .hbm, ⟨37, _⟩ => ⟨S7x3x112x294x128, .bf16⟩
  | .hbm, ⟨38, _⟩ => ⟨S7x3x112x144x128, .bf16⟩
  | .hbm, ⟨39, _⟩ => ⟨S7x3x112x144x128, .bf16⟩
  | .hbm, ⟨40, _⟩ => ⟨S7x3x112x144x128, .bf16⟩
  | .hbm, ⟨41, _⟩ => ⟨S7x3x112x144x128, .bf16⟩
  | .hbm, ⟨42, _⟩ => ⟨S7x3x112x144x128, .bf16⟩
  | .hbm, ⟨43, _⟩ => ⟨S7x3x112x144x128, .bf16⟩
  | .hbm, ⟨44, _⟩ => ⟨S7x3x112x144x128, .bf16⟩
  | .hbm, ⟨45, _⟩ => ⟨S1x7x3x112x144x128, .bf16⟩
  | .hbm, ⟨46, _⟩ => ⟨S1x7x3x112x144x128, .bf16⟩
  | .hbm, ⟨47, _⟩ => ⟨S1x7x3x112x144x128, .bf16⟩
  | .hbm, ⟨48, _⟩ => ⟨S1x7x3x112x144x128, .bf16⟩
  | .hbm, ⟨49, _⟩ => ⟨S1x7x3x112x144x128, .bf16⟩
  | .hbm, ⟨50, _⟩ => ⟨S1x7x3x112x144x128, .bf16⟩
  | .hbm, ⟨51, _⟩ => ⟨S1x7x3x112x144x128, .bf16⟩
  | .hbm, ⟨52, _⟩ => ⟨S7x7x3x112x144x128, .bf16⟩
  | .hbm, ⟨53, _⟩ => ⟨S112x144x128x64, .f32⟩
  | .hbm, ⟨54, _⟩ => ⟨S1x1x1x64, .f32⟩
  | .hbm, ⟨55, _⟩ => ⟨S112x144x128x64, .f32⟩
  | .hbm, ⟨56, _⟩ => ⟨S112x144x128x64, .f32⟩
  | .hbm, ⟨57, _⟩ => ⟨S1x1x1x64, .f32⟩
  | .hbm, ⟨58, _⟩ => ⟨S112x144x128x64, .f32⟩
  | .hbm, ⟨59, _⟩ => ⟨S112x144x128x64, .f32⟩
  | .hbm, ⟨60, _⟩ => ⟨S1x1x1x64, .f32⟩
  | .hbm, ⟨61, _⟩ => ⟨S112x144x128x64, .f32⟩
  | .hbm, ⟨62, _⟩ => ⟨S112x144x128x64, .f32⟩
  | .hbm, ⟨63, _⟩ => ⟨S_, .f32⟩
  | .hbm, ⟨64, _⟩ => ⟨S112x144x128x64, .f32⟩
  | .hbm, ⟨65, _⟩ => ⟨S112x144x128x64, .f32⟩
  | .hbm, ⟨66, _⟩ => ⟨S_, .f32⟩
  | .hbm, ⟨67, _⟩ => ⟨S_, .f32⟩
  | .hbm, ⟨68, _⟩ => ⟨S56x72x128x64, .f32⟩
  | .hbm, ⟨69, _⟩ => ⟨S56x72x128x64, .bf16⟩
  | .hbm, ⟨70, _⟩ => ⟨S56x72x64x128, .bf16⟩
  | .hbm, ⟨71, _⟩ => ⟨S224x3x288x128, .fp8e4m3⟩
  | .local _ .vmem, ⟨0, _⟩ => ⟨S3x224x288x128, .i8⟩
  | .local _ .vmem, ⟨1, _⟩ => ⟨S254x128, .f32⟩
  | .local _ .vmem, ⟨2, _⟩ => ⟨S7x7x3x64, .fp8e4m3⟩
  | .local _ .vmem, ⟨3, _⟩ => ⟨S3x224x288x128, .fp8e4m3⟩
  | .local _ .vmem, ⟨4, _⟩ => ⟨S3x128, .f32⟩
  | .local _ .vmem, ⟨5, _⟩ => ⟨S3x224x288x128, .bf16⟩
  | .local _ .vmem, ⟨6, _⟩ => ⟨S7x7x3x64, .bf16⟩
  | _, _ => ⟨S128x224x288x3, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_c_1 : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst : Ref sig .tc := ⟨.hbm, 63, rfl⟩
abbrev main_v51 : Ref sig .tc := ⟨.hbm, 64, rfl⟩
abbrev main_v52 : Ref sig .tc := ⟨.hbm, 65, rfl⟩
abbrev main_cst_2 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "mean0" => some ((97 / 200 : ℝ) : EReal)
  | "mean1" => some ((57 / 125 : ℝ) : EReal)
  | "mean2" => some ((203 / 500 : ℝ) : EReal)
  | "offset0" => some ((-62080 / 229 : ℝ) : EReal)
  | "offset1" => some ((-1824 / 7 : ℝ) : EReal)
  | "offset2" => some ((-51968 / 225 : ℝ) : EReal)
  | "slope0" => some ((25600 / 11679 : ℝ) : EReal)
  | "slope1" => some ((800 / 357 : ℝ) : EReal)
  | "slope2" => some ((-1024 / 459 : ℝ) : EReal)
  | "std0" => some ((229 / 1000 : ℝ) : EReal)
  | "std1" => some ((28 / 125 : ℝ) : EReal)
  | "std2" => some ((9 / 40 : ℝ) : EReal)
  | _ => none

abbrev grid0 : Pipeline.Grid := .none

abbrev stage0_0 : Fin 1 → Memref sig .tc .vmem S3x224x288x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S254x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7x7x3x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x224x288x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x224x288x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S7x7x3x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.lean ====
/-
  The run of the `stem` kernel of `Kernel`, and its frame. Whatever the scratch buffers and the result blocks hold, the
  body runs at every grid point, leaves its five input blocks as they were, and leaves every other buffer at some
  contents. No value is stated here: the result windows are forgotten.
-/
module

public import proofs.«01_k».proof.Proof.Gen.Kernel.Frame
public import proofs.«01_k».proof.Proof.Gen.Kernel.Loops
public import Idealize.ShloMosaic.Lib.Tactic
public import Idealize.ShloMosaic.PureOps.BitExact

@[expose] public section

noncomputable section

namespace Cert.Proof.KernelFrame

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable {F : FTy → Type} [FloatOps F]

/-- The proof's resource algebra: the frame kit's. -/
local notation "𝕄" => MT nD τ sig Unit (Elt F) ℕ (UR sig nD τ) ℕ

abbrev 𝒱₀ : Variants := Variants.none

/-- A memref held whole at the contents `f`. -/
abbrev own (c : Dev nD) {sp : Space} {s : Shape} {e : EltTy} (M : Memref sig .tc sp s e) (f : BufTy.Contents (Elt F) M.view.ty) : sProp 𝕄 :=
  iprop(M.view.loc (c : Thread nD τ) ↦[M.view.set]{fullShare} f)

/-! ## The conditions of the body, read at the grid coordinate -/

/-- The first `when` runs at the first point only. -/
theorem cond1_iff : ∀ i : grid0.Coords, k0_cond1 i = 1#1 ↔ (i 0).val = 0 := by decide +kernel
/-- The second `when` runs at the first 28 points. -/
theorem cond2_iff : ∀ i : grid0.Coords, k0_cond2 i = 1#1 ↔ (i 0).val < 28 := by decide +kernel
/-- The third `when` runs at point 28 only. -/
theorem cond3_iff : ∀ i : grid0.Coords, k0_cond3 i = 1#1 ↔ (i 0).val = 28 := by decide +kernel
/-- The fourth `when` runs from point 28 on. -/
theorem cond4_iff : ∀ i : grid0.Coords, k0_cond4 i = 1#1 ↔ 28 ≤ (i 0).val := by decide +kernel
/-- The `when` inside the fourth runs at point 28 only. -/
theorem cond5_iff : ∀ i : grid0.Coords, k0_cond5 i = 1#1 ↔ (i 0).val = 28 := by decide +kernel

/-! ## The body -/

set_option maxRecDepth 65536 in
set_option maxHeartbeats 4000000 in
/-- The body at any grid point, over any contents: it runs, the inputs stay, everything else is left at some contents. -/
theorem body_run (c : Dev nD) (i : grid0.Coords)
    (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (E : Set ℕ) (K : PUnit → sProp 𝕄) :
    iprop(own c arg1 f1 ∗ own c arg2 f2 ∗ own c arg3 f3 ∗ own c arg4 f4 ∗ own c arg5 f5 ∗ own c arg6 f6 ∗ own c arg7 f7 ∗ own c arg8 f8 ∗ own c arg9 f9 ∗ own c arg10 f10 ∗ own c arg11 f11 ∗ own c arg12 f12 ∗ own c arg13 f13
        ∗ (iprop(own c arg1 f1 ∗ own c arg2 f2 ∗ own c arg3 f3 ∗ own c arg4 f4 ∗ own c arg5 f5 ∗ (∃ f, own c arg6 f) ∗ (∃ f, own c arg7 f) ∗ (∃ f, own c arg8 f) ∗ (∃ f, own c arg9 f) ∗ (∃ f, own c arg10 f) ∗ (∃ f, own c arg11 f) ∗ (∃ f, own c arg12 f) ∗ (∃ f, own c arg13 f)) -∗ K ⟨⟩))
      ⊢ wp frame (wpE (defs₀ (F := F)) 𝒱₀ (c : Thread nD τ) none) E (cc0_stem (F := F) i arg1 h1 arg2 h2 arg3 h3 arg4 h4 arg5 h5 arg6 h6 arg7 h7 arg8 h8 arg9 h9 arg10 h10 arg11 h11 arg12 h12 arg13 h13) K := by
  by_cases h1 : k0_cond1 i = 1#1
  · have i0 := (cond1_iff i).mp h1
    have h2 : k0_cond2 i = 1#1 := (cond2_iff i).mpr (by omega)
    have h3 : ¬ k0_cond3 i = 1#1 := fun h => by have := (cond3_iff i).mp h; omega
    have h4 : ¬ k0_cond4 i = 1#1 := fun h => by have := (cond4_iff i).mp h; omega
    iintro ⟨H1, H2, H3, H4, H5, H6, H7, H8, H9, H10, H11, H12, H13, Hk⟩
    sl_unfold [cc0_stem]
    sl_exec
    sl_step
    iapply Hk
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  by_cases h2 : k0_cond2 i = 1#1
  · have i0 := (cond2_iff i).mp h2
    have h3 : ¬ k0_cond3 i = 1#1 := fun h => by have := (cond3_iff i).mp h; omega
    have h4 : ¬ k0_cond4 i = 1#1 := fun h => by have := (cond4_iff i).mp h; omega
    iintro ⟨H1, H2, H3, H4, H5, H6, H7, H8, H9, H10, H11, H12, H13, Hk⟩
    sl_unfold [cc0_stem]
    sl_exec
    sl_step
    iapply Hk
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  have h4 : k0_cond4 i = 1#1 := (cond4_iff i).mpr (Nat.le_of_not_lt fun h => h2 ((cond2_iff i).mpr h))
  by_cases h3 : k0_cond3 i = 1#1
  · have h5 : k0_cond5 i = 1#1 := (cond5_iff i).mpr ((cond3_iff i).mp h3)
    iintro ⟨H1, H2, H3, H4, H5, H6, H7, H8, H9, H10, H11, H12, H13, Hk⟩
    sl_unfold [cc0_stem]
    sl_exec
    sl_step
    iapply Hk
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  · have h5 : ¬ k0_cond5 i = 1#1 := fun h => h3 ((cond3_iff i).mpr ((cond5_iff i).mp h))
    iintro ⟨H1, H2, H3, H4, H5, H6, H7, H8, H9, H10, H11, H12, H13, Hk⟩
    sl_unfold [cc0_stem]
    sl_exec
    sl_step
    iapply Hk
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

/-! ## The proof data and the obligation -/

/-- A whole buffer held as a memref is its points-to. -/
theorem own_whole (c : Dev nD) (b : Ref sig .tc) (f : b.ty.Contents (Elt F)) :
    own c (Memref.whole b) f = iprop(((c : Thread nD τ).loc b) ↦{fullShare} f) := by
  unfold own; simp only [Memref.view_whole, View.set_whole]

/-- The scratch buffers the launch hands the body, each held as a memref. -/
theorem scopedRest_own (c : Dev nD) :
    (Pipeline.scopedRest (Ix := Unit) (Name := ℕ) (U := UR sig nD τ) (Lvl := ℕ) (Val := Elt F) spec0 c : sProp 𝕄)
      = iprop((∃ f, own c (Memref.whole cc0_scratch0) f) ∗ (∃ f, own c (Memref.whole cc0_scratch1) f) ∗ (∃ f, own c (Memref.whole cc0_scratch2) f)
        ∗ (∃ f, own c (Memref.whole cc0_scratch3) f) ∗ (∃ f, own c (Memref.whole cc0_scratch4) f)) := by
  rw [scopedRest0_eq]; simp only [own, Memref.view_whole, View.set_whole]

section Run
variable (m : (ℓ : Loc nD τ sig) → Buf (Elt F) ℓ) (ρ : Dev nD → PrngReg)

/-- The proof data: the arrays at the region's entry; every input block left as it was; the results forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Dat.unnamed ⟨5, h⟩ t
    | ⟨6, h⟩ => Dat.unnamed ⟨6, h⟩ t
    | ⟨7, h⟩ => Dat.unnamed ⟨7, h⟩ t
  Φ _ := Pipeline.ΦA spec0 c
  q _ := fullShare
  owed _ := 0

/-- The forgotten windows: the three results. -/
def fgt (w : Fin cfg0.W) : Bool := match w with
  | ⟨0, _⟩ => false | ⟨1, _⟩ => false | ⟨2, _⟩ => false | ⟨3, _⟩ => false | ⟨4, _⟩ => false
  | ⟨5, _⟩ => true | ⟨6, _⟩ => true | ⟨7, _⟩ => true

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = true := rfl
theorem fgt_6 : fgt 6 = true := rfl
theorem fgt_7 : fgt 7 = true := rfl

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

set_option maxHeartbeats 2000000 in
/-- Every point of the grid meets the library's obligation. -/
theorem body_obligation (c : Dev nD) : BodyObligationLoose (dats (F := F) m 0 c) (defs₀ (F := F)) 𝒱₀ () Set.univ fgt := fun t => by
  rw [bigSep_W0, bigSep_W0]
  sl_whnfR [defs₀, Defs.onTc]
  simp only [fgt_0, fgt_1, fgt_2, fgt_3, fgt_4, fgt_5, fgt_6, fgt_7, before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4]
  rw [show (dats m 0 c).Φ t.castSucc = ΦA spec0 c from rfl]
  unfold ΦA
  rw [scopedRest_own]
  unfold owns
  iintro ⟨⟨⟨⟨%f9, H9⟩, ⟨%f10, H10⟩, ⟨%f11, H11⟩, ⟨%f12, H12⟩, ⟨%f13, H13⟩⟩, Hr⟩, Ho, ⟨%d0, %f1, %e1, H1⟩, ⟨%d1, %f2, %e2, H2⟩, ⟨%d2, %f3, %e3, H3⟩, ⟨%d3, %f4, %e4, H4⟩, ⟨%d4, %f5, %e5, H5⟩, ⟨%d5, %f6, %e6, H6⟩, ⟨%d6, %f7, %e7, H7⟩, ⟨%d7, %f8, %e8, H8⟩⟩
  iapply (body_run c (grid0.coords t) _ _ _ _ _ _ _ _ _ _ _ _ _ _ _ _ (Memref.whole cc0_scratch0) _ (Memref.whole cc0_scratch1) _ (Memref.whole cc0_scratch2) _ (Memref.whole cc0_scratch3) _ (Memref.whole cc0_scratch4) _ f1 f2 f3 f4 f5 f6 f7 f8 f9 f10 f11 f12 f13)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, ⟨%g6, H6⟩, ⟨%g7, H7⟩, ⟨%g8, H8⟩, ⟨%g9, H9⟩, ⟨%g10, H10⟩, ⟨%g11, H11⟩, ⟨%g12, H12⟩, ⟨%g13, H13⟩⟩
  isplitl [H9 H10 H11 H12 H13 Hr]
  · isplitr [Hr]
    · isplitl [H9]; · iexists g9; iexact H9
      isplitl [H10]; · iexists g10; iexact H10
      isplitl [H11]; · iexists g11; iexact H11
      isplitl [H12]; · iexists g12; iexact H12
      iexists g13; iexact H13
    · iexact Hr
  isplitl [Ho]; · iexact Ho
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists _; iexists g6; isplitr; · ipureintro; rfl
                  iexact H6
  isplitl [H7]; · iexists _; iexists g7; isplitr; · ipureintro; rfl
                  iexact H7
  iexists _; iexists g8; isplitr; · ipureintro; rfl
  iexact H8

set_option backward.isDefEq.respectTransparency.types false in
/-- The run: it terminates from any memory with zero counters, every buffer that is no array of the pipeline ends as it
    stood at the region's entry, and every counter ends at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => body_obligation m c) (hshare := fun c => (dats m 0 c).share_full fun _ => rfl)
    (howed := fun _ _ => rfl) (V := V m) (hmain := hmain m 𝒱₀) (hA := fun _ _ => rfl) (hΦ := fun _ _ => rfl)
    (hQ' := fun _ h => h)

/-- The frame: the run terminates, the five arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Run

end Cert.Proof.KernelFrame

end
-- ==== Proof.KernelIdealFrame.lean ====
/-
  The run of the `stem` kernel of `KernelIdeal`, and its frame. Whatever the scratch buffers and the result blocks hold, the
  body runs at every grid point, leaves its five input blocks as they were, and leaves every other buffer at some
  contents. No value is stated here: the result windows are forgotten.
-/
module

public import proofs.«01_k».proof.Proof.Gen.KernelIdeal.Frame
public import proofs.«01_k».proof.Proof.Gen.KernelIdeal.Loops
public import Idealize.ShloMosaic.Lib.Tactic
public import Idealize.ShloMosaic.PureOps.BitExact

@[expose] public section

noncomputable section

namespace Cert.Proof.KernelIdealFrame

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable {F : FTy → Type} [FloatOps F] [Named F]

/-- The proof's resource algebra: the frame kit's. -/
local notation "𝕄" => MT nD τ sig Unit (Elt F) ℕ (UR sig nD τ) ℕ

abbrev 𝒱₀ : Variants := Variants.none

/-- A memref held whole at the contents `f`. -/
abbrev own (c : Dev nD) {sp : Space} {s : Shape} {e : EltTy} (M : Memref sig .tc sp s e) (f : BufTy.Contents (Elt F) M.view.ty) : sProp 𝕄 :=
  iprop(M.view.loc (c : Thread nD τ) ↦[M.view.set]{fullShare} f)

/-! ## The conditions of the body, read at the grid coordinate -/

/-- The first `when` runs at the first point only. -/
theorem cond1_iff : ∀ i : grid0.Coords, k0_cond1 i = 1#1 ↔ (i 0).val = 0 := by decide +kernel
/-- The second `when` runs at the first 28 points. -/
theorem cond2_iff : ∀ i : grid0.Coords, k0_cond2 i = 1#1 ↔ (i 0).val < 28 := by decide +kernel
/-- The third `when` runs at point 28 only. -/
theorem cond3_iff : ∀ i : grid0.Coords, k0_cond3 i = 1#1 ↔ (i 0).val = 28 := by decide +kernel
/-- The fourth `when` runs from point 28 on. -/
theorem cond4_iff : ∀ i : grid0.Coords, k0_cond4 i = 1#1 ↔ 28 ≤ (i 0).val := by decide +kernel
/-- The `when` inside the fourth runs at point 28 only. -/
theorem cond5_iff : ∀ i : grid0.Coords, k0_cond5 i = 1#1 ↔ (i 0).val = 28 := by decide +kernel

/-! ## The body -/

set_option maxRecDepth 65536 in
set_option maxHeartbeats 4000000 in
/-- The body at any grid point, over any contents: it runs, the inputs stay, everything else is left at some contents. -/
theorem body_run (c : Dev nD) (i : grid0.Coords)
    (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
    (E : Set ℕ) (K : PUnit → sProp 𝕄) :
    iprop(own c arg1 f1 ∗ own c arg2 f2 ∗ own c arg3 f3 ∗ own c arg4 f4 ∗ own c arg5 f5 ∗ own c arg6 f6 ∗ own c arg7 f7 ∗ own c arg8 f8 ∗ own c arg9 f9 ∗ own c arg10 f10 ∗ own c arg11 f11 ∗ own c arg12 f12 ∗ own c arg13 f13
        ∗ (iprop(own c arg1 f1 ∗ own c arg2 f2 ∗ own c arg3 f3 ∗ own c arg4 f4 ∗ own c arg5 f5 ∗ (∃ f, own c arg6 f) ∗ (∃ f, own c arg7 f) ∗ (∃ f, own c arg8 f) ∗ (∃ f, own c arg9 f) ∗ (∃ f, own c arg10 f) ∗ (∃ f, own c arg11 f) ∗ (∃ f, own c arg12 f) ∗ (∃ f, own c arg13 f)) -∗ K ⟨⟩))
      ⊢ wp frame (wpE (defs₀ (F := F)) 𝒱₀ (c : Thread nD τ) none) E (cc0_stem (F := F) i arg1 h1 arg2 h2 arg3 h3 arg4 h4 arg5 h5 arg6 h6 arg7 h7 arg8 h8 arg9 h9 arg10 h10 arg11 h11 arg12 h12 arg13 h13) K := by
  by_cases h1 : k0_cond1 i = 1#1
  · have i0 := (cond1_iff i).mp h1
    have h2 : k0_cond2 i = 1#1 := (cond2_iff i).mpr (by omega)
    have h3 : ¬ k0_cond3 i = 1#1 := fun h => by have := (cond3_iff i).mp h; omega
    have h4 : ¬ k0_cond4 i = 1#1 := fun h => by have := (cond4_iff i).mp h; omega
    iintro ⟨H1, H2, H3, H4, H5, H6, H7, H8, H9, H10, H11, H12, H13, Hk⟩
    sl_unfold [cc0_stem]
    sl_exec
    sl_step
    iapply Hk
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  by_cases h2 : k0_cond2 i = 1#1
  · have i0 := (cond2_iff i).mp h2
    have h3 : ¬ k0_cond3 i = 1#1 := fun h => by have := (cond3_iff i).mp h; omega
    have h4 : ¬ k0_cond4 i = 1#1 := fun h => by have := (cond4_iff i).mp h; omega
    iintro ⟨H1, H2, H3, H4, H5, H6, H7, H8, H9, H10, H11, H12, H13, Hk⟩
    sl_unfold [cc0_stem]
    sl_exec
    sl_step
    iapply Hk
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  have h4 : k0_cond4 i = 1#1 := (cond4_iff i).mpr (Nat.le_of_not_lt fun h => h2 ((cond2_iff i).mpr h))
  by_cases h3 : k0_cond3 i = 1#1
  · have h5 : k0_cond5 i = 1#1 := (cond5_iff i).mpr ((cond3_iff i).mp h3)
    iintro ⟨H1, H2, H3, H4, H5, H6, H7, H8, H9, H10, H11, H12, H13, Hk⟩
    sl_unfold [cc0_stem]
    sl_exec
    sl_step
    iapply Hk
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13
  · have h5 : ¬ k0_cond5 i = 1#1 := fun h => h3 ((cond3_iff i).mpr ((cond5_iff i).mp h))
    iintro ⟨H1, H2, H3, H4, H5, H6, H7, H8, H9, H10, H11, H12, H13, Hk⟩
    sl_unfold [cc0_stem]
    sl_exec
    sl_step
    iapply Hk
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

/-! ## The proof data and the obligation -/

/-- A whole buffer held as a memref is its points-to. -/
theorem own_whole (c : Dev nD) (b : Ref sig .tc) (f : b.ty.Contents (Elt F)) :
    own c (Memref.whole b) f = iprop(((c : Thread nD τ).loc b) ↦{fullShare} f) := by
  unfold own; simp only [Memref.view_whole, View.set_whole]

/-- The scratch buffers the launch hands the body, each held as a memref. -/
theorem scopedRest_own (c : Dev nD) :
    (Pipeline.scopedRest (Ix := Unit) (Name := ℕ) (U := UR sig nD τ) (Lvl := ℕ) (Val := Elt F) spec0 c : sProp 𝕄)
      = iprop((∃ f, own c (Memref.whole cc0_scratch0) f) ∗ (∃ f, own c (Memref.whole cc0_scratch1) f) ∗ (∃ f, own c (Memref.whole cc0_scratch2) f)
        ∗ (∃ f, own c (Memref.whole cc0_scratch3) f) ∗ (∃ f, own c (Memref.whole cc0_scratch4) f)) := by
  rw [scopedRest0_eq]; simp only [own, Memref.view_whole, View.set_whole]

section Run
variable (m : (ℓ : Loc nD τ sig) → Buf (Elt F) ℓ) (ρ : Dev nD → PrngReg)

/-- The proof data: the arrays at the region's entry; every input block left as it was; the results forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Dat.unnamed ⟨5, h⟩ t
    | ⟨6, h⟩ => Dat.unnamed ⟨6, h⟩ t
    | ⟨7, h⟩ => Dat.unnamed ⟨7, h⟩ t
  Φ _ := Pipeline.ΦA spec0 c
  q _ := fullShare
  owed _ := 0

/-- The forgotten windows: the three results. -/
def fgt (w : Fin cfg0.W) : Bool := match w with
  | ⟨0, _⟩ => false | ⟨1, _⟩ => false | ⟨2, _⟩ => false | ⟨3, _⟩ => false | ⟨4, _⟩ => false
  | ⟨5, _⟩ => true | ⟨6, _⟩ => true | ⟨7, _⟩ => true

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = true := rfl
theorem fgt_6 : fgt 6 = true := rfl
theorem fgt_7 : fgt 7 = true := rfl

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d

set_option maxHeartbeats 2000000 in
/-- Every point of the grid meets the library's obligation. -/
theorem body_obligation (c : Dev nD) : BodyObligationLoose (dats (F := F) m 0 c) (defs₀ (F := F)) 𝒱₀ () Set.univ fgt := fun t => by
  rw [bigSep_W0, bigSep_W0]
  sl_whnfR [defs₀, Defs.onTc]
  simp only [fgt_0, fgt_1, fgt_2, fgt_3, fgt_4, fgt_5, fgt_6, fgt_7, before0_0, before0_1, before0_2, before0_3, before0_4]
  rw [show (dats m 0 c).Φ t.succ = (dats m 0 c).Φ t.castSucc from rfl,
    show (dats m 0 c).owesAt () t.succ = (dats m 0 c).owesAt () t.castSucc from rfl, after0_0, after0_1, after0_2, after0_3, after0_4]
  rw [show (dats m 0 c).Φ t.castSucc = ΦA spec0 c from rfl]
  unfold ΦA
  rw [scopedRest_own]
  unfold owns
  iintro ⟨⟨⟨⟨%f9, H9⟩, ⟨%f10, H10⟩, ⟨%f11, H11⟩, ⟨%f12, H12⟩, ⟨%f13, H13⟩⟩, Hr⟩, Ho, ⟨%d0, %f1, %e1, H1⟩, ⟨%d1, %f2, %e2, H2⟩, ⟨%d2, %f3, %e3, H3⟩, ⟨%d3, %f4, %e4, H4⟩, ⟨%d4, %f5, %e5, H5⟩, ⟨%d5, %f6, %e6, H6⟩, ⟨%d6, %f7, %e7, H7⟩, ⟨%d7, %f8, %e8, H8⟩⟩
  iapply (body_run c (grid0.coords t) _ _ _ _ _ _ _ _ _ _ _ _ _ _ _ _ (Memref.whole cc0_scratch0) _ (Memref.whole cc0_scratch1) _ (Memref.whole cc0_scratch2) _ (Memref.whole cc0_scratch3) _ (Memref.whole cc0_scratch4) _ f1 f2 f3 f4 f5 f6 f7 f8 f9 f10 f11 f12 f13)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H1, H2, H3, H4, H5, ⟨%g6, H6⟩, ⟨%g7, H7⟩, ⟨%g8, H8⟩, ⟨%g9, H9⟩, ⟨%g10, H10⟩, ⟨%g11, H11⟩, ⟨%g12, H12⟩, ⟨%g13, H13⟩⟩
  isplitl [H9 H10 H11 H12 H13 Hr]
  · isplitr [Hr]
    · isplitl [H9]; · iexists g9; iexact H9
      isplitl [H10]; · iexists g10; iexact H10
      isplitl [H11]; · iexists g11; iexact H11
      isplitl [H12]; · iexists g12; iexact H12
      iexists g13; iexact H13
    · iexact Hr
  isplitl [Ho]; · iexact Ho
  isplitl [H1]; · iexists f1; isplitr; · ipureintro; exact e1
                  iexact H1
  isplitl [H2]; · iexists f2; isplitr; · ipureintro; exact e2
                  iexact H2
  isplitl [H3]; · iexists f3; isplitr; · ipureintro; exact e3
                  iexact H3
  isplitl [H4]; · iexists f4; isplitr; · ipureintro; exact e4
                  iexact H4
  isplitl [H5]; · iexists f5; isplitr; · ipureintro; exact e5
                  iexact H5
  isplitl [H6]; · iexists _; iexists g6; isplitr; · ipureintro; rfl
                  iexact H6
  isplitl [H7]; · iexists _; iexists g7; isplitr; · ipureintro; rfl
                  iexact H7
  iexists _; iexists g8; isplitr; · ipureintro; rfl
  iexact H8

set_option backward.isDefEq.respectTransparency.types false in
/-- The run: it terminates from any memory with zero counters, every buffer that is no array of the pipeline ends as it
    stood at the region's entry, and every counter ends at zero. -/
theorem run_main : θ_run defs (onTc (τ := τ) (main (F := F))) (s₀ m ρ)
    (fun r => RDat.FramePost cfg0 (fun c => (dats m 0 c).toRForget fgt) (V m) r ∧ r.2.sem = fun _ => 0) :=
  Pipeline.θ_run_frame_forget (Q' := _) cfgs (dats m) (0 : Fin 1) launch0 defs₀ 𝒱₀ fgt m ρ main
    (hbody := fun c => body_obligation m c) (hshare := fun c => (dats m 0 c).share_full fun _ => rfl)
    (howed := fun _ _ => rfl) (V := V m) (hmain := hmain m 𝒱₀) (hA := fun _ _ => rfl) (hΦ := fun _ _ => rfl)
    (hQ' := fun _ h => h)

/-- The frame: the run terminates, the five arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Run

end Cert.Proof.KernelIdealFrame

end
-- ==== Proof.Quantiser.lean ====
/-
  The quantiser over the real numbers. A pixel `u` of channel `c` is normalised to `nv c u`. The largest magnitude of an
  image's channel is taken over its 224 x 288 pixels, and the scale is the least power of two above that magnitude over
  448. Here are the definitions, the size bounds that pin the exponent to ten values, and the fact that no code is
  clipped.
-/
module

public import Idealize.ShloMosaic.PureOps.Ideal
public import Mathlib.Tactic.NormNum
public import Mathlib.Tactic.Linarith
public import Mathlib.Tactic.FieldSimp
public import Mathlib.Tactic.Positivity
public import Mathlib.Tactic.GCongr
public import Mathlib.Data.Finset.Lattice.Fold
public import Mathlib.Data.Fintype.Prod
public import Mathlib.Algebra.Order.Archimedean.Basic

@[expose] public section

noncomputable section

namespace Cert.Proof.Quantiser

/-- The mean of channel `c`. -/
def mean : ℕ → ℝ
  | 0 => 97 / 200
  | 1 => 57 / 125
  | _ => 203 / 500

/-- The standard deviation of channel `c`. -/
def std : ℕ → ℝ
  | 0 => 229 / 1000
  | 1 => 28 / 125
  | _ => 9 / 40

@[simp] theorem mean_0 : mean 0 = 97 / 200 := rfl
@[simp] theorem mean_1 : mean 1 = 57 / 125 := rfl
@[simp] theorem mean_2 (n : ℕ) : mean (n + 2) = 203 / 500 := rfl
@[simp] theorem std_0 : std 0 = 229 / 1000 := rfl
@[simp] theorem std_1 : std 1 = 28 / 125 := rfl
@[simp] theorem std_2 (n : ℕ) : std (n + 2) = 9 / 40 := rfl

theorem std_pos (c : ℕ) : 0 < std c := by unfold std; split <;> norm_num

/-- The normalised pixel. -/
def nv (c : ℕ) (u : ℕ) : ℝ := ((u : ℝ) / 255 - mean c) / std c

theorem nv_mono (c : ℕ) {u v : ℕ} (h : u ≤ v) : nv c u ≤ nv c v := by
  unfold nv
  have h' : (u : ℝ) ≤ v := by exact_mod_cast h
  have := std_pos c
  gcongr

/-- No pixel is normalised to something small: no integer is close to 255 times a mean. -/
theorem nv_abs_lower (c : ℕ) (u : ℕ) : (1 : ℝ) / 250 ≤ |nv c u| := by
  unfold nv
  rw [abs_div, abs_of_pos (std_pos c), le_div_iff₀ (std_pos c), le_abs]
  match c with
  | 0 =>
    rcases le_or_gt u 123 with h | h
    · right; have : (u : ℝ) ≤ 123 := by exact_mod_cast h
      rw [mean_0, std_0]; linarith
    · left; have : (124 : ℝ) ≤ u := by exact_mod_cast h
      rw [mean_0, std_0]; linarith
  | 1 =>
    rcases le_or_gt u 116 with h | h
    · right; have : (u : ℝ) ≤ 116 := by exact_mod_cast h
      rw [mean_1, std_1]; linarith
    · left; have : (117 : ℝ) ≤ u := by exact_mod_cast h
      rw [mean_1, std_1]; linarith
  | n + 2 =>
    rcases le_or_gt u 103 with h | h
    · right; have : (u : ℝ) ≤ 103 := by exact_mod_cast h
      rw [mean_2, std_2]; linarith
    · left; have : (104 : ℝ) ≤ u := by exact_mod_cast h
      rw [mean_2, std_2]; linarith

/-- A pixel of eight bits is normalised to less than 3 in magnitude. -/
theorem nv_abs_upper (c : ℕ) (u : ℕ) (hu : u ≤ 255) : |nv c u| ≤ 3 := by
  unfold nv
  have h0 : (0 : ℝ) ≤ u := by positivity
  have h1 : (u : ℝ) ≤ 255 := by exact_mod_cast hu
  rw [abs_div, abs_of_pos (std_pos c), div_le_iff₀ (std_pos c), abs_le]
  match c with
  | 0 => rw [mean_0, std_0]; constructor <;> linarith
  | 1 => rw [mean_1, std_1]; constructor <;> linarith
  | n + 2 => rw [mean_2, std_2]; constructor <;> linarith

/-- An image: the pixel at row `h`, channel `c`, column `w`, of batch `b`. -/
abbrev Img := ℕ → ℕ → ℕ → ℕ → ℕ

/-- The largest magnitude of a normalised pixel of channel `c` of batch `b`. -/
def amax (px : Img) (c b : ℕ) : ℝ :=
  Finset.univ.sup' ⟨((0 : Fin 224), (0 : Fin 288)), Finset.mem_univ _⟩ fun p : Fin 224 × Fin 288 => |nv c (px p.1 c p.2 b)|

theorem le_amax (px : Img) (c b : ℕ) {h w : ℕ} (hh : h < 224) (hw : w < 288) : |nv c (px h c w b)| ≤ amax px c b :=
  Finset.le_sup' (fun p : Fin 224 × Fin 288 => |nv c (px p.1 c p.2 b)|) (Finset.mem_univ ((⟨h, hh⟩ : Fin 224), (⟨w, hw⟩ : Fin 288)))

theorem amax_attained (px : Img) (c b : ℕ) : ∃ h w, h < 224 ∧ w < 288 ∧ amax px c b = |nv c (px h c w b)| := by
  obtain ⟨p, -, hp⟩ := Finset.exists_mem_eq_sup' ⟨((0 : Fin 224), (0 : Fin 288)), Finset.mem_univ _⟩
    fun p : Fin 224 × Fin 288 => |nv c (px p.1 c p.2 b)|
  exact ⟨p.1, p.2, p.1.isLt, p.2.isLt, hp⟩

theorem amax_le (px : Img) (c b : ℕ) {r : ℝ} (h : ∀ h w, h < 224 → w < 288 → |nv c (px h c w b)| ≤ r) : amax px c b ≤ r := by
  obtain ⟨h', w, hh, hw, e⟩ := amax_attained px c b
  rw [e]; exact h _ _ hh hw

/-- The factor both programs multiply the magnitude by: 1/448 rounded to f32 (rounded up). -/
def rcp : ℝ := 9586981 / 4294967296

theorem rcp_pos : 0 < rcp := by unfold rcp; norm_num

/-- What the exponent is read from. -/
def ratio (px : Img) (c b : ℕ) : ℝ := amax px c b * rcp

theorem exists_exponent (r : ℝ) : ∃ n : ℕ, r < (2 : ℝ) ^ ((n : ℤ) - 16) := by
  obtain ⟨n, hn⟩ := pow_unbounded_of_one_lt (r * 65536) (by norm_num : (1 : ℝ) < 2)
  refine ⟨n, ?_⟩
  rw [zpow_sub₀ (by norm_num), zpow_natCast]
  norm_num; rw [lt_div_iff₀ (by norm_num)]; exact hn

open Classical in
/-- The exponent of the scale: the least `e` from -16 on with `ratio < 2 ^ e`. -/
def ex (px : Img) (c b : ℕ) : ℤ := (Nat.find (exists_exponent (ratio px c b)) : ℤ) - 16

/-- The scale. -/
def scale (px : Img) (c b : ℕ) : ℝ := (2 : ℝ) ^ ex px c b

/-- The code of pixel `(h, w)`. -/
def code (px : Img) (h c w b : ℕ) : ℝ := nv c (px h c w b) * (2 : ℝ) ^ (-ex px c b)

theorem amax_lower (px : Img) (c b : ℕ) : (1 : ℝ) / 250 ≤ amax px c b :=
  (nv_abs_lower c _).trans (le_amax px c b (h := 0) (w := 0) (by norm_num) (by norm_num))

theorem amax_pos (px : Img) (c b : ℕ) : 0 < amax px c b := lt_of_lt_of_le (by norm_num) (amax_lower px c b)

theorem ratio_pos (px : Img) (c b : ℕ) : 0 < ratio px c b := mul_pos (amax_pos px c b) rcp_pos

theorem ratio_lt (px : Img) (c b : ℕ) : ratio px c b < (2 : ℝ) ^ ex px c b := by
  classical exact Nat.find_spec (exists_exponent (ratio px c b))

theorem ratio_lower (px : Img) (c b : ℕ) : (2 : ℝ) ^ (-17 : ℤ) ≤ ratio px c b := by
  have := amax_lower px c b
  unfold ratio rcp; norm_num; linarith

/-- A power of two is at most the ratio exactly when its exponent is below that of the scale. -/
theorem zpow_le_ratio_iff (px : Img) (c b : ℕ) (n : ℤ) : (2 : ℝ) ^ n ≤ ratio px c b ↔ n < ex px c b := by
  classical
  constructor
  · intro h
    by_contra hn
    have := ratio_lt px c b
    have h2 : (2 : ℝ) ^ ex px c b ≤ 2 ^ n := zpow_le_zpow_right₀ (by norm_num) (by omega)
    linarith
  · intro h
    rcases le_or_gt n (-17) with h17 | h17
    · exact (zpow_le_zpow_right₀ (by norm_num) h17).trans (ratio_lower px c b)
    · obtain ⟨m, rfl⟩ : ∃ m : ℕ, n = (m : ℤ) - 16 := ⟨(n + 16).toNat, by omega⟩
      have hm : m < Nat.find (exists_exponent (ratio px c b)) := by unfold ex at h; omega
      exact not_lt.mp (Nat.find_min (exists_exponent (ratio px c b)) hm)

theorem ex_lower (px : Img) (c b : ℕ) : -16 ≤ ex px c b := by unfold ex; omega

theorem ex_upper (px : Img) (c b : ℕ) (hp : ∀ h c w b, px h c w b ≤ 255) : ex px c b ≤ -7 := by
  have h : ¬ (2 : ℝ) ^ (-7 : ℤ) ≤ ratio px c b := by
    have := amax_le px c b (r := 3) fun h w _ _ => nv_abs_upper c _ (hp h c w b)
    unfold ratio rcp; norm_num; linarith
  have := mt (zpow_le_ratio_iff px c b (-7)).mpr h; omega

/-- No code leaves the range of the eight-bit format: the clip does nothing. -/
theorem code_abs (px : Img) {h c w b : ℕ} (hh : h < 224) (hw : w < 288) : |code px h c w b| ≤ 448 := by
  have h1 := le_amax px c b hh hw
  have h2 := ratio_lt px c b
  have hp : (0 : ℝ) < 2 ^ ex px c b := by positivity
  unfold code
  rw [abs_mul, abs_of_pos (by positivity : (0 : ℝ) < 2 ^ (-ex px c b)), zpow_neg, ← div_eq_mul_inv, div_le_iff₀ hp]
  have h3 : amax px c b ≤ 448 * ratio px c b := by
    have := amax_pos px c b
    unfold ratio rcp; linarith
  linarith

/-- The product of a code and its scale is the normalised pixel. -/
theorem code_mul_scale (px : Img) (h c w b : ℕ) : code px h c w b * scale px c b = nv c (px h c w b) := by
  unfold code scale
  rw [mul_assoc, ← zpow_add₀ (by norm_num : (2 : ℝ) ≠ 0)]; simp

/-- The least and the largest pixel of a channel give its largest magnitude. -/
theorem amax_eq_of_extremes (px : Img) (c b lo hi : ℕ)
    (hlo : ∀ h w, h < 224 → w < 288 → lo ≤ px h c w b) (hhi : ∀ h w, h < 224 → w < 288 → px h c w b ≤ hi)
    (alo : ∃ h w, h < 224 ∧ w < 288 ∧ px h c w b = lo) (ahi : ∃ h w, h < 224 ∧ w < 288 ∧ px h c w b = hi) :
    max |nv c lo| |nv c hi| = amax px c b := by
  apply le_antisymm
  · obtain ⟨h, w, hh, hw, e⟩ := alo
    obtain ⟨h', w', hh', hw', e'⟩ := ahi
    exact max_le (e ▸ le_amax px c b hh hw) (e' ▸ le_amax px c b hh' hw')
  · apply amax_le
    intro h w hh hw
    rw [abs_le]
    have a := nv_mono c (hlo h w hh hw)
    have b' := nv_mono c (hhi h w hh hw)
    constructor
    · have := neg_abs_le (nv c lo); have := le_max_left |nv c lo| |nv c hi|; linarith
    · have := le_abs_self (nv c hi); have := le_max_right |nv c lo| |nv c hi|; linarith

end Cert.Proof.Quantiser

end
-- ==== Proof.Trip.lean ====
/-
  One trip of the quantising loop of `KernelIdeal`, as data: the 27 blocks of codes it stores (three channels, nine groups
  of 32 columns), and the six blocks of minima and maxima it stores, each as one uniform expression of what it reads.
-/
module

public import proofs.«01_k».proof.Proof.Gen.KernelIdeal.Frame
public import proofs.«01_k».proof.Proof.Gen.KernelIdeal.Loops
public import Idealize.ShloMosaic.Lib.Tactic
public import Idealize.ShloMosaic.Lib.Writes

@[expose] public section

noncomputable section

namespace Cert.Proof.Trip

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable {F : FTy → Type} [FloatOps F] [Named F]

/-- The proof's resource algebra: the frame kit's. -/
local notation "𝕄" => MT nD τ sig Unit (Elt F) ℕ (UR sig nD τ) ℕ

abbrev 𝒱₀ : Variants := Variants.none

/-- A memref held whole at the contents `f`. -/
abbrev own (c : Dev nD) {sp : Space} {s : Shape} {e : EltTy} (M : Memref sig .tc sp s e) (f : BufTy.Contents (Elt F) M.view.ty) : sProp 𝕄 :=
  iprop(M.view.loc (c : Thread nD τ) ↦[M.view.set]{fullShare} f)

/-- The codes of 32 columns of channel `c`, at the common scale. -/
def quant (c : ℕ) (v : Vec F S1x1x32x128 .i8) : FVec F S1x8x1x4x128 .fp8e4m3 :=
  match c with
  | 0 => k0_pay28 v
  | 1 => k0_pay97 v
  | _ => k0_pay149 v

theorem fin27 (j : Fin 27) : j.val / 9 ≤ 2 ∧ j.val % 9 ≤ 8 := by omega

theorem inb_store (t k : ℕ) (ht : t < 28) (hk : k < 8) (j : Fin 27) :
    ∀ a, (![8 * t + k + 3, 8 * (j.val % 9) + 1, j.val / 9, 0, 0] : Fin 5 → ℕ) a + (![1, 8, 1, 4, 128] : Fin 5 → ℕ) a ≤ S230x75x3x4x128.size a := by
  have := fin27 j
  intro a; fin_cases a <;> simp [S230x75x3x4x128] <;> omega

theorem inb_load (k : ℕ) (hk : k < 8) (j : Fin 27) :
    ∀ a, (![k, j.val / 9, 32 * (j.val % 9), 0] : Fin 4 → ℕ) a + (![1, 1, 32, 128] : Fin 4 → ℕ) a ≤ S8x3x288x128.size a := by
  have := fin27 j
  intro a; fin_cases a <;> simp [S8x3x288x128] <;> omega

/-- What trip `k` reads for block `j`: 32 columns of channel `j / 9`. -/
def rowLoad (arg1 : Memref sig .tc .vmem S8x3x288x128 .i8) (X : BufTy.Contents (Elt F) arg1.view.ty) (k : ℕ) (hk : k < 8) (j : Fin 27) :
    Vec F S1x1x32x128 .i8 :=
  arg1.view.readAt (Elt F) (Rect.unit (s := S8x3x288x128) ![k, j.val / 9, 32 * (j.val % 9), 0] ![1, 1, 32, 128] (inb_load k hk j)).toLoadRect X

/-- The block of codes trip `k` stores for block `j`. -/
def rowPiece (arg1 : Memref sig .tc .vmem S8x3x288x128 .i8) (X : BufTy.Contents (Elt F) arg1.view.ty) (t k : ℕ) (ht : t < 28) (hk : k < 8)
    (j : Fin 27) : View.Piece (Elt F) S230x75x3x4x128 .fp8e4m3 :=
  ⟨Rect.unit ![8 * t + k + 3, 8 * (j.val % 9) + 1, j.val / 9, 0, 0] ![1, 8, 1, 4, 128] (inb_store t k ht hk j), quant (j.val / 9) (rowLoad arg1 X k hk j)⟩

theorem piece_eq (arg1 : Memref sig .tc .vmem S8x3x288x128 .i8) (X : BufTy.Contents (Elt F) arg1.view.ty) (t k : ℕ) (ht : t < 28) (hk : k < 8)
    (j : Fin 27) {off : Fin 5 → ℕ} {offL : Fin 4 → ℕ} (e : off = ![8 * t + k + 3, 8 * (j.val % 9) + 1, j.val / 9, 0, 0])
    (eL : offL = ![k, j.val / 9, 32 * (j.val % 9), 0])
    (h : ∀ a, off a + (![1, 8, 1, 4, 128] : Fin 5 → ℕ) a ≤ S230x75x3x4x128.size a)
    (hL : ∀ a, offL a + (![1, 1, 32, 128] : Fin 4 → ℕ) a ≤ S8x3x288x128.size a) :
    (⟨Rect.unit off ![1, 8, 1, 4, 128] h, quant (j.val / 9) (arg1.view.readAt (Elt F) (Rect.unit (s := S8x3x288x128) offL ![1, 1, 32, 128] hL).toLoadRect X)⟩ :
      View.Piece (Elt F) S230x75x3x4x128 .fp8e4m3) = rowPiece arg1 X t k ht hk j := by
  subst e eL; rfl

/-- The blocks in the order the trip stores them, last first. -/
def order27 : List (Fin 27) := [26, 25, 24, 23, 22, 21, 20, 19, 18, 17, 16, 15, 14, 13, 12, 11, 10, 9, 8, 7, 6, 5, 4, 3, 2, 1, 0]

theorem mem_order27 : ∀ j : Fin 27, j ∈ order27 := by decide

set_option maxRecDepth 65536 in
set_option maxHeartbeats 4000000 in
theorem trip_codes (𝒱 : Variants) (c : Dev nD) (bd : Option 𝒱.V) (i : grid0.Coords) (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole) (arg0 : BitVec 32) (k0_h2 : k0_cond2 i = 1#1) (X : BufTy.Contents (Elt F) arg1.view.ty) (k : Fin k0_t2_loop.trips)
    (f9 : BufTy.Contents (Elt F) arg9.view.ty) (f12 : BufTy.Contents (Elt F) arg12.view.ty) (ht : (i 0).val < 28) (hk : k.val < 8) :
    (tripL_k0_t2 (F := F) 𝒱 c bd i arg1 h1 arg2 h2 arg3 h3 arg4 h4 arg5 h5 arg6 h6 arg7 h7 arg8 h8 arg9 h9 arg10 h10 arg11 h11 arg12 h12 arg13 h13 arg0 k0_h2 X k f9 f12).1
      = order27.map (rowPiece arg1 X (i 0).val k.val ht hk) := by
  unfold tripL_k0_t2 trip_k0_t2
  dsimp only
  unfold order27
  simp only [List.map_cons, List.map_nil]
  refine congrArg₂ List.cons (piece_eq arg1 X (i 0).val k.val ht hk 26 (k0_off56_eq i k) (k0_off55_eq k) _ _) ?_
  refine congrArg₂ List.cons (piece_eq arg1 X (i 0).val k.val ht hk 25 (k0_off54_eq i k) (k0_off53_eq k) _ _) ?_
  refine congrArg₂ List.cons (piece_eq arg1 X (i 0).val k.val ht hk 24 (k0_off52_eq i k) (k0_off51_eq k) _ _) ?_
  refine congrArg₂ List.cons (piece_eq arg1 X (i 0).val k.val ht hk 23 (k0_off50_eq i k) (k0_off49_eq k) _ _) ?_
  refine congrArg₂ List.cons (piece_eq arg1 X (i 0).val k.val ht hk 22 (k0_off48_eq i k) (k0_off47_eq k) _ _) ?_
  refine congrArg₂ List.cons (piece_eq arg1 X (i 0).val k.val ht hk 21 (k0_off46_eq i k) (k0_off45_eq k) _ _) ?_
  refine congrArg₂ List.cons (piece_eq arg1 X (i 0).val k.val ht hk 20 (k0_off44_eq i k) (k0_off43_eq k) _ _) ?_
  refine congrArg₂ List.cons (piece_eq arg1 X (i 0).val k.val ht hk 19 (k0_off42_eq i k) (k0_off41_eq k) _ _) ?_
  refine congrArg₂ List.cons (piece_eq arg1 X (i 0).val k.val ht hk 18 (k0_off40_eq i k) (k0_off39_eq k) _ _) ?_
  refine congrArg₂ List.cons (piece_eq arg1 X (i 0).val k.val ht hk 17 (k0_off38_eq i k) (k0_off37_eq k) _ _) ?_
  refine congrArg₂ List.cons (piece_eq arg1 X (i 0).val k.val ht hk 16 (k0_off36_eq i k) (k0_off35_eq k) _ _) ?_
  refine congrArg₂ List.cons (piece_eq arg1 X (i 0).val k.val ht hk 15 (k0_off34_eq i k) (k0_off33_eq k) _ _) ?_
  refine congrArg₂ List.cons (piece_eq arg1 X (i 0).val k.val ht hk 14 (k0_off32_eq i k) (k0_off31_eq k) _ _) ?_
  refine congrArg₂ List.cons (piece_eq arg1 X (i 0).val k.val ht hk 13 (k0_off30_eq i k) (k0_off29_eq k) _ _) ?_
  refine congrArg₂ List.cons (piece_eq arg1 X (i 0).val k.val ht hk 12 (k0_off28_eq i k) (k0_off27_eq k) _ _) ?_
  refine congrArg₂ List.cons (piece_eq arg1 X (i 0).val k.val ht hk 11 (k0_off26_eq i k) (k0_off25_eq k) _ _) ?_
  refine congrArg₂ List.cons (piece_eq arg1 X (i 0).val k.val ht hk 10 (k0_off24_eq i k) (k0_off23_eq k) _ _) ?_
  refine congrArg₂ List.cons (piece_eq arg1 X (i 0).val k.val ht hk 9 (k0_off22_eq i k) (k0_off21_eq k) _ _) ?_
  refine congrArg₂ List.cons (piece_eq arg1 X (i 0).val k.val ht hk 8 (k0_off20_eq i k) (k0_off19_eq k) _ _) ?_
  refine congrArg₂ List.cons (piece_eq arg1 X (i 0).val k.val ht hk 7 (k0_off18_eq i k) (k0_off17_eq k) _ _) ?_
  refine congrArg₂ List.cons (piece_eq arg1 X (i 0).val k.val ht hk 6 (k0_off16_eq i k) (k0_off15_eq k) _ _) ?_
  refine congrArg₂ List.cons (piece_eq arg1 X (i 0).val k.val ht hk 5 (k0_off14_eq i k) (k0_off13_eq k) _ _) ?_
  refine congrArg₂ List.cons (piece_eq arg1 X (i 0).val k.val ht hk 4 (k0_off12_eq i k) (k0_off11_eq k) _ _) ?_
  refine congrArg₂ List.cons (piece_eq arg1 X (i 0).val k.val ht hk 3 (k0_off10_eq i k) (k0_off9_eq k) _ _) ?_
  refine congrArg₂ List.cons (piece_eq arg1 X (i 0).val k.val ht hk 2 (k0_off8_eq i k) (k0_off7_eq k) _ _) ?_
  refine congrArg₂ List.cons (piece_eq arg1 X (i 0).val k.val ht hk 1 (k0_off6_eq i k) (k0_off5_eq k) _ _) ?_
  refine congrArg₂ List.cons (piece_eq arg1 X (i 0).val k.val ht hk 0 (k0_off4_eq i k) (k0_off3_eq k) _ _) ?_
  rfl

/-! ## The running minima and maxima -/

/-- One group of 32 columns taken into the running minimum. -/
def minStep (m : FVec F S16x128 .bf16) (v : Vec F S1x1x32x128 .i8) : FVec F S16x128 .bf16 :=
  minimumf (minimumf m (k0_pay24 v)) (k0_pay25 v)

/-- One group of 32 columns taken into the running maximum. -/
def maxStep (m : FVec F S16x128 .bf16) (v : Vec F S1x1x32x128 .i8) : FVec F S16x128 .bf16 :=
  maximumf (maximumf m (k0_pay24 v)) (k0_pay25 v)

/-- Row `r` of the extremes after the nine groups: a minimum where `r` is even, a maximum where it is odd. -/
def mmPay (r : ℕ) (m : Vec F S1x16x128 .bf16) (vs : List (Vec F S1x1x32x128 .i8)) : FVec F S1x16x128 .bf16 :=
  shapeCast S1x16x128 (vs.foldl (match r % 2 with | 0 => minStep | _ => maxStep) (shapeCast S16x128 m shapeCasts_S1x16x128_S16x128)) shapeCasts_S16x128_S1x16x128

theorem inb_mm (r : Fin 6) : ∀ a, (![r.val, 0, 0] : Fin 3 → ℕ) a + (![1, 16, 128] : Fin 3 → ℕ) a ≤ S6x16x128.size a := by
  intro a; fin_cases a <;> simp [S6x16x128]

/-- The row of extremes a trip finds. -/
def mmLoad (arg12 : Memref sig .tc .vmem S6x16x128 .bf16) (f12 : BufTy.Contents (Elt F) arg12.view.ty) (r : Fin 6) : Vec F S1x16x128 .bf16 :=
  arg12.view.readAt (Elt F) (Rect.unit (s := S6x16x128) ![r.val, 0, 0] ![1, 16, 128] (inb_mm r)).toLoadRect f12

/-- The nine groups of channel `c`. -/
def groups (arg1 : Memref sig .tc .vmem S8x3x288x128 .i8) (X : BufTy.Contents (Elt F) arg1.view.ty) (k : ℕ) (hk : k < 8) (c : Fin 3) :
    List (Vec F S1x1x32x128 .i8) :=
  ([0, 1, 2, 3, 4, 5, 6, 7, 8] : List (Fin 9)).map fun n => rowLoad arg1 X k hk ⟨9 * c.val + n.val, by omega⟩

/-- The row of extremes a trip stores. -/
def mmPiece (arg1 : Memref sig .tc .vmem S8x3x288x128 .i8) (arg12 : Memref sig .tc .vmem S6x16x128 .bf16)
    (X : BufTy.Contents (Elt F) arg1.view.ty) (f12 : BufTy.Contents (Elt F) arg12.view.ty) (k : ℕ) (hk : k < 8) (r : Fin 6) :
    View.Piece (Elt F) S6x16x128 .bf16 :=
  ⟨Rect.unit ![r.val, 0, 0] ![1, 16, 128] (inb_mm r), mmPay r.val (mmLoad arg12 f12 r) (groups arg1 X k hk ⟨r.val / 2, by omega⟩)⟩

theorem load_eq (arg1 : Memref sig .tc .vmem S8x3x288x128 .i8) (X : BufTy.Contents (Elt F) arg1.view.ty) (k : ℕ) (hk : k < 8)
    (j : Fin 27) {offL : Fin 4 → ℕ} (eL : offL = ![k, j.val / 9, 32 * (j.val % 9), 0])
    (hL : ∀ a, offL a + (![1, 1, 32, 128] : Fin 4 → ℕ) a ≤ S8x3x288x128.size a) :
    (arg1.view.readAt (Elt F) (Rect.unit (s := S8x3x288x128) offL ![1, 1, 32, 128] hL).toLoadRect X : Vec F S1x1x32x128 .i8) = rowLoad arg1 X k hk j := by
  subst eL; rfl

theorem mmPiece_eq (arg1 : Memref sig .tc .vmem S8x3x288x128 .i8) (arg12 : Memref sig .tc .vmem S6x16x128 .bf16)
    (X : BufTy.Contents (Elt F) arg1.view.ty) (f12 : BufTy.Contents (Elt F) arg12.view.ty) (k : ℕ) (hk : k < 8) (r : Fin 6)
    {w0 w1 w2 w3 w4 w5 w6 w7 w8 : Vec F S1x1x32x128 .i8}
    (e0 : w0 = rowLoad arg1 X k hk ⟨9 * (r.val / 2) + 0, by omega⟩) (e1 : w1 = rowLoad arg1 X k hk ⟨9 * (r.val / 2) + 1, by omega⟩) (e2 : w2 = rowLoad arg1 X k hk ⟨9 * (r.val / 2) + 2, by omega⟩) (e3 : w3 = rowLoad arg1 X k hk ⟨9 * (r.val / 2) + 3, by omega⟩) (e4 : w4 = rowLoad arg1 X k hk ⟨9 * (r.val / 2) + 4, by omega⟩) (e5 : w5 = rowLoad arg1 X k hk ⟨9 * (r.val / 2) + 5, by omega⟩) (e6 : w6 = rowLoad arg1 X k hk ⟨9 * (r.val / 2) + 6, by omega⟩) (e7 : w7 = rowLoad arg1 X k hk ⟨9 * (r.val / 2) + 7, by omega⟩) (e8 : w8 = rowLoad arg1 X k hk ⟨9 * (r.val / 2) + 8, by omega⟩) :
    (⟨Rect.unit ![r.val, 0, 0] ![1, 16, 128] (inb_mm r), mmPay r.val (mmLoad arg12 f12 r) [w0, w1, w2, w3, w4, w5, w6, w7, w8]⟩ : View.Piece (Elt F) S6x16x128 .bf16)
      = mmPiece arg1 arg12 X f12 k hk r := by
  subst e0 e1 e2 e3 e4 e5 e6 e7 e8; rfl

set_option maxRecDepth 65536 in
set_option maxHeartbeats 4000000 in
theorem trip_extremes (𝒱 : Variants) (c : Dev nD) (bd : Option 𝒱.V) (i : grid0.Coords) (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole) (arg0 : BitVec 32) (k0_h2 : k0_cond2 i = 1#1) (X : BufTy.Contents (Elt F) arg1.view.ty) (k : Fin k0_t2_loop.trips)
    (f9 : BufTy.Contents (Elt F) arg9.view.ty) (f12 : BufTy.Contents (Elt F) arg12.view.ty) (hk : k.val < 8) :
    (tripL_k0_t2 (F := F) 𝒱 c bd i arg1 h1 arg2 h2 arg3 h3 arg4 h4 arg5 h5 arg6 h6 arg7 h7 arg8 h8 arg9 h9 arg10 h10 arg11 h11 arg12 h12 arg13 h13 arg0 k0_h2 X k f9 f12).2
      = ([5, 4, 3, 2, 1, 0] : List (Fin 6)).map (mmPiece arg1 arg12 X f12 k.val hk) := by
  unfold tripL_k0_t2 trip_k0_t2
  dsimp only
  simp only [List.map_cons, List.map_nil]
  refine congrArg₂ List.cons (mmPiece_eq arg1 arg12 X f12 k.val hk 5 (load_eq arg1 X k.val hk 18 (k0_off39_eq k) _) (load_eq arg1 X k.val hk 19 (k0_off41_eq k) _) (load_eq arg1 X k.val hk 20 (k0_off43_eq k) _) (load_eq arg1 X k.val hk 21 (k0_off45_eq k) _) (load_eq arg1 X k.val hk 22 (k0_off47_eq k) _) (load_eq arg1 X k.val hk 23 (k0_off49_eq k) _) (load_eq arg1 X k.val hk 24 (k0_off51_eq k) _) (load_eq arg1 X k.val hk 25 (k0_off53_eq k) _) (load_eq arg1 X k.val hk 26 (k0_off55_eq k) _)) ?_
  refine congrArg₂ List.cons (mmPiece_eq arg1 arg12 X f12 k.val hk 4 (load_eq arg1 X k.val hk 18 (k0_off39_eq k) _) (load_eq arg1 X k.val hk 19 (k0_off41_eq k) _) (load_eq arg1 X k.val hk 20 (k0_off43_eq k) _) (load_eq arg1 X k.val hk 21 (k0_off45_eq k) _) (load_eq arg1 X k.val hk 22 (k0_off47_eq k) _) (load_eq arg1 X k.val hk 23 (k0_off49_eq k) _) (load_eq arg1 X k.val hk 24 (k0_off51_eq k) _) (load_eq arg1 X k.val hk 25 (k0_off53_eq k) _) (load_eq arg1 X k.val hk 26 (k0_off55_eq k) _)) ?_
  refine congrArg₂ List.cons (mmPiece_eq arg1 arg12 X f12 k.val hk 3 (load_eq arg1 X k.val hk 9 (k0_off21_eq k) _) (load_eq arg1 X k.val hk 10 (k0_off23_eq k) _) (load_eq arg1 X k.val hk 11 (k0_off25_eq k) _) (load_eq arg1 X k.val hk 12 (k0_off27_eq k) _) (load_eq arg1 X k.val hk 13 (k0_off29_eq k) _) (load_eq arg1 X k.val hk 14 (k0_off31_eq k) _) (load_eq arg1 X k.val hk 15 (k0_off33_eq k) _) (load_eq arg1 X k.val hk 16 (k0_off35_eq k) _) (load_eq arg1 X k.val hk 17 (k0_off37_eq k) _)) ?_
  refine congrArg₂ List.cons (mmPiece_eq arg1 arg12 X f12 k.val hk 2 (load_eq arg1 X k.val hk 9 (k0_off21_eq k) _) (load_eq arg1 X k.val hk 10 (k0_off23_eq k) _) (load_eq arg1 X k.val hk 11 (k0_off25_eq k) _) (load_eq arg1 X k.val hk 12 (k0_off27_eq k) _) (load_eq arg1 X k.val hk 13 (k0_off29_eq k) _) (load_eq arg1 X k.val hk 14 (k0_off31_eq k) _) (load_eq arg1 X k.val hk 15 (k0_off33_eq k) _) (load_eq arg1 X k.val hk 16 (k0_off35_eq k) _) (load_eq arg1 X k.val hk 17 (k0_off37_eq k) _)) ?_
  refine congrArg₂ List.cons (mmPiece_eq arg1 arg12 X f12 k.val hk 1 (load_eq arg1 X k.val hk 0 (k0_off3_eq k) _) (load_eq arg1 X k.val hk 1 (k0_off5_eq k) _) (load_eq arg1 X k.val hk 2 (k0_off7_eq k) _) (load_eq arg1 X k.val hk 3 (k0_off9_eq k) _) (load_eq arg1 X k.val hk 4 (k0_off11_eq k) _) (load_eq arg1 X k.val hk 5 (k0_off13_eq k) _) (load_eq arg1 X k.val hk 6 (k0_off15_eq k) _) (load_eq arg1 X k.val hk 7 (k0_off17_eq k) _) (load_eq arg1 X k.val hk 8 (k0_off19_eq k) _)) ?_
  refine congrArg₂ List.cons (mmPiece_eq arg1 arg12 X f12 k.val hk 0 (load_eq arg1 X k.val hk 0 (k0_off3_eq k) _) (load_eq arg1 X k.val hk 1 (k0_off5_eq k) _) (load_eq arg1 X k.val hk 2 (k0_off7_eq k) _) (load_eq arg1 X k.val hk 3 (k0_off9_eq k) _) (load_eq arg1 X k.val hk 4 (k0_off11_eq k) _) (load_eq arg1 X k.val hk 5 (k0_off13_eq k) _) (load_eq arg1 X k.val hk 6 (k0_off15_eq k) _) (load_eq arg1 X k.val hk 7 (k0_off17_eq k) _) (load_eq arg1 X k.val hk 8 (k0_off19_eq k) _)) ?_
  rfl

end Cert.Proof.Trip
end
-- ==== Proof.TripValue.lean ====
/-
  What one trip of the quantising loop computes, over the extended reals. The stored codes are 128 times the normalised
  pixels (the clip does nothing), and the stored extremes are the least and the largest pixels of the rows so far. So the two
  invariants of the first 28 points, `Codes` of the code scratch and `Extremes` of the minima and maxima, gain one row.
-/
module

public import proofs.«01_k».proof.Proof.Trip
public import proofs.«01_k».proof.Proof.Quantiser
public import Idealize.ShloMosaic.Lib.Pointwise

@[expose] public section

noncomputable section

namespace Cert.Proof.TripValue

open Cert.KernelIdeal Cert.KernelIdeal.Gen Cert.Proof.Trip Cert.Proof.Quantiser
open Idealize.ShloMosaic Idealize.ShloMosaic.Pointwise

/-! ## Scalars -/

theorem ofBits_448 : Ideal.ofBits .f32 0x43E00000#32 = ((448 : ℝ) : EReal) := by
  simp [Ideal.ofBits, Ideal.ieee, -EReal.coe_mul]; norm_num

theorem ofBits_neg_448 : Ideal.ofBits .f32 0xC3E00000#32 = ((-448 : ℝ) : EReal) := by
  simp [Ideal.ofBits, Ideal.ieee, -EReal.coe_mul, -EReal.coe_neg]; norm_num

/-- A real in range passes the clip. -/
theorem clip_coe (r : ℝ) (h : |r| ≤ 448) :
    min (Ideal.ofBits FTy.f32 1138753536#32) (max (Ideal.ofBits FTy.f32 3286237184#32) (r : EReal)) = (r : EReal) := by
  have h' := abs_le.mp h
  rw [show (1138753536#32 : BitVec 32) = 0x43E00000#32 from rfl, show (3286237184#32 : BitVec 32) = 0xC3E00000#32 from rfl,
    ofBits_448, ofBits_neg_448, max_eq_right (EReal.coe_le_coe_iff.mpr h'.1), min_eq_right (EReal.coe_le_coe_iff.mpr h'.2)]

theorem abs_128_nv (c u : ℕ) (hu : u ≤ 255) : |128 * nv c u| ≤ 448 := by
  rw [abs_mul, abs_of_pos (by norm_num : (0 : ℝ) < 128)]
  have := nv_abs_upper c u hu; linarith

theorem toNat_le (w : BitVec 8) : w.toNat ≤ 255 := by have := w.isLt; omega

/-! ## The codes of one group of columns -/

theorem pay28_apply (v : Vec Ideal S1x1x32x128 .i8) (a : Fin 8) (p : Fin 4) (b : Fin 128) :
    k0_pay28 (F := Ideal) v (ix5 0 a 0 p b) = ((128 * nv 0 (v (ix4 0 0 ⟨a.val * 4 + p.val, by omega⟩ b)).toNat : ℝ) : EReal) := by
  pointwise [k0_pay28, k0_pay23]
  rw [show (Named.named κ "slope0" 1074546998#32 : Ideal .f32) = ((25600 / 11679 : ℝ) : EReal) from rfl,
    show (Named.named κ "offset0" 3280440253#32 : Ideal .f32) = ((-62080 / 229 : ℝ) : EReal) from rfl]
  rw [← clip_coe _ (abs_128_nv 0 _ (toNat_le _))]
  congr 2
  show ((_ : ℝ) : EReal) * _ + _ = _
  rw [← EReal.coe_mul, ← EReal.coe_add]
  congr 1
  unfold nv; rw [mean_0, std_0]; ring

theorem pay97_apply (v : Vec Ideal S1x1x32x128 .i8) (a : Fin 8) (p : Fin 4) (b : Fin 128) :
    k0_pay97 (F := Ideal) v (ix5 0 a 0 p b) = ((128 * nv 1 (v (ix4 0 0 ⟨a.val * 4 + p.val, by omega⟩ b)).toNat : ℝ) : EReal) := by
  pointwise [k0_pay97, k0_pay92]
  rw [show (Named.named κ "slope1" 1074752217#32 : Ideal .f32) = ((800 / 357 : ℝ) : EReal) from rfl,
    show (Named.named κ "offset1" 3280095525#32 : Ideal .f32) = ((-1824 / 7 : ℝ) : EReal) from rfl]
  rw [← clip_coe _ (abs_128_nv 1 _ (toNat_le _))]
  congr 2
  show ((_ : ℝ) : EReal) * _ + _ = _
  rw [← EReal.coe_mul, ← EReal.coe_add]
  congr 1
  unfold nv; rw [mean_1, std_1]; ring

theorem pay149_apply (v : Vec Ideal S1x1x32x128 .i8) (a : Fin 8) (p : Fin 4) (b : Fin 128) :
    k0_pay149 (F := Ideal) v (ix5 0 a 0 p b) = ((128 * nv 2 (v (ix4 0 0 ⟨a.val * 4 + p.val, by omega⟩ b)).toNat : ℝ) : EReal) := by
  pointwise [k0_pay149, k0_pay144]
  rw [show (Named.named κ "slope2" 3222194091#32 : Ideal .f32) = ((-1024 / 459 : ℝ) : EReal) from rfl,
    show (Named.named κ "offset2" 3278305289#32 : Ideal .f32) = ((-51968 / 225 : ℝ) : EReal) from rfl]
  rw [← clip_coe _ (abs_128_nv 2 _ (toNat_le _))]
  congr 2
  show _ - ((_ : ℝ) : EReal) * _ = _
  rw [← EReal.coe_mul, ← EReal.coe_sub]
  congr 1
  unfold nv; rw [mean_2, std_2]; ring

/-- The codes of a group, at an index: 128 times the normalised pixel. -/
theorem quant_apply (c : ℕ) (hc : c ≤ 2) (v : Vec Ideal S1x1x32x128 .i8) (x : S1x8x1x4x128.Idx) :
    quant (F := Ideal) c v x = ((128 * nv c (v (ix4 0 0 ⟨(x 1).val * 4 + (x 3).val, by have := (x 1).isLt; have := (x 3).isLt; simp [S1x8x1x4x128] at *; omega⟩ (x 4))).toNat : ℝ) : EReal) := by
  idx_vars x
  have e0 : x0 = 0 := Subsingleton.elim _ _
  have e2 : x2 = 0 := Subsingleton.elim _ _
  subst e0 e2
  interval_cases c
  · exact pay28_apply v x1 x3 x4
  · exact pay97_apply v x1 x3 x4
  · exact pay149_apply v x1 x3 x4

/-! ## The extremes of one group of columns -/

/-- `lo` is the least of the values `S`, or the start 255. -/
def IsLo (S : ℕ → Prop) (lo : EReal) : Prop := ∃ l : ℕ, lo = ((l : ℝ) : EReal) ∧ (∀ u, S u → l ≤ u) ∧ (l = 255 ∨ S l)

/-- `hi` is the largest of the values `S`, or the start 0. -/
def IsHi (S : ℕ → Prop) (hi : EReal) : Prop := ∃ l : ℕ, hi = ((l : ℝ) : EReal) ∧ (∀ u, S u → u ≤ l) ∧ (l = 0 ∨ S l)

theorem IsLo.congr {S T : ℕ → Prop} {lo : EReal} (h : IsLo S lo) (e : ∀ u, S u ↔ T u) : IsLo T lo := by
  have : S = T := funext fun u => propext (e u)
  exact this ▸ h

theorem IsHi.congr {S T : ℕ → Prop} {lo : EReal} (h : IsHi S lo) (e : ∀ u, S u ↔ T u) : IsHi T lo := by
  have : S = T := funext fun u => propext (e u)
  exact this ▸ h

theorem IsLo.min {S : ℕ → Prop} {lo : EReal} (h : IsLo S lo) (v : ℕ) : IsLo (fun u => S u ∨ u = v) (min lo ((v : ℝ) : EReal)) := by
  obtain ⟨l, rfl, hl, ha⟩ := h
  rcases le_total l v with hv | hv
  · refine ⟨l, min_eq_left (by exact_mod_cast hv), fun u hu => ?_, ha.imp id Or.inl⟩
    rcases hu with hu | rfl
    · exact hl u hu
    · exact hv
  · refine ⟨v, min_eq_right (by exact_mod_cast hv), fun u hu => ?_, Or.inr (Or.inr rfl)⟩
    rcases hu with hu | rfl
    · exact hv.trans (hl u hu)
    · exact le_rfl

theorem IsHi.max {S : ℕ → Prop} {lo : EReal} (h : IsHi S lo) (v : ℕ) : IsHi (fun u => S u ∨ u = v) (max lo ((v : ℝ) : EReal)) := by
  obtain ⟨l, rfl, hl, ha⟩ := h
  rcases le_total v l with hv | hv
  · refine ⟨l, max_eq_left (by exact_mod_cast hv), fun u hu => ?_, ha.imp id Or.inl⟩
    rcases hu with hu | rfl
    · exact hl u hu
    · exact hv
  · refine ⟨v, max_eq_right (by exact_mod_cast hv), fun u hu => ?_, Or.inr (Or.inr rfl)⟩
    rcases hu with hu | rfl
    · exact (hl u hu).trans hv
    · exact le_rfl

/-- The two pixels of a group that meet lane `k`. -/
def GroupHas (k : Fin 16) (b : Fin 128) (v : Vec Ideal S1x1x32x128 .i8) (u : ℕ) : Prop :=
  u = (v (ix4 0 0 ⟨k.val, by omega⟩ b)).toNat ∨ u = (v (ix4 0 0 ⟨16 + k.val, by omega⟩ b)).toNat

theorem minStep_apply (m : FVec Ideal S16x128 .bf16) (v : Vec Ideal S1x1x32x128 .i8) (k : Fin 16) (b : Fin 128) :
    minStep (F := Ideal) m v (ix2 k b) = min (min (m (ix2 k b)) (((v (ix4 0 0 ⟨k.val, by omega⟩ b)).toNat : ℝ) : EReal))
      (((v (ix4 0 0 ⟨16 + k.val, by omega⟩ b)).toNat : ℝ) : EReal) := by
  pointwise [minStep, k0_pay24, k0_pay25, k0_pay23]
  rfl

theorem maxStep_apply (m : FVec Ideal S16x128 .bf16) (v : Vec Ideal S1x1x32x128 .i8) (k : Fin 16) (b : Fin 128) :
    maxStep (F := Ideal) m v (ix2 k b) = max (max (m (ix2 k b)) (((v (ix4 0 0 ⟨k.val, by omega⟩ b)).toNat : ℝ) : EReal))
      (((v (ix4 0 0 ⟨16 + k.val, by omega⟩ b)).toNat : ℝ) : EReal) := by
  pointwise [maxStep, k0_pay24, k0_pay25, k0_pay23]
  rfl

theorem isLo_foldl (k : Fin 16) (b : Fin 128) (vs : List (Vec Ideal S1x1x32x128 .i8)) : ∀ (S : ℕ → Prop) (m : FVec Ideal S16x128 .bf16),
    IsLo S (m (ix2 k b)) → IsLo (fun u => S u ∨ ∃ v ∈ vs, GroupHas k b v u) ((vs.foldl minStep m) (ix2 k b)) := by
  induction vs with
  | nil => intro S m h; exact h.congr (by simp)
  | cons v vs ih =>
    intro S m h
    have h' := (h.min (v (ix4 0 0 ⟨k.val, by omega⟩ b)).toNat).min (v (ix4 0 0 ⟨16 + k.val, by omega⟩ b)).toNat
    rw [← minStep_apply] at h'
    refine (ih _ _ h').congr fun u => ?_
    simp only [List.mem_cons, exists_eq_or_imp, GroupHas, or_assoc]

theorem isHi_foldl (k : Fin 16) (b : Fin 128) (vs : List (Vec Ideal S1x1x32x128 .i8)) : ∀ (S : ℕ → Prop) (m : FVec Ideal S16x128 .bf16),
    IsHi S (m (ix2 k b)) → IsHi (fun u => S u ∨ ∃ v ∈ vs, GroupHas k b v u) ((vs.foldl maxStep m) (ix2 k b)) := by
  induction vs with
  | nil => intro S m h; exact h.congr (by simp)
  | cons v vs ih =>
    intro S m h
    have h' := (h.max (v (ix4 0 0 ⟨k.val, by omega⟩ b)).toNat).max (v (ix4 0 0 ⟨16 + k.val, by omega⟩ b)).toNat
    rw [← maxStep_apply] at h'
    refine (ih _ _ h').congr fun u => ?_
    simp only [List.mem_cons, exists_eq_or_imp, GroupHas, or_assoc]

theorem mmPay_apply (r : ℕ) (m : Vec Ideal S1x16x128 .bf16) (vs : List (Vec Ideal S1x1x32x128 .i8)) (k : Fin 16) (b : Fin 128) :
    mmPay (F := Ideal) r m vs (ix3 0 k b)
      = (vs.foldl (match r % 2 with | 0 => minStep | _ => maxStep) (shapeCast S16x128 m shapeCasts_S1x16x128_S16x128)) (ix2 k b) := by
  pointwise [mmPay]
  rfl

theorem mm_start (m : Vec Ideal S1x16x128 .bf16) (k : Fin 16) (b : Fin 128) :
    (shapeCast S16x128 m shapeCasts_S1x16x128_S16x128 : FVec Ideal S16x128 .bf16) (ix2 k b) = m (ix3 0 k b) := by
  pointwise

end Cert.Proof.TripValue

end
-- ==== Proof.Rows.lean ====
/-
  The two invariants of the first 28 points. `Codes px n` says that the code scratch holds the codes of the first `n` rows of the
  image and zeros at the border; `Extremes px n` says that the extremes scratch holds the least and the largest pixels of those
  rows. One trip of the quantising loop takes each from `n` to `n + 1`.
-/
module

public import proofs.«01_k».proof.Proof.TripValue
public import Idealize.ShloMosaic.Lib.Writes

@[expose] public section

noncomputable section

namespace Cert.Proof.Rows

open Cert.KernelIdeal Cert.KernelIdeal.Gen Cert.Proof.Trip Cert.Proof.Quantiser Cert.Proof.TripValue
open Idealize.ShloMosaic Idealize.ShloMosaic.Pointwise

/-- Writes that all agree with `G` leave `G` where one of them falls, and where the contents already agreed. -/
theorem writes_spec {sig : RefSig} {κ : Kind} {sp : Space} {s : Shape} {e : EltTy} (v : View sig κ sp s e) (f : BufTy.Contents (Elt Ideal) v.ty) (G : s.Idx → Elt Ideal e)
    (L : List (View.Piece (Elt Ideal) s e)) (hL : ∀ p ∈ L, ∀ x, p.2 x = G (p.1.emb x)) (y : s.Idx)
    (hy : (∃ p ∈ L, y ∈ p.1.set) ∨ v.read (Elt Ideal) f y = G y) : v.read (Elt Ideal) (v.writes (Elt Ideal) f L) y = G y := by
  by_cases h : ∃ p ∈ L, y ∈ p.1.set
  · exact View.read_writes_apply_of_pieces v f G L hL y h
  · rw [View.read_writes_apply_of_forall_not_mem v f y L (fun p hp hm => h ⟨p, hp, hm⟩)]
    exact hy.resolve_left h

/-- The stored code of the padded image at row `r`, word `j`, channel `c`, byte `p`, lane `b`, before the shift by the
    exponent: zero at the border. -/
def stored (px : Img) (r j c p b : ℕ) : ℝ :=
  if 3 ≤ r ∧ r < 227 ∧ 1 ≤ j ∧ j < 73 then 128 * nv c (px (r - 3) c (4 * (j - 1) + p) b) else 0

/-- The code scratch after `n` rows. -/
def Codes (px : Img) (n : ℕ) (g : S230x75x3x4x128.Idx → Ideal .fp8e4m3) : Prop :=
  ∀ y, (y 0).val < 3 + n ∨ 227 ≤ (y 0).val ∨ (y 1).val < 1 ∨ 73 ≤ (y 1).val →
    g y = ((stored px (y 0).val (y 1).val (y 2).val (y 3).val (y 4).val : ℝ) : EReal)

/-- The pixels of lane `k` of channel `c` in the first `n` rows. -/
def Seen (px : Img) (n c k b : ℕ) (u : ℕ) : Prop := ∃ h w, h < n ∧ w < 288 ∧ w % 16 % 16 = k ∧ px h c w b = u

/-- The extremes scratch after `n` rows. -/
def Extremes (px : Img) (n : ℕ) (g : S6x16x128.Idx → Ideal .bf16) : Prop :=
  ∀ (r : Fin 6) (k : Fin 16) (b : Fin 128), (r.val % 2 = 0 → IsLo (Seen px n (r.val / 2) k.val b.val) (g (ix3 r k b))) ∧
    (r.val % 2 = 1 → IsHi (Seen px n (r.val / 2) k.val b.val) (g (ix3 r k b)))

/-- The block of the image a point reads. -/
def Block (px : Img) (t : ℕ) (X : S8x3x288x128.Idx → BitVec 8) : Prop :=
  ∀ y, (X y).toNat = px (8 * t + (y 0).val) (y 1).val (y 2).val (y 3).val

/-- What a trip leaves in the extremes scratch, at an index. -/
def mmAt (arg1 : Memref sig .tc .vmem S8x3x288x128 .i8) (X : BufTy.Contents (Elt Ideal) arg1.view.ty) (arg12 : Memref sig .tc .vmem S6x16x128 .bf16)
    (f12 : BufTy.Contents (Elt Ideal) arg12.view.ty) (k : ℕ) (hk : k < 8) (y : S6x16x128.Idx) : Ideal .bf16 :=
  mmPay (F := Ideal) (y 0).val (mmLoad arg12 f12 (y 0)) (groups arg1 X k hk ⟨(y 0).val / 2, by have : (y 0).val < 6 := (y 0).isLt; omega⟩) (ix3 0 (y 1) (y 2))

theorem mm_agrees (arg1 : Memref sig .tc .vmem S8x3x288x128 .i8) (X : BufTy.Contents (Elt Ideal) arg1.view.ty) (arg12 : Memref sig .tc .vmem S6x16x128 .bf16)
    (f12 : BufTy.Contents (Elt Ideal) arg12.view.ty) (k : ℕ) (hk : k < 8) (q : Fin 6) (x : S1x16x128.Idx) (z : S6x16x128.Idx)
    (e0 : z 0 = q) (e1 : z 1 = x 1) (e2 : z 2 = x 2) :
    mmPay (F := Ideal) q.val (mmLoad arg12 f12 q) (groups arg1 X k hk ⟨q.val / 2, by omega⟩) x = mmAt arg1 X arg12 f12 k hk z := by
  subst e0
  unfold mmAt
  rw [e1, e2]
  refine congrArg _ ?_
  funext a
  fin_cases a
  · exact Subsingleton.elim (α := Fin 1) _ _
  · rfl
  · rfl

section Trip

variable (px : Img) (t k : ℕ) (ht : t < 28) (hk : k < 8) (arg1 : Memref sig .tc .vmem S8x3x288x128 .i8)
  (X : BufTy.Contents (Elt Ideal) arg1.view.ty) (hX : Block px t (arg1.view.read (Elt Ideal) X))

include hX in
theorem rowLoad_apply (j : Fin 27) (w : Fin 32) (b : Fin 128) :
    BitVec.toNat (rowLoad (F := Ideal) arg1 X k hk j (ix4 0 0 w b)) = px (8 * t + k) (j.val / 9) (32 * (j.val % 9) + w.val) b.val := by
  have h := hX ((Rect.unit (s := S8x3x288x128) ![k, j.val / 9, 32 * (j.val % 9), 0] ![1, 1, 32, 128] (inb_load k hk j)).emb (ix4 0 0 w b))
  refine h.trans ?_
  show px (8 * t + (k + 1 * 0)) (j.val / 9 + 1 * 0) (32 * (j.val % 9) + 1 * w.val) (0 + 1 * b.val) = _
  simp

include hX ht in
/-- What a trip stores is the code the padded image has there. -/
theorem row_agrees (j : Fin 27) (x : S1x8x1x4x128.Idx) :
    quant (F := Ideal) (j.val / 9) (rowLoad arg1 X k hk j) x
      = ((stored px (8 * t + k + 3 + 1 * (x 0).val) (8 * (j.val % 9) + 1 + 1 * (x 1).val) (j.val / 9 + 1 * (x 2).val) (0 + 1 * (x 3).val) (0 + 1 * (x 4).val) : ℝ) : EReal) := by
  have hj := fin27 j
  have x1 : (x 1).val < 8 := (x 1).isLt
  have x3 : (x 3).val < 4 := (x 3).isLt
  have x0 : (x 0).val = 0 := by have h : (x 0).val < 1 := (x 0).isLt; omega
  have x2 : (x 2).val = 0 := by have h : (x 2).val < 1 := (x 2).isLt; omega
  rw [quant_apply (j.val / 9) hj.1 (rowLoad arg1 X k hk j) x]
  have hr := rowLoad_apply px t k hk arg1 X hX j ⟨(x 1).val * 4 + (x 3).val, by omega⟩ (x 4)
  refine (congrArg (fun u : ℕ => ((128 * nv (j.val / 9) u : ℝ) : EReal)) hr).trans ?_
  unfold stored
  rw [if_pos (by omega), x0, x2]
  have e1 : 8 * t + k + 3 + 1 * 0 - 3 = 8 * t + k := by omega
  have e2 : 4 * (8 * (j.val % 9) + 1 + 1 * (x 1).val - 1) + (0 + 1 * (x 3).val) = 32 * (j.val % 9) + ((x 1).val * 4 + (x 3).val) := by omega
  have e3 : 0 + 1 * (x 4).val = (x 4).val := by omega
  have e4 : j.val / 9 + 1 * 0 = j.val / 9 := by omega
  rw [e1, e2, e3, e4]

set_option maxHeartbeats 1000000 in
include hX in
/-- One trip stores one more row of codes. -/
theorem codes_step (arg9 : Memref sig .tc .vmem S230x75x3x4x128 .fp8e4m3) (f9 : BufTy.Contents (Elt Ideal) arg9.view.ty)
    (h : Codes px (8 * t + k) (arg9.view.read (Elt Ideal) f9)) :
    Codes px (8 * t + k + 1) (arg9.view.read (Elt Ideal) (arg9.view.writes (Elt Ideal) f9 (order27.map (rowPiece arg1 X t k ht hk)))) := by
  intro y hy
  refine writes_spec arg9.view f9 (fun y => ((stored px (y 0).val (y 1).val (y 2).val (y 3).val (y 4).val : ℝ) : EReal)) _ ?_ y ?_
  · intro p hp x
    obtain ⟨j, -, rfl⟩ := List.mem_map.mp hp
    exact row_agrees px t k ht hk arg1 X hX j x
  · by_cases hr : (y 0).val = 8 * t + k + 3 ∧ 1 ≤ (y 1).val ∧ (y 1).val < 73
    · left
      have y2 : (y 2).val < 3 := (y 2).isLt
      have y3 : (y 3).val < 4 := (y 3).isLt
      have y4 : (y 4).val < 128 := (y 4).isLt
      refine ⟨_, List.mem_map.mpr ⟨⟨9 * (y 2).val + ((y 1).val - 1) / 8, by omega⟩, mem_order27 _, rfl⟩, ?_⟩
      show y ∈ (Rect.unit _ _ (inb_store t k ht hk _)).set
      refine Rect.mem_set_unit.mpr fun a => ?_
      fin_cases a
      · show 8 * t + k + 3 ≤ (y 0).val ∧ (y 0).val < 8 * t + k + 3 + 1
        omega
      · show 8 * ((9 * (y 2).val + ((y 1).val - 1) / 8) % 9) + 1 ≤ (y 1).val ∧ (y 1).val < 8 * ((9 * (y 2).val + ((y 1).val - 1) / 8) % 9) + 1 + 8
        omega
      · show (9 * (y 2).val + ((y 1).val - 1) / 8) / 9 ≤ (y 2).val ∧ (y 2).val < (9 * (y 2).val + ((y 1).val - 1) / 8) / 9 + 1
        omega
      · show 0 ≤ (y 3).val ∧ (y 3).val < 0 + 4
        omega
      · show 0 ≤ (y 4).val ∧ (y 4).val < 0 + 128
        omega
    · right
      exact h y (by omega)

include hX in
/-- One trip takes one more row into the extremes. -/
theorem extremes_step (arg12 : Memref sig .tc .vmem S6x16x128 .bf16) (f12 : BufTy.Contents (Elt Ideal) arg12.view.ty)
    (h : Extremes px (8 * t + k) (arg12.view.read (Elt Ideal) f12)) :
    Extremes px (8 * t + k + 1) (arg12.view.read (Elt Ideal) (arg12.view.writes (Elt Ideal) f12 (([5, 4, 3, 2, 1, 0] : List (Fin 6)).map (mmPiece arg1 arg12 X f12 k hk)))) := by
  intro r l b
  have hG : arg12.view.read (Elt Ideal) (arg12.view.writes (Elt Ideal) f12 (([5, 4, 3, 2, 1, 0] : List (Fin 6)).map (mmPiece arg1 arg12 X f12 k hk))) (ix3 r l b)
      = mmPay (F := Ideal) r.val (mmLoad arg12 f12 r) (groups arg1 X k hk ⟨r.val / 2, by omega⟩) (ix3 0 l b) := by
    refine writes_spec (e := .bf16) arg12.view f12 (mmAt arg1 X arg12 f12 k hk) _ ?_ (ix3 r l b) (Or.inl ?_)
    · intro p hp x
      obtain ⟨q, -, rfl⟩ := List.mem_map.mp hp
      have x0 : (x 0).val = 0 := by have h : (x 0).val < 1 := (x 0).isLt; omega
      have e0 : (Rect.unit (s := S6x16x128) ![q.val, 0, 0] ![1, 16, 128] (inb_mm q)).emb x 0 = q := Fin.ext (by show q.val + 1 * (x 0).val = _; omega)
      have e1 : (Rect.unit (s := S6x16x128) ![q.val, 0, 0] ![1, 16, 128] (inb_mm q)).emb x 1 = x 1 := Fin.ext (by show 0 + 1 * (x 1).val = _; omega)
      have e2 : (Rect.unit (s := S6x16x128) ![q.val, 0, 0] ![1, 16, 128] (inb_mm q)).emb x 2 = x 2 := Fin.ext (by show 0 + 1 * (x 2).val = _; omega)
      exact mm_agrees arg1 X arg12 f12 k hk q x _ e0 e1 e2
    · refine ⟨_, List.mem_map.mpr ⟨r, by fin_cases r <;> simp, rfl⟩, ?_⟩
      show ix3 r l b ∈ (Rect.unit _ _ (inb_mm r)).set
      refine Rect.mem_set_unit.mpr fun a => ?_
      fin_cases a
      · show r.val ≤ r.val ∧ r.val < r.val + 1
        omega
      · show 0 ≤ l.val ∧ l.val < 0 + 16
        omega
      · show 0 ≤ b.val ∧ b.val < 0 + 128
        omega
  have hm : mmLoad (F := Ideal) arg12 f12 r (ix3 0 l b) = arg12.view.read (Elt Ideal) f12 (ix3 r l b) := by
    refine congrArg (arg12.view.read (Elt Ideal) f12) (?_ : (Rect.unit (s := S6x16x128) ![r.val, 0, 0] ![1, 16, 128] (inb_mm r)).emb (ix3 0 l b) = ix3 r l b)
    funext a; fin_cases a
    · exact Fin.ext (by show r.val + 1 * 0 = r.val; omega)
    · exact Fin.ext (by show 0 + 1 * l.val = l.val; omega)
    · exact Fin.ext (by show 0 + 1 * b.val = b.val; omega)
  have hS : ∀ u, (Seen px (8 * t + k) (r.val / 2) l.val b.val u ∨ ∃ v ∈ groups (F := Ideal) arg1 X k hk ⟨r.val / 2, by omega⟩, GroupHas l b v u)
      ↔ Seen px (8 * t + k + 1) (r.val / 2) l.val b.val u := by
    intro u
    have hv : ∀ (n : Fin 9) (w : Fin 32), BitVec.toNat (rowLoad (F := Ideal) arg1 X k hk ⟨9 * (r.val / 2) + n.val, by omega⟩ (ix4 0 0 w b))
        = px (8 * t + k) (r.val / 2) (32 * n.val + w.val) b.val := by
      intro n w
      rw [rowLoad_apply px t k hk arg1 X hX]
      congr 1
      · show (9 * (r.val / 2) + n.val) / 9 = _
        omega
      · show 32 * ((9 * (r.val / 2) + n.val) % 9) + _ = _
        omega
    constructor
    · rintro (⟨h', w, hh, hw, hl, e⟩ | ⟨v, hvm, hg⟩)
      · exact ⟨h', w, by omega, hw, hl, e⟩
      · obtain ⟨n, -, rfl⟩ := List.mem_map.mp hvm
        rcases hg with e | e
        · rw [hv] at e
          exact ⟨8 * t + k, 32 * n.val + l.val, by omega, by omega, by omega, e.symm⟩
        · rw [hv] at e
          exact ⟨8 * t + k, 32 * n.val + (16 + l.val), by omega, by omega, by omega, e.symm⟩
    · rintro ⟨h', w, hh, hw, hl, e⟩
      by_cases hh' : h' < 8 * t + k
      · exact Or.inl ⟨h', w, hh', hw, hl, e⟩
      · right
        refine ⟨_, List.mem_map.mpr ⟨⟨w / 32, by omega⟩, ?_, rfl⟩, ?_⟩
        · generalize (⟨w / 32, by omega⟩ : Fin 9) = n
          fin_cases n <;> simp
        · obtain rfl : h' = 8 * t + k := by omega
          by_cases hs : w % 32 < 16
          · left
            rw [hv, ← e]
            congr 1
            show w = 32 * (w / 32) + l.val
            omega
          · right
            rw [hv, ← e]
            congr 1
            show w = 32 * (w / 32) + (16 + l.val)
            omega
  rw [hG, mmPay_apply]
  obtain ⟨hlo, hhi⟩ := h r l b
  constructor
  · intro hr
    rw [hr]
    exact (isLo_foldl l b _ _ _ (by rw [mm_start, hm]; exact hlo hr)).congr hS
  · intro hr
    rw [hr]
    exact (isHi_foldl l b _ _ _ (by rw [mm_start, hm]; exact hhi hr)).congr hS

end Trip

end Cert.Proof.Rows

end
-- ==== Proof.RowLoop.lean ====
/-
  The quantising loop of one of the first 28 points: eight trips, one row of the image each. It takes the two invariants from
  `8 * t` rows to `8 * t + 8`.
-/
module

public import proofs.«01_k».proof.Proof.Rows

@[expose] public section

noncomputable section

namespace Cert.Proof.RowLoop

open Cert.KernelIdeal Cert.KernelIdeal.Gen Cert.Proof.Trip Cert.Proof.Quantiser Cert.Proof.TripValue Cert.Proof.Rows
open Idealize.ShloMosaic

theorem fst_eq {A B : Type} {p : A × B} {a : A} {b : B} (h : p = (a, b)) : p.1 = a := h ▸ rfl

theorem snd_eq {A B : Type} {p : A × B} {a : A} {b : B} (h : p = (a, b)) : p.2 = b := h ▸ rfl

theorem loop (px : Img) (c : Dev nD) (i : grid0.Coords) (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole) (arg0 : BitVec 32) (k0_h2 : k0_cond2 i = 1#1) (X : BufTy.Contents (Elt Ideal) arg1.view.ty)
    (G9 : BufTy.Contents (Elt Ideal) arg9.view.ty) (G12 : BufTy.Contents (Elt Ideal) arg12.view.ty) (ht : (i 0).val < 28)
    (hX : Block px (i 0).val (arg1.view.read (Elt Ideal) X)) (hc : Codes px (8 * (i 0).val) (arg9.view.read (Elt Ideal) G9))
    (he : Extremes px (8 * (i 0).val) (arg12.view.read (Elt Ideal) G12)) (n : ℕ) (hn : n ≤ 8) :
    Codes px (8 * (i 0).val + n) (arg9.view.read (Elt Ideal) (arg9.view.writes (Elt Ideal) G9 (pb_k0_t2 (F := Ideal) 𝒱₀ c none i arg1 h1 arg2 h2 arg3 h3 arg4 h4 arg5 h5 arg6 h6 arg7 h7 arg8 h8 arg9 h9 arg10 h10 arg11 h11 arg12 h12 arg13 h13 arg0 k0_h2 X G9 G12 n).1))
    ∧ Extremes px (8 * (i 0).val + n) (arg12.view.read (Elt Ideal) (arg12.view.writes (Elt Ideal) G12 (pb_k0_t2 (F := Ideal) 𝒱₀ c none i arg1 h1 arg2 h2 arg3 h3 arg4 h4 arg5 h5 arg6 h6 arg7 h7 arg8 h8 arg9 h9 arg10 h10 arg11 h11 arg12 h12 arg13 h13 arg0 k0_h2 X G9 G12 n).2)) := by
  induction n with
  | zero => exact ⟨hc, he⟩
  | succ n ih =>
    obtain ⟨ihc, ihe⟩ := ih (by omega)
    have hs := pb_k0_t2_succ (F := Ideal) 𝒱₀ c none i arg1 h1 arg2 h2 arg3 h3 arg4 h4 arg5 h5 arg6 h6 arg7 h7 arg8 h8 arg9 h9 arg10 h10 arg11 h11 arg12 h12 arg13 h13 arg0 k0_h2 X G9 G12 ⟨n, by show n < 8; omega⟩
    have q1 : (pb_k0_t2 (F := Ideal) 𝒱₀ c none i arg1 h1 arg2 h2 arg3 h3 arg4 h4 arg5 h5 arg6 h6 arg7 h7 arg8 h8 arg9 h9 arg10 h10 arg11 h11 arg12 h12 arg13 h13 arg0 k0_h2 X G9 G12 (n + 1)).1 = _ := fst_eq hs
    have q2 : (pb_k0_t2 (F := Ideal) 𝒱₀ c none i arg1 h1 arg2 h2 arg3 h3 arg4 h4 arg5 h5 arg6 h6 arg7 h7 arg8 h8 arg9 h9 arg10 h10 arg11 h11 arg12 h12 arg13 h13 arg0 k0_h2 X G9 G12 (n + 1)).2 = _ := snd_eq hs
    rw [q1, q2, View.writes_append, View.writes_append, trip_codes (ht := ht) (hk := by show n < 8; omega), trip_extremes (hk := by show n < 8; omega)]
    exact ⟨codes_step px (i 0).val n ht (by omega) arg1 X hX arg9 _ ihc, extremes_step px (i 0).val n (by omega) arg1 X hX arg12 _ ihe⟩

end Cert.Proof.RowLoop

end
-- ==== Proof.Blocks.lean ====
/-
  The codes a point from 28 on stores: 108 blocks of 32 columns, one for each of four rows, three channels and nine groups. Each
  is the stored code of the scratch times a power of two kept per channel and lane.
-/
module

public import proofs.«01_k».proof.Proof.RowLoop
public import proofs.«01_k».proof.Proof.KernelIdealFrame

@[expose] public section

noncomputable section

namespace Cert.Proof.Blocks

open Cert.KernelIdeal Cert.KernelIdeal.Gen Cert.Proof.Trip Cert.Proof.Quantiser Cert.Proof.TripValue Cert.Proof.Rows Cert.Proof.RowLoop
open Cert.Proof.KernelIdealFrame (cond4_iff)
open Idealize.ShloMosaic Idealize.ShloMosaic.Pointwise

/-- What a point stores for one block: the codes `q` of the scratch times the floats whose bits are `kv`. -/
def codePay (q : Vec Ideal S1x8x1x4x128 .fp8e4m3) (kv : Vec Ideal S1x8x128 .i32) : FVec Ideal S1x1x32x128 .fp8e4m3 :=
  shapeCast S1x1x32x128 (shapeCast S32x128 (truncf .fp8e4m3
    (mulf (extf .f32 (shapeCast S8x4x128 q shapeCasts_S1x8x1x4x128_S8x4x128 : FVec Ideal S8x4x128 .fp8e4m3) (by decide))
      (broadcastTo S8x4x128 (shapeCast S8x1x128 (bitcastToFloat .f32 (shapeCast S8x128 kv shapeCasts_S1x8x128_S8x128 : IVec S8x128 32) : FVec Ideal S8x128 .f32) shapeCasts_S8x128_S8x1x128) broadcasts_S8x1x128_S8x4x128)) (by decide))
    shapeCasts_S8x4x128_S32x128) shapeCasts_S32x128_S1x1x32x128

theorem codePay_apply (q : Vec Ideal S1x8x1x4x128 .fp8e4m3) (kv : Vec Ideal S1x8x128 .i32) (w : Fin 32) (b : Fin 128) :
    codePay q kv (ix4 0 0 w b) = q (ix5 0 ⟨w.val / 4, by omega⟩ 0 ⟨w.val % 4, by omega⟩ b) * Ideal.ofBits .f32 (kv (ix3 0 ⟨w.val / 4, by omega⟩ b)) := by
  pointwise [codePay]

theorem inb_code (j : Fin 108) : ∀ a, (![j.val / 27, j.val % 27 / 9, 32 * (j.val % 9), 0] : Fin 4 → ℕ) a + (![1, 1, 32, 128] : Fin 4 → ℕ) a ≤ S4x3x288x128.size a := by
  intro a; fin_cases a <;> simp [S4x3x288x128] <;> omega

theorem inb_stored (ip : ℕ) (hip : ip < 56) (j : Fin 108) :
    ∀ a, (![4 * ip + j.val / 27 + 3, 8 * (j.val % 9) + 1, j.val % 27 / 9, 0, 0] : Fin 5 → ℕ) a + (![1, 8, 1, 4, 128] : Fin 5 → ℕ) a ≤ S230x75x3x4x128.size a := by
  intro a; fin_cases a <;> simp [S230x75x3x4x128] <;> omega

theorem inb_shift (j : Fin 108) : ∀ a, (![j.val % 27 / 9, 0, 0] : Fin 3 → ℕ) a + (![1, 8, 128] : Fin 3 → ℕ) a ≤ S3x8x128.size a := by
  intro a; fin_cases a <;> simp [S3x8x128] <;> omega

section Piece
variable (arg9 : Memref sig .tc .vmem S230x75x3x4x128 .fp8e4m3) (arg13 : Memref sig .tc .vmem S3x8x128 .i32)
  (f9 : BufTy.Contents (Elt Ideal) arg9.view.ty) (f13 : BufTy.Contents (Elt Ideal) arg13.view.ty)

/-- The block of codes `j` of pooled row `ip`. -/
def codePiece (ip : ℕ) (hip : ip < 56) (j : Fin 108) : View.Piece (Elt Ideal) S4x3x288x128 .fp8e4m3 :=
  ⟨Rect.unit ![j.val / 27, j.val % 27 / 9, 32 * (j.val % 9), 0] ![1, 1, 32, 128] (inb_code j),
    codePay (arg9.view.readAt (Elt Ideal) (Rect.unit (s := S230x75x3x4x128) ![4 * ip + j.val / 27 + 3, 8 * (j.val % 9) + 1, j.val % 27 / 9, 0, 0] ![1, 8, 1, 4, 128] (inb_stored ip hip j)).toLoadRect f9)
      (arg13.view.readAt (Elt Ideal) (Rect.unit (s := S3x8x128) ![j.val % 27 / 9, 0, 0] ![1, 8, 128] (inb_shift j)).toLoadRect f13)⟩

theorem codePiece_eq (ip : ℕ) (hip : ip < 56) (j : Fin 108) {offS : Fin 4 → ℕ} (eS : offS = ![j.val / 27, j.val % 27 / 9, 32 * (j.val % 9), 0])
    {off : Fin 5 → ℕ} (e : off = ![4 * ip + j.val / 27 + 3, 8 * (j.val % 9) + 1, j.val % 27 / 9, 0, 0])
    (hS : ∀ a, offS a + (![1, 1, 32, 128] : Fin 4 → ℕ) a ≤ S4x3x288x128.size a) (h : ∀ a, off a + (![1, 8, 1, 4, 128] : Fin 5 → ℕ) a ≤ S230x75x3x4x128.size a) :
    (⟨Rect.unit offS ![1, 1, 32, 128] hS,
      codePay (arg9.view.readAt (Elt Ideal) (Rect.unit (s := S230x75x3x4x128) off ![1, 8, 1, 4, 128] h).toLoadRect f9)
        (arg13.view.readAt (Elt Ideal) (Rect.unit (s := S3x8x128) ![j.val % 27 / 9, 0, 0] ![1, 8, 128] (inb_shift j)).toLoadRect f13)⟩ :
      View.Piece (Elt Ideal) S4x3x288x128 .fp8e4m3) = codePiece arg9 arg13 f9 f13 ip hip j := by
  subst e eS; rfl

end Piece

/-- The blocks, last stored first. -/
def order108 : List (Fin 108) := [107, 106, 105, 104, 103, 102, 101, 100, 99, 98, 97, 96, 95, 94, 93, 92, 91, 90, 89, 88, 87, 86, 85, 84, 83, 82, 81, 80, 79, 78, 77, 76, 75, 74, 73, 72, 71, 70, 69, 68, 67, 66, 65, 64, 63, 62, 61, 60, 59, 58, 57, 56, 55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

theorem mem_order108 : ∀ j : Fin 108, j ∈ order108 := by decide +kernel

theorem row_toNat : ∀ (i : grid0.Coords) (r : Fin 4), 28 ≤ (i 0).val →
    (Scalar.indexCast (Scalar.addi (Scalar.addi (Scalar.muli 4#32 (Scalar.subi (BitVec.ofNat 32 (i 0).val) 28#32)) (BitVec.ofNat 32 r.val)) 3#32)).toNat
      = 4 * ((i 0).val - 28) + r.val + 3 := by decide +kernel

theorem off_of (i : grid0.Coords) (r : ℕ) (hr : r < 4) (hi : 28 ≤ (i 0).val) (j c : ℕ) :
    (![(Scalar.indexCast (Scalar.addi (Scalar.addi (Scalar.muli 4#32 (Scalar.subi (BitVec.ofNat 32 (i 0).val) 28#32)) (BitVec.ofNat 32 r)) 3#32)).toNat, j, c, 0, 0] : Fin 5 → ℕ)
      = ![4 * ((i 0).val - 28) + r + 3, j, c, 0, 0] := by
  rw [row_toNat i ⟨r, hr⟩ hi]

theorem off57 (i : grid0.Coords) (r : ℕ) (hr : r < 4) (hi : 28 ≤ (i 0).val) :
    k0_off57 i (BitVec.ofNat 32 r) = ![4 * ((i 0).val - 28) + r + 3, 1, 0, 0, 0] := off_of i r hr hi _ _
theorem off58 (i : grid0.Coords) (r : ℕ) (hr : r < 4) (hi : 28 ≤ (i 0).val) :
    k0_off58 i (BitVec.ofNat 32 r) = ![4 * ((i 0).val - 28) + r + 3, 9, 0, 0, 0] := off_of i r hr hi _ _
theorem off59 (i : grid0.Coords) (r : ℕ) (hr : r < 4) (hi : 28 ≤ (i 0).val) :
    k0_off59 i (BitVec.ofNat 32 r) = ![4 * ((i 0).val - 28) + r + 3, 17, 0, 0, 0] := off_of i r hr hi _ _
theorem off60 (i : grid0.Coords) (r : ℕ) (hr : r < 4) (hi : 28 ≤ (i 0).val) :
    k0_off60 i (BitVec.ofNat 32 r) = ![4 * ((i 0).val - 28) + r + 3, 25, 0, 0, 0] := off_of i r hr hi _ _
theorem off61 (i : grid0.Coords) (r : ℕ) (hr : r < 4) (hi : 28 ≤ (i 0).val) :
    k0_off61 i (BitVec.ofNat 32 r) = ![4 * ((i 0).val - 28) + r + 3, 33, 0, 0, 0] := off_of i r hr hi _ _
theorem off62 (i : grid0.Coords) (r : ℕ) (hr : r < 4) (hi : 28 ≤ (i 0).val) :
    k0_off62 i (BitVec.ofNat 32 r) = ![4 * ((i 0).val - 28) + r + 3, 41, 0, 0, 0] := off_of i r hr hi _ _
theorem off63 (i : grid0.Coords) (r : ℕ) (hr : r < 4) (hi : 28 ≤ (i 0).val) :
    k0_off63 i (BitVec.ofNat 32 r) = ![4 * ((i 0).val - 28) + r + 3, 49, 0, 0, 0] := off_of i r hr hi _ _
theorem off64 (i : grid0.Coords) (r : ℕ) (hr : r < 4) (hi : 28 ≤ (i 0).val) :
    k0_off64 i (BitVec.ofNat 32 r) = ![4 * ((i 0).val - 28) + r + 3, 57, 0, 0, 0] := off_of i r hr hi _ _
theorem off65 (i : grid0.Coords) (r : ℕ) (hr : r < 4) (hi : 28 ≤ (i 0).val) :
    k0_off65 i (BitVec.ofNat 32 r) = ![4 * ((i 0).val - 28) + r + 3, 65, 0, 0, 0] := off_of i r hr hi _ _
theorem off66 (i : grid0.Coords) (r : ℕ) (hr : r < 4) (hi : 28 ≤ (i 0).val) :
    k0_off66 i (BitVec.ofNat 32 r) = ![4 * ((i 0).val - 28) + r + 3, 1, 1, 0, 0] := off_of i r hr hi _ _
theorem off67 (i : grid0.Coords) (r : ℕ) (hr : r < 4) (hi : 28 ≤ (i 0).val) :
    k0_off67 i (BitVec.ofNat 32 r) = ![4 * ((i 0).val - 28) + r + 3, 9, 1, 0, 0] := off_of i r hr hi _ _
theorem off68 (i : grid0.Coords) (r : ℕ) (hr : r < 4) (hi : 28 ≤ (i 0).val) :
    k0_off68 i (BitVec.ofNat 32 r) = ![4 * ((i 0).val - 28) + r + 3, 17, 1, 0, 0] := off_of i r hr hi _ _
theorem off69 (i : grid0.Coords) (r : ℕ) (hr : r < 4) (hi : 28 ≤ (i 0).val) :
    k0_off69 i (BitVec.ofNat 32 r) = ![4 * ((i 0).val - 28) + r + 3, 25, 1, 0, 0] := off_of i r hr hi _ _
theorem off70 (i : grid0.Coords) (r : ℕ) (hr : r < 4) (hi : 28 ≤ (i 0).val) :
    k0_off70 i (BitVec.ofNat 32 r) = ![4 * ((i 0).val - 28) + r + 3, 33, 1, 0, 0] := off_of i r hr hi _ _
theorem off71 (i : grid0.Coords) (r : ℕ) (hr : r < 4) (hi : 28 ≤ (i 0).val) :
    k0_off71 i (BitVec.ofNat 32 r) = ![4 * ((i 0).val - 28) + r + 3, 41, 1, 0, 0] := off_of i r hr hi _ _
theorem off72 (i : grid0.Coords) (r : ℕ) (hr : r < 4) (hi : 28 ≤ (i 0).val) :
    k0_off72 i (BitVec.ofNat 32 r) = ![4 * ((i 0).val - 28) + r + 3, 49, 1, 0, 0] := off_of i r hr hi _ _
theorem off73 (i : grid0.Coords) (r : ℕ) (hr : r < 4) (hi : 28 ≤ (i 0).val) :
    k0_off73 i (BitVec.ofNat 32 r) = ![4 * ((i 0).val - 28) + r + 3, 57, 1, 0, 0] := off_of i r hr hi _ _
theorem off74 (i : grid0.Coords) (r : ℕ) (hr : r < 4) (hi : 28 ≤ (i 0).val) :
    k0_off74 i (BitVec.ofNat 32 r) = ![4 * ((i 0).val - 28) + r + 3, 65, 1, 0, 0] := off_of i r hr hi _ _
theorem off75 (i : grid0.Coords) (r : ℕ) (hr : r < 4) (hi : 28 ≤ (i 0).val) :
    k0_off75 i (BitVec.ofNat 32 r) = ![4 * ((i 0).val - 28) + r + 3, 1, 2, 0, 0] := off_of i r hr hi _ _
theorem off76 (i : grid0.Coords) (r : ℕ) (hr : r < 4) (hi : 28 ≤ (i 0).val) :
    k0_off76 i (BitVec.ofNat 32 r) = ![4 * ((i 0).val - 28) + r + 3, 9, 2, 0, 0] := off_of i r hr hi _ _
theorem off77 (i : grid0.Coords) (r : ℕ) (hr : r < 4) (hi : 28 ≤ (i 0).val) :
    k0_off77 i (BitVec.ofNat 32 r) = ![4 * ((i 0).val - 28) + r + 3, 17, 2, 0, 0] := off_of i r hr hi _ _
theorem off78 (i : grid0.Coords) (r : ℕ) (hr : r < 4) (hi : 28 ≤ (i 0).val) :
    k0_off78 i (BitVec.ofNat 32 r) = ![4 * ((i 0).val - 28) + r + 3, 25, 2, 0, 0] := off_of i r hr hi _ _
theorem off79 (i : grid0.Coords) (r : ℕ) (hr : r < 4) (hi : 28 ≤ (i 0).val) :
    k0_off79 i (BitVec.ofNat 32 r) = ![4 * ((i 0).val - 28) + r + 3, 33, 2, 0, 0] := off_of i r hr hi _ _
theorem off80 (i : grid0.Coords) (r : ℕ) (hr : r < 4) (hi : 28 ≤ (i 0).val) :
    k0_off80 i (BitVec.ofNat 32 r) = ![4 * ((i 0).val - 28) + r + 3, 41, 2, 0, 0] := off_of i r hr hi _ _
theorem off81 (i : grid0.Coords) (r : ℕ) (hr : r < 4) (hi : 28 ≤ (i 0).val) :
    k0_off81 i (BitVec.ofNat 32 r) = ![4 * ((i 0).val - 28) + r + 3, 49, 2, 0, 0] := off_of i r hr hi _ _
theorem off82 (i : grid0.Coords) (r : ℕ) (hr : r < 4) (hi : 28 ≤ (i 0).val) :
    k0_off82 i (BitVec.ofNat 32 r) = ![4 * ((i 0).val - 28) + r + 3, 57, 2, 0, 0] := off_of i r hr hi _ _
theorem off83 (i : grid0.Coords) (r : ℕ) (hr : r < 4) (hi : 28 ≤ (i 0).val) :
    k0_off83 i (BitVec.ofNat 32 r) = ![4 * ((i 0).val - 28) + r + 3, 65, 2, 0, 0] := off_of i r hr hi _ _
set_option maxRecDepth 65536 in
set_option maxHeartbeats 4000000 in
/-- The 108 blocks of codes of a point. -/
theorem blocks_later (i : grid0.Coords) (arg9 : Memref sig .tc .vmem S230x75x3x4x128 .fp8e4m3) (arg12 : Memref sig .tc .vmem S6x16x128 .bf16) (arg13 : Memref sig .tc .vmem S3x8x128 .i32)
    (f9 : BufTy.Contents (Elt Ideal) arg9.view.ty) (f12 : BufTy.Contents (Elt Ideal) arg12.view.ty) (f13 : BufTy.Contents (Elt Ideal) arg13.view.ty)
    (hc4 : k0_cond4 i = 1#1) (hi : 28 ≤ (i 0).val) (hip : (i 0).val - 28 < 56) :
    KernelIdealFrame.body_run.sl.H7_108_1 (F := Ideal) i arg9 arg13 f9 f13 hc4
      = order108.map (codePiece arg9 arg13 f9 f13 ((i 0).val - 28) hip) := by
  unfold KernelIdealFrame.body_run.sl.H7_108_1 order108
  simp only [List.map_cons, List.map_nil]
  refine congrArg₂ List.cons (codePiece_eq arg9 arg13 f9 f13 _ hip (107 : Fin 108) rfl (off83 i 3 (by decide) hi) _ _) ?_
  refine congrArg₂ List.cons (codePiece_eq arg9 arg13 f9 f13 _ hip (106 : Fin 108) rfl (off82 i 3 (by decide) hi) _ _) ?_
  refine congrArg₂ List.cons (codePiece_eq arg9 arg13 f9 f13 _ hip (105 : Fin 108) rfl (off81 i 3 (by decide) hi) _ _) ?_
  refine congrArg₂ List.cons (codePiece_eq arg9 arg13 f9 f13 _ hip (104 : Fin 108) rfl (off80 i 3 (by decide) hi) _ _) ?_
  refine congrArg₂ List.cons (codePiece_eq arg9 arg13 f9 f13 _ hip (103 : Fin 108) rfl (off79 i 3 (by decide) hi) _ _) ?_
  refine congrArg₂ List.cons (codePiece_eq arg9 arg13 f9 f13 _ hip (102 : Fin 108) rfl (off78 i 3 (by decide) hi) _ _) ?_
  refine congrArg₂ List.cons (codePiece_eq arg9 arg13 f9 f13 _ hip (101 : Fin 108) rfl (off77 i 3 (by decide) hi) _ _) ?_
  refine congrArg₂ List.cons (codePiece_eq arg9 arg13 f9 f13 _ hip (100 : Fin 108) rfl (off76 i 3 (by decide) hi) _ _) ?_
  refine congrArg₂ List.cons (codePiece_eq arg9 arg13 f9 f13 _ hip (99 : Fin 108) rfl (off75 i 3 (by decide) hi) _ _) ?_
  refine congrArg₂ List.cons (codePiece_eq arg9 arg13 f9 f13 _ hip (98 : Fin 108) rfl (off74 i 3 (by decide) hi) _ _) ?_
  refine congrArg₂ List.cons (codePiece_eq arg9 arg13 f9 f13 _ hip (97 : Fin 108) rfl (off73 i 3 (by decide) hi) _ _) ?_
  refine congrArg₂ List.cons (codePiece_eq arg9 arg13 f9 f13 _ hip (96 : Fin 108) rfl (off72 i 3 (by decide) hi) _ _) ?_
  refine congrArg₂ List.cons (codePiece_eq arg9 arg13 f9 f13 _ hip (95 : Fin 108) rfl (off71 i 3 (by decide) hi) _ _) ?_
  refine congrArg₂ List.cons (codePiece_eq arg9 arg13 f9 f13 _ hip (94 : Fin 108) rfl (off70 i 3 (by decide) hi) _ _) ?_
  refine congrArg₂ List.cons (codePiece_eq arg9 arg13 f9 f13 _ hip (93 : Fin 108) rfl (off69 i 3 (by decide) hi) _ _) ?_
  refine congrArg₂ List.cons (codePiece_eq arg9 arg13 f9 f13 _ hip (92 : Fin 108) rfl (off68 i 3 (by decide) hi) _ _) ?_
  refine congrArg₂ List.cons (codePiece_eq arg9 arg13 f9 f13 _ hip (91 : Fin 108) rfl (off67 i 3 (by decide) hi) _ _) ?_
  refine congrArg₂ List.cons (codePiece_eq arg9 arg13 f9 f13 _ hip (90 : Fin 108) rfl (off66 i 3 (by decide) hi) _ _) ?_
  refine congrArg₂ List.cons (codePiece_eq arg9 arg13 f9 f13 _ hip (89 : Fin 108) rfl (off65 i 3 (by decide) hi) _ _) ?_
  refine congrArg₂ List.cons (codePiece_eq arg9 arg13 f9 f13 _ hip (88 : Fin 108) rfl (off64 i 3 (by decide) hi) _ _) ?_
  refine congrArg₂ List.cons (codePiece_eq arg9 arg13 f9 f13 _ hip (87 : Fin 108) rfl (off63 i 3 (by decide) hi) _ _) ?_
  refine congrArg₂ List.cons (codePiece_eq arg9 arg13 f9 f13 _ hip (86 : Fin 108) rfl (off62 i 3 (by decide) hi) _ _) ?_
  refine congrArg₂ List.cons (codePiece_eq arg9 arg13 f9 f13 _ hip (85 : Fin 108) rfl (off61 i 3 (by decide) hi) _ _) ?_
  refine congrArg₂ List.cons (codePiece_eq arg9 arg13 f9 f13 _ hip (84 : Fin 108) rfl (off60 i 3 (by decide) hi) _ _) ?_
  refine congrArg₂ List.cons (codePiece_eq arg9 arg13 f9 f13 _ hip (83 : Fin 108) rfl (off59 i 3 (by decide) hi) _ _) ?_
  refine congrArg₂ List.cons (codePiece_eq arg9 arg13 f9 f13 _ hip (82 : Fin 108) rfl (off58 i 3 (by decide) hi) _ _) ?_
  refine congrArg₂ List.cons (codePiece_eq arg9 arg13 f9 f13 _ hip (81 : Fin 108) rfl (off57 i 3 (by decide) hi) _ _) ?_
  refine congrArg₂ List.cons (codePiece_eq arg9 arg13 f9 f13 _ hip (80 : Fin 108) rfl (off83 i 2 (by decide) hi) _ _) ?_
  refine congrArg₂ List.cons (codePiece_eq arg9 arg13 f9 f13 _ hip (79 : Fin 108) rfl (off82 i 2 (by decide) hi) _ _) ?_
  refine congrArg₂ List.cons (codePiece_eq arg9 arg13 f9 f13 _ hip (78 : Fin 108) rfl (off81 i 2 (by decide) hi) _ _) ?_
  refine congrArg₂ List.cons (codePiece_eq arg9 arg13 f9 f13 _ hip (77 : Fin 108) rfl (off80 i 2 (by decide) hi) _ _) ?_
  refine congrArg₂ List.cons (codePiece_eq arg9 arg13 f9 f13 _ hip (76 : Fin 108) rfl (off79 i 2 (by decide) hi) _ _) ?_
  refine congrArg₂ List.cons (codePiece_eq arg9 arg13 f9 f13 _ hip (75 : Fin 108) rfl (off78 i 2 (by decide) hi) _ _) ?_
  refine congrArg₂ List.cons (codePiece_eq arg9 arg13 f9 f13 _ hip (74 : Fin 108) rfl (off77 i 2 (by decide) hi) _ _) ?_
  refine congrArg₂ List.cons (codePiece_eq arg9 arg13 f9 f13 _ hip (73 : Fin 108) rfl (off76 i 2 (by decide) hi) _ _) ?_
  refine congrArg₂ List.cons (codePiece_eq arg9 arg13 f9 f13 _ hip (72 : Fin 108) rfl (off75 i 2 (by decide) hi) _ _) ?_
  refine congrArg₂ List.cons (codePiece_eq arg9 arg13 f9 f13 _ hip (71 : Fin 108) rfl (off74 i 2 (by decide) hi) _ _) ?_
  refine congrArg₂ List.cons (codePiece_eq arg9 arg13 f9 f13 _ hip (70 : Fin 108) rfl (off73 i 2 (by decide) hi) _ _) ?_
  refine congrArg₂ List.cons (codePiece_eq arg9 arg13 f9 f13 _ hip (69 : Fin 108) rfl (off72 i 2 (by decide) hi) _ _) ?_
  refine congrArg₂ List.cons (codePiece_eq arg9 arg13 f9 f13 _ hip (68 : Fin 108) rfl (off71 i 2 (by decide) hi) _ _) ?_
  refine congrArg₂ List.cons (codePiece_eq arg9 arg13 f9 f13 _ hip (67 : Fin 108) rfl (off70 i 2 (by decide) hi) _ _) ?_
  refine congrArg₂ List.cons (codePiece_eq arg9 arg13 f9 f13 _ hip (66 : Fin 108) rfl (off69 i 2 (by decide) hi) _ _) ?_
  refine congrArg₂ List.cons (codePiece_eq arg9 arg13 f9 f13 _ hip (65 : Fin 108) rfl (off68 i 2 (by decide) hi) _ _) ?_
  refine congrArg₂ List.cons (codePiece_eq arg9 arg13 f9 f13 _ hip (64 : Fin 108) rfl (off67 i 2 (by decide) hi) _ _) ?_
  refine congrArg₂ List.cons (codePiece_eq arg9 arg13 f9 f13 _ hip (63 : Fin 108) rfl (off66 i 2 (by decide) hi) _ _) ?_
  refine congrArg₂ List.cons (codePiece_eq arg9 arg13 f9 f13 _ hip (62 : Fin 108) rfl (off65 i 2 (by decide) hi) _ _) ?_
  refine congrArg₂ List.cons (codePiece_eq arg9 arg13 f9 f13 _ hip (61 : Fin 108) rfl (off64 i 2 (by decide) hi) _ _) ?_
  refine congrArg₂ List.cons (codePiece_eq arg9 arg13 f9 f13 _ hip (60 : Fin 108) rfl (off63 i 2 (by decide) hi) _ _) ?_
  refine congrArg₂ List.cons (codePiece_eq arg9 arg13 f9 f13 _ hip (59 : Fin 108) rfl (off62 i 2 (by decide) hi) _ _) ?_
  refine congrArg₂ List.cons (codePiece_eq arg9 arg13 f9 f13 _ hip (58 : Fin 108) rfl (off61 i 2 (by decide) hi) _ _) ?_
  refine congrArg₂ List.cons (codePiece_eq arg9 arg13 f9 f13 _ hip (57 : Fin 108) rfl (off60 i 2 (by decide) hi) _ _) ?_
  refine congrArg₂ List.cons (codePiece_eq arg9 arg13 f9 f13 _ hip (56 : Fin 108) rfl (off59 i 2 (by decide) hi) _ _) ?_
  refine congrArg₂ List.cons (codePiece_eq arg9 arg13 f9 f13 _ hip (55 : Fin 108) rfl (off58 i 2 (by decide) hi) _ _) ?_
  refine congrArg₂ List.cons (codePiece_eq arg9 arg13 f9 f13 _ hip (54 : Fin 108) rfl (off57 i 2 (by decide) hi) _ _) ?_
  refine congrArg₂ List.cons (codePiece_eq arg9 arg13 f9 f13 _ hip (53 : Fin 108) rfl (off83 i 1 (by decide) hi) _ _) ?_
  refine congrArg₂ List.cons (codePiece_eq arg9 arg13 f9 f13 _ hip (52 : Fin 108) rfl (off82 i 1 (by decide) hi) _ _) ?_
  refine congrArg₂ List.cons (codePiece_eq arg9 arg13 f9 f13 _ hip (51 : Fin 108) rfl (off81 i 1 (by decide) hi) _ _) ?_
  refine congrArg₂ List.cons (codePiece_eq arg9 arg13 f9 f13 _ hip (50 : Fin 108) rfl (off80 i 1 (by decide) hi) _ _) ?_
  refine congrArg₂ List.cons (codePiece_eq arg9 arg13 f9 f13 _ hip (49 : Fin 108) rfl (off79 i 1 (by decide) hi) _ _) ?_
  refine congrArg₂ List.cons (codePiece_eq arg9 arg13 f9 f13 _ hip (48 : Fin 108) rfl (off78 i 1 (by decide) hi) _ _) ?_
  refine congrArg₂ List.cons (codePiece_eq arg9 arg13 f9 f13 _ hip (47 : Fin 108) rfl (off77 i 1 (by decide) hi) _ _) ?_
  refine congrArg₂ List.cons (codePiece_eq arg9 arg13 f9 f13 _ hip (46 : Fin 108) rfl (off76 i 1 (by decide) hi) _ _) ?_
  refine congrArg₂ List.cons (codePiece_eq arg9 arg13 f9 f13 _ hip (45 : Fin 108) rfl (off75 i 1 (by decide) hi) _ _) ?_
  refine congrArg₂ List.cons (codePiece_eq arg9 arg13 f9 f13 _ hip (44 : Fin 108) rfl (off74 i 1 (by decide) hi) _ _) ?_
  refine congrArg₂ List.cons (codePiece_eq arg9 arg13 f9 f13 _ hip (43 : Fin 108) rfl (off73 i 1 (by decide) hi) _ _) ?_
  refine congrArg₂ List.cons (codePiece_eq arg9 arg13 f9 f13 _ hip (42 : Fin 108) rfl (off72 i 1 (by decide) hi) _ _) ?_
  refine congrArg₂ List.cons (codePiece_eq arg9 arg13 f9 f13 _ hip (41 : Fin 108) rfl (off71 i 1 (by decide) hi) _ _) ?_
  refine congrArg₂ List.cons (codePiece_eq arg9 arg13 f9 f13 _ hip (40 : Fin 108) rfl (off70 i 1 (by decide) hi) _ _) ?_
  refine congrArg₂ List.cons (codePiece_eq arg9 arg13 f9 f13 _ hip (39 : Fin 108) rfl (off69 i 1 (by decide) hi) _ _) ?_
  refine congrArg₂ List.cons (codePiece_eq arg9 arg13 f9 f13 _ hip (38 : Fin 108) rfl (off68 i 1 (by decide) hi) _ _) ?_
  refine congrArg₂ List.cons (codePiece_eq arg9 arg13 f9 f13 _ hip (37 : Fin 108) rfl (off67 i 1 (by decide) hi) _ _) ?_
  refine congrArg₂ List.cons (codePiece_eq arg9 arg13 f9 f13 _ hip (36 : Fin 108) rfl (off66 i 1 (by decide) hi) _ _) ?_
  refine congrArg₂ List.cons (codePiece_eq arg9 arg13 f9 f13 _ hip (35 : Fin 108) rfl (off65 i 1 (by decide) hi) _ _) ?_
  refine congrArg₂ List.cons (codePiece_eq arg9 arg13 f9 f13 _ hip (34 : Fin 108) rfl (off64 i 1 (by decide) hi) _ _) ?_
  refine congrArg₂ List.cons (codePiece_eq arg9 arg13 f9 f13 _ hip (33 : Fin 108) rfl (off63 i 1 (by decide) hi) _ _) ?_
  refine congrArg₂ List.cons (codePiece_eq arg9 arg13 f9 f13 _ hip (32 : Fin 108) rfl (off62 i 1 (by decide) hi) _ _) ?_
  refine congrArg₂ List.cons (codePiece_eq arg9 arg13 f9 f13 _ hip (31 : Fin 108) rfl (off61 i 1 (by decide) hi) _ _) ?_
  refine congrArg₂ List.cons (codePiece_eq arg9 arg13 f9 f13 _ hip (30 : Fin 108) rfl (off60 i 1 (by decide) hi) _ _) ?_
  refine congrArg₂ List.cons (codePiece_eq arg9 arg13 f9 f13 _ hip (29 : Fin 108) rfl (off59 i 1 (by decide) hi) _ _) ?_
  refine congrArg₂ List.cons (codePiece_eq arg9 arg13 f9 f13 _ hip (28 : Fin 108) rfl (off58 i 1 (by decide) hi) _ _) ?_
  refine congrArg₂ List.cons (codePiece_eq arg9 arg13 f9 f13 _ hip (27 : Fin 108) rfl (off57 i 1 (by decide) hi) _ _) ?_
  refine congrArg₂ List.cons (codePiece_eq arg9 arg13 f9 f13 _ hip (26 : Fin 108) rfl (off83 i 0 (by decide) hi) _ _) ?_
  refine congrArg₂ List.cons (codePiece_eq arg9 arg13 f9 f13 _ hip (25 : Fin 108) rfl (off82 i 0 (by decide) hi) _ _) ?_
  refine congrArg₂ List.cons (codePiece_eq arg9 arg13 f9 f13 _ hip (24 : Fin 108) rfl (off81 i 0 (by decide) hi) _ _) ?_
  refine congrArg₂ List.cons (codePiece_eq arg9 arg13 f9 f13 _ hip (23 : Fin 108) rfl (off80 i 0 (by decide) hi) _ _) ?_
  refine congrArg₂ List.cons (codePiece_eq arg9 arg13 f9 f13 _ hip (22 : Fin 108) rfl (off79 i 0 (by decide) hi) _ _) ?_
  refine congrArg₂ List.cons (codePiece_eq arg9 arg13 f9 f13 _ hip (21 : Fin 108) rfl (off78 i 0 (by decide) hi) _ _) ?_
  refine congrArg₂ List.cons (codePiece_eq arg9 arg13 f9 f13 _ hip (20 : Fin 108) rfl (off77 i 0 (by decide) hi) _ _) ?_
  refine congrArg₂ List.cons (codePiece_eq arg9 arg13 f9 f13 _ hip (19 : Fin 108) rfl (off76 i 0 (by decide) hi) _ _) ?_
  refine congrArg₂ List.cons (codePiece_eq arg9 arg13 f9 f13 _ hip (18 : Fin 108) rfl (off75 i 0 (by decide) hi) _ _) ?_
  refine congrArg₂ List.cons (codePiece_eq arg9 arg13 f9 f13 _ hip (17 : Fin 108) rfl (off74 i 0 (by decide) hi) _ _) ?_
  refine congrArg₂ List.cons (codePiece_eq arg9 arg13 f9 f13 _ hip (16 : Fin 108) rfl (off73 i 0 (by decide) hi) _ _) ?_
  refine congrArg₂ List.cons (codePiece_eq arg9 arg13 f9 f13 _ hip (15 : Fin 108) rfl (off72 i 0 (by decide) hi) _ _) ?_
  refine congrArg₂ List.cons (codePiece_eq arg9 arg13 f9 f13 _ hip (14 : Fin 108) rfl (off71 i 0 (by decide) hi) _ _) ?_
  refine congrArg₂ List.cons (codePiece_eq arg9 arg13 f9 f13 _ hip (13 : Fin 108) rfl (off70 i 0 (by decide) hi) _ _) ?_
  refine congrArg₂ List.cons (codePiece_eq arg9 arg13 f9 f13 _ hip (12 : Fin 108) rfl (off69 i 0 (by decide) hi) _ _) ?_
  refine congrArg₂ List.cons (codePiece_eq arg9 arg13 f9 f13 _ hip (11 : Fin 108) rfl (off68 i 0 (by decide) hi) _ _) ?_
  refine congrArg₂ List.cons (codePiece_eq arg9 arg13 f9 f13 _ hip (10 : Fin 108) rfl (off67 i 0 (by decide) hi) _ _) ?_
  refine congrArg₂ List.cons (codePiece_eq arg9 arg13 f9 f13 _ hip (9 : Fin 108) rfl (off66 i 0 (by decide) hi) _ _) ?_
  refine congrArg₂ List.cons (codePiece_eq arg9 arg13 f9 f13 _ hip (8 : Fin 108) rfl (off65 i 0 (by decide) hi) _ _) ?_
  refine congrArg₂ List.cons (codePiece_eq arg9 arg13 f9 f13 _ hip (7 : Fin 108) rfl (off64 i 0 (by decide) hi) _ _) ?_
  refine congrArg₂ List.cons (codePiece_eq arg9 arg13 f9 f13 _ hip (6 : Fin 108) rfl (off63 i 0 (by decide) hi) _ _) ?_
  refine congrArg₂ List.cons (codePiece_eq arg9 arg13 f9 f13 _ hip (5 : Fin 108) rfl (off62 i 0 (by decide) hi) _ _) ?_
  refine congrArg₂ List.cons (codePiece_eq arg9 arg13 f9 f13 _ hip (4 : Fin 108) rfl (off61 i 0 (by decide) hi) _ _) ?_
  refine congrArg₂ List.cons (codePiece_eq arg9 arg13 f9 f13 _ hip (3 : Fin 108) rfl (off60 i 0 (by decide) hi) _ _) ?_
  refine congrArg₂ List.cons (codePiece_eq arg9 arg13 f9 f13 _ hip (2 : Fin 108) rfl (off59 i 0 (by decide) hi) _ _) ?_
  refine congrArg₂ List.cons (codePiece_eq arg9 arg13 f9 f13 _ hip (1 : Fin 108) rfl (off58 i 0 (by decide) hi) _ _) ?_
  refine congrArg₂ List.cons (codePiece_eq arg9 arg13 f9 f13 _ hip (0 : Fin 108) rfl (off57 i 0 (by decide) hi) _ _) ?_
  rfl

set_option maxRecDepth 65536 in
set_option maxHeartbeats 4000000 in
/-- The 108 blocks of codes of a point. -/
theorem blocks_28 (i : grid0.Coords) (arg9 : Memref sig .tc .vmem S230x75x3x4x128 .fp8e4m3) (arg12 : Memref sig .tc .vmem S6x16x128 .bf16) (arg13 : Memref sig .tc .vmem S3x8x128 .i32)
    (f9 : BufTy.Contents (Elt Ideal) arg9.view.ty) (f12 : BufTy.Contents (Elt Ideal) arg12.view.ty) (f13 : BufTy.Contents (Elt Ideal) arg13.view.ty)
    (hc4 : k0_cond4 i = 1#1) (hi : 28 ≤ (i 0).val) (hip : (i 0).val - 28 < 56) :
    KernelIdealFrame.body_run.sl.H7_108 (F := Ideal) i arg9 arg12 arg13 f9 f12 hc4
      = order108.map (codePiece arg9 arg13 f9 (arg13.view.writes (Elt Ideal) arg13.view.junk (KernelIdealFrame.body_run.sl.H13_3 (F := Ideal) arg12 f12)) ((i 0).val - 28) hip) := by
  unfold KernelIdealFrame.body_run.sl.H7_108 order108
  simp only [List.map_cons, List.map_nil]
  refine congrArg₂ List.cons (codePiece_eq arg9 arg13 f9 (arg13.view.writes (Elt Ideal) arg13.view.junk (KernelIdealFrame.body_run.sl.H13_3 (F := Ideal) arg12 f12)) _ hip (107 : Fin 108) rfl (off83 i 3 (by decide) hi) _ _) ?_
  refine congrArg₂ List.cons (codePiece_eq arg9 arg13 f9 (arg13.view.writes (Elt Ideal) arg13.view.junk (KernelIdealFrame.body_run.sl.H13_3 (F := Ideal) arg12 f12)) _ hip (106 : Fin 108) rfl (off82 i 3 (by decide) hi) _ _) ?_
  refine congrArg₂ List.cons (codePiece_eq arg9 arg13 f9 (arg13.view.writes (Elt Ideal) arg13.view.junk (KernelIdealFrame.body_run.sl.H13_3 (F := Ideal) arg12 f12)) _ hip (105 : Fin 108) rfl (off81 i 3 (by decide) hi) _ _) ?_
  refine congrArg₂ List.cons (codePiece_eq arg9 arg13 f9 (arg13.view.writes (Elt Ideal) arg13.view.junk (KernelIdealFrame.body_run.sl.H13_3 (F := Ideal) arg12 f12)) _ hip (104 : Fin 108) rfl (off80 i 3 (by decide) hi) _ _) ?_
  refine congrArg₂ List.cons (codePiece_eq arg9 arg13 f9 (arg13.view.writes (Elt Ideal) arg13.view.junk (KernelIdealFrame.body_run.sl.H13_3 (F := Ideal) arg12 f12)) _ hip (103 : Fin 108) rfl (off79 i 3 (by decide) hi) _ _) ?_
  refine congrArg₂ List.cons (codePiece_eq arg9 arg13 f9 (arg13.view.writes (Elt Ideal) arg13.view.junk (KernelIdealFrame.body_run.sl.H13_3 (F := Ideal) arg12 f12)) _ hip (102 : Fin 108) rfl (off78 i 3 (by decide) hi) _ _) ?_
  refine congrArg₂ List.cons (codePiece_eq arg9 arg13 f9 (arg13.view.writes (Elt Ideal) arg13.view.junk (KernelIdealFrame.body_run.sl.H13_3 (F := Ideal) arg12 f12)) _ hip (101 : Fin 108) rfl (off77 i 3 (by decide) hi) _ _) ?_
  refine congrArg₂ List.cons (codePiece_eq arg9 arg13 f9 (arg13.view.writes (Elt Ideal) arg13.view.junk (KernelIdealFrame.body_run.sl.H13_3 (F := Ideal) arg12 f12)) _ hip (100 : Fin 108) rfl (off76 i 3 (by decide) hi) _ _) ?_
  refine congrArg₂ List.cons (codePiece_eq arg9 arg13 f9 (arg13.view.writes (Elt Ideal) arg13.view.junk (KernelIdealFrame.body_run.sl.H13_3 (F := Ideal) arg12 f12)) _ hip (99 : Fin 108) rfl (off75 i 3 (by decide) hi) _ _) ?_
  refine congrArg₂ List.cons (codePiece_eq arg9 arg13 f9 (arg13.view.writes (Elt Ideal) arg13.view.junk (KernelIdealFrame.body_run.sl.H13_3 (F := Ideal) arg12 f12)) _ hip (98 : Fin 108) rfl (off74 i 3 (by decide) hi) _ _) ?_
  refine congrArg₂ List.cons (codePiece_eq arg9 arg13 f9 (arg13.view.writes (Elt Ideal) arg13.view.junk (KernelIdealFrame.body_run.sl.H13_3 (F := Ideal) arg12 f12)) _ hip (97 : Fin 108) rfl (off73 i 3 (by decide) hi) _ _) ?_
  refine congrArg₂ List.cons (codePiece_eq arg9 arg13 f9 (arg13.view.writes (Elt Ideal) arg13.view.junk (KernelIdealFrame.body_run.sl.H13_3 (F := Ideal) arg12 f12)) _ hip (96 : Fin 108) rfl (off72 i 3 (by decide) hi) _ _) ?_
  refine congrArg₂ List.cons (codePiece_eq arg9 arg13 f9 (arg13.view.writes (Elt Ideal) arg13.view.junk (KernelIdealFrame.body_run.sl.H13_3 (F := Ideal) arg12 f12)) _ hip (95 : Fin 108) rfl (off71 i 3 (by decide) hi) _ _) ?_
  refine congrArg₂ List.cons (codePiece_eq arg9 arg13 f9 (arg13.view.writes (Elt Ideal) arg13.view.junk (KernelIdealFrame.body_run.sl.H13_3 (F := Ideal) arg12 f12)) _ hip (94 : Fin 108) rfl (off70 i 3 (by decide) hi) _ _) ?_
  refine congrArg₂ List.cons (codePiece_eq arg9 arg13 f9 (arg13.view.writes (Elt Ideal) arg13.view.junk (KernelIdealFrame.body_run.sl.H13_3 (F := Ideal) arg12 f12)) _ hip (93 : Fin 108) rfl (off69 i 3 (by decide) hi) _ _) ?_
  refine congrArg₂ List.cons (codePiece_eq arg9 arg13 f9 (arg13.view.writes (Elt Ideal) arg13.view.junk (KernelIdealFrame.body_run.sl.H13_3 (F := Ideal) arg12 f12)) _ hip (92 : Fin 108) rfl (off68 i 3 (by decide) hi) _ _) ?_
  refine congrArg₂ List.cons (codePiece_eq arg9 arg13 f9 (arg13.view.writes (Elt Ideal) arg13.view.junk (KernelIdealFrame.body_run.sl.H13_3 (F := Ideal) arg12 f12)) _ hip (91 : Fin 108) rfl (off67 i 3 (by decide) hi) _ _) ?_
  refine congrArg₂ List.cons (codePiece_eq arg9 arg13 f9 (arg13.view.writes (Elt Ideal) arg13.view.junk (KernelIdealFrame.body_run.sl.H13_3 (F := Ideal) arg12 f12)) _ hip (90 : Fin 108) rfl (off66 i 3 (by decide) hi) _ _) ?_
  refine congrArg₂ List.cons (codePiece_eq arg9 arg13 f9 (arg13.view.writes (Elt Ideal) arg13.view.junk (KernelIdealFrame.body_run.sl.H13_3 (F := Ideal) arg12 f12)) _ hip (89 : Fin 108) rfl (off65 i 3 (by decide) hi) _ _) ?_
  refine congrArg₂ List.cons (codePiece_eq arg9 arg13 f9 (arg13.view.writes (Elt Ideal) arg13.view.junk (KernelIdealFrame.body_run.sl.H13_3 (F := Ideal) arg12 f12)) _ hip (88 : Fin 108) rfl (off64 i 3 (by decide) hi) _ _) ?_
  refine congrArg₂ List.cons (codePiece_eq arg9 arg13 f9 (arg13.view.writes (Elt Ideal) arg13.view.junk (KernelIdealFrame.body_run.sl.H13_3 (F := Ideal) arg12 f12)) _ hip (87 : Fin 108) rfl (off63 i 3 (by decide) hi) _ _) ?_
  refine congrArg₂ List.cons (codePiece_eq arg9 arg13 f9 (arg13.view.writes (Elt Ideal) arg13.view.junk (KernelIdealFrame.body_run.sl.H13_3 (F := Ideal) arg12 f12)) _ hip (86 : Fin 108) rfl (off62 i 3 (by decide) hi) _ _) ?_
  refine congrArg₂ List.cons (codePiece_eq arg9 arg13 f9 (arg13.view.writes (Elt Ideal) arg13.view.junk (KernelIdealFrame.body_run.sl.H13_3 (F := Ideal) arg12 f12)) _ hip (85 : Fin 108) rfl (off61 i 3 (by decide) hi) _ _) ?_
  refine congrArg₂ List.cons (codePiece_eq arg9 arg13 f9 (arg13.view.writes (Elt Ideal) arg13.view.junk (KernelIdealFrame.body_run.sl.H13_3 (F := Ideal) arg12 f12)) _ hip (84 : Fin 108) rfl (off60 i 3 (by decide) hi) _ _) ?_
  refine congrArg₂ List.cons (codePiece_eq arg9 arg13 f9 (arg13.view.writes (Elt Ideal) arg13.view.junk (KernelIdealFrame.body_run.sl.H13_3 (F := Ideal) arg12 f12)) _ hip (83 : Fin 108) rfl (off59 i 3 (by decide) hi) _ _) ?_
  refine congrArg₂ List.cons (codePiece_eq arg9 arg13 f9 (arg13.view.writes (Elt Ideal) arg13.view.junk (KernelIdealFrame.body_run.sl.H13_3 (F := Ideal) arg12 f12)) _ hip (82 : Fin 108) rfl (off58 i 3 (by decide) hi) _ _) ?_
  refine congrArg₂ List.cons (codePiece_eq arg9 arg13 f9 (arg13.view.writes (Elt Ideal) arg13.view.junk (KernelIdealFrame.body_run.sl.H13_3 (F := Ideal) arg12 f12)) _ hip (81 : Fin 108) rfl (off57 i 3 (by decide) hi) _ _) ?_
  refine congrArg₂ List.cons (codePiece_eq arg9 arg13 f9 (arg13.view.writes (Elt Ideal) arg13.view.junk (KernelIdealFrame.body_run.sl.H13_3 (F := Ideal) arg12 f12)) _ hip (80 : Fin 108) rfl (off83 i 2 (by decide) hi) _ _) ?_
  refine congrArg₂ List.cons (codePiece_eq arg9 arg13 f9 (arg13.view.writes (Elt Ideal) arg13.view.junk (KernelIdealFrame.body_run.sl.H13_3 (F := Ideal) arg12 f12)) _ hip (79 : Fin 108) rfl (off82 i 2 (by decide) hi) _ _) ?_
  refine congrArg₂ List.cons (codePiece_eq arg9 arg13 f9 (arg13.view.writes (Elt Ideal) arg13.view.junk (KernelIdealFrame.body_run.sl.H13_3 (F := Ideal) arg12 f12)) _ hip (78 : Fin 108) rfl (off81 i 2 (by decide) hi) _ _) ?_
  refine congrArg₂ List.cons (codePiece_eq arg9 arg13 f9 (arg13.view.writes (Elt Ideal) arg13.view.junk (KernelIdealFrame.body_run.sl.H13_3 (F := Ideal) arg12 f12)) _ hip (77 : Fin 108) rfl (off80 i 2 (by decide) hi) _ _) ?_
  refine congrArg₂ List.cons (codePiece_eq arg9 arg13 f9 (arg13.view.writes (Elt Ideal) arg13.view.junk (KernelIdealFrame.body_run.sl.H13_3 (F := Ideal) arg12 f12)) _ hip (76 : Fin 108) rfl (off79 i 2 (by decide) hi) _ _) ?_
  refine congrArg₂ List.cons (codePiece_eq arg9 arg13 f9 (arg13.view.writes (Elt Ideal) arg13.view.junk (KernelIdealFrame.body_run.sl.H13_3 (F := Ideal) arg12 f12)) _ hip (75 : Fin 108) rfl (off78 i 2 (by decide) hi) _ _) ?_
  refine congrArg₂ List.cons (codePiece_eq arg9 arg13 f9 (arg13.view.writes (Elt Ideal) arg13.view.junk (KernelIdealFrame.body_run.sl.H13_3 (F := Ideal) arg12 f12)) _ hip (74 : Fin 108) rfl (off77 i 2 (by decide) hi) _ _) ?_
  refine congrArg₂ List.cons (codePiece_eq arg9 arg13 f9 (arg13.view.writes (Elt Ideal) arg13.view.junk (KernelIdealFrame.body_run.sl.H13_3 (F := Ideal) arg12 f12)) _ hip (73 : Fin 108) rfl (off76 i 2 (by decide) hi) _ _) ?_
  refine congrArg₂ List.cons (codePiece_eq arg9 arg13 f9 (arg13.view.writes (Elt Ideal) arg13.view.junk (KernelIdealFrame.body_run.sl.H13_3 (F := Ideal) arg12 f12)) _ hip (72 : Fin 108) rfl (off75 i 2 (by decide) hi) _ _) ?_
  refine congrArg₂ List.cons (codePiece_eq arg9 arg13 f9 (arg13.view.writes (Elt Ideal) arg13.view.junk (KernelIdealFrame.body_run.sl.H13_3 (F := Ideal) arg12 f12)) _ hip (71 : Fin 108) rfl (off74 i 2 (by decide) hi) _ _) ?_
  refine congrArg₂ List.cons (codePiece_eq arg9 arg13 f9 (arg13.view.writes (Elt Ideal) arg13.view.junk (KernelIdealFrame.body_run.sl.H13_3 (F := Ideal) arg12 f12)) _ hip (70 : Fin 108) rfl (off73 i 2 (by decide) hi) _ _) ?_
  refine congrArg₂ List.cons (codePiece_eq arg9 arg13 f9 (arg13.view.writes (Elt Ideal) arg13.view.junk (KernelIdealFrame.body_run.sl.H13_3 (F := Ideal) arg12 f12)) _ hip (69 : Fin 108) rfl (off72 i 2 (by decide) hi) _ _) ?_
  refine congrArg₂ List.cons (codePiece_eq arg9 arg13 f9 (arg13.view.writes (Elt Ideal) arg13.view.junk (KernelIdealFrame.body_run.sl.H13_3 (F := Ideal) arg12 f12)) _ hip (68 : Fin 108) rfl (off71 i 2 (by decide) hi) _ _) ?_
  refine congrArg₂ List.cons (codePiece_eq arg9 arg13 f9 (arg13.view.writes (Elt Ideal) arg13.view.junk (KernelIdealFrame.body_run.sl.H13_3 (F := Ideal) arg12 f12)) _ hip (67 : Fin 108) rfl (off70 i 2 (by decide) hi) _ _) ?_
  refine congrArg₂ List.cons (codePiece_eq arg9 arg13 f9 (arg13.view.writes (Elt Ideal) arg13.view.junk (KernelIdealFrame.body_run.sl.H13_3 (F := Ideal) arg12 f12)) _ hip (66 : Fin 108) rfl (off69 i 2 (by decide) hi) _ _) ?_
  refine congrArg₂ List.cons (codePiece_eq arg9 arg13 f9 (arg13.view.writes (Elt Ideal) arg13.view.junk (KernelIdealFrame.body_run.sl.H13_3 (F := Ideal) arg12 f12)) _ hip (65 : Fin 108) rfl (off68 i 2 (by decide) hi) _ _) ?_
  refine congrArg₂ List.cons (codePiece_eq arg9 arg13 f9 (arg13.view.writes (Elt Ideal) arg13.view.junk (KernelIdealFrame.body_run.sl.H13_3 (F := Ideal) arg12 f12)) _ hip (64 : Fin 108) rfl (off67 i 2 (by decide) hi) _ _) ?_
  refine congrArg₂ List.cons (codePiece_eq arg9 arg13 f9 (arg13.view.writes (Elt Ideal) arg13.view.junk (KernelIdealFrame.body_run.sl.H13_3 (F := Ideal) arg12 f12)) _ hip (63 : Fin 108) rfl (off66 i 2 (by decide) hi) _ _) ?_
  refine congrArg₂ List.cons (codePiece_eq arg9 arg13 f9 (arg13.view.writes (Elt Ideal) arg13.view.junk (KernelIdealFrame.body_run.sl.H13_3 (F := Ideal) arg12 f12)) _ hip (62 : Fin 108) rfl (off65 i 2 (by decide) hi) _ _) ?_
  refine congrArg₂ List.cons (codePiece_eq arg9 arg13 f9 (arg13.view.writes (Elt Ideal) arg13.view.junk (KernelIdealFrame.body_run.sl.H13_3 (F := Ideal) arg12 f12)) _ hip (61 : Fin 108) rfl (off64 i 2 (by decide) hi) _ _) ?_
  refine congrArg₂ List.cons (codePiece_eq arg9 arg13 f9 (arg13.view.writes (Elt Ideal) arg13.view.junk (KernelIdealFrame.body_run.sl.H13_3 (F := Ideal) arg12 f12)) _ hip (60 : Fin 108) rfl (off63 i 2 (by decide) hi) _ _) ?_
  refine congrArg₂ List.cons (codePiece_eq arg9 arg13 f9 (arg13.view.writes (Elt Ideal) arg13.view.junk (KernelIdealFrame.body_run.sl.H13_3 (F := Ideal) arg12 f12)) _ hip (59 : Fin 108) rfl (off62 i 2 (by decide) hi) _ _) ?_
  refine congrArg₂ List.cons (codePiece_eq arg9 arg13 f9 (arg13.view.writes (Elt Ideal) arg13.view.junk (KernelIdealFrame.body_run.sl.H13_3 (F := Ideal) arg12 f12)) _ hip (58 : Fin 108) rfl (off61 i 2 (by decide) hi) _ _) ?_
  refine congrArg₂ List.cons (codePiece_eq arg9 arg13 f9 (arg13.view.writes (Elt Ideal) arg13.view.junk (KernelIdealFrame.body_run.sl.H13_3 (F := Ideal) arg12 f12)) _ hip (57 : Fin 108) rfl (off60 i 2 (by decide) hi) _ _) ?_
  refine congrArg₂ List.cons (codePiece_eq arg9 arg13 f9 (arg13.view.writes (Elt Ideal) arg13.view.junk (KernelIdealFrame.body_run.sl.H13_3 (F := Ideal) arg12 f12)) _ hip (56 : Fin 108) rfl (off59 i 2 (by decide) hi) _ _) ?_
  refine congrArg₂ List.cons (codePiece_eq arg9 arg13 f9 (arg13.view.writes (Elt Ideal) arg13.view.junk (KernelIdealFrame.body_run.sl.H13_3 (F := Ideal) arg12 f12)) _ hip (55 : Fin 108) rfl (off58 i 2 (by decide) hi) _ _) ?_
  refine congrArg₂ List.cons (codePiece_eq arg9 arg13 f9 (arg13.view.writes (Elt Ideal) arg13.view.junk (KernelIdealFrame.body_run.sl.H13_3 (F := Ideal) arg12 f12)) _ hip (54 : Fin 108) rfl (off57 i 2 (by decide) hi) _ _) ?_
  refine congrArg₂ List.cons (codePiece_eq arg9 arg13 f9 (arg13.view.writes (Elt Ideal) arg13.view.junk (KernelIdealFrame.body_run.sl.H13_3 (F := Ideal) arg12 f12)) _ hip (53 : Fin 108) rfl (off83 i 1 (by decide) hi) _ _) ?_
  refine congrArg₂ List.cons (codePiece_eq arg9 arg13 f9 (arg13.view.writes (Elt Ideal) arg13.view.junk (KernelIdealFrame.body_run.sl.H13_3 (F := Ideal) arg12 f12)) _ hip (52 : Fin 108) rfl (off82 i 1 (by decide) hi) _ _) ?_
  refine congrArg₂ List.cons (codePiece_eq arg9 arg13 f9 (arg13.view.writes (Elt Ideal) arg13.view.junk (KernelIdealFrame.body_run.sl.H13_3 (F := Ideal) arg12 f12)) _ hip (51 : Fin 108) rfl (off81 i 1 (by decide) hi) _ _) ?_
  refine congrArg₂ List.cons (codePiece_eq arg9 arg13 f9 (arg13.view.writes (Elt Ideal) arg13.view.junk (KernelIdealFrame.body_run.sl.H13_3 (F := Ideal) arg12 f12)) _ hip (50 : Fin 108) rfl (off80 i 1 (by decide) hi) _ _) ?_
  refine congrArg₂ List.cons (codePiece_eq arg9 arg13 f9 (arg13.view.writes (Elt Ideal) arg13.view.junk (KernelIdealFrame.body_run.sl.H13_3 (F := Ideal) arg12 f12)) _ hip (49 : Fin 108) rfl (off79 i 1 (by decide) hi) _ _) ?_
  refine congrArg₂ List.cons (codePiece_eq arg9 arg13 f9 (arg13.view.writes (Elt Ideal) arg13.view.junk (KernelIdealFrame.body_run.sl.H13_3 (F := Ideal) arg12 f12)) _ hip (48 : Fin 108) rfl (off78 i 1 (by decide) hi) _ _) ?_
  refine congrArg₂ List.cons (codePiece_eq arg9 arg13 f9 (arg13.view.writes (Elt Ideal) arg13.view.junk (KernelIdealFrame.body_run.sl.H13_3 (F := Ideal) arg12 f12)) _ hip (47 : Fin 108) rfl (off77 i 1 (by decide) hi) _ _) ?_
  refine congrArg₂ List.cons (codePiece_eq arg9 arg13 f9 (arg13.view.writes (Elt Ideal) arg13.view.junk (KernelIdealFrame.body_run.sl.H13_3 (F := Ideal) arg12 f12)) _ hip (46 : Fin 108) rfl (off76 i 1 (by decide) hi) _ _) ?_
  refine congrArg₂ List.cons (codePiece_eq arg9 arg13 f9 (arg13.view.writes (Elt Ideal) arg13.view.junk (KernelIdealFrame.body_run.sl.H13_3 (F := Ideal) arg12 f12)) _ hip (45 : Fin 108) rfl (off75 i 1 (by decide) hi) _ _) ?_
  refine congrArg₂ List.cons (codePiece_eq arg9 arg13 f9 (arg13.view.writes (Elt Ideal) arg13.view.junk (KernelIdealFrame.body_run.sl.H13_3 (F := Ideal) arg12 f12)) _ hip (44 : Fin 108) rfl (off74 i 1 (by decide) hi) _ _) ?_
  refine congrArg₂ List.cons (codePiece_eq arg9 arg13 f9 (arg13.view.writes (Elt Ideal) arg13.view.junk (KernelIdealFrame.body_run.sl.H13_3 (F := Ideal) arg12 f12)) _ hip (43 : Fin 108) rfl (off73 i 1 (by decide) hi) _ _) ?_
  refine congrArg₂ List.cons (codePiece_eq arg9 arg13 f9 (arg13.view.writes (Elt Ideal) arg13.view.junk (KernelIdealFrame.body_run.sl.H13_3 (F := Ideal) arg12 f12)) _ hip (42 : Fin 108) rfl (off72 i 1 (by decide) hi) _ _) ?_
  refine congrArg₂ List.cons (codePiece_eq arg9 arg13 f9 (arg13.view.writes (Elt Ideal) arg13.view.junk (KernelIdealFrame.body_run.sl.H13_3 (F := Ideal) arg12 f12)) _ hip (41 : Fin 108) rfl (off71 i 1 (by decide) hi) _ _) ?_
  refine congrArg₂ List.cons (codePiece_eq arg9 arg13 f9 (arg13.view.writes (Elt Ideal) arg13.view.junk (KernelIdealFrame.body_run.sl.H13_3 (F := Ideal) arg12 f12)) _ hip (40 : Fin 108) rfl (off70 i 1 (by decide) hi) _ _) ?_
  refine congrArg₂ List.cons (codePiece_eq arg9 arg13 f9 (arg13.view.writes (Elt Ideal) arg13.view.junk (KernelIdealFrame.body_run.sl.H13_3 (F := Ideal) arg12 f12)) _ hip (39 : Fin 108) rfl (off69 i 1 (by decide) hi) _ _) ?_
  refine congrArg₂ List.cons (codePiece_eq arg9 arg13 f9 (arg13.view.writes (Elt Ideal) arg13.view.junk (KernelIdealFrame.body_run.sl.H13_3 (F := Ideal) arg12 f12)) _ hip (38 : Fin 108) rfl (off68 i 1 (by decide) hi) _ _) ?_
  refine congrArg₂ List.cons (codePiece_eq arg9 arg13 f9 (arg13.view.writes (Elt Ideal) arg13.view.junk (KernelIdealFrame.body_run.sl.H13_3 (F := Ideal) arg12 f12)) _ hip (37 : Fin 108) rfl (off67 i 1 (by decide) hi) _ _) ?_
  refine congrArg₂ List.cons (codePiece_eq arg9 arg13 f9 (arg13.view.writes (Elt Ideal) arg13.view.junk (KernelIdealFrame.body_run.sl.H13_3 (F := Ideal) arg12 f12)) _ hip (36 : Fin 108) rfl (off66 i 1 (by decide) hi) _ _) ?_
  refine congrArg₂ List.cons (codePiece_eq arg9 arg13 f9 (arg13.view.writes (Elt Ideal) arg13.view.junk (KernelIdealFrame.body_run.sl.H13_3 (F := Ideal) arg12 f12)) _ hip (35 : Fin 108) rfl (off65 i 1 (by decide) hi) _ _) ?_
  refine congrArg₂ List.cons (codePiece_eq arg9 arg13 f9 (arg13.view.writes (Elt Ideal) arg13.view.junk (KernelIdealFrame.body_run.sl.H13_3 (F := Ideal) arg12 f12)) _ hip (34 : Fin 108) rfl (off64 i 1 (by decide) hi) _ _) ?_
  refine congrArg₂ List.cons (codePiece_eq arg9 arg13 f9 (arg13.view.writes (Elt Ideal) arg13.view.junk (KernelIdealFrame.body_run.sl.H13_3 (F := Ideal) arg12 f12)) _ hip (33 : Fin 108) rfl (off63 i 1 (by decide) hi) _ _) ?_
  refine congrArg₂ List.cons (codePiece_eq arg9 arg13 f9 (arg13.view.writes (Elt Ideal) arg13.view.junk (KernelIdealFrame.body_run.sl.H13_3 (F := Ideal) arg12 f12)) _ hip (32 : Fin 108) rfl (off62 i 1 (by decide) hi) _ _) ?_
  refine congrArg₂ List.cons (codePiece_eq arg9 arg13 f9 (arg13.view.writes (Elt Ideal) arg13.view.junk (KernelIdealFrame.body_run.sl.H13_3 (F := Ideal) arg12 f12)) _ hip (31 : Fin 108) rfl (off61 i 1 (by decide) hi) _ _) ?_
  refine congrArg₂ List.cons (codePiece_eq arg9 arg13 f9 (arg13.view.writes (Elt Ideal) arg13.view.junk (KernelIdealFrame.body_run.sl.H13_3 (F := Ideal) arg12 f12)) _ hip (30 : Fin 108) rfl (off60 i 1 (by decide) hi) _ _) ?_
  refine congrArg₂ List.cons (codePiece_eq arg9 arg13 f9 (arg13.view.writes (Elt Ideal) arg13.view.junk (KernelIdealFrame.body_run.sl.H13_3 (F := Ideal) arg12 f12)) _ hip (29 : Fin 108) rfl (off59 i 1 (by decide) hi) _ _) ?_
  refine congrArg₂ List.cons (codePiece_eq arg9 arg13 f9 (arg13.view.writes (Elt Ideal) arg13.view.junk (KernelIdealFrame.body_run.sl.H13_3 (F := Ideal) arg12 f12)) _ hip (28 : Fin 108) rfl (off58 i 1 (by decide) hi) _ _) ?_
  refine congrArg₂ List.cons (codePiece_eq arg9 arg13 f9 (arg13.view.writes (Elt Ideal) arg13.view.junk (KernelIdealFrame.body_run.sl.H13_3 (F := Ideal) arg12 f12)) _ hip (27 : Fin 108) rfl (off57 i 1 (by decide) hi) _ _) ?_
  refine congrArg₂ List.cons (codePiece_eq arg9 arg13 f9 (arg13.view.writes (Elt Ideal) arg13.view.junk (KernelIdealFrame.body_run.sl.H13_3 (F := Ideal) arg12 f12)) _ hip (26 : Fin 108) rfl (off83 i 0 (by decide) hi) _ _) ?_
  refine congrArg₂ List.cons (codePiece_eq arg9 arg13 f9 (arg13.view.writes (Elt Ideal) arg13.view.junk (KernelIdealFrame.body_run.sl.H13_3 (F := Ideal) arg12 f12)) _ hip (25 : Fin 108) rfl (off82 i 0 (by decide) hi) _ _) ?_
  refine congrArg₂ List.cons (codePiece_eq arg9 arg13 f9 (arg13.view.writes (Elt Ideal) arg13.view.junk (KernelIdealFrame.body_run.sl.H13_3 (F := Ideal) arg12 f12)) _ hip (24 : Fin 108) rfl (off81 i 0 (by decide) hi) _ _) ?_
  refine congrArg₂ List.cons (codePiece_eq arg9 arg13 f9 (arg13.view.writes (Elt Ideal) arg13.view.junk (KernelIdealFrame.body_run.sl.H13_3 (F := Ideal) arg12 f12)) _ hip (23 : Fin 108) rfl (off80 i 0 (by decide) hi) _ _) ?_
  refine congrArg₂ List.cons (codePiece_eq arg9 arg13 f9 (arg13.view.writes (Elt Ideal) arg13.view.junk (KernelIdealFrame.body_run.sl.H13_3 (F := Ideal) arg12 f12)) _ hip (22 : Fin 108) rfl (off79 i 0 (by decide) hi) _ _) ?_
  refine congrArg₂ List.cons (codePiece_eq arg9 arg13 f9 (arg13.view.writes (Elt Ideal) arg13.view.junk (KernelIdealFrame.body_run.sl.H13_3 (F := Ideal) arg12 f12)) _ hip (21 : Fin 108) rfl (off78 i 0 (by decide) hi) _ _) ?_
  refine congrArg₂ List.cons (codePiece_eq arg9 arg13 f9 (arg13.view.writes (Elt Ideal) arg13.view.junk (KernelIdealFrame.body_run.sl.H13_3 (F := Ideal) arg12 f12)) _ hip (20 : Fin 108) rfl (off77 i 0 (by decide) hi) _ _) ?_
  refine congrArg₂ List.cons (codePiece_eq arg9 arg13 f9 (arg13.view.writes (Elt Ideal) arg13.view.junk (KernelIdealFrame.body_run.sl.H13_3 (F := Ideal) arg12 f12)) _ hip (19 : Fin 108) rfl (off76 i 0 (by decide) hi) _ _) ?_
  refine congrArg₂ List.cons (codePiece_eq arg9 arg13 f9 (arg13.view.writes (Elt Ideal) arg13.view.junk (KernelIdealFrame.body_run.sl.H13_3 (F := Ideal) arg12 f12)) _ hip (18 : Fin 108) rfl (off75 i 0 (by decide) hi) _ _) ?_
  refine congrArg₂ List.cons (codePiece_eq arg9 arg13 f9 (arg13.view.writes (Elt Ideal) arg13.view.junk (KernelIdealFrame.body_run.sl.H13_3 (F := Ideal) arg12 f12)) _ hip (17 : Fin 108) rfl (off74 i 0 (by decide) hi) _ _) ?_
  refine congrArg₂ List.cons (codePiece_eq arg9 arg13 f9 (arg13.view.writes (Elt Ideal) arg13.view.junk (KernelIdealFrame.body_run.sl.H13_3 (F := Ideal) arg12 f12)) _ hip (16 : Fin 108) rfl (off73 i 0 (by decide) hi) _ _) ?_
  refine congrArg₂ List.cons (codePiece_eq arg9 arg13 f9 (arg13.view.writes (Elt Ideal) arg13.view.junk (KernelIdealFrame.body_run.sl.H13_3 (F := Ideal) arg12 f12)) _ hip (15 : Fin 108) rfl (off72 i 0 (by decide) hi) _ _) ?_
  refine congrArg₂ List.cons (codePiece_eq arg9 arg13 f9 (arg13.view.writes (Elt Ideal) arg13.view.junk (KernelIdealFrame.body_run.sl.H13_3 (F := Ideal) arg12 f12)) _ hip (14 : Fin 108) rfl (off71 i 0 (by decide) hi) _ _) ?_
  refine congrArg₂ List.cons (codePiece_eq arg9 arg13 f9 (arg13.view.writes (Elt Ideal) arg13.view.junk (KernelIdealFrame.body_run.sl.H13_3 (F := Ideal) arg12 f12)) _ hip (13 : Fin 108) rfl (off70 i 0 (by decide) hi) _ _) ?_
  refine congrArg₂ List.cons (codePiece_eq arg9 arg13 f9 (arg13.view.writes (Elt Ideal) arg13.view.junk (KernelIdealFrame.body_run.sl.H13_3 (F := Ideal) arg12 f12)) _ hip (12 : Fin 108) rfl (off69 i 0 (by decide) hi) _ _) ?_
  refine congrArg₂ List.cons (codePiece_eq arg9 arg13 f9 (arg13.view.writes (Elt Ideal) arg13.view.junk (KernelIdealFrame.body_run.sl.H13_3 (F := Ideal) arg12 f12)) _ hip (11 : Fin 108) rfl (off68 i 0 (by decide) hi) _ _) ?_
  refine congrArg₂ List.cons (codePiece_eq arg9 arg13 f9 (arg13.view.writes (Elt Ideal) arg13.view.junk (KernelIdealFrame.body_run.sl.H13_3 (F := Ideal) arg12 f12)) _ hip (10 : Fin 108) rfl (off67 i 0 (by decide) hi) _ _) ?_
  refine congrArg₂ List.cons (codePiece_eq arg9 arg13 f9 (arg13.view.writes (Elt Ideal) arg13.view.junk (KernelIdealFrame.body_run.sl.H13_3 (F := Ideal) arg12 f12)) _ hip (9 : Fin 108) rfl (off66 i 0 (by decide) hi) _ _) ?_
  refine congrArg₂ List.cons (codePiece_eq arg9 arg13 f9 (arg13.view.writes (Elt Ideal) arg13.view.junk (KernelIdealFrame.body_run.sl.H13_3 (F := Ideal) arg12 f12)) _ hip (8 : Fin 108) rfl (off65 i 0 (by decide) hi) _ _) ?_
  refine congrArg₂ List.cons (codePiece_eq arg9 arg13 f9 (arg13.view.writes (Elt Ideal) arg13.view.junk (KernelIdealFrame.body_run.sl.H13_3 (F := Ideal) arg12 f12)) _ hip (7 : Fin 108) rfl (off64 i 0 (by decide) hi) _ _) ?_
  refine congrArg₂ List.cons (codePiece_eq arg9 arg13 f9 (arg13.view.writes (Elt Ideal) arg13.view.junk (KernelIdealFrame.body_run.sl.H13_3 (F := Ideal) arg12 f12)) _ hip (6 : Fin 108) rfl (off63 i 0 (by decide) hi) _ _) ?_
  refine congrArg₂ List.cons (codePiece_eq arg9 arg13 f9 (arg13.view.writes (Elt Ideal) arg13.view.junk (KernelIdealFrame.body_run.sl.H13_3 (F := Ideal) arg12 f12)) _ hip (5 : Fin 108) rfl (off62 i 0 (by decide) hi) _ _) ?_
  refine congrArg₂ List.cons (codePiece_eq arg9 arg13 f9 (arg13.view.writes (Elt Ideal) arg13.view.junk (KernelIdealFrame.body_run.sl.H13_3 (F := Ideal) arg12 f12)) _ hip (4 : Fin 108) rfl (off61 i 0 (by decide) hi) _ _) ?_
  refine congrArg₂ List.cons (codePiece_eq arg9 arg13 f9 (arg13.view.writes (Elt Ideal) arg13.view.junk (KernelIdealFrame.body_run.sl.H13_3 (F := Ideal) arg12 f12)) _ hip (3 : Fin 108) rfl (off60 i 0 (by decide) hi) _ _) ?_
  refine congrArg₂ List.cons (codePiece_eq arg9 arg13 f9 (arg13.view.writes (Elt Ideal) arg13.view.junk (KernelIdealFrame.body_run.sl.H13_3 (F := Ideal) arg12 f12)) _ hip (2 : Fin 108) rfl (off59 i 0 (by decide) hi) _ _) ?_
  refine congrArg₂ List.cons (codePiece_eq arg9 arg13 f9 (arg13.view.writes (Elt Ideal) arg13.view.junk (KernelIdealFrame.body_run.sl.H13_3 (F := Ideal) arg12 f12)) _ hip (1 : Fin 108) rfl (off58 i 0 (by decide) hi) _ _) ?_
  refine congrArg₂ List.cons (codePiece_eq arg9 arg13 f9 (arg13.view.writes (Elt Ideal) arg13.view.junk (KernelIdealFrame.body_run.sl.H13_3 (F := Ideal) arg12 f12)) _ hip (0 : Fin 108) rfl (off57 i 0 (by decide) hi) _ _) ?_
  rfl
/-- The block of codes of pooled row `ip`. -/
def CodesOut (px : Img) (ip : ℕ) (g : S4x3x288x128.Idx → Ideal .fp8e4m3) : Prop :=
  ∀ y, g y = ((code px (4 * ip + (y 0).val) (y 1).val (y 2).val (y 3).val : ℝ) : EReal)

/-- The power kept for each channel and lane: `-7` less the exponent of the scale. -/
def Shift (px : Img) (g : S3x8x128.Idx → BitVec 32) : Prop :=
  ∀ (c : Fin 3) (s : Fin 8) (b : Fin 128), Ideal.ofBits .f32 (g (ix3 c s b)) = (((2 : ℝ) ^ (-7 - ex px c.val b.val) : ℝ) : EReal)

theorem code_of_stored (px : Img) (h c w b : ℕ) : 128 * nv c (px h c w b) * (2 : ℝ) ^ (-7 - ex px c b) = code px h c w b := by
  unfold code
  rw [show (-7 - ex px c b : ℤ) = -7 + -ex px c b by ring, zpow_add₀ (by norm_num : (2:ℝ) ≠ 0)]
  norm_num
  ring

theorem block_agrees (px : Img) (arg9 : Memref sig .tc .vmem S230x75x3x4x128 .fp8e4m3) (arg13 : Memref sig .tc .vmem S3x8x128 .i32)
    (f9 : BufTy.Contents (Elt Ideal) arg9.view.ty) (f13 : BufTy.Contents (Elt Ideal) arg13.view.ty)
    (hc : Codes px 224 (arg9.view.read (Elt Ideal) f9)) (hk : Shift px (arg13.view.read (Elt Ideal) f13)) (ip : ℕ) (hip : ip < 56) (j : Fin 108)
    (x : S1x1x32x128.Idx) :
    (codePiece arg9 arg13 f9 f13 ip hip j).2 x = ((code px (4 * ip + (j.val / 27 + 1 * (x 0).val)) (j.val % 27 / 9 + 1 * (x 1).val)
      (32 * (j.val % 9) + 1 * (x 2).val) (0 + 1 * (x 3).val) : ℝ) : EReal) := by
    obtain ⟨w, b, rfl⟩ : ∃ (w : Fin 32) (b : Fin 128), x = ix4 0 0 w b := by
      refine ⟨x 2, x 3, funext fun a => ?_⟩
      fin_cases a
      · exact Subsingleton.elim (α := Fin 1) _ _
      · exact Subsingleton.elim (α := Fin 1) _ _
      · rfl
      · rfl
    refine (codePay_apply _ _ w b).trans ?_
    have hw : w.val < 32 := w.isLt
    have hj := j.isLt
    have e1 := hc (ix5 ⟨4 * ip + j.val / 27 + 3, by omega⟩ ⟨8 * (j.val % 9) + 1 + w.val / 4, by omega⟩ ⟨j.val % 27 / 9, by omega⟩ ⟨w.val % 4, by omega⟩ b) (by show 4 * ip + j.val / 27 + 3 < 227 ∨ _; left; omega)
    have e2 := hk ⟨j.val % 27 / 9, by omega⟩ ⟨w.val / 4, by omega⟩ b
    have E1 : arg9.view.readAt (Elt Ideal) (Rect.unit (s := S230x75x3x4x128) ![4 * ip + j.val / 27 + 3, 8 * (j.val % 9) + 1, j.val % 27 / 9, 0, 0] ![1, 8, 1, 4, 128] (inb_stored ip hip j)).toLoadRect f9
        (ix5 0 ⟨w.val / 4, by omega⟩ 0 ⟨w.val % 4, by omega⟩ b)
        = arg9.view.read (Elt Ideal) f9 (ix5 ⟨4 * ip + j.val / 27 + 3, by omega⟩ ⟨8 * (j.val % 9) + 1 + w.val / 4, by omega⟩ ⟨j.val % 27 / 9, by omega⟩ ⟨w.val % 4, by omega⟩ b) := by
      refine congrArg (arg9.view.read (Elt Ideal) f9) (funext fun a => Fin.ext ?_)
      fin_cases a
      · show 4 * ip + j.val / 27 + 3 + 1 * 0 = 4 * ip + j.val / 27 + 3; omega
      · show 8 * (j.val % 9) + 1 + 1 * (w.val / 4) = 8 * (j.val % 9) + 1 + w.val / 4; omega
      · show j.val % 27 / 9 + 1 * 0 = j.val % 27 / 9; omega
      · show 0 + 1 * (w.val % 4) = w.val % 4; omega
      · show 0 + 1 * b.val = b.val; omega
    have E2 : arg13.view.readAt (Elt Ideal) (Rect.unit (s := S3x8x128) ![j.val % 27 / 9, 0, 0] ![1, 8, 128] (inb_shift j)).toLoadRect f13 (ix3 0 ⟨w.val / 4, by omega⟩ b)
        = arg13.view.read (Elt Ideal) f13 (ix3 ⟨j.val % 27 / 9, by omega⟩ ⟨w.val / 4, by omega⟩ b) := by
      refine congrArg (arg13.view.read (Elt Ideal) f13) (funext fun a => Fin.ext ?_)
      fin_cases a
      · show j.val % 27 / 9 + 1 * 0 = j.val % 27 / 9; omega
      · show 0 + 1 * (w.val / 4) = w.val / 4; omega
      · show 0 + 1 * b.val = b.val; omega
    rw [E1, E2, e1, e2]
    refine (EReal.coe_mul _ _).symm.trans (congrArg _ ?_)
    have hst : stored px (4 * ip + j.val / 27 + 3) (8 * (j.val % 9) + 1 + w.val / 4) (j.val % 27 / 9) (w.val % 4) b.val
        = 128 * nv (j.val % 27 / 9) (px (4 * ip + j.val / 27) (j.val % 27 / 9) (32 * (j.val % 9) + w.val) b.val) := by
      unfold stored
      rw [if_pos (by omega)]
      congr 3
      omega
    refine Eq.trans (congrArg₂ (· * ·) hst rfl) ((code_of_stored _ _ _ _ _).trans ?_)
    show code px _ _ _ _ = code px (4 * ip + (j.val / 27 + 1 * 0)) (j.val % 27 / 9 + 1 * 0) (32 * (j.val % 9) + 1 * w.val) (0 + 1 * b.val)
    congr 1 <;> omega

theorem codes_out (px : Img) (arg7 : Memref sig .tc .vmem S4x3x288x128 .fp8e4m3) (f7 : BufTy.Contents (Elt Ideal) arg7.view.ty)
    (arg9 : Memref sig .tc .vmem S230x75x3x4x128 .fp8e4m3) (arg13 : Memref sig .tc .vmem S3x8x128 .i32)
    (f9 : BufTy.Contents (Elt Ideal) arg9.view.ty) (f13 : BufTy.Contents (Elt Ideal) arg13.view.ty)
    (hc : Codes px 224 (arg9.view.read (Elt Ideal) f9)) (hk : Shift px (arg13.view.read (Elt Ideal) f13)) (ip : ℕ) (hip : ip < 56) :
    CodesOut px ip (arg7.view.read (Elt Ideal) (arg7.view.writes (Elt Ideal) f7 (order108.map (codePiece arg9 arg13 f9 f13 ip hip)))) := by
  intro y
  have y0 : (y 0).val < 4 := (y 0).isLt
  have y1 : (y 1).val < 3 := (y 1).isLt
  have y2 : (y 2).val < 288 := (y 2).isLt
  have y3 : (y 3).val < 128 := (y 3).isLt
  refine writes_spec (e := .fp8e4m3) arg7.view f7 (fun y => ((code px (4 * ip + (y 0).val) (y 1).val (y 2).val (y 3).val : ℝ) : EReal)) _ ?_ y (Or.inl ?_)
  · intro p hp x
    obtain ⟨j, -, rfl⟩ := List.mem_map.mp hp
    exact block_agrees px arg9 arg13 f9 f13 hc hk ip hip j x
  · refine ⟨codePiece arg9 arg13 f9 f13 ip hip ⟨27 * (y 0).val + 9 * (y 1).val + (y 2).val / 32, by omega⟩, List.mem_map_of_mem (mem_order108 _), ?_⟩
    show y ∈ (Rect.unit (s := S4x3x288x128) _ _ (inb_code _)).set
    refine Rect.mem_set_unit.mpr fun a => ?_
    fin_cases a
    · show (27 * (y 0).val + 9 * (y 1).val + (y 2).val / 32) / 27 ≤ (y 0).val ∧ (y 0).val < (27 * (y 0).val + 9 * (y 1).val + (y 2).val / 32) / 27 + 1
      omega
    · show (27 * (y 0).val + 9 * (y 1).val + (y 2).val / 32) % 27 / 9 ≤ (y 1).val ∧ (y 1).val < (27 * (y 0).val + 9 * (y 1).val + (y 2).val / 32) % 27 / 9 + 1
      omega
    · show 32 * ((27 * (y 0).val + 9 * (y 1).val + (y 2).val / 32) % 9) ≤ (y 2).val ∧ (y 2).val < 32 * ((27 * (y 0).val + 9 * (y 1).val + (y 2).val / 32) % 9) + 32
      omega
    · show 0 ≤ (y 3).val ∧ (y 3).val < 0 + 128
      omega

end Cert.Proof.Blocks

end
-- ==== Proof.Scales.lean ====
/-
  The scales: from the least and the greatest pixel of each lane of the scratch to the exponent of each channel and lane, and from
  it the bits of the scale and of the shift the codes take.
-/
module

public import proofs.«01_k».proof.Proof.RowLoop
public import proofs.«01_k».proof.Proof.Blocks

@[expose] public section

noncomputable section

namespace Cert.Proof.Scales

open Cert.KernelIdeal Cert.KernelIdeal.Gen Cert.Proof.Trip Cert.Proof.Quantiser Cert.Proof.TripValue Cert.Proof.Rows Cert.Proof.RowLoop
open Cert.Proof.Blocks
open Idealize.ShloMosaic Idealize.ShloMosaic.Pointwise

/-- The larger of the two extremes of normalised pixels, in absolute value. -/
def mag (m s : Ideal .f32) (lo hi : Vec Ideal S1x16x128 .bf16) : FVec Ideal S1x128 .f32 :=
  maximumf
    (absf (divf (subf (divf (shapeCast S1x128 (multiReduction .minimumf [0] S128 (extf .f32 (shapeCast S16x128 lo shapeCasts_S1x16x128_S16x128 : FVec Ideal S16x128 .bf16) bitsLt_bf16_f32) 0x7F800000#32 reduces_S16x128_S128 (.inl rfl) rfl) shapeCasts_S128_S1x128)
      (broadcast S1x128 (Scalar.ofBits .f32 0x437F0000#32))) (broadcast S1x128 m)) (broadcast S1x128 s)))
    (absf (divf (subf (divf (shapeCast S1x128 (multiReduction .maximumf [0] S128 (extf .f32 (shapeCast S16x128 hi shapeCasts_S1x16x128_S16x128 : FVec Ideal S16x128 .bf16) bitsLt_bf16_f32) 0xFF800000#32 reduces_S16x128_S128 (.inl rfl) rfl) shapeCasts_S128_S1x128)
      (broadcast S1x128 (Scalar.ofBits .f32 0x437F0000#32))) (broadcast S1x128 m)) (broadcast S1x128 s)))

theorem bits_255' : Ideal.ofBits .f32 1132396544#32 = ((255 : ℝ) : EReal) := by
  simp [Ideal.ofBits, Ideal.ieee, -EReal.coe_mul] <;> norm_num

theorem bits_top : Ideal.ofBits .f32 2139095040#32 = ⊤ := by
  simp [Ideal.ofBits, Ideal.ieee]

theorem bits_bot : Ideal.ofBits .f32 4286578688#32 = ⊥ := by
  simp [Ideal.ofBits, Ideal.ieee]

theorem bits_rcp : Ideal.ofBits .f32 0x3B124925#32 = ((rcp : ℝ) : EReal) := by
  unfold rcp
  simp [Ideal.ofBits, Ideal.ieee, -EReal.coe_mul] <;> norm_num

/-- The least of the lanes' least values is the least of them all. -/
theorem isLo_fold (S : Fin 16 → ℕ → Prop) (f : Fin 16 → EReal) (h : ∀ k, IsLo (S k) (f k)) :
    IsLo (fun u => ∃ k, S k u) ((Finset.univ : Finset (Fin 16)).fold min ⊤ f) := by
  obtain ⟨k, -, hk⟩ := Finset.exists_min_image (Finset.univ : Finset (Fin 16)) f ⟨0, Finset.mem_univ _⟩
  have e : (Finset.univ : Finset (Fin 16)).fold min ⊤ f = f k :=
    le_antisymm (Finset.fold_min_le _ |>.mpr (Or.inr ⟨k, Finset.mem_univ _, le_rfl⟩)) (Finset.le_fold_min _ |>.mpr ⟨le_top, hk⟩)
  obtain ⟨l, el, hl, ha⟩ := h k
  refine ⟨l, e.trans el, ?_, ha.imp id fun h => ⟨k, h⟩⟩
  rintro u ⟨q, hu⟩
  obtain ⟨l', el', hl', -⟩ := h q
  have := hk q (Finset.mem_univ _)
  rw [el, el'] at this
  have : l ≤ l' := by exact_mod_cast this
  exact this.trans (hl' u hu)

theorem isHi_fold (S : Fin 16 → ℕ → Prop) (f : Fin 16 → EReal) (h : ∀ k, IsHi (S k) (f k)) :
    IsHi (fun u => ∃ k, S k u) ((Finset.univ : Finset (Fin 16)).fold max ⊥ f) := by
  obtain ⟨k, -, hk⟩ := Finset.exists_max_image (Finset.univ : Finset (Fin 16)) f ⟨0, Finset.mem_univ _⟩
  have e : (Finset.univ : Finset (Fin 16)).fold max ⊥ f = f k :=
    le_antisymm (Finset.fold_max_le _ |>.mpr ⟨bot_le, hk⟩) (Finset.le_fold_max _ |>.mpr (Or.inr ⟨k, Finset.mem_univ _, le_rfl⟩))
  obtain ⟨l, el, hl, ha⟩ := h k
  refine ⟨l, e.trans el, ?_, ha.imp id fun h => ⟨k, h⟩⟩
  rintro u ⟨q, hu⟩
  obtain ⟨l', el', hl', -⟩ := h q
  have := hk q (Finset.mem_univ _)
  rw [el, el'] at this
  have : l' ≤ l := by exact_mod_cast this
  exact (hl' u hu).trans this

theorem max_coe (x y : ℝ) : max ((x : ℝ) : EReal) ((y : ℝ) : EReal) = ((max x y : ℝ) : EReal) := by
  rcases le_total x y with h | h
  · rw [max_eq_right (EReal.coe_le_coe_iff.mpr h), max_eq_right h]
  · rw [max_eq_left (EReal.coe_le_coe_iff.mpr h), max_eq_left h]

theorem norm_coe (c l : ℕ) : FloatOps.absf (F := Ideal) (φ := .f32) (Ideal.div (Ideal.div (((l : ℝ) : EReal)) (((255 : ℝ) : EReal)) - ((mean c : ℝ) : EReal)) ((std c : ℝ) : EReal))
    = ((|nv c l| : ℝ) : EReal) := by
  rw [Ideal.absf_def, Ideal.div_coe (by norm_num : (255 : ℝ) ≠ 0), ← EReal.coe_mul, ← EReal.coe_sub, Ideal.div_coe (std_pos c).ne', ← EReal.coe_mul,
    ← EReal.coe_neg, max_coe]
  refine congrArg _ ?_
  show |_| = _
  refine congrArg _ ?_
  unfold nv
  ring

theorem mag_value (px : Img) (hp : ∀ h c w b, px h c w b ≤ 255) (c : ℕ) (m s : Ideal .f32) (hm : m = ((mean c : ℝ) : EReal)) (hs : s = ((std c : ℝ) : EReal))
    (lo hi : Vec Ideal S1x16x128 .bf16) (b : Fin 128) (hlo : ∀ k : Fin 16, IsLo (Seen px 224 c k.val b.val) (lo (ix3 0 k b)))
    (hhi : ∀ k : Fin 16, IsHi (Seen px 224 c k.val b.val) (hi (ix3 0 k b))) : mag m s lo hi (ix2 0 b) = ((amax px c b.val : ℝ) : EReal) := by
  pointwise [mag]
  rw [bits_255', bits_top, bits_bot, hm, hs]
  obtain ⟨l, el, hl, al⟩ := isLo_fold _ _ hlo
  obtain ⟨u, eu, hu, au⟩ := isHi_fold _ _ hhi
  rw [el, eu, norm_coe, norm_coe, max_coe]
  have hall : ∀ h w, h < 224 → w < 288 → ∃ k : Fin 16, Seen px 224 c k.val b.val (px h c w b.val) :=
    fun h w hh hw => ⟨⟨w % 16 % 16, by omega⟩, h, w, hh, hw, rfl, rfl⟩
  refine congrArg _ (amax_eq_of_extremes px c b.val l u (fun h w hh hw => hl _ (hall h w hh hw)) (fun h w hh hw => hu _ (hall h w hh hw)) ?_ ?_)
  · rcases al with rfl | ⟨k, h, w, hh, hw, -, e⟩
    · exact ⟨0, 0, by norm_num, by norm_num, le_antisymm (hp _ _ _ _) (hl _ (hall 0 0 (by norm_num) (by norm_num)))⟩
    · exact ⟨h, w, hh, hw, e⟩
  · rcases au with rfl | ⟨k, h, w, hh, hw, -, e⟩
    · exact ⟨0, 0, by norm_num, by norm_num, Nat.le_zero.mp (hu _ (hall 0 0 (by norm_num) (by norm_num)))⟩
    · exact ⟨h, w, hh, hw, e⟩

theorem mag_0 (lo hi) : k0_pay192 (F := Ideal) lo hi = mag (Named.named κ "mean0" 0x3EF851EC#32) (Named.named κ "std0" 0x3E6A7EFA#32) lo hi := rfl
theorem mag_1 (lo hi) : k0_pay199 (F := Ideal) lo hi = mag (Named.named κ "mean1" 0x3EE978D5#32) (Named.named κ "std1" 0x3E656042#32) lo hi := rfl
theorem mag_2 (lo hi) : k0_pay207 (F := Ideal) lo hi = mag (Named.named κ "mean2" 0x3ECFDF3B#32) (Named.named κ "std2" 0x3E666666#32) lo hi := rfl

/-- The exponent from the magnitude: `-16` and one for every power of two up to the ratio. -/
def expo (g : FVec Ideal S1x128 .f32) : IVec S1x128 32 :=
  have r := mulf g (broadcast S1x128 (Scalar.ofBits .f32 0x3B124925#32))
  have st (w : BitVec 32) : IVec S1x128 32 := extui 32 (cmpf .oge r (broadcast S1x128 (Scalar.ofBits .f32 w))) natLt_1_32
  select (cmpf .oeq g (broadcast S1x128 (Scalar.ofBits .f32 0x00000000#32))) (broadcast S1x128 0#32)
    (addi (addi (addi (addi (addi (addi (addi (addi (addi (broadcast S1x128 4294967280#32) (st 0x37800000#32)) (st 0x38000000#32)) (st 0x38800000#32)) (st 0x39000000#32))
      (st 0x39800000#32)) (st 0x3A000000#32)) (st 0x3A800000#32)) (st 0x3B000000#32)) (st 0x3B800000#32))

theorem bits_16 : Ideal.ofBits .f32 931135488#32 = (((2 : ℝ) ^ (-16 : ℤ) : ℝ) : EReal) := by
  simp [Ideal.ofBits, Ideal.ieee, -EReal.coe_mul] <;> norm_num

theorem bits_15 : Ideal.ofBits .f32 939524096#32 = (((2 : ℝ) ^ (-15 : ℤ) : ℝ) : EReal) := by
  simp [Ideal.ofBits, Ideal.ieee, -EReal.coe_mul] <;> norm_num

theorem bits_14 : Ideal.ofBits .f32 947912704#32 = (((2 : ℝ) ^ (-14 : ℤ) : ℝ) : EReal) := by
  simp [Ideal.ofBits, Ideal.ieee, -EReal.coe_mul] <;> norm_num

theorem bits_13 : Ideal.ofBits .f32 956301312#32 = (((2 : ℝ) ^ (-13 : ℤ) : ℝ) : EReal) := by
  simp [Ideal.ofBits, Ideal.ieee, -EReal.coe_mul] <;> norm_num

theorem bits_12 : Ideal.ofBits .f32 964689920#32 = (((2 : ℝ) ^ (-12 : ℤ) : ℝ) : EReal) := by
  simp [Ideal.ofBits, Ideal.ieee, -EReal.coe_mul] <;> norm_num

theorem bits_11 : Ideal.ofBits .f32 973078528#32 = (((2 : ℝ) ^ (-11 : ℤ) : ℝ) : EReal) := by
  simp [Ideal.ofBits, Ideal.ieee, -EReal.coe_mul] <;> norm_num

theorem bits_10 : Ideal.ofBits .f32 981467136#32 = (((2 : ℝ) ^ (-10 : ℤ) : ℝ) : EReal) := by
  simp [Ideal.ofBits, Ideal.ieee, -EReal.coe_mul] <;> norm_num

theorem bits_9 : Ideal.ofBits .f32 989855744#32 = (((2 : ℝ) ^ (-9 : ℤ) : ℝ) : EReal) := by
  simp [Ideal.ofBits, Ideal.ieee, -EReal.coe_mul] <;> norm_num

theorem bits_8 : Ideal.ofBits .f32 998244352#32 = (((2 : ℝ) ^ (-8 : ℤ) : ℝ) : EReal) := by
  simp [Ideal.ofBits, Ideal.ieee, -EReal.coe_mul] <;> norm_num

theorem step_coe (px : Img) (c b : ℕ) (n : ℤ) : (BitVec.ofBool (decide ((((2 : ℝ) ^ n : ℝ) : EReal) ≤ ((amax px c b : ℝ) : EReal) * ((rcp : ℝ) : EReal))))
    = BitVec.ofBool (decide (n < ex px c b)) := by
  rw [← EReal.coe_mul]
  congr 2
  exact propext (EReal.coe_le_coe_iff.trans (zpow_le_ratio_iff px c b n))

theorem expo_value (px : Img) (hp : ∀ h c w b, px h c w b ≤ 255) (c : ℕ) (g : FVec Ideal S1x128 .f32) (b : Fin 128) (hg : g (ix2 0 b) = ((amax px c b.val : ℝ) : EReal)) :
    expo g (ix2 0 b) = BitVec.ofInt 32 (ex px c b.val) := by
  pointwise [expo]
  rw [hg, if_neg (by rw [← EReal.coe_zero, EReal.coe_eq_coe_iff]; exact (amax_pos px c b.val).ne')]
  rw [show (991054117#32 : BitVec 32) = 0x3B124925#32 from rfl, bits_rcp, bits_16, bits_15, bits_14, bits_13, bits_12, bits_11, bits_10, bits_9, bits_8]
  simp only [step_coe]
  have h1 := ex_lower px c b.val
  have h2 := ex_upper px c b.val hp
  generalize ex px c b.val = E at h1 h2
  interval_cases E <;> decide

/-- The bits of a power of two from its exponent. -/
def powBits (e : IVec S1x128 32) : IVec S1x128 32 := shli (addi e (broadcast S1x128 127#32)) (broadcast S1x128 23#32)

theorem scale_value (e : IVec S1x128 32) (b : Fin 128) (E : ℤ) (h1 : -16 ≤ E) (h2 : E ≤ -7) (he : e (ix2 0 b) = BitVec.ofInt 32 E) :
    bitcastToFloat (F := Ideal) .f32 (powBits e) (ix2 0 b) = (((2 : ℝ) ^ E : ℝ) : EReal) := by
  pointwise [powBits]
  rw [he]
  interval_cases E
  · exact (congrArg (Ideal.ofBits .f32) (by decide : _ = 931135488#32)).trans (by simp [Ideal.ofBits, Ideal.ieee, -EReal.coe_mul] <;> norm_num)
  · exact (congrArg (Ideal.ofBits .f32) (by decide : _ = 939524096#32)).trans (by simp [Ideal.ofBits, Ideal.ieee, -EReal.coe_mul] <;> norm_num)
  · exact (congrArg (Ideal.ofBits .f32) (by decide : _ = 947912704#32)).trans (by simp [Ideal.ofBits, Ideal.ieee, -EReal.coe_mul] <;> norm_num)
  · exact (congrArg (Ideal.ofBits .f32) (by decide : _ = 956301312#32)).trans (by simp [Ideal.ofBits, Ideal.ieee, -EReal.coe_mul] <;> norm_num)
  · exact (congrArg (Ideal.ofBits .f32) (by decide : _ = 964689920#32)).trans (by simp [Ideal.ofBits, Ideal.ieee, -EReal.coe_mul] <;> norm_num)
  · exact (congrArg (Ideal.ofBits .f32) (by decide : _ = 973078528#32)).trans (by simp [Ideal.ofBits, Ideal.ieee, -EReal.coe_mul] <;> norm_num)
  · exact (congrArg (Ideal.ofBits .f32) (by decide : _ = 981467136#32)).trans (by simp [Ideal.ofBits, Ideal.ieee, -EReal.coe_mul] <;> norm_num)
  · exact (congrArg (Ideal.ofBits .f32) (by decide : _ = 989855744#32)).trans (by simp [Ideal.ofBits, Ideal.ieee, -EReal.coe_mul] <;> norm_num)
  · exact (congrArg (Ideal.ofBits .f32) (by decide : _ = 998244352#32)).trans (by simp [Ideal.ofBits, Ideal.ieee, -EReal.coe_mul] <;> norm_num)
  · exact (congrArg (Ideal.ofBits .f32) (by decide : _ = 1006632960#32)).trans (by simp [Ideal.ofBits, Ideal.ieee, -EReal.coe_mul] <;> norm_num)

theorem shift_value (e : IVec S1x128 32) (s : Fin 8) (b : Fin 128) (E : ℤ) (h1 : -16 ≤ E) (h2 : E ≤ -7) (he : e (ix2 0 b) = BitVec.ofInt 32 E) :
    Ideal.ofBits .f32 ((shapeCast S1x8x128 (broadcastTo S8x128 (shapeCast S1x128 (powBits (subi (broadcast S1x128 4294967289#32) e)) shapeCasts_S1x128_S1x128) broadcasts_S1x128_S8x128) shapeCasts_S8x128_S1x8x128 : IVec S1x8x128 32) (ix3 0 s b))
      = (((2 : ℝ) ^ (-7 - E) : ℝ) : EReal) := by
  pointwise [powBits]
  rw [he]
  interval_cases E
  · exact ((congrArg (Ideal.ofBits .f32) (by decide : _ = 1140850688#32)).trans (by simp [Ideal.ofBits, Ideal.ieee, -EReal.coe_mul] <;> norm_num : _ = ((512 : ℝ) : EReal))).trans (congrArg _ (by norm_num))
  · exact ((congrArg (Ideal.ofBits .f32) (by decide : _ = 1132462080#32)).trans (by simp [Ideal.ofBits, Ideal.ieee, -EReal.coe_mul] <;> norm_num : _ = ((256 : ℝ) : EReal))).trans (congrArg _ (by norm_num))
  · exact ((congrArg (Ideal.ofBits .f32) (by decide : _ = 1124073472#32)).trans (by simp [Ideal.ofBits, Ideal.ieee, -EReal.coe_mul] <;> norm_num : _ = ((128 : ℝ) : EReal))).trans (congrArg _ (by norm_num))
  · exact ((congrArg (Ideal.ofBits .f32) (by decide : _ = 1115684864#32)).trans (by simp [Ideal.ofBits, Ideal.ieee, -EReal.coe_mul] <;> norm_num : _ = ((64 : ℝ) : EReal))).trans (congrArg _ (by norm_num))
  · exact ((congrArg (Ideal.ofBits .f32) (by decide : _ = 1107296256#32)).trans (by simp [Ideal.ofBits, Ideal.ieee, -EReal.coe_mul] <;> norm_num : _ = ((32 : ℝ) : EReal))).trans (congrArg _ (by norm_num))
  · exact ((congrArg (Ideal.ofBits .f32) (by decide : _ = 1098907648#32)).trans (by simp [Ideal.ofBits, Ideal.ieee, -EReal.coe_mul] <;> norm_num : _ = ((16 : ℝ) : EReal))).trans (congrArg _ (by norm_num))
  · exact ((congrArg (Ideal.ofBits .f32) (by decide : _ = 1090519040#32)).trans (by simp [Ideal.ofBits, Ideal.ieee, -EReal.coe_mul] <;> norm_num : _ = ((8 : ℝ) : EReal))).trans (congrArg _ (by norm_num))
  · exact ((congrArg (Ideal.ofBits .f32) (by decide : _ = 1082130432#32)).trans (by simp [Ideal.ofBits, Ideal.ieee, -EReal.coe_mul] <;> norm_num : _ = ((4 : ℝ) : EReal))).trans (congrArg _ (by norm_num))
  · exact ((congrArg (Ideal.ofBits .f32) (by decide : _ = 1073741824#32)).trans (by simp [Ideal.ofBits, Ideal.ieee, -EReal.coe_mul] <;> norm_num : _ = ((2 : ℝ) : EReal))).trans (congrArg _ (by norm_num))
  · exact ((congrArg (Ideal.ofBits .f32) (by decide : _ = 1065353216#32)).trans (by simp [Ideal.ofBits, Ideal.ieee, -EReal.coe_mul] <;> norm_num : _ = ((1 : ℝ) : EReal))).trans (congrArg _ (by norm_num))

/-- The lanes' least (`r` even) or greatest (`r` odd) pixels. -/
def ext (arg12 : Memref sig .tc .vmem S6x16x128 .bf16) (f12 : BufTy.Contents (Elt Ideal) arg12.view.ty) (r : Fin 6) : Vec Ideal S1x16x128 .bf16 :=
  arg12.view.readAt (Elt Ideal) (Rect.unit (s := S6x16x128) ![r.val, 0, 0] ![1, 16, 128] (by intro a; fin_cases a <;> simp [S6x16x128] <;> omega)).toLoadRect f12

theorem ext_apply (arg12 : Memref sig .tc .vmem S6x16x128 .bf16) (f12 : BufTy.Contents (Elt Ideal) arg12.view.ty) (r : Fin 6) (k : Fin 16) (b : Fin 128) :
    ext arg12 f12 r (ix3 0 k b) = arg12.view.read (Elt Ideal) f12 (ix3 r k b) := by
  refine congrArg (arg12.view.read (Elt Ideal) f12) (funext fun a => Fin.ext ?_)
  fin_cases a
  · show r.val + 1 * 0 = r.val; omega
  · show 0 + 1 * k.val = k.val; omega
  · show 0 + 1 * b.val = b.val; omega

/-- The exponents of one channel. -/
def chanExpo (arg12 : Memref sig .tc .vmem S6x16x128 .bf16) (f12 : BufTy.Contents (Elt Ideal) arg12.view.ty) : Fin 3 → IVec S1x128 32
  | 0 => expo (mag (Named.named κ "mean0" 0x3EF851EC#32) (Named.named κ "std0" 0x3E6A7EFA#32) (ext arg12 f12 0) (ext arg12 f12 1))
  | 1 => expo (mag (Named.named κ "mean1" 0x3EE978D5#32) (Named.named κ "std1" 0x3E656042#32) (ext arg12 f12 2) (ext arg12 f12 3))
  | 2 => expo (mag (Named.named κ "mean2" 0x3ECFDF3B#32) (Named.named κ "std2" 0x3E666666#32) (ext arg12 f12 4) (ext arg12 f12 5))

theorem chanExpo_value (px : Img) (hp : ∀ h c w b, px h c w b ≤ 255) (arg12 : Memref sig .tc .vmem S6x16x128 .bf16) (f12 : BufTy.Contents (Elt Ideal) arg12.view.ty)
    (he : Extremes px 224 (arg12.view.read (Elt Ideal) f12)) (c : Fin 3) (b : Fin 128) :
    chanExpo arg12 f12 c (ix2 0 b) = BitVec.ofInt 32 (ex px c.val b.val) := by
  fin_cases c
  · exact expo_value px hp 0 _ b (mag_value px hp 0 _ _ rfl rfl _ _ b (fun k => (ext_apply arg12 f12 0 k b).symm ▸ (he 0 k b).1 rfl) (fun k => (ext_apply arg12 f12 1 k b).symm ▸ (he 1 k b).2 rfl))
  · exact expo_value px hp 1 _ b (mag_value px hp 1 _ _ rfl rfl _ _ b (fun k => (ext_apply arg12 f12 2 k b).symm ▸ (he 2 k b).1 rfl) (fun k => (ext_apply arg12 f12 3 k b).symm ▸ (he 3 k b).2 rfl))
  · exact expo_value px hp 2 _ b (mag_value px hp 2 _ _ rfl rfl _ _ b (fun k => (ext_apply arg12 f12 4 k b).symm ▸ (he 4 k b).1 rfl) (fun k => (ext_apply arg12 f12 5 k b).symm ▸ (he 5 k b).2 rfl))

def scalePay (e : IVec S1x128 32) : FVec Ideal S1x128 .f32 := bitcastToFloat .f32 (powBits e)

def shiftPay (e : IVec S1x128 32) : IVec S1x8x128 32 :=
  shapeCast S1x8x128 (broadcastTo S8x128 (shapeCast S1x128 (powBits (subi (broadcast S1x128 4294967289#32) e)) shapeCasts_S1x128_S1x128) broadcasts_S1x128_S8x128) shapeCasts_S8x128_S1x8x128

theorem inb_scale (c : Fin 3) : ∀ a, (![c.val, 0] : Fin 2 → ℕ) a + (![1, 128] : Fin 2 → ℕ) a ≤ S3x128.size a := by
  intro a; fin_cases a <;> simp [S3x128] <;> omega

theorem inb_shifts (c : Fin 3) : ∀ a, (![c.val, 0, 0] : Fin 3 → ℕ) a + (![1, 8, 128] : Fin 3 → ℕ) a ≤ S3x8x128.size a := by
  intro a; fin_cases a <;> simp [S3x8x128] <;> omega

def scalePiece (arg12 : Memref sig .tc .vmem S6x16x128 .bf16) (f12 : BufTy.Contents (Elt Ideal) arg12.view.ty) (c : Fin 3) : View.Piece (Elt Ideal) S3x128 .f32 :=
  ⟨Rect.unit ![c.val, 0] ![1, 128] (inb_scale c), scalePay (chanExpo arg12 f12 c)⟩

def shiftPiece (arg12 : Memref sig .tc .vmem S6x16x128 .bf16) (f12 : BufTy.Contents (Elt Ideal) arg12.view.ty) (c : Fin 3) : View.Piece (Elt Ideal) S3x8x128 .i32 :=
  ⟨Rect.unit ![c.val, 0, 0] ![1, 8, 128] (inb_shifts c), shiftPay (chanExpo arg12 f12 c)⟩

theorem scale_pieces (arg12 : Memref sig .tc .vmem S6x16x128 .bf16) (f12 : BufTy.Contents (Elt Ideal) arg12.view.ty) :
    KernelIdealFrame.body_run.sl.H8_3 (F := Ideal) arg12 f12 = [2, 1, 0].map (scalePiece arg12 f12) := rfl

theorem shift_pieces (arg12 : Memref sig .tc .vmem S6x16x128 .bf16) (f12 : BufTy.Contents (Elt Ideal) arg12.view.ty) :
    KernelIdealFrame.body_run.sl.H13_3 (F := Ideal) arg12 f12 = [2, 1, 0].map (shiftPiece arg12 f12) := rfl

/-- The scales of every channel and lane. -/
def ScalesOut (px : Img) (g : S3x128.Idx → Ideal .f32) : Prop := ∀ y, g y = ((scale px (y 0).val (y 1).val : ℝ) : EReal)

theorem mem210 : ∀ c : Fin 3, c ∈ ([2, 1, 0] : List (Fin 3)) := by decide

theorem scale_agrees (px : Img) (hp : ∀ h c w b, px h c w b ≤ 255) (arg12 : Memref sig .tc .vmem S6x16x128 .bf16) (f12 : BufTy.Contents (Elt Ideal) arg12.view.ty)
    (he : Extremes px 224 (arg12.view.read (Elt Ideal) f12)) (c : Fin 3) (x : S1x128.Idx) :
    (scalePiece arg12 f12 c).2 x = ((scale px (c.val + 1 * (x 0).val) (0 + 1 * (x 1).val) : ℝ) : EReal) := by
  obtain ⟨b, rfl⟩ : ∃ b : Fin 128, x = ix2 0 b := by
    refine ⟨x 1, funext fun a => ?_⟩
    fin_cases a
    · exact Subsingleton.elim (α := Fin 1) _ _
    · rfl
  refine (scale_value _ b _ (ex_lower px c.val b.val) (ex_upper px c.val b.val hp) (chanExpo_value px hp arg12 f12 he c b)).trans (congrArg _ ?_)
  show scale px c.val b.val = scale px (c.val + 1 * 0) (0 + 1 * b.val)
  congr 1 <;> omega

theorem shift_agrees (px : Img) (hp : ∀ h c w b, px h c w b ≤ 255) (arg12 : Memref sig .tc .vmem S6x16x128 .bf16) (f12 : BufTy.Contents (Elt Ideal) arg12.view.ty)
    (he : Extremes px 224 (arg12.view.read (Elt Ideal) f12)) (c : Fin 3) (s : Fin 8) (b : Fin 128) :
    Ideal.ofBits .f32 (shiftPay (chanExpo arg12 f12 c) (ix3 0 s b)) = (((2 : ℝ) ^ (-7 - ex px c.val b.val) : ℝ) : EReal) :=
  shift_value _ s b _ (ex_lower px c.val b.val) (ex_upper px c.val b.val hp) (chanExpo_value px hp arg12 f12 he c b)

theorem scales_out (px : Img) (hp : ∀ h c w b, px h c w b ≤ 255) (arg8 : Memref sig .tc .vmem S3x128 .f32) (f8 : BufTy.Contents (Elt Ideal) arg8.view.ty)
    (arg12 : Memref sig .tc .vmem S6x16x128 .bf16) (f12 : BufTy.Contents (Elt Ideal) arg12.view.ty) (he : Extremes px 224 (arg12.view.read (Elt Ideal) f12)) :
    ScalesOut px (arg8.view.read (Elt Ideal) (arg8.view.writes (Elt Ideal) f8 (KernelIdealFrame.body_run.sl.H8_3 (F := Ideal) arg12 f12))) := by
  intro y
  rw [scale_pieces]
  refine writes_spec (e := .f32) arg8.view f8 (fun y => ((scale px (y 0).val (y 1).val : ℝ) : EReal)) _ ?_ y (Or.inl ?_)
  · intro p hp' x
    obtain ⟨c, -, rfl⟩ := List.mem_map.mp hp'
    exact scale_agrees px hp arg12 f12 he c x
  · refine ⟨scalePiece arg12 f12 (y 0), List.mem_map_of_mem (mem210 _), ?_⟩
    show y ∈ (Rect.unit (s := S3x128) _ _ (inb_scale _)).set
    have y1 : (y 1).val < 128 := (y 1).isLt
    refine Rect.mem_set_unit.mpr fun a => ?_
    fin_cases a
    · show (y 0).val ≤ (y 0).val ∧ (y 0).val < (y 0).val + 1
      omega
    · show 0 ≤ (y 1).val ∧ (y 1).val < 0 + 128
      omega

theorem shift_out (px : Img) (hp : ∀ h c w b, px h c w b ≤ 255) (arg13 : Memref sig .tc .vmem S3x8x128 .i32) (f13 : BufTy.Contents (Elt Ideal) arg13.view.ty)
    (arg12 : Memref sig .tc .vmem S6x16x128 .bf16) (f12 : BufTy.Contents (Elt Ideal) arg12.view.ty) (he : Extremes px 224 (arg12.view.read (Elt Ideal) f12)) :
    Shift px (arg13.view.read (Elt Ideal) (arg13.view.writes (Elt Ideal) f13 (KernelIdealFrame.body_run.sl.H13_3 (F := Ideal) arg12 f12))) := by
  intro c s b
  rw [shift_pieces]
  have h := writes_spec (e := .i32) arg13.view f13 (fun y : S3x8x128.Idx => shiftPay (chanExpo arg12 f12 (y 0)) (ix3 0 (y 1) (y 2))) ([2, 1, 0].map (shiftPiece arg12 f12)) ?_ (ix3 c s b) (Or.inl ?_)
  · exact (congrArg (Ideal.ofBits .f32) h).trans (shift_agrees px hp arg12 f12 he c s b)
  · intro p hp' x
    obtain ⟨c, -, rfl⟩ := List.mem_map.mp hp'
    have hx : ∀ x : S1x8x128.Idx, shiftPay (chanExpo arg12 f12 c) x = shiftPay (chanExpo arg12 f12 ⟨c.val + 1 * (x 0).val, by have h : (x 0).val < 1 := (x 0).isLt; omega⟩)
        (ix3 0 ⟨0 + 1 * (x 1).val, by have h : (x 1).val < 8 := (x 1).isLt; omega⟩ ⟨0 + 1 * (x 2).val, by have h : (x 2).val < 128 := (x 2).isLt; omega⟩) := by
      intro x
      have h0 : (x 0).val < 1 := (x 0).isLt
      congr 1
      · congr 1; exact Fin.ext (by show c.val = c.val + 1 * (x 0).val; omega)
      · funext a
        fin_cases a
        · exact Subsingleton.elim (α := Fin 1) _ _
        · exact Fin.ext (by show (x 1).val = 0 + 1 * (x 1).val; omega)
        · exact Fin.ext (by show (x 2).val = 0 + 1 * (x 2).val; omega)
    exact hx x
  · refine ⟨shiftPiece arg12 f12 c, List.mem_map_of_mem (mem210 _), ?_⟩
    show ix3 c s b ∈ (Rect.unit (s := S3x8x128) _ _ (inb_shifts _)).set
    refine Rect.mem_set_unit.mpr fun a => ?_
    fin_cases a
    · show c.val ≤ c.val ∧ c.val < c.val + 1
      omega
    · show 0 ≤ s.val ∧ s.val < 0 + 8
      omega
    · show 0 ≤ b.val ∧ b.val < 0 + 128
      omega

end Cert.Proof.Scales

end
-- ==== Proof.RefScale.lean ====
/-
  The reference's quantiser, one channel at a time, at the values: the normalised pixel, the largest magnitude, the least power of two
  above the ratio, and the code.
-/
module

public import proofs.«01_k».proof.Proof.Gen.ReferenceIdeal
public import proofs.«01_k».proof.Proof.Gen.ReferenceIdeal.Frame
public import proofs.«01_k».proof.Proof.Quantiser
public import proofs.«01_k».proof.Proof.Scales
public import Idealize.ShloMosaic.Lib.Pointwise

@[expose] public section

noncomputable section

namespace Cert.Proof.RefScale

open Cert.ReferenceIdeal Cert.ReferenceIdeal.Gen Cert.Proof.Quantiser Cert.Proof.Scales
open Idealize.ShloMosaic Idealize.ShloMosaic.Pointwise
open Idealize.ShloMosaic.TcCoe Idealize.ShloMosaic.Tactic

/-- The normalised image of one channel. -/
def norm (mn sd : Ideal .f32) (v : Vec Ideal S1x224x288x128 .i8) : FVec Ideal S224x288x128 .f32 :=
  divf (subf (divf (uitofp .f32 (shapeCast S224x288x128 v shapeCasts_S1x224x288x128_S224x288x128 : IVec S224x288x128 8)) (broadcast S224x288x128 (Scalar.ofBits .f32 0x437F0000#32)))
    (broadcast S224x288x128 mn)) (broadcast S224x288x128 sd)

/-- The largest magnitude of each image. -/
def most (mn sd : Ideal .f32) (v : Vec Ideal S1x224x288x128 .i8) : FVec Ideal S1x128 .f32 :=
  shapeCast S1x128 (multiReduction .maximumf [0, 1] S128 (absf (norm mn sd v)) 0xFF800000#32 reduces_S224x288x128_S128 (.inl rfl) rfl : FVec Ideal S128 .f32) shapeCasts_S128_S1x128

/-- The scale from the largest magnitude. -/
def least (p : FVec Ideal S254x128 .f32) (a : FVec Ideal S1x128 .f32) : FVec Ideal S1x128 .f32 :=
  select (cmpf .oeq a (broadcast S1x128 (Scalar.ofBits .f32 0x00000000#32))) (broadcast S1x128 (Scalar.ofBits .f32 0x3F800000#32))
    (shapeCast S1x128 (multiReduction .minimumf [0] S128
      (select (cmpf .ogt p (broadcastTo S254x128 (mulf a (broadcast S1x128 (Scalar.ofBits .f32 0x3B124925#32))) broadcasts_S1x128_S254x128)) p
        (broadcast S254x128 (Scalar.ofBits .f32 0x7F800000#32))) 0x7F800000#32 reduces_S254x128_S128 (.inl rfl) rfl : FVec Ideal S128 .f32) shapeCasts_S128_S1x128)

/-- The codes from the normalised image and the scale. -/
def quant (n : FVec Ideal S224x288x128 .f32) (s : FVec Ideal S1x128 .f32) : FVec Ideal S224x288x128 .fp8e4m3 :=
  truncf .fp8e4m3 (minimumf (broadcast S224x288x128 (Scalar.ofBits .f32 0x43E00000#32)) (maximumf (broadcast S224x288x128 (Scalar.ofBits .f32 0xC3E00000#32))
    (mulf n (broadcastTo S224x288x128 (shapeCast S1x1x128 (divf (broadcast S1x128 (Scalar.ofBits .f32 0x3F800000#32)) s : FVec Ideal S1x128 .f32) shapeCasts_S1x128_S1x1x128)
      broadcasts_S1x1x128_S224x288x128)))) bitsLt_fp8e4m3_f32

theorem scale_0 (v0 v) : k0_pay3 (F := Ideal) v0 v = least (k0_pay1 v0) (most (Named.named κ "mean0" 0x3EF851EC#32) (Named.named κ "std0" 0x3E6A7EFA#32) v) := rfl
theorem scale_1 (v1 v) : k0_pay8 (F := Ideal) v1 v = least v1 (most (Named.named κ "mean1" 0x3EE978D5#32) (Named.named κ "std1" 0x3E656042#32) v) := rfl
theorem scale_2 (v1 v) : k0_pay16 (F := Ideal) v1 (k0_pay14 v) (k0_pay15 v1 v) (Scalar.ofBits .f32 0x7F800000#32)
    = least v1 (most (Named.named κ "mean2" 0x3ECFDF3B#32) (Named.named κ "std2" 0x3E666666#32) v) := rfl
theorem quant_0 (v0 v) : k0_pay4 (F := Ideal) v0 v = quant (norm (Named.named κ "mean0" 0x3EF851EC#32) (Named.named κ "std0" 0x3E6A7EFA#32) v) (k0_pay3 v0 v) := rfl
theorem quant_1 (v1 v) : k0_pay10 (F := Ideal) (k0_pay7 v) (k0_pay9 v1 v) = quant (norm (Named.named κ "mean1" 0x3EE978D5#32) (Named.named κ "std1" 0x3E656042#32) v) (k0_pay8 v1 v) := rfl
theorem quant_2 (v1 v) : k0_pay17 (F := Ideal) v1 (k0_pay13 v) (k0_pay14 v) (k0_pay15 v1 v) (Scalar.ofBits .f32 0x7F800000#32)
    = quant (norm (Named.named κ "mean2" 0x3ECFDF3B#32) (Named.named κ "std2" 0x3E666666#32) v) (k0_pay16 v1 (k0_pay14 v) (k0_pay15 v1 v) (Scalar.ofBits .f32 0x7F800000#32)) := rfl

theorem bits_rcp' : Ideal.ofBits .f32 991054117#32 = ((rcp : ℝ) : EReal) := bits_rcp
theorem bits_448 : Ideal.ofBits .f32 1138753536#32 = ((448 : ℝ) : EReal) := by
  have : Ideal.ofBits .f32 1138753536#32 = ((14680064 * (2 : ℝ) ^ (-15 : ℤ) : ℝ) : EReal) := by
    simp [Ideal.ofBits, Ideal.ieee, -EReal.coe_mul]
  exact this.trans (congrArg _ (by norm_num))
theorem bits_m448 : Ideal.ofBits .f32 3286237184#32 = ((-448 : ℝ) : EReal) := by
  have : Ideal.ofBits .f32 3286237184#32 = ((-14680064 * (2 : ℝ) ^ (-15 : ℤ) : ℝ) : EReal) := by
    simp [Ideal.ofBits, Ideal.ieee, -EReal.coe_mul]
  exact this.trans (congrArg _ (by norm_num))

theorem nv_coe (c l : ℕ) : Ideal.div (Ideal.div (((l : ℝ) : EReal)) (((255 : ℝ) : EReal)) - ((mean c : ℝ) : EReal)) ((std c : ℝ) : EReal) = ((nv c l : ℝ) : EReal) := by
  rw [Ideal.div_coe (by norm_num : (255 : ℝ) ≠ 0), ← EReal.coe_mul, ← EReal.coe_sub, Ideal.div_coe (std_pos c).ne', ← EReal.coe_mul]
  refine congrArg _ ?_
  unfold nv
  ring

/-- Channel `c` of the image, as the reference's body loads it. -/
def Plane (px : Img) (c : ℕ) (v : Vec Ideal S1x224x288x128 .i8) : Prop := ∀ h w b, (v (ix4 0 h w b) : BitVec 8).toNat = px h.val c w.val b.val

variable (px : Img) (c : ℕ) (mn sd : Ideal .f32) (v : Vec Ideal S1x224x288x128 .i8)

theorem norm_value (hm : mn = ((mean c : ℝ) : EReal)) (hs : sd = ((std c : ℝ) : EReal)) (hv : Plane px c v) (h : Fin 224) (w : Fin 288) (b : Fin 128) :
    norm mn sd v (ix3 h w b) = ((nv c (px h.val c w.val b.val) : ℝ) : EReal) := by
  pointwise [norm]
  rw [hm, hs, bits_255', ← nv_coe, ← hv h w b]
  rfl

theorem abs_coe (x : ℝ) : FloatOps.absf (F := Ideal) (φ := .f32) ((x : ℝ) : EReal) = ((|x| : ℝ) : EReal) := by
  rw [Ideal.absf_def, ← EReal.coe_neg, max_coe]
  rfl

theorem drop_eq (x : S224x288x128.Idx) : reduces_S224x288x128_S128.drop x = ix1 (x 2) := by
  funext a
  fin_cases a
  rfl

theorem most_value (hm : mn = ((mean c : ℝ) : EReal)) (hs : sd = ((std c : ℝ) : EReal)) (hv : Plane px c v) (b : Fin 128) :
    most mn sd v (ix2 0 b) = ((amax px c b.val : ℝ) : EReal) := by
  have hn : ∀ h w, FloatOps.absf (norm mn sd v (ix3 h w b)) = ((|nv c (px h.val c w.val b.val)| : ℝ) : EReal) := fun h w => by
    rw [norm_value px c mn sd v hm hs hv h w b, abs_coe]
  pointwise [most]
  rw [bits_bot]
  refine le_antisymm (Finset.fold_max_le _ |>.mpr ⟨bot_le, fun x hx => ?_⟩) (Finset.le_fold_max _ |>.mpr (Or.inr ?_))
  · have e : x = ix3 (x 0) (x 1) b := by
      have := congrFun ((drop_eq x).symm.trans (Finset.mem_filter.mp hx).2) 0
      exact funext fun a => by fin_cases a; · rfl
                               · rfl
                               · exact this
    obtain ⟨h, w, rfl⟩ : ∃ h w, x = ix3 h w b := ⟨x 0, x 1, e⟩
    rw [hn]
    exact EReal.coe_le_coe_iff.mpr (le_amax px c b.val h.isLt w.isLt)
  · obtain ⟨h, w, hh, hw, e⟩ := amax_attained px c b.val
    refine ⟨ix3 ⟨h, hh⟩ ⟨w, hw⟩ b, Finset.mem_filter.mpr ⟨Finset.mem_univ _, drop_eq _⟩, ?_⟩
    rw [hn, e]

theorem least_value (p : FVec Ideal S254x128 .f32) (a : FVec Ideal S1x128 .f32) (hp : ∀ h c w b, px h c w b ≤ 255) (b : Fin 128)
    (hpow : ∀ k : Fin 254, p (ix2 k b) = (((2 : ℝ) ^ ((k.val : ℤ) - 126) : ℝ) : EReal)) (ha : a (ix2 0 b) = ((amax px c b.val : ℝ) : EReal)) :
    least p a (ix2 0 b) = ((scale px c b.val : ℝ) : EReal) := by
  pointwise [least]
  rw [ha]
  have h0 : ¬ ((amax px c b.val : ℝ) : EReal) = 0 := fun h => (amax_pos px c b.val).ne' (by exact_mod_cast h)
  rw [if_neg h0, bits_top, bits_rcp', ← EReal.coe_mul]
  simp only [hpow]
  have hl := ex_lower px c b.val
  have hu := ex_upper px c b.val hp
  unfold scale
  refine le_antisymm (Finset.fold_min_le _ |>.mpr (Or.inr ⟨⟨(ex px c b.val + 126).toNat, by omega⟩, Finset.mem_univ _, ?_⟩))
    (Finset.le_fold_min _ |>.mpr ⟨le_top, fun k _ => ?_⟩)
  · have e : ((((ex px c b.val + 126).toNat : ℕ) : ℤ) - 126) = ex px c b.val := by omega
    show (if _ < (((2 : ℝ) ^ ((((ex px c b.val + 126).toNat : ℕ) : ℤ) - 126) : ℝ) : EReal) then (((2 : ℝ) ^ ((((ex px c b.val + 126).toNat : ℕ) : ℤ) - 126) : ℝ) : EReal) else ⊤) ≤ _
    rw [e, if_pos (show ((amax px c b.val * rcp : ℝ) : EReal) < _ from EReal.coe_lt_coe_iff.mpr (ratio_lt px c b.val))]
  · split
    · rename_i h
      have h' : ratio px c b.val < (2 : ℝ) ^ ((k.val : ℤ) - 126) := EReal.coe_lt_coe_iff.mp h
      refine EReal.coe_le_coe_iff.mpr (zpow_le_zpow_right₀ (by norm_num) ?_)
      by_contra hlt
      exact absurd ((zpow_le_ratio_iff px c b.val _).mpr (lt_of_not_ge hlt)) (not_le.mpr h')
    · exact le_top

theorem quant_value (n : FVec Ideal S224x288x128 .f32) (s : FVec Ideal S1x128 .f32) (h : Fin 224) (w : Fin 288) (b : Fin 128)
    (hn : n (ix3 h w b) = ((nv c (px h.val c w.val b.val) : ℝ) : EReal)) (hs : s (ix2 0 b) = ((scale px c b.val : ℝ) : EReal)) :
    quant n s (ix3 h w b) = ((code px h.val c w.val b.val : ℝ) : EReal) := by
  pointwise [quant]
  rw [hn, hs]
  have hs0 : scale px c b.val ≠ 0 := (zpow_pos (by norm_num : (0 : ℝ) < 2) _).ne'
  rw [bits_448, bits_m448, show (1 : EReal) = ((1 : ℝ) : EReal) from rfl, Ideal.div_coe hs0, ← EReal.coe_mul, ← EReal.coe_mul]
  have e : nv c (px h.val c w.val b.val) * (1 * (1 / scale px c b.val)) = code px h.val c w.val b.val := by
    unfold code scale
    rw [one_mul, one_div, zpow_neg]
  rw [e, max_coe]
  have ha := abs_le.mp (code_abs px (c := c) (b := b.val) h.isLt w.isLt)
  rw [max_eq_right ha.1]
  exact min_eq_right (EReal.coe_le_coe_iff.mpr ha.2)

end Cert.Proof.RefScale
-- ==== Proof.Start.lean ====
/-
  Before the first row: point 0 fills the border of the code scratch with zeros and starts the extremes at 255 and 0, so both
  invariants hold of no rows.
-/
module

public import proofs.«01_k».proof.Proof.RowLoop

@[expose] public section

noncomputable section

namespace Cert.Proof.Start

open Cert.KernelIdeal Cert.KernelIdeal.Gen Cert.Proof.Trip Cert.Proof.Quantiser Cert.Proof.TripValue Cert.Proof.Rows Cert.Proof.RowLoop
open Idealize.ShloMosaic Idealize.ShloMosaic.Pointwise

theorem zero_bits : Ideal.ofBits .fp8e4m3 0x00#8 = 0 := by simp [Ideal.ofBits, Ideal.ieee, Ideal.e4m3fn]

theorem zero_row (x : S1x75x3x4x128.Idx) : k0_pay17 (F := Ideal) x = 0 := by
  idx_vars x
  pointwise [k0_pay17, k0_pay16]
  exact zero_bits

theorem zero_side1 (x : S1x3x3x4x128.Idx) : k0_pay1 (F := Ideal) x = 0 := by
  idx_vars x
  pointwise [k0_pay1]
  exact zero_bits

theorem zero_side2 (x : S1x3x3x4x128.Idx) : k0_pay2 (F := Ideal) x = 0 := by
  idx_vars x
  pointwise [k0_pay2]
  exact zero_bits

theorem mem_side (n j : ℕ) {off : Fin 5 → ℕ} (e : off = ![n, j, 0, 0, 0]) (h) (y : S230x75x3x4x128.Idx) (h0 : (y 0).val = n)
    (h1 : j ≤ (y 1).val ∧ (y 1).val < j + 3) : y ∈ (Rect.unit (s := S230x75x3x4x128) off ![1, 3, 3, 4, 128] h).set := by
  subst e
  have y2 : (y 2).val < 3 := (y 2).isLt
  have y3 : (y 3).val < 4 := (y 3).isLt
  have y4 : (y 4).val < 128 := (y 4).isLt
  refine Rect.mem_set_unit.mpr fun a => ?_
  fin_cases a
  · show n ≤ (y 0).val ∧ (y 0).val < n + 1
    omega
  · exact h1
  · show 0 ≤ (y 2).val ∧ (y 2).val < 0 + 3
    omega
  · show 0 ≤ (y 3).val ∧ (y 3).val < 0 + 4
    omega
  · show 0 ≤ (y 4).val ∧ (y 4).val < 0 + 128
    omega

/-- The side loop writes zeros only, and covers three words at either end of each row it has passed. -/
theorem sides (c : Dev nD) (i : grid0.Coords) (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole) (k0_h1 : k0_cond1 i = 1#1) (n : ℕ) (hn : n ≤ 224) :
    (∀ p ∈ pb_k0_t1 (F := Ideal) 𝒱₀ c none i arg1 h1 arg2 h2 arg3 h3 arg4 h4 arg5 h5 arg6 h6 arg7 h7 arg8 h8 arg9 h9 arg10 h10 arg11 h11 arg12 h12 arg13 h13 k0_h1 n, ∀ x, p.2 x = (0 : EReal))
    ∧ ∀ y : S230x75x3x4x128.Idx, 3 ≤ (y 0).val → (y 0).val < 3 + n → ((y 1).val < 3 ∨ 72 ≤ (y 1).val) →
      ∃ p ∈ pb_k0_t1 (F := Ideal) 𝒱₀ c none i arg1 h1 arg2 h2 arg3 h3 arg4 h4 arg5 h5 arg6 h6 arg7 h7 arg8 h8 arg9 h9 arg10 h10 arg11 h11 arg12 h12 arg13 h13 k0_h1 n, y ∈ p.1.set := by
  induction n with
  | zero => exact ⟨fun p hp => absurd hp (List.not_mem_nil), fun y _ _ _ => by omega⟩
  | succ n ih =>
    obtain ⟨iha, ihb⟩ := ih (by omega)
    have hk : n < k0_t1_loop.trips := by show n < 224; omega
    have hs : pb_k0_t1 (F := Ideal) 𝒱₀ c none i arg1 h1 arg2 h2 arg3 h3 arg4 h4 arg5 h5 arg6 h6 arg7 h7 arg8 h8 arg9 h9 arg10 h10 arg11 h11 arg12 h12 arg13 h13 k0_h1 (n + 1) = _ := pb_k0_t1_succ (F := Ideal) 𝒱₀ c none i arg1 h1 arg2 h2 arg3 h3 arg4 h4 arg5 h5 arg6 h6 arg7 h7 arg8 h8 arg9 h9 arg10 h10 arg11 h11 arg12 h12 arg13 h13 k0_h1 ⟨n, hk⟩
    have ht : tripL_k0_t1 (F := Ideal) 𝒱₀ c none i arg1 h1 arg2 h2 arg3 h3 arg4 h4 arg5 h5 arg6 h6 arg7 h7 arg8 h8 arg9 h9 arg10 h10 arg11 h11 arg12 h12 arg13 h13 k0_h1 ⟨n, hk⟩
        = [⟨Rect.unit (k0_off2 ⟨n, hk⟩) ![1, 3, 3, 4, 128] (k0_off2_inb i ⟨n, hk⟩ k0_h1), (k0_pay2 (F := Ideal))⟩, ⟨Rect.unit (k0_off1 ⟨n, hk⟩) ![1, 3, 3, 4, 128] (k0_off1_inb i ⟨n, hk⟩ k0_h1), (k0_pay1 (F := Ideal))⟩] := by
      unfold tripL_k0_t1 trip_k0_t1; rfl
    rw [hs, ht]
    constructor
    · intro p hp
      rcases List.mem_append.mp hp with hp | hp
      · rcases List.mem_cons.mp hp with rfl | hp
        · exact zero_side2
        · obtain rfl := List.mem_singleton.mp hp
          exact zero_side1
      · exact iha p hp
    · intro y h0 h1 h2
      by_cases hy : (y 0).val < 3 + n
      · obtain ⟨p, hp, hm⟩ := ihb y h0 hy h2
        exact ⟨p, List.mem_append_right _ hp, hm⟩
      · have y1 : (y 1).val < 75 := (y 1).isLt
        rcases h2 with h2 | h2
        · exact ⟨_, List.mem_append_left _ (List.mem_cons_of_mem _ (List.mem_singleton.mpr rfl)),
            mem_side (n + 3) 0 (k0_off1_eq ⟨n, hk⟩) (k0_off1_inb i ⟨n, hk⟩ k0_h1) y (by omega) (by omega)⟩
        · exact ⟨_, List.mem_append_left _ (List.mem_cons_self ..), mem_side (n + 3) 72 (k0_off2_eq ⟨n, hk⟩) (k0_off2_inb i ⟨n, hk⟩ k0_h1) y (by omega) (by omega)⟩

theorem ex6 {A : Type} {P : A → Prop} {a b c d e f : A} (h : P a ∨ P b ∨ P c ∨ P d ∨ P e ∨ P f) : ∃ p ∈ [a, b, c, d, e, f], P p := by
  simpa using h

theorem ex_right {A : Type} {P : A → Prop} {L L' : List A} (h : ∃ p ∈ L', P p) : ∃ p ∈ L ++ L', P p := by
  obtain ⟨p, hp, hm⟩ := h
  exact ⟨p, List.mem_append_right _ hp, hm⟩

theorem mem_row (n : ℕ) (h) (y : S230x75x3x4x128.Idx) (h0 : (y 0).val = n) :
    y ∈ (Rect.unit (s := S230x75x3x4x128) ![n, 0, 0, 0, 0] S1x75x3x4x128.size h).set := by
  have y1 : (y 1).val < 75 := (y 1).isLt
  have y2 : (y 2).val < 3 := (y 2).isLt
  have y3 : (y 3).val < 4 := (y 3).isLt
  have y4 : (y 4).val < 128 := (y 4).isLt
  refine Rect.mem_set_unit.mpr fun a => ?_
  fin_cases a
  · show n ≤ (y 0).val ∧ (y 0).val < n + 1
    omega
  · show 0 ≤ (y 1).val ∧ (y 1).val < 0 + 75
    omega
  · show 0 ≤ (y 2).val ∧ (y 2).val < 0 + 3
    omega
  · show 0 ≤ (y 3).val ∧ (y 3).val < 0 + 4
    omega
  · show 0 ≤ (y 4).val ∧ (y 4).val < 0 + 128
    omega

/-- The code scratch of no rows. -/
theorem codes_start (px : Img) (c : Dev nD) (i : grid0.Coords) (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole) (k0_h1 : k0_cond1 i = 1#1)
    (f9 : BufTy.Contents (Elt Ideal) arg9.view.ty) (q0 q1 q2 q3 q4 q5) :
    Codes px 0 (arg9.view.read (Elt Ideal) (arg9.view.writes (Elt Ideal) f9
      (pb_k0_t1 (F := Ideal) 𝒱₀ c none i arg1 h1 arg2 h2 arg3 h3 arg4 h4 arg5 h5 arg6 h6 arg7 h7 arg8 h8 arg9 h9 arg10 h10 arg11 h11 arg12 h12 arg13 h13 k0_h1 224 ++
        [⟨Rect.unit ![229, 0, 0, 0, 0] S1x75x3x4x128.size q0, (k0_pay17 (F := Ideal))⟩, ⟨Rect.unit ![228, 0, 0, 0, 0] S1x75x3x4x128.size q1, (k0_pay17 (F := Ideal))⟩,
         ⟨Rect.unit ![227, 0, 0, 0, 0] S1x75x3x4x128.size q2, (k0_pay17 (F := Ideal))⟩, ⟨Rect.unit ![2, 0, 0, 0, 0] S1x75x3x4x128.size q3, (k0_pay17 (F := Ideal))⟩,
         ⟨Rect.unit ![1, 0, 0, 0, 0] S1x75x3x4x128.size q4, (k0_pay17 (F := Ideal))⟩, ⟨Rect.unit ![0, 0, 0, 0, 0] S1x75x3x4x128.size q5, (k0_pay17 (F := Ideal))⟩]))) := by
  obtain ⟨hz, hcov⟩ := sides c i arg1 h1 arg2 h2 arg3 h3 arg4 h4 arg5 h5 arg6 h6 arg7 h7 arg8 h8 arg9 h9 arg10 h10 arg11 h11 arg12 h12 arg13 h13 k0_h1 224 le_rfl
  intro y hy
  have y0 : (y 0).val < 230 := (y 0).isLt
  have hst : stored px (y 0).val (y 1).val (y 2).val (y 3).val (y 4).val = 0 := by unfold stored; exact if_neg (by omega)
  rw [hst]
  refine writes_spec (e := .fp8e4m3) arg9.view f9 (fun _ => ((0 : ℝ) : EReal)) _ ?_ y (Or.inl ?_)
  · intro p hp x
    rcases List.mem_append.mp hp with hp | hp
    · exact hz p hp x
    · simp only [List.mem_cons, List.not_mem_nil, or_false] at hp
      rcases hp with rfl | rfl | rfl | rfl | rfl | rfl <;> exact zero_row x
  · by_cases hr : 3 ≤ (y 0).val ∧ (y 0).val < 227
    · obtain ⟨p, hp, hm⟩ := hcov y hr.1 (by omega) (by omega)
      exact ⟨p, List.mem_append_left _ hp, hm⟩
    · have hc : (y 0).val = 229 ∨ (y 0).val = 228 ∨ (y 0).val = 227 ∨ (y 0).val = 2 ∨ (y 0).val = 1 ∨ (y 0).val = 0 := by omega
      refine ex_right (ex6 ?_)
      rcases hc with h | h | h | h | h | h
      · left; exact mem_row 229 q0 y h
      · right; left; exact mem_row 228 q1 y h
      · right; right; left; exact mem_row 227 q2 y h
      · right; right; right; left; exact mem_row 2 q3 y h
      · right; right; right; right; left; exact mem_row 1 q4 y h
      · right; right; right; right; right; exact mem_row 0 q5 y h

theorem bits_255 : Ideal.ofBits .bf16 0x437F#16 = ((255 : ℝ) : EReal) := by
  simp [Ideal.ofBits, Ideal.ieee, -EReal.coe_mul] <;> norm_num

theorem lo_start (x : S1x16x128.Idx) : k0_pay3 (F := Ideal) x = ((255 : ℝ) : EReal) := by
  idx_vars x
  pointwise [k0_pay3]
  exact bits_255

theorem hi_start (x : S1x16x128.Idx) : k0_pay4 (F := Ideal) x = ((0 : ℝ) : EReal) := by
  idx_vars x
  pointwise [k0_pay4]
  exact EReal.coe_zero.symm

/-- The extremes of no rows. -/
theorem extremes_start (px : Img) (arg12 : Memref sig .tc .vmem S6x16x128 .bf16) (f12 : BufTy.Contents (Elt Ideal) arg12.view.ty) (q0 q1 q2 q3 q4 q5) :
    Extremes px 0 (arg12.view.read (Elt Ideal) (arg12.view.writes (Elt Ideal) f12
      [⟨Rect.unit ![5, 0, 0] S1x16x128.size q0, (k0_pay4 (F := Ideal))⟩, ⟨Rect.unit ![4, 0, 0] S1x16x128.size q1, (k0_pay3 (F := Ideal))⟩,
       ⟨Rect.unit ![3, 0, 0] S1x16x128.size q2, (k0_pay4 (F := Ideal))⟩, ⟨Rect.unit ![2, 0, 0] S1x16x128.size q3, (k0_pay3 (F := Ideal))⟩,
       ⟨Rect.unit ![1, 0, 0] S1x16x128.size q4, (k0_pay4 (F := Ideal))⟩, ⟨Rect.unit ![0, 0, 0] S1x16x128.size q5, (k0_pay3 (F := Ideal))⟩])) := by
  intro r k b
  have hG : arg12.view.read (Elt Ideal) (arg12.view.writes (Elt Ideal) f12
      [⟨Rect.unit ![5, 0, 0] S1x16x128.size q0, (k0_pay4 (F := Ideal))⟩, ⟨Rect.unit ![4, 0, 0] S1x16x128.size q1, (k0_pay3 (F := Ideal))⟩,
       ⟨Rect.unit ![3, 0, 0] S1x16x128.size q2, (k0_pay4 (F := Ideal))⟩, ⟨Rect.unit ![2, 0, 0] S1x16x128.size q3, (k0_pay3 (F := Ideal))⟩,
       ⟨Rect.unit ![1, 0, 0] S1x16x128.size q4, (k0_pay4 (F := Ideal))⟩, ⟨Rect.unit ![0, 0, 0] S1x16x128.size q5, (k0_pay3 (F := Ideal))⟩]) (ix3 r k b)
      = ((if r.val % 2 = 0 then 255 else 0 : ℝ) : EReal) := by
    refine writes_spec (e := .bf16) arg12.view f12 (fun y => ((if (y 0).val % 2 = 0 then 255 else 0 : ℝ) : EReal)) _ ?_ (ix3 r k b) (Or.inl ?_)
    · intro p hp x
      have hx0 : ∀ x : S1x16x128.Idx, (x 0).val = 0 := fun x => by have h : (x 0).val < 1 := (x 0).isLt; omega
      simp only [List.mem_cons, List.not_mem_nil, or_false] at hp
      rcases hp with rfl | rfl | rfl | rfl | rfl | rfl
      · refine (hi_start x).trans (congrArg _ (if_neg ?_).symm); show ¬ (5 + 1 * (x 0).val) % 2 = 0; rw [hx0 x]; omega
      · refine (lo_start x).trans (congrArg _ (if_pos ?_).symm); show (4 + 1 * (x 0).val) % 2 = 0; rw [hx0 x]
      · refine (hi_start x).trans (congrArg _ (if_neg ?_).symm); show ¬ (3 + 1 * (x 0).val) % 2 = 0; rw [hx0 x]; omega
      · refine (lo_start x).trans (congrArg _ (if_pos ?_).symm); show (2 + 1 * (x 0).val) % 2 = 0; rw [hx0 x]
      · refine (hi_start x).trans (congrArg _ (if_neg ?_).symm); show ¬ (1 + 1 * (x 0).val) % 2 = 0; rw [hx0 x]; omega
      · refine (lo_start x).trans (congrArg _ (if_pos ?_).symm); show (0 + 1 * (x 0).val) % 2 = 0; rw [hx0 x]
    · have hm : ∀ (n : ℕ) (h), r.val = n → ix3 r k b ∈ (Rect.unit (s := S6x16x128) ![n, 0, 0] S1x16x128.size h).set := by
        intro n h e
        refine Rect.mem_set_unit.mpr fun a => ?_
        fin_cases a
        · show n ≤ r.val ∧ r.val < n + 1
          omega
        · show 0 ≤ k.val ∧ k.val < 0 + 16
          omega
        · show 0 ≤ b.val ∧ b.val < 0 + 128
          omega
      have hc : r.val = 5 ∨ r.val = 4 ∨ r.val = 3 ∨ r.val = 2 ∨ r.val = 1 ∨ r.val = 0 := by omega
      refine ex6 ?_
      rcases hc with h | h | h | h | h | h
      · left; exact hm 5 q0 h
      · right; left; exact hm 4 q1 h
      · right; right; left; exact hm 3 q2 h
      · right; right; right; left; exact hm 2 q3 h
      · right; right; right; right; left; exact hm 1 q4 h
      · right; right; right; right; right; exact hm 0 q5 h
  rw [hG]
  constructor
  · intro hr
    rw [if_pos hr]
    exact ⟨255, by norm_num, fun u ⟨h, _, hh, _⟩ => absurd hh (Nat.not_lt_zero h), Or.inl rfl⟩
  · intro hr
    rw [if_neg (by omega)]
    exact ⟨0, by norm_num, fun u ⟨h, _, hh, _⟩ => absurd hh (Nat.not_lt_zero h), Or.inl rfl⟩

end Cert.Proof.Start

end
-- ==== Proof.RunRows.lean ====
/-
  The run of one of the first 28 points, with the two invariants it keeps. Point 0 starts them; each point takes them eight rows
  further.
-/
module

public import proofs.«01_k».proof.Proof.RowLoop
public import proofs.«01_k».proof.Proof.Start
public import proofs.«01_k».proof.Proof.KernelIdealFrame

@[expose] public section

noncomputable section

namespace Cert.Proof.RunRows

open Cert.KernelIdeal Cert.KernelIdeal.Gen Cert.Proof.Trip Cert.Proof.Quantiser Cert.Proof.TripValue Cert.Proof.Rows Cert.Proof.RowLoop
open Cert.Proof.Start
open Cert.Proof.KernelIdealFrame (cond1_iff cond2_iff cond3_iff cond4_iff cond5_iff)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

open Idealize.ShloMosaic Idealize.ShloMosaic.Pointwise

local notation "𝕄" => MT nD τ sig Unit (Elt Ideal) ℕ (UR sig nD τ) ℕ

set_option maxHeartbeats 4000000 in
/-- Point 0. -/
theorem run_first (px : Img) (c : Dev nD) (i : grid0.Coords)
    (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole)
    (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)
    (hc1 : k0_cond1 i = 1#1) (hX : Block px (i 0).val (arg1.view.read (Elt Ideal) f1))
    (E : Set ℕ) (K : PUnit → sProp 𝕄) :
    iprop(own c arg1 f1 ∗ own c arg2 f2 ∗ own c arg3 f3 ∗ own c arg4 f4 ∗ own c arg5 f5 ∗ own c arg6 f6 ∗ own c arg7 f7 ∗ own c arg8 f8 ∗ own c arg9 f9 ∗ own c arg10 f10 ∗ own c arg11 f11 ∗ own c arg12 f12 ∗ own c arg13 f13
        ∗ (iprop(own c arg1 f1 ∗ own c arg2 f2 ∗ own c arg3 f3 ∗ own c arg4 f4 ∗ own c arg5 f5 ∗ own c arg6 f6 ∗ own c arg7 f7 ∗ own c arg8 f8 ∗ own c arg10 f10 ∗ own c arg11 f11 ∗ own c arg13 f13 ∗ (∃ g9, own c arg9 g9 ∗ ⌜Codes px (8 * (i 0).val + 8) (arg9.view.read (Elt Ideal) g9)⌝) ∗ (∃ g12, own c arg12 g12 ∗ ⌜Extremes px (8 * (i 0).val + 8) (arg12.view.read (Elt Ideal) g12)⌝)) -∗ K ⟨⟩))
      ⊢ wp frame (wpE (defs₀ (F := Ideal)) 𝒱₀ (c : Thread nD τ) none) E (cc0_stem (F := Ideal) i arg1 h1 arg2 h2 arg3 h3 arg4 h4 arg5 h5 arg6 h6 arg7 h7 arg8 h8 arg9 h9 arg10 h10 arg11 h11 arg12 h12 arg13 h13) K := by
  have i0 := (cond1_iff i).mp hc1
  have hc2 : k0_cond2 i = 1#1 := (cond2_iff i).mpr (by omega)
  have hc3 : ¬ k0_cond3 i = 1#1 := fun h => by have := (cond3_iff i).mp h; omega
  have hc4 : ¬ k0_cond4 i = 1#1 := fun h => by have := (cond4_iff i).mp h; omega
  have ht : (i 0).val < 28 := by omega
  have hs := codes_start px c i arg1 h1 arg2 h2 arg3 h3 arg4 h4 arg5 h5 arg6 h6 arg7 h7 arg8 h8 arg9 h9 arg10 h10 arg11 h11 arg12 h12 arg13 h13 hc1 f9 (by decide) (by decide) (by decide) (by decide) (by decide) (by decide)
  have he := extremes_start px arg12 arg12.view.junk (by decide) (by decide) (by decide) (by decide) (by decide) (by decide)
  have e0 : 8 * (i 0).val = 0 := by omega
  have hloop := loop px c i arg1 h1 arg2 h2 arg3 h3 arg4 h4 arg5 h5 arg6 h6 arg7 h7 arg8 h8 arg9 h9 arg10 h10 arg11 h11 arg12 h12 arg13 h13 (BitVec.ofNat 32 (i 0).val) hc2 f1 _ _ ht hX (by rw [e0]; exact hs) (by rw [e0]; exact he) 8 le_rfl
  iintro ⟨H1, H2, H3, H4, H5, H6, H7, H8, H9, H10, H11, H12, H13, Hk⟩
  sl_unfold [cc0_stem]
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H13]; · iexact H13
  isplitl [H9]
  · iexists _; isplitl [H9]; · iexact H9
    ipureintro; rw [View.writes_append]; exact hloop.1
  iexists _; isplitl [H12]; · iexact H12
  ipureintro; rw [View.writes_append]; exact hloop.2

set_option maxHeartbeats 4000000 in
/-- A later one of the first 28 points. -/
theorem run_rows (px : Img) (c : Dev nD) (i : grid0.Coords)
    (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole)
    (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)
    (hc1 : ¬ k0_cond1 i = 1#1) (hc2 : k0_cond2 i = 1#1) (hX : Block px (i 0).val (arg1.view.read (Elt Ideal) f1)) (hc : Codes px (8 * (i 0).val) (arg9.view.read (Elt Ideal) f9))
    (he : Extremes px (8 * (i 0).val) (arg12.view.read (Elt Ideal) f12))
    (E : Set ℕ) (K : PUnit → sProp 𝕄) :
    iprop(own c arg1 f1 ∗ own c arg2 f2 ∗ own c arg3 f3 ∗ own c arg4 f4 ∗ own c arg5 f5 ∗ own c arg6 f6 ∗ own c arg7 f7 ∗ own c arg8 f8 ∗ own c arg9 f9 ∗ own c arg10 f10 ∗ own c arg11 f11 ∗ own c arg12 f12 ∗ own c arg13 f13
        ∗ (iprop(own c arg1 f1 ∗ own c arg2 f2 ∗ own c arg3 f3 ∗ own c arg4 f4 ∗ own c arg5 f5 ∗ own c arg6 f6 ∗ own c arg7 f7 ∗ own c arg8 f8 ∗ own c arg10 f10 ∗ own c arg11 f11 ∗ own c arg13 f13 ∗ (∃ g9, own c arg9 g9 ∗ ⌜Codes px (8 * (i 0).val + 8) (arg9.view.read (Elt Ideal) g9)⌝) ∗ (∃ g12, own c arg12 g12 ∗ ⌜Extremes px (8 * (i 0).val + 8) (arg12.view.read (Elt Ideal) g12)⌝)) -∗ K ⟨⟩))
      ⊢ wp frame (wpE (defs₀ (F := Ideal)) 𝒱₀ (c : Thread nD τ) none) E (cc0_stem (F := Ideal) i arg1 h1 arg2 h2 arg3 h3 arg4 h4 arg5 h5 arg6 h6 arg7 h7 arg8 h8 arg9 h9 arg10 h10 arg11 h11 arg12 h12 arg13 h13) K := by
  have ht := (cond2_iff i).mp hc2
  have hc3 : ¬ k0_cond3 i = 1#1 := fun h => by have := (cond3_iff i).mp h; omega
  have hc4 : ¬ k0_cond4 i = 1#1 := fun h => by have := (cond4_iff i).mp h; omega
  have hloop := loop px c i arg1 h1 arg2 h2 arg3 h3 arg4 h4 arg5 h5 arg6 h6 arg7 h7 arg8 h8 arg9 h9 arg10 h10 arg11 h11 arg12 h12 arg13 h13 (BitVec.ofNat 32 (i 0).val) hc2 f1 f9 f12 ht hX hc he 8 le_rfl
  iintro ⟨H1, H2, H3, H4, H5, H6, H7, H8, H9, H10, H11, H12, H13, Hk⟩
  sl_unfold [cc0_stem]
  sl_exec
  sl_step
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H13]; · iexact H13
  isplitl [H9]
  · iexists _; isplitl [H9]; · iexact H9
    ipureintro; exact hloop.1
  iexists _; isplitl [H12]; · iexact H12
  ipureintro; exact hloop.2

end Cert.Proof.RunRows

end
-- ==== Proof.Pool.lean ====
/-
  One product of the second phase: 128 rows (64 output channels at two column offsets) times 256 columns (128 images at two
  row offsets), summed over the 256 stored codes of an 8-row window, and what one pooled column takes from it.
-/
module

public import proofs.«01_k».proof.Proof.Rows

@[expose] public section

noncomputable section

namespace Cert.Proof.Pool

open Cert.KernelIdeal Cert.KernelIdeal.Gen Cert.Proof.Trip Cert.Proof.Quantiser Cert.Proof.TripValue Cert.Proof.Rows
open Idealize.ShloMosaic Idealize.ShloMosaic.Pointwise

/-- The row of the window that summand `k` reads. -/
def kr (k : ℕ) : ℕ := if k < 224 then k / 32 else (k - 224) / 4
/-- The word of the window that summand `k` reads. -/
def kw (k : ℕ) : ℕ := if k < 224 then k % 32 / 12 else 2
/-- The channel that summand `k` reads. -/
def kc (k : ℕ) : ℕ := if k < 224 then k % 32 / 4 % 3 else 2

/-- The product at weight row `m` and row offset `2 * n`. -/
def prod (W : Fin 128 → Fin 256 → EReal) (S : ℕ → ℕ → ℕ → ℕ → ℕ → EReal) (R j : ℕ) (m : Fin 128) (n b : ℕ) : EReal :=
  ∑ k : Fin 256, W m k * S (R + 2 * n + kr k.val) (j + kw k.val) (kc k.val) (k.val % 4) b

theorem row_apply (L : Vec Ideal S1x3x3x4x128 .fp8e4m3) (x : Fin 32) (b : Fin 128) :
    k0_pay217 (F := Ideal) L (ix2 x b) = L (ix5 0 ⟨x.val / 12, by omega⟩ ⟨x.val / 4 % 3, by omega⟩ ⟨x.val % 4, by omega⟩ b) := by
  pointwise [k0_pay217]

/-- The right operand of the product: two column halves, each of seven rows of 32 codes and the tail. -/
def rhs (L : Fin 9 → FVec Ideal S32x128 .fp8e4m3) (T : Fin 2 → FVec Ideal S32x128 .fp8e4m3) : FVec Ideal S256x256 .fp8e4m3 :=
  concatenate S256x256 1 [⟨S256x128, concatenate S256x128 0 [⟨S32x128, L 0⟩, ⟨S32x128, L 1⟩, ⟨S32x128, L 2⟩, ⟨S32x128, L 3⟩, ⟨S32x128, L 4⟩, ⟨S32x128, L 5⟩, ⟨S32x128, L 6⟩, ⟨S32x128, T 0⟩] concatenates_S32x128_S32x128_S32x128_S32x128_S32x128_S32x128_S32x128_S32x128_S256x128_d0⟩,
    ⟨S256x128, concatenate S256x128 0 [⟨S32x128, L 2⟩, ⟨S32x128, L 3⟩, ⟨S32x128, L 4⟩, ⟨S32x128, L 5⟩, ⟨S32x128, L 6⟩, ⟨S32x128, L 7⟩, ⟨S32x128, L 8⟩, ⟨S32x128, T 1⟩] concatenates_S32x128_S32x128_S32x128_S32x128_S32x128_S32x128_S32x128_S32x128_S256x128_d0⟩] concatenates_S256x128_S256x128_S256x256_d1

def tailCast (T : Vec Ideal S8x1x1x4x128 .fp8e4m3) : FVec Ideal S32x128 .fp8e4m3 :=
  shapeCast S32x128 (shapeCast S8x4x128 T shapeCasts_S8x1x1x4x128_S8x4x128) shapeCasts_S8x4x128_S32x128

theorem tailCast_apply (T : Vec Ideal S8x1x1x4x128 .fp8e4m3) (x : Fin 32) (b : Fin 128) :
    tailCast T (ix2 x b) = T (ix5 ⟨x.val / 4, by omega⟩ 0 0 ⟨x.val % 4, by omega⟩ b) := by
  pointwise [tailCast]

theorem taps_congr (S : ℕ → ℕ → ℕ → ℕ → ℕ → EReal) {a a' b b' c c' d d' e e' : ℕ} (h1 : a = a') (h2 : b = b') (h3 : c = c') (h4 : d = d') (h5 : e = e') :
    S a b c d e = S a' b' c' d' e' := by subst h1 h2 h3 h4 h5; rfl

set_option maxHeartbeats 4000000 in
theorem rhs_apply (L : Fin 9 → FVec Ideal S32x128 .fp8e4m3) (T : Fin 2 → FVec Ideal S32x128 .fp8e4m3)
    (S : ℕ → ℕ → ℕ → ℕ → ℕ → EReal) (R j : ℕ)
    (hL : ∀ (r : Fin 9) (x : Fin 32) (b : Fin 128), L r (ix2 x b) = S (R + r.val) (j + x.val / 12) (x.val / 4 % 3) (x.val % 4) b.val)
    (hT : ∀ (n : Fin 2) (x : Fin 32) (b : Fin 128), T n (ix2 x b) = S (R + 2 * n.val + x.val / 4) (j + 2) 2 (x.val % 4) b.val)
    (k q : Fin 256) :
    rhs L T (ix2 k q) = S (R + 2 * (q.val / 128) + kr k.val) (j + kw k.val) (kc k.val) (k.val % 4) (q.val % 128) := by
  have hk := k.isLt
  have hq := q.isLt
  pointwise [rhs]
  have ek : (k.val < 224 ∧ kr k.val = k.val / 32 ∧ kw k.val = k.val % 32 / 12 ∧ kc k.val = k.val % 32 / 4 % 3)
      ∨ (224 ≤ k.val ∧ kr k.val = (k.val - 224) / 4 ∧ kw k.val = 2 ∧ kc k.val = 2) := by
    by_cases h : k.val < 224
    · exact .inl ⟨h, if_pos h, if_pos h, if_pos h⟩
    · exact .inr ⟨by omega, if_neg h, if_neg h, if_neg h⟩
  have f0 : ((0 : Fin 9) : ℕ) = 0 := rfl
  have f1 : ((1 : Fin 9) : ℕ) = 1 := rfl
  have f2 : ((2 : Fin 9) : ℕ) = 2 := rfl
  have f3 : ((3 : Fin 9) : ℕ) = 3 := rfl
  have f4 : ((4 : Fin 9) : ℕ) = 4 := rfl
  have f5 : ((5 : Fin 9) : ℕ) = 5 := rfl
  have f6 : ((6 : Fin 9) : ℕ) = 6 := rfl
  have f7 : ((7 : Fin 9) : ℕ) = 7 := rfl
  have f8 : ((8 : Fin 9) : ℕ) = 8 := rfl
  have g0 : ((0 : Fin 2) : ℕ) = 0 := rfl
  have g1 : ((1 : Fin 2) : ℕ) = 1 := rfl
  split_ifs <;> (first | rw [hL] | rw [hT]) <;> refine taps_congr S ?_ ?_ ?_ ?_ ?_ <;> (try dsimp only) <;> omega

/-- The product over loads of the code scratch at given offsets. -/
def dot (arg9 : Memref sig .tc .vmem S230x75x3x4x128 .fp8e4m3) (X9 : BufTy.Contents (Elt Ideal) arg9.view.ty) (W : FVec Ideal S128x256 .fp8e4m3)
    (offL : Fin 9 → Fin 5 → ℕ) (hL : ∀ r a, offL r a + (![1, 3, 3, 4, 128] : Fin 5 → ℕ) a ≤ S230x75x3x4x128.size a)
    (offT : Fin 2 → Fin 5 → ℕ) (hT : ∀ n a, offT n a + (![8, 1, 1, 4, 128] : Fin 5 → ℕ) a ≤ S230x75x3x4x128.size a) : FVec Ideal S128x256 .f32 :=
  matmul dot_S128x256_S256x256_S128x256_1_0_0_1_n_n none W
    (rhs (fun r => k0_pay217 (arg9.view.readAt (Elt Ideal) (Rect.unit (s := S230x75x3x4x128) (offL r) ![1, 3, 3, 4, 128] (hL r)).toLoadRect X9))
      (fun n => tailCast (arg9.view.readAt (Elt Ideal) (Rect.unit (s := S230x75x3x4x128) (offT n) ![8, 1, 1, 4, 128] (hT n)).toLoadRect X9)))
    (constant S128x256 .f32 0x00000000#32)

theorem dot_apply (arg9 : Memref sig .tc .vmem S230x75x3x4x128 .fp8e4m3) (X9 : BufTy.Contents (Elt Ideal) arg9.view.ty) (W : FVec Ideal S128x256 .fp8e4m3)
    (offL : Fin 9 → Fin 5 → ℕ) (hL : ∀ r a, offL r a + (![1, 3, 3, 4, 128] : Fin 5 → ℕ) a ≤ S230x75x3x4x128.size a)
    (offT : Fin 2 → Fin 5 → ℕ) (hT : ∀ n a, offT n a + (![8, 1, 1, 4, 128] : Fin 5 → ℕ) a ≤ S230x75x3x4x128.size a)
    (S : ℕ → ℕ → ℕ → ℕ → ℕ → EReal) (hS : ∀ y, arg9.view.read (Elt Ideal) X9 y = S (y 0).val (y 1).val (y 2).val (y 3).val (y 4).val) (R j : ℕ)
    (eL : ∀ r, offL r = ![R + r.val, j, 0, 0, 0]) (eT : ∀ n, offT n = ![R + 2 * n.val, j + 2, 2, 0, 0]) (m : Fin 128) (q : Fin 256) :
    dot arg9 X9 W offL hL offT hT (ix2 m q) = prod (fun m k => W (ix2 m k)) S R j m (q.val / 128) (q.val % 128) := by
  obtain rfl : offL = fun r => ![R + r.val, j, 0, 0, 0] := funext eL
  obtain rfl : offT = fun n => ![R + 2 * n.val, j + 2, 2, 0, 0] := funext eT
  have h := rhs_apply (fun r => k0_pay217 (arg9.view.readAt (Elt Ideal) (Rect.unit (s := S230x75x3x4x128) ![R + r.val, j, 0, 0, 0] ![1, 3, 3, 4, 128] (hL r)).toLoadRect X9))
      (fun n => tailCast (arg9.view.readAt (Elt Ideal) (Rect.unit (s := S230x75x3x4x128) ![R + 2 * n.val, j + 2, 2, 0, 0] ![8, 1, 1, 4, 128] (hT n)).toLoadRect X9)) S R j
      (fun r x b => ?_) (fun n x b => ?_)
  · unfold dot prod
    generalize rhs _ _ = B at h ⊢
    pointwise
    exact Finset.sum_congr rfl fun k _ => by rw [h k q]
  · rw [row_apply]
    refine (hS _).trans (taps_congr S ?_ ?_ ?_ ?_ ?_)
    · show R + r.val + 1 * 0 = _; omega
    · show j + 1 * (x.val / 12) = _; omega
    · show 0 + 1 * (x.val / 4 % 3) = _; omega
    · show 0 + 1 * (x.val % 4) = _; omega
    · show 0 + 1 * b.val = _; omega
  · rw [tailCast_apply]
    refine (hS _).trans (taps_congr S ?_ ?_ ?_ ?_ ?_)
    · show R + 2 * n.val + 1 * (x.val / 4) = _; omega
    · show j + 2 + 1 * 0 = _; omega
    · show 2 + 1 * 0 = _; omega
    · show 0 + 1 * (x.val % 4) = _; omega
    · show 0 + 1 * b.val = _; omega

/-! ## Slices of the product -/

theorem slice_00 (D : FVec Ideal S128x256 .f32) (h) (o : Fin 64) (b : Fin 128) :
    extractStridedSlice S64x128 ![0, 0] D h (ix2 o b) = D (ix2 ⟨o.val, by omega⟩ ⟨b.val, by omega⟩) := by pointwise
theorem slice_10 (D : FVec Ideal S128x256 .f32) (h) (o : Fin 64) (b : Fin 128) :
    extractStridedSlice S64x128 ![64, 0] D h (ix2 o b) = D (ix2 ⟨64 + o.val, by omega⟩ ⟨b.val, by omega⟩) := by pointwise
theorem slice_01 (D : FVec Ideal S128x256 .f32) (h) (o : Fin 64) (b : Fin 128) :
    extractStridedSlice S64x128 ![0, 128] D h (ix2 o b) = D (ix2 ⟨o.val, by omega⟩ ⟨128 + b.val, by omega⟩) := by pointwise
theorem slice_11 (D : FVec Ideal S128x256 .f32) (h) (o : Fin 64) (b : Fin 128) :
    extractStridedSlice S64x128 ![64, 128] D h (ix2 o b) = D (ix2 ⟨64 + o.val, by omega⟩ ⟨128 + b.val, by omega⟩) := by pointwise

/-! ## Offsets -/

theorem col_toNat : ∀ (k : Fin k0_t4_loop.trips) (u : Fin 8),
    (Scalar.indexCast (Scalar.addi (Scalar.muli (Scf.iv 0#32 1#32 k) 8#32) (BitVec.ofNat 32 u.val))).toNat = 8 * k.val + u.val := by decide +kernel

theorem col2_toNat : ∀ (k : Fin k0_t4_loop.trips) (u : Fin 8),
    (Scalar.indexCast (Scalar.addi (Scalar.addi (Scalar.muli (Scf.iv 0#32 1#32 k) 8#32) (BitVec.ofNat 32 u.val)) 2#32)).toNat = 8 * k.val + u.val + 2 := by decide +kernel

theorem win_toNat : ∀ (i : grid0.Coords) (r : Fin 9), 28 ≤ (i 0).val →
    (Scalar.indexCast (Scalar.addi (Scalar.muli 4#32 (Scalar.subi (BitVec.ofNat 32 (i 0).val) 28#32)) (BitVec.ofNat 32 r.val))).toNat
      = 4 * ((i 0).val - 28) + r.val := by decide +kernel

theorem off85 (i : grid0.Coords) (k : Fin k0_t4_loop.trips) (r : Fin 9) (u : Fin 8) (hi : 28 ≤ (i 0).val) :
    k0_off85 i k (BitVec.ofNat 32 r.val) (BitVec.ofNat 32 u.val) = ![4 * ((i 0).val - 28) + r.val, 8 * k.val + u.val, 0, 0, 0] := by
  show ![_, _, 0, 0, 0] = _
  rw [win_toNat i r hi, col_toNat k u]

theorem off86 (i : grid0.Coords) (k : Fin k0_t4_loop.trips) (n : Fin 2) (u : Fin 8) (hi : 28 ≤ (i 0).val) :
    k0_off86 i k (BitVec.ofNat 32 (2 * n.val)) (BitVec.ofNat 32 u.val) = ![4 * ((i 0).val - 28) + 2 * n.val, 8 * k.val + u.val + 2, 2, 0, 0] := by
  show ![_, _, 2, 0, 0] = _
  rw [win_toNat i ⟨2 * n.val, by omega⟩ hi, col2_toNat k u]

theorem off87 (k : Fin k0_t4_loop.trips) (u : Fin 8) : k0_off87 k (BitVec.ofNat 32 u.val) = ![8 * k.val + u.val, 0, 0] := by
  show ![_, 0, 0] = _
  rw [col_toNat k u]

theorem off88 (k : Fin k0_t4_loop.trips) (u : Fin 8) : k0_off88 k (BitVec.ofNat 32 u.val) = ![0, 8 * k.val + u.val, 0, 0] := by
  show ![0, _, 0, 0] = _
  rw [col_toNat k u]

end Cert.Proof.Pool

end
-- ==== Proof.PoolTrip.lean ====
/-
  One trip of the second phase, eight pooled columns: what it stores in the output block, in the row kept for the next point
  and in the pair kept for the next trip, each as a function of the stored codes, the weights and what was kept before.
-/
module

public import proofs.«01_k».proof.Proof.Pool

@[expose] public section

noncomputable section

namespace Cert.Proof.PoolTrip

open Cert.KernelIdeal Cert.KernelIdeal.Gen Cert.Proof.Trip Cert.Proof.Quantiser Cert.Proof.TripValue Cert.Proof.Rows Cert.Proof.Pool
open Idealize.ShloMosaic Idealize.ShloMosaic.Pointwise

/-- The row of the weights of channel `o` at the first column offset. -/
def top (o : ℕ) : Fin 128 := ⟨o % 64, by omega⟩
/-- The row of the weights of channel `o` at the second column offset. -/
def bot (o : ℕ) : Fin 128 := ⟨64 + o % 64, by omega⟩

section Spec

variable (Wv : Fin 128 → Fin 256 → EReal) (S : ℕ → ℕ → ℕ → ℕ → ℕ → EReal) (R : ℕ)

/-- The column left of pooled column `j`, at row offset `2 * n`; nothing is left of the first. -/
def before (n j o b : ℕ) : EReal := if j = 0 then ⊥ else prod Wv S R (j - 1) (bot o) n b

/-- The largest of the three columns of pooled column `j`. -/
def cell (n j o b : ℕ) : EReal := max (max (prod Wv S R j (top o) n b) (prod Wv S R j (bot o) n b)) (before Wv S R n j o b)

/-- The output at pooled column `j`: the largest of the two rows and of the row kept, scaled, shifted and cut at zero. -/
def out (old ss bb : ℕ → ℕ → ℕ → EReal) (j o b : ℕ) : EReal :=
  max (max (max (cell Wv S R 0 j o b) (cell Wv S R 1 j o b)) (old j o b) * ss 0 o b + bb 0 o b) 0

end Spec

/-! ## The shapes of what is read and stored -/

theorem cell_val (Wv : Fin 128 → Fin 256 → EReal) (S : ℕ → ℕ → ℕ → ℕ → ℕ → EReal) (R j : ℕ) (D : FVec Ideal S128x256 .f32)
    (hD : ∀ m q, D (ix2 m q) = prod Wv S R j m (q.val / 128) (q.val % 128)) (V : FVec Ideal S64x128 .f32) (h h') (o : Fin 64) (b : Fin 128)
    (hV : V (ix2 o b) = before Wv S R 0 j o.val b.val) :
    maximumf (maximumf (extractStridedSlice S64x128 ![0, 0] D h) (extractStridedSlice S64x128 ![64, 0] D h')) V (ix2 o b) = cell Wv S R 0 j o.val b.val := by
  show max (max (extractStridedSlice S64x128 ![0, 0] D h (ix2 o b)) (extractStridedSlice S64x128 ![64, 0] D h' (ix2 o b))) (V (ix2 o b)) = _
  rw [hV, slice_00, slice_10, hD, hD]
  unfold cell
  have e1 : (b.val / 128) = 0 := by omega
  have e2 : (b.val % 128) = b.val := by omega
  have e3 : (⟨o.val, by omega⟩ : Fin 128) = top o.val := Fin.ext (by show o.val = o.val % 64; omega)
  have e4 : (⟨64 + o.val, by omega⟩ : Fin 128) = bot o.val := Fin.ext (by show 64 + o.val = 64 + o.val % 64; omega)
  dsimp only
  rw [e1, e2, e3, e4]

theorem cell_val1 (Wv : Fin 128 → Fin 256 → EReal) (S : ℕ → ℕ → ℕ → ℕ → ℕ → EReal) (R j : ℕ) (D : FVec Ideal S128x256 .f32)
    (hD : ∀ m q, D (ix2 m q) = prod Wv S R j m (q.val / 128) (q.val % 128)) (V : FVec Ideal S64x128 .f32) (h h') (o : Fin 64) (b : Fin 128)
    (hV : V (ix2 o b) = before Wv S R 1 j o.val b.val) :
    maximumf (maximumf (extractStridedSlice S64x128 ![0, 128] D h) (extractStridedSlice S64x128 ![64, 128] D h')) V (ix2 o b) = cell Wv S R 1 j o.val b.val := by
  show max (max (extractStridedSlice S64x128 ![0, 128] D h (ix2 o b)) (extractStridedSlice S64x128 ![64, 128] D h' (ix2 o b))) (V (ix2 o b)) = _
  rw [hV, slice_01, slice_11, hD, hD]
  unfold cell
  have e1 : ((128 + b.val) / 128) = 1 := by omega
  have e2 : ((128 + b.val) % 128) = b.val := by omega
  have e3 : (⟨o.val, by omega⟩ : Fin 128) = top o.val := Fin.ext (by show o.val = o.val % 64; omega)
  have e4 : (⟨64 + o.val, by omega⟩ : Fin 128) = bot o.val := Fin.ext (by show 64 + o.val = 64 + o.val % 64; omega)
  dsimp only
  rw [e1, e2, e3, e4]

/-- What the trip hands to the next pooled column. -/
theorem before_val (Wv : Fin 128 → Fin 256 → EReal) (S : ℕ → ℕ → ℕ → ℕ → ℕ → EReal) (R j : ℕ) (D : FVec Ideal S128x256 .f32)
    (hD : ∀ m q, D (ix2 m q) = prod Wv S R j m (q.val / 128) (q.val % 128)) (h) (o : Fin 64) (b : Fin 128) :
    extractStridedSlice S64x128 ![64, 0] D h (ix2 o b) = before Wv S R 0 (j + 1) o.val b.val := by
  rw [slice_10, hD]
  have e1 : (b.val / 128) = 0 := by omega
  have e2 : (b.val % 128) = b.val := by omega
  have e4 : (⟨64 + o.val, by omega⟩ : Fin 128) = bot o.val := Fin.ext (by show 64 + o.val = 64 + o.val % 64; omega)
  unfold before
  dsimp only
  rw [e1, e2, e4, if_neg (by omega), Nat.add_sub_cancel]

theorem before_val1 (Wv : Fin 128 → Fin 256 → EReal) (S : ℕ → ℕ → ℕ → ℕ → ℕ → EReal) (R j : ℕ) (D : FVec Ideal S128x256 .f32)
    (hD : ∀ m q, D (ix2 m q) = prod Wv S R j m (q.val / 128) (q.val % 128)) (h) (o : Fin 64) (b : Fin 128) :
    extractStridedSlice S64x128 ![64, 128] D h (ix2 o b) = before Wv S R 1 (j + 1) o.val b.val := by
  rw [slice_11, hD]
  have e1 : ((128 + b.val) / 128) = 1 := by omega
  have e2 : ((128 + b.val) % 128) = b.val := by omega
  have e4 : (⟨64 + o.val, by omega⟩ : Fin 128) = bot o.val := Fin.ext (by show 64 + o.val = 64 + o.val % 64; omega)
  unfold before
  dsimp only
  rw [e1, e2, e4, if_neg (by omega), Nat.add_sub_cancel]

theorem cast3 (V : FVec Ideal S64x128 .f32) (h) (x : S1x64x128.Idx) : shapeCast S1x64x128 V h x = V (ix2 (x 1) (x 2)) := by
  have e : x = ix3 (x 0) (x 1) (x 2) := by funext a; fin_cases a <;> rfl
  rw [e]
  pointwise

theorem cast4 (V : FVec Ideal S64x128 .bf16) (h) (x : S1x1x64x128.Idx) : shapeCast S1x1x64x128 V h x = V (ix2 (x 2) (x 3)) := by
  have e : x = ix4 (x 0) (x 1) (x 2) (x 3) := by funext a; fin_cases a <;> rfl
  rw [e]
  pointwise

/-- A row stored at `j` of the row kept, or of the pair kept. -/
theorem piece3 {m : ℕ} (V : FVec Ideal S64x128 .f32) (hc) (G : ℕ → ℕ → ℕ → EReal) (j : ℕ) (hG : ∀ (o : Fin 64) (b : Fin 128), V (ix2 o b) = G j o.val b.val)
    (off : Fin 3 → ℕ) (hoff : off = ![j, 0, 0]) (h : ∀ a, off a + S1x64x128.size a ≤ (⟨3, ![m, 64, 128]⟩ : Shape).size a) (x : S1x64x128.Idx) :
    shapeCast S1x64x128 V hc x = (fun y : (⟨3, ![m, 64, 128]⟩ : Shape).Idx => G (y 0).val (y 1).val (y 2).val) ((Rect.unit (s := ⟨3, ![m, 64, 128]⟩) off S1x64x128.size h).emb x) := by
  subst hoff
  refine (cast3 V hc x).trans ((hG (x 1) (x 2)).trans ?_)
  have x0 : (x 0).val < 1 := (x 0).isLt
  show G j (x 1).val (x 2).val = G (j + 1 * (x 0).val) (0 + 1 * (x 1).val) (0 + 1 * (x 2).val)
  have e0 : j + 1 * (x 0).val = j := by omega
  rw [e0, Nat.zero_add, Nat.zero_add, Nat.one_mul, Nat.one_mul]

theorem uncast3 (V : FVec Ideal S1x64x128 .f32) (h) (o : Fin 64) (b : Fin 128) : shapeCast S64x128 V h (ix2 o b) = V (ix3 0 o b) := by pointwise

theorem load10 (arg10 : Memref sig .tc .vmem S72x64x128 .f32) (f10 : BufTy.Contents (Elt Ideal) arg10.view.ty) (old : ℕ → ℕ → ℕ → EReal) (j : ℕ)
    (hold : ∀ y : S72x64x128.Idx, (y 0).val = j → arg10.view.read (Elt Ideal) f10 y = old (y 0).val (y 1).val (y 2).val)
    (off : Fin 3 → ℕ) (hoff : off = ![j, 0, 0]) (h : ∀ a, off a + S1x64x128.size a ≤ S72x64x128.size a) (hc) (o : Fin 64) (b : Fin 128) :
    shapeCast S64x128 (arg10.view.readAt (Elt Ideal) (Rect.unit (s := S72x64x128) off S1x64x128.size h).toLoadRect f10) hc (ix2 o b) = old j o.val b.val := by
  subst hoff
  refine (uncast3 _ hc o b).trans ?_
  refine (hold _ (show j + 1 * 0 = j by omega)).trans ?_
  · show old (j + 1 * 0) (0 + 1 * o.val) (0 + 1 * b.val) = _
    simp

theorem load11 (arg11 : Memref sig .tc .vmem S2x64x128 .f32) (f11 : BufTy.Contents (Elt Ideal) arg11.view.ty) (prev : ℕ → ℕ → ℕ → EReal) (n : ℕ)
    (hprev : ∀ y : S2x64x128.Idx, arg11.view.read (Elt Ideal) f11 y = prev (y 0).val (y 1).val (y 2).val)
    (h : ∀ a, (![n, 0, 0] : Fin 3 → ℕ) a + S1x64x128.size a ≤ S2x64x128.size a) (hc) (o : Fin 64) (b : Fin 128) :
    shapeCast S64x128 (arg11.view.readAt (Elt Ideal) (Rect.unit (s := S2x64x128) ![n, 0, 0] S1x64x128.size h).toLoadRect f11) hc (ix2 o b) = prev n o.val b.val := by
  refine (uncast3 _ hc o b).trans ?_
  refine (hprev _).trans ?_
  show prev (n + 1 * 0) (0 + 1 * o.val) (0 + 1 * b.val) = _
  simp

theorem load4 (arg4 : Memref sig .tc .vmem S64x128 .f32) (f4 : BufTy.Contents (Elt Ideal) arg4.view.ty) (ss : ℕ → ℕ → ℕ → EReal)
    (hss : ∀ y : S64x128.Idx, arg4.view.read (Elt Ideal) f4 y = ss 0 (y 0).val (y 1).val)
    (h : ∀ a, (![0, 0] : Fin 2 → ℕ) a + S64x128.size a ≤ S64x128.size a) (hc) (o : Fin 64) (b : Fin 128) :
    shapeCast S64x128 (arg4.view.readAt (Elt Ideal) (Rect.unit (s := S64x128) ![0, 0] S64x128.size h).toLoadRect f4) hc (ix2 o b) = ss 0 o.val b.val := by
  generalize hV : arg4.view.readAt (Elt Ideal) (Rect.unit (s := S64x128) ![0, 0] S64x128.size h).toLoadRect f4 = V
  have e : shapeCast S64x128 V hc (ix2 o b) = V (ix2 o b) := by pointwise
  rw [e, ← hV]
  refine (hss _).trans ?_
  show ss 0 (0 + 1 * o.val) (0 + 1 * b.val) = _
  simp

/-- A row stored at `j` of the output block. -/
theorem piece4 (M A B : FVec Ideal S64x128 .f32) (hb) (hc) (G : ℕ → ℕ → ℕ → EReal) (j : ℕ)
    (hG : ∀ (o : Fin 64) (b : Fin 128), max (M (ix2 o b) * A (ix2 o b) + B (ix2 o b)) 0 = G j o.val b.val)
    (off : Fin 4 → ℕ) (hoff : off = ![0, j, 0, 0]) (h : ∀ a, off a + S1x1x64x128.size a ≤ S1x72x64x128.size a) (x : S1x1x64x128.Idx) :
    shapeCast S1x1x64x128 (maximumf (truncf .bf16 (addf (mulf M A) B) hb) (broadcast S64x128 (Scalar.ofBits (F := Ideal) .bf16 0x0000#16))) hc x
      = (fun y : S1x72x64x128.Idx => G (y 1).val (y 2).val (y 3).val) ((Rect.unit (s := S1x72x64x128) off S1x1x64x128.size h).emb x) := by
  subst hoff
  rw [cast4]
  have e : (maximumf (truncf .bf16 (addf (mulf M A) B) hb) (broadcast S64x128 (Scalar.ofBits (F := Ideal) .bf16 0x0000#16))) (ix2 (x 2) (x 3))
      = max (M (ix2 (x 2) (x 3)) * A (ix2 (x 2) (x 3)) + B (ix2 (x 2) (x 3))) 0 := by pointwise
  refine e.trans ((hG (x 2) (x 3)).trans ?_)
  have x1 : (x 1).val < 1 := (x 1).isLt
  show G j (x 2).val (x 3).val = G (j + 1 * (x 1).val) (0 + 1 * (x 2).val) (0 + 1 * (x 3).val)
  have e0 : j + 1 * (x 1).val = j := by omega
  rw [e0, Nat.zero_add, Nat.zero_add, Nat.one_mul, Nat.one_mul]

theorem max3 (A B C : FVec Ideal S64x128 .f32) (y) : maximumf (maximumf A B) C y = max (max (A y) (B y)) (C y) := rfl

theorem out_val (Wv : Fin 128 → Fin 256 → EReal) (S : ℕ → ℕ → ℕ → ℕ → ℕ → EReal) (R : ℕ) (old ss bb : ℕ → ℕ → ℕ → EReal) (j : ℕ)
    (P Q H A B : FVec Ideal S64x128 .f32) (o : Fin 64) (b : Fin 128) (hP : P (ix2 o b) = cell Wv S R 0 j o.val b.val) (hQ : Q (ix2 o b) = cell Wv S R 1 j o.val b.val)
    (hH : H (ix2 o b) = old j o.val b.val) (hA : A (ix2 o b) = ss 0 o.val b.val) (hB : B (ix2 o b) = bb 0 o.val b.val) :
    max (maximumf (maximumf P Q) H (ix2 o b) * A (ix2 o b) + B (ix2 o b)) 0 = out Wv S R old ss bb j o.val b.val := by
  rw [max3, hP, hQ, hH, hA, hB]
  rfl

theorem mem_row3 {m : ℕ} (y : (⟨3, ![m, 64, 128]⟩ : Shape).Idx) (j : ℕ) (hj : (y 0).val = j) (off : Fin 3 → ℕ) (hoff : off = ![j, 0, 0])
    (h : ∀ a, off a + S1x64x128.size a ≤ (⟨3, ![m, 64, 128]⟩ : Shape).size a) : y ∈ (Rect.unit (s := ⟨3, ![m, 64, 128]⟩) off S1x64x128.size h).set := by
  subst hoff
  have y1 : (y 1).val < 64 := (y 1).isLt
  have y2 : (y 2).val < 128 := (y 2).isLt
  refine Rect.mem_set_unit.mpr fun a => ?_
  fin_cases a
  · show j ≤ (y 0).val ∧ (y 0).val < j + 1; omega
  · show 0 ≤ (y 1).val ∧ (y 1).val < 0 + 64; omega
  · show 0 ≤ (y 2).val ∧ (y 2).val < 0 + 128; omega

theorem mem_row10 (y : S72x64x128.Idx) (j : ℕ) (hj : (y 0).val = j) (off : Fin 3 → ℕ) (hoff : off = ![j, 0, 0])
    (h : ∀ a, off a + S1x64x128.size a ≤ S72x64x128.size a) : y ∈ (Rect.unit (s := S72x64x128) off S1x64x128.size h).set := mem_row3 (m := 72) y j hj off hoff h

theorem row_mem10 (y : S72x64x128.Idx) (j : ℕ) (off : Fin 3 → ℕ) (hoff : off = ![j, 0, 0])
    (h : ∀ a, off a + S1x64x128.size a ≤ S72x64x128.size a) (hy : y ∈ (Rect.unit (s := S72x64x128) off S1x64x128.size h).set) : (y 0).val = j := by
  subst hoff
  have := Rect.mem_set_unit.mp hy 0
  have h' : j ≤ (y 0).val ∧ (y 0).val < j + 1 := this
  omega

theorem mem_row6 (y : S1x72x64x128.Idx) (j : ℕ) (hj : (y 1).val = j) (off : Fin 4 → ℕ) (hoff : off = ![0, j, 0, 0])
    (h : ∀ a, off a + S1x1x64x128.size a ≤ S1x72x64x128.size a) : y ∈ (Rect.unit (s := S1x72x64x128) off S1x1x64x128.size h).set := by
  subst hoff
  have y0 : (y 0).val < 1 := (y 0).isLt
  have y2 : (y 2).val < 64 := (y 2).isLt
  have y3 : (y 3).val < 128 := (y 3).isLt
  refine Rect.mem_set_unit.mpr fun a => ?_
  fin_cases a
  · show 0 ≤ (y 0).val ∧ (y 0).val < 0 + 1; omega
  · show j ≤ (y 1).val ∧ (y 1).val < j + 1; omega
  · show 0 ≤ (y 2).val ∧ (y 2).val < 0 + 64; omega
  · show 0 ≤ (y 3).val ∧ (y 3).val < 0 + 128; omega

theorem row_mem6 (y : S1x72x64x128.Idx) (j : ℕ) (off : Fin 4 → ℕ) (hoff : off = ![0, j, 0, 0])
    (h : ∀ a, off a + S1x1x64x128.size a ≤ S1x72x64x128.size a) (hy : y ∈ (Rect.unit (s := S1x72x64x128) off S1x1x64x128.size h).set) : (y 1).val = j := by
  subst hoff
  have := Rect.mem_set_unit.mp hy 1
  have h' : j ≤ (y 1).val ∧ (y 1).val < j + 1 := this
  omega

/-! ## The eight products -/

section Dots

variable (i : grid0.Coords) (arg2 : Memref sig .tc .vmem S128x256 .fp8e4m3) (arg3 : Memref sig .tc .vmem S128x256 .f32)
  (arg9 : Memref sig .tc .vmem S230x75x3x4x128 .fp8e4m3) (h4 : k0_cond4 i = 1#1) (X2 : BufTy.Contents (Elt Ideal) arg2.view.ty)
  (X3 : BufTy.Contents (Elt Ideal) arg3.view.ty) (X9 : BufTy.Contents (Elt Ideal) arg9.view.ty) (k : Fin k0_t4_loop.trips)
  (S : ℕ → ℕ → ℕ → ℕ → ℕ → EReal) (hS : ∀ y, arg9.view.read (Elt Ideal) X9 y = S (y 0).val (y 1).val (y 2).val (y 3).val (y 4).val)
  (hi : 28 ≤ (i 0).val)

/-- The weights the products use. -/
def wts : Fin 128 → Fin 256 → EReal := fun m k => trip_k0_t4.sl.v1592 (F := Ideal) arg2 arg3 X2 X3 (ix2 m k)

include hS hi in
theorem dot_0 (m : Fin 128) (q : Fin 256) : trip_k0_t4.sl.v1679 (F := Ideal) i arg2 arg3 arg9 h4 X2 X3 X9 k (ix2 m q)
    = prod (wts arg2 arg3 X2 X3) S (4 * ((i 0).val - 28)) (8 * k.val + 0) m (q.val / 128) (q.val % 128) :=
  dot_apply arg9 X9 (trip_k0_t4.sl.v1592 (F := Ideal) arg2 arg3 X2 X3) (fun r => k0_off85 i k (BitVec.ofNat 32 r.val) (BitVec.ofNat 32 0))
    (fun r => k0_off85_inb i k h4 r 0) (fun n => k0_off86 i k (BitVec.ofNat 32 (2 * n.val)) (BitVec.ofNat 32 0)) (fun n => k0_off86_inb i k h4 n 0) S hS _ _
    (fun r => off85 i k r 0 hi) (fun n => off86 i k n 0 hi) m q

include hS hi in
theorem dot_1 (m : Fin 128) (q : Fin 256) : trip_k0_t4.sl.v1792 (F := Ideal) i arg2 arg3 arg9 h4 X2 X3 X9 k (ix2 m q)
    = prod (wts arg2 arg3 X2 X3) S (4 * ((i 0).val - 28)) (8 * k.val + 1) m (q.val / 128) (q.val % 128) :=
  dot_apply arg9 X9 (trip_k0_t4.sl.v1592 (F := Ideal) arg2 arg3 X2 X3) (fun r => k0_off85 i k (BitVec.ofNat 32 r.val) (BitVec.ofNat 32 1))
    (fun r => k0_off85_inb i k h4 r 1) (fun n => k0_off86 i k (BitVec.ofNat 32 (2 * n.val)) (BitVec.ofNat 32 1)) (fun n => k0_off86_inb i k h4 n 1) S hS _ _
    (fun r => off85 i k r 1 hi) (fun n => off86 i k n 1 hi) m q

include hS hi in
theorem dot_2 (m : Fin 128) (q : Fin 256) : trip_k0_t4.sl.v1905 (F := Ideal) i arg2 arg3 arg9 h4 X2 X3 X9 k (ix2 m q)
    = prod (wts arg2 arg3 X2 X3) S (4 * ((i 0).val - 28)) (8 * k.val + 2) m (q.val / 128) (q.val % 128) :=
  dot_apply arg9 X9 (trip_k0_t4.sl.v1592 (F := Ideal) arg2 arg3 X2 X3) (fun r => k0_off85 i k (BitVec.ofNat 32 r.val) (BitVec.ofNat 32 2))
    (fun r => k0_off85_inb i k h4 r 2) (fun n => k0_off86 i k (BitVec.ofNat 32 (2 * n.val)) (BitVec.ofNat 32 2)) (fun n => k0_off86_inb i k h4 n 2) S hS _ _
    (fun r => off85 i k r 2 hi) (fun n => off86 i k n 2 hi) m q

include hS hi in
theorem dot_3 (m : Fin 128) (q : Fin 256) : trip_k0_t4.sl.v2018 (F := Ideal) i arg2 arg3 arg9 h4 X2 X3 X9 k (ix2 m q)
    = prod (wts arg2 arg3 X2 X3) S (4 * ((i 0).val - 28)) (8 * k.val + 3) m (q.val / 128) (q.val % 128) :=
  dot_apply arg9 X9 (trip_k0_t4.sl.v1592 (F := Ideal) arg2 arg3 X2 X3) (fun r => k0_off85 i k (BitVec.ofNat 32 r.val) (BitVec.ofNat 32 3))
    (fun r => k0_off85_inb i k h4 r 3) (fun n => k0_off86 i k (BitVec.ofNat 32 (2 * n.val)) (BitVec.ofNat 32 3)) (fun n => k0_off86_inb i k h4 n 3) S hS _ _
    (fun r => off85 i k r 3 hi) (fun n => off86 i k n 3 hi) m q

include hS hi in
theorem dot_4 (m : Fin 128) (q : Fin 256) : trip_k0_t4.sl.v2131 (F := Ideal) i arg2 arg3 arg9 h4 X2 X3 X9 k (ix2 m q)
    = prod (wts arg2 arg3 X2 X3) S (4 * ((i 0).val - 28)) (8 * k.val + 4) m (q.val / 128) (q.val % 128) :=
  dot_apply arg9 X9 (trip_k0_t4.sl.v1592 (F := Ideal) arg2 arg3 X2 X3) (fun r => k0_off85 i k (BitVec.ofNat 32 r.val) (BitVec.ofNat 32 4))
    (fun r => k0_off85_inb i k h4 r 4) (fun n => k0_off86 i k (BitVec.ofNat 32 (2 * n.val)) (BitVec.ofNat 32 4)) (fun n => k0_off86_inb i k h4 n 4) S hS _ _
    (fun r => off85 i k r 4 hi) (fun n => off86 i k n 4 hi) m q

include hS hi in
theorem dot_5 (m : Fin 128) (q : Fin 256) : trip_k0_t4.sl.v2244 (F := Ideal) i arg2 arg3 arg9 h4 X2 X3 X9 k (ix2 m q)
    = prod (wts arg2 arg3 X2 X3) S (4 * ((i 0).val - 28)) (8 * k.val + 5) m (q.val / 128) (q.val % 128) :=
  dot_apply arg9 X9 (trip_k0_t4.sl.v1592 (F := Ideal) arg2 arg3 X2 X3) (fun r => k0_off85 i k (BitVec.ofNat 32 r.val) (BitVec.ofNat 32 5))
    (fun r => k0_off85_inb i k h4 r 5) (fun n => k0_off86 i k (BitVec.ofNat 32 (2 * n.val)) (BitVec.ofNat 32 5)) (fun n => k0_off86_inb i k h4 n 5) S hS _ _
    (fun r => off85 i k r 5 hi) (fun n => off86 i k n 5 hi) m q

include hS hi in
theorem dot_6 (m : Fin 128) (q : Fin 256) : trip_k0_t4.sl.v2357 (F := Ideal) i arg2 arg3 arg9 h4 X2 X3 X9 k (ix2 m q)
    = prod (wts arg2 arg3 X2 X3) S (4 * ((i 0).val - 28)) (8 * k.val + 6) m (q.val / 128) (q.val % 128) :=
  dot_apply arg9 X9 (trip_k0_t4.sl.v1592 (F := Ideal) arg2 arg3 X2 X3) (fun r => k0_off85 i k (BitVec.ofNat 32 r.val) (BitVec.ofNat 32 6))
    (fun r => k0_off85_inb i k h4 r 6) (fun n => k0_off86 i k (BitVec.ofNat 32 (2 * n.val)) (BitVec.ofNat 32 6)) (fun n => k0_off86_inb i k h4 n 6) S hS _ _
    (fun r => off85 i k r 6 hi) (fun n => off86 i k n 6 hi) m q

include hS hi in
theorem dot_7 (m : Fin 128) (q : Fin 256) : trip_k0_t4.sl.v2470 (F := Ideal) i arg2 arg3 arg9 h4 X2 X3 X9 k (ix2 m q)
    = prod (wts arg2 arg3 X2 X3) S (4 * ((i 0).val - 28)) (8 * k.val + 7) m (q.val / 128) (q.val % 128) :=
  dot_apply arg9 X9 (trip_k0_t4.sl.v1592 (F := Ideal) arg2 arg3 X2 X3) (fun r => k0_off85 i k (BitVec.ofNat 32 r.val) (BitVec.ofNat 32 7))
    (fun r => k0_off85_inb i k h4 r 7) (fun n => k0_off86 i k (BitVec.ofNat 32 (2 * n.val)) (BitVec.ofNat 32 7)) (fun n => k0_off86_inb i k h4 n 7) S hS _ _
    (fun r => off85 i k r 7 hi) (fun n => off86 i k n 7 hi) m q

end Dots

/-! ## What the trip stores -/

section Pieces

variable (c : Dev nD) (i : grid0.Coords) (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole) (kh : k0_cond4 i = 1#1) (v1580 : BitVec 32)
    (X2 : BufTy.Contents (Elt Ideal) arg2.view.ty) (X3 : BufTy.Contents (Elt Ideal) arg3.view.ty) (X4 : BufTy.Contents (Elt Ideal) arg4.view.ty)
    (X5 : BufTy.Contents (Elt Ideal) arg5.view.ty) (X9 : BufTy.Contents (Elt Ideal) arg9.view.ty) (k : Fin k0_t4_loop.trips)
    (f6 : BufTy.Contents (Elt Ideal) arg6.view.ty) (f10 : BufTy.Contents (Elt Ideal) arg10.view.ty) (f11 : BufTy.Contents (Elt Ideal) arg11.view.ty)
    (S : ℕ → ℕ → ℕ → ℕ → ℕ → EReal) (hS : ∀ y, arg9.view.read (Elt Ideal) X9 y = S (y 0).val (y 1).val (y 2).val (y 3).val (y 4).val)
    (hi : 28 ≤ (i 0).val) (old ss bb : ℕ → ℕ → ℕ → EReal)
    (hold : ∀ y : S72x64x128.Idx, 8 * k.val ≤ (y 0).val → (y 0).val < 8 * k.val + 8 → arg10.view.read (Elt Ideal) f10 y = old (y 0).val (y 1).val (y 2).val)
    (hss : ∀ y : S64x128.Idx, arg4.view.read (Elt Ideal) X4 y = ss 0 (y 0).val (y 1).val)
    (hbb : ∀ y : S64x128.Idx, arg5.view.read (Elt Ideal) X5 y = bb 0 (y 0).val (y 1).val)
    (hprev : ∀ y : S2x64x128.Idx, arg11.view.read (Elt Ideal) f11 y
      = before (wts arg2 arg3 X2 X3) S (4 * ((i 0).val - 28)) (y 0).val (8 * k.val) (y 1).val (y 2).val)

/-- The three lists of what trip `k` stores. -/
abbrev lists := tripL_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 k f6 f10 f11

set_option maxRecDepth 65536
set_option maxHeartbeats 4000000

include hS hi in
theorem stored11 : ∀ p ∈ (lists c i arg1 h1 arg2 h2 arg3 h3 arg4 h4 arg5 h5 arg6 h6 arg7 h7 arg8 h8 arg9 h9 arg10 h10 arg11 h11 arg12 h12 arg13 h13 kh v1580 X2 X3 X4 X5 X9 k f6 f10 f11).2.2, ∀ x, p.2 x = (fun y : S2x64x128.Idx => before (wts arg2 arg3 X2 X3) S (4 * ((i 0).val - 28)) (y 0).val (8 * k.val + 8) (y 1).val (y 2).val) (p.1.emb x) := by
  unfold lists tripL_k0_t4 trip_k0_t4
  dsimp only
  refine List.forall_mem_cons.mpr ⟨?_, List.forall_mem_cons.mpr ⟨?_, fun _ h => absurd h List.not_mem_nil⟩⟩
  · exact piece3 (m := 2) _ shapeCasts_S64x128_S1x64x128 (fun n o b => before (wts arg2 arg3 X2 X3) S (4 * ((i 0).val - 28)) n (8 * k.val + 8) o b) 1 (fun o b => before_val1 (wts arg2 arg3 X2 X3) S (4 * ((i 0).val - 28)) (8 * k.val + 7) _ (dot_7 i arg2 arg3 arg9 kh X2 X3 X9 k S hS hi) slices_S128x256_o64_128_S64x128 o b) _ rfl (by decide)
  · exact piece3 (m := 2) _ shapeCasts_S64x128_S1x64x128 (fun n o b => before (wts arg2 arg3 X2 X3) S (4 * ((i 0).val - 28)) n (8 * k.val + 8) o b) 0 (fun o b => before_val (wts arg2 arg3 X2 X3) S (4 * ((i 0).val - 28)) (8 * k.val + 7) _ (dot_7 i arg2 arg3 arg9 kh X2 X3 X9 k S hS hi) slices_S128x256_o64_0_S64x128 o b) _ rfl (by decide)

include hS hi hprev in
theorem stored10 : ∀ p ∈ (lists c i arg1 h1 arg2 h2 arg3 h3 arg4 h4 arg5 h5 arg6 h6 arg7 h7 arg8 h8 arg9 h9 arg10 h10 arg11 h11 arg12 h12 arg13 h13 kh v1580 X2 X3 X4 X5 X9 k f6 f10 f11).2.1, ∀ x, p.2 x = (fun y : S72x64x128.Idx => cell (wts arg2 arg3 X2 X3) S (4 * ((i 0).val - 28)) 1 (y 0).val (y 1).val (y 2).val) (p.1.emb x) := by
  unfold lists tripL_k0_t4 trip_k0_t4
  dsimp only
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · exact piece3 (m := 72) _ shapeCasts_S64x128_S1x64x128 (fun n o b => cell (wts arg2 arg3 X2 X3) S (4 * ((i 0).val - 28)) 1 n o b) (8 * k.val + 7) (fun o b => (cell_val1 (wts arg2 arg3 X2 X3) S (4 * ((i 0).val - 28)) (8 * k.val + 7) _ (dot_7 i arg2 arg3 arg9 kh X2 X3 X9 k S hS hi) _ slices_S128x256_o0_128_S64x128 slices_S128x256_o64_128_S64x128 o b (before_val1 (wts arg2 arg3 X2 X3) S (4 * ((i 0).val - 28)) (8 * k.val + 6) _ (dot_6 i arg2 arg3 arg9 kh X2 X3 X9 k S hS hi) slices_S128x256_o64_128_S64x128 o b))) _ (off87 k 7) (k0_off87_inb i k kh 7)
  · exact piece3 (m := 72) _ shapeCasts_S64x128_S1x64x128 (fun n o b => cell (wts arg2 arg3 X2 X3) S (4 * ((i 0).val - 28)) 1 n o b) (8 * k.val + 6) (fun o b => (cell_val1 (wts arg2 arg3 X2 X3) S (4 * ((i 0).val - 28)) (8 * k.val + 6) _ (dot_6 i arg2 arg3 arg9 kh X2 X3 X9 k S hS hi) _ slices_S128x256_o0_128_S64x128 slices_S128x256_o64_128_S64x128 o b (before_val1 (wts arg2 arg3 X2 X3) S (4 * ((i 0).val - 28)) (8 * k.val + 5) _ (dot_5 i arg2 arg3 arg9 kh X2 X3 X9 k S hS hi) slices_S128x256_o64_128_S64x128 o b))) _ (off87 k 6) (k0_off87_inb i k kh 6)
  · exact piece3 (m := 72) _ shapeCasts_S64x128_S1x64x128 (fun n o b => cell (wts arg2 arg3 X2 X3) S (4 * ((i 0).val - 28)) 1 n o b) (8 * k.val + 5) (fun o b => (cell_val1 (wts arg2 arg3 X2 X3) S (4 * ((i 0).val - 28)) (8 * k.val + 5) _ (dot_5 i arg2 arg3 arg9 kh X2 X3 X9 k S hS hi) _ slices_S128x256_o0_128_S64x128 slices_S128x256_o64_128_S64x128 o b (before_val1 (wts arg2 arg3 X2 X3) S (4 * ((i 0).val - 28)) (8 * k.val + 4) _ (dot_4 i arg2 arg3 arg9 kh X2 X3 X9 k S hS hi) slices_S128x256_o64_128_S64x128 o b))) _ (off87 k 5) (k0_off87_inb i k kh 5)
  · exact piece3 (m := 72) _ shapeCasts_S64x128_S1x64x128 (fun n o b => cell (wts arg2 arg3 X2 X3) S (4 * ((i 0).val - 28)) 1 n o b) (8 * k.val + 4) (fun o b => (cell_val1 (wts arg2 arg3 X2 X3) S (4 * ((i 0).val - 28)) (8 * k.val + 4) _ (dot_4 i arg2 arg3 arg9 kh X2 X3 X9 k S hS hi) _ slices_S128x256_o0_128_S64x128 slices_S128x256_o64_128_S64x128 o b (before_val1 (wts arg2 arg3 X2 X3) S (4 * ((i 0).val - 28)) (8 * k.val + 3) _ (dot_3 i arg2 arg3 arg9 kh X2 X3 X9 k S hS hi) slices_S128x256_o64_128_S64x128 o b))) _ (off87 k 4) (k0_off87_inb i k kh 4)
  · exact piece3 (m := 72) _ shapeCasts_S64x128_S1x64x128 (fun n o b => cell (wts arg2 arg3 X2 X3) S (4 * ((i 0).val - 28)) 1 n o b) (8 * k.val + 3) (fun o b => (cell_val1 (wts arg2 arg3 X2 X3) S (4 * ((i 0).val - 28)) (8 * k.val + 3) _ (dot_3 i arg2 arg3 arg9 kh X2 X3 X9 k S hS hi) _ slices_S128x256_o0_128_S64x128 slices_S128x256_o64_128_S64x128 o b (before_val1 (wts arg2 arg3 X2 X3) S (4 * ((i 0).val - 28)) (8 * k.val + 2) _ (dot_2 i arg2 arg3 arg9 kh X2 X3 X9 k S hS hi) slices_S128x256_o64_128_S64x128 o b))) _ (off87 k 3) (k0_off87_inb i k kh 3)
  · exact piece3 (m := 72) _ shapeCasts_S64x128_S1x64x128 (fun n o b => cell (wts arg2 arg3 X2 X3) S (4 * ((i 0).val - 28)) 1 n o b) (8 * k.val + 2) (fun o b => (cell_val1 (wts arg2 arg3 X2 X3) S (4 * ((i 0).val - 28)) (8 * k.val + 2) _ (dot_2 i arg2 arg3 arg9 kh X2 X3 X9 k S hS hi) _ slices_S128x256_o0_128_S64x128 slices_S128x256_o64_128_S64x128 o b (before_val1 (wts arg2 arg3 X2 X3) S (4 * ((i 0).val - 28)) (8 * k.val + 1) _ (dot_1 i arg2 arg3 arg9 kh X2 X3 X9 k S hS hi) slices_S128x256_o64_128_S64x128 o b))) _ (off87 k 2) (k0_off87_inb i k kh 2)
  · exact piece3 (m := 72) _ shapeCasts_S64x128_S1x64x128 (fun n o b => cell (wts arg2 arg3 X2 X3) S (4 * ((i 0).val - 28)) 1 n o b) (8 * k.val + 1) (fun o b => (cell_val1 (wts arg2 arg3 X2 X3) S (4 * ((i 0).val - 28)) (8 * k.val + 1) _ (dot_1 i arg2 arg3 arg9 kh X2 X3 X9 k S hS hi) _ slices_S128x256_o0_128_S64x128 slices_S128x256_o64_128_S64x128 o b (before_val1 (wts arg2 arg3 X2 X3) S (4 * ((i 0).val - 28)) (8 * k.val + 0) _ (dot_0 i arg2 arg3 arg9 kh X2 X3 X9 k S hS hi) slices_S128x256_o64_128_S64x128 o b))) _ (off87 k 1) (k0_off87_inb i k kh 1)
  · exact piece3 (m := 72) _ shapeCasts_S64x128_S1x64x128 (fun n o b => cell (wts arg2 arg3 X2 X3) S (4 * ((i 0).val - 28)) 1 n o b) (8 * k.val + 0) (fun o b => (cell_val1 (wts arg2 arg3 X2 X3) S (4 * ((i 0).val - 28)) (8 * k.val + 0) _ (dot_0 i arg2 arg3 arg9 kh X2 X3 X9 k S hS hi) _ slices_S128x256_o0_128_S64x128 slices_S128x256_o64_128_S64x128 o b (load11 arg11 f11 (fun n o b => before (wts arg2 arg3 X2 X3) S (4 * ((i 0).val - 28)) n (8 * k.val) o b) 1 hprev (by decide) shapeCasts_S1x64x128_S64x128 o b))) _ (off87 k 0) (k0_off87_inb i k kh 0)

include hS hi hprev hold hss hbb in
theorem stored6 : ∀ p ∈ (lists c i arg1 h1 arg2 h2 arg3 h3 arg4 h4 arg5 h5 arg6 h6 arg7 h7 arg8 h8 arg9 h9 arg10 h10 arg11 h11 arg12 h12 arg13 h13 kh v1580 X2 X3 X4 X5 X9 k f6 f10 f11).1, ∀ x, p.2 x = (fun y : S1x72x64x128.Idx => out (wts arg2 arg3 X2 X3) S (4 * ((i 0).val - 28)) old ss bb (y 1).val (y 2).val (y 3).val) (p.1.emb x) := by
  unfold lists tripL_k0_t4 trip_k0_t4
  dsimp only
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · exact piece4 _ _ _ bitsLt_bf16_f32 shapeCasts_S64x128_S1x1x64x128 (fun j o b => out (wts arg2 arg3 X2 X3) S (4 * ((i 0).val - 28)) old ss bb j o b) (8 * k.val + 7) (fun o b => out_val (wts arg2 arg3 X2 X3) S (4 * ((i 0).val - 28)) old ss bb (8 * k.val + 7) _ _ _ _ _ o b (cell_val (wts arg2 arg3 X2 X3) S (4 * ((i 0).val - 28)) (8 * k.val + 7) _ (dot_7 i arg2 arg3 arg9 kh X2 X3 X9 k S hS hi) _ slices_S128x256_o0_0_S64x128 slices_S128x256_o64_0_S64x128 o b (before_val (wts arg2 arg3 X2 X3) S (4 * ((i 0).val - 28)) (8 * k.val + 6) _ (dot_6 i arg2 arg3 arg9 kh X2 X3 X9 k S hS hi) slices_S128x256_o64_0_S64x128 o b)) (cell_val1 (wts arg2 arg3 X2 X3) S (4 * ((i 0).val - 28)) (8 * k.val + 7) _ (dot_7 i arg2 arg3 arg9 kh X2 X3 X9 k S hS hi) _ slices_S128x256_o0_128_S64x128 slices_S128x256_o64_128_S64x128 o b (before_val1 (wts arg2 arg3 X2 X3) S (4 * ((i 0).val - 28)) (8 * k.val + 6) _ (dot_6 i arg2 arg3 arg9 kh X2 X3 X9 k S hS hi) slices_S128x256_o64_128_S64x128 o b)) (load10 arg10 f10 old (8 * k.val + 7) (fun y e => hold y (by omega) (by omega)) _ (off87 k 7) (k0_off87_inb i k kh 7) shapeCasts_S1x64x128_S64x128 o b) (load4 arg4 X4 ss hss (by decide) shapeCasts_S64x128_S64x128 o b) (load4 arg5 X5 bb hbb (by decide) shapeCasts_S64x128_S64x128 o b)) _ (off88 k 7) (k0_off88_inb i k kh 7)
  · exact piece4 _ _ _ bitsLt_bf16_f32 shapeCasts_S64x128_S1x1x64x128 (fun j o b => out (wts arg2 arg3 X2 X3) S (4 * ((i 0).val - 28)) old ss bb j o b) (8 * k.val + 6) (fun o b => out_val (wts arg2 arg3 X2 X3) S (4 * ((i 0).val - 28)) old ss bb (8 * k.val + 6) _ _ _ _ _ o b (cell_val (wts arg2 arg3 X2 X3) S (4 * ((i 0).val - 28)) (8 * k.val + 6) _ (dot_6 i arg2 arg3 arg9 kh X2 X3 X9 k S hS hi) _ slices_S128x256_o0_0_S64x128 slices_S128x256_o64_0_S64x128 o b (before_val (wts arg2 arg3 X2 X3) S (4 * ((i 0).val - 28)) (8 * k.val + 5) _ (dot_5 i arg2 arg3 arg9 kh X2 X3 X9 k S hS hi) slices_S128x256_o64_0_S64x128 o b)) (cell_val1 (wts arg2 arg3 X2 X3) S (4 * ((i 0).val - 28)) (8 * k.val + 6) _ (dot_6 i arg2 arg3 arg9 kh X2 X3 X9 k S hS hi) _ slices_S128x256_o0_128_S64x128 slices_S128x256_o64_128_S64x128 o b (before_val1 (wts arg2 arg3 X2 X3) S (4 * ((i 0).val - 28)) (8 * k.val + 5) _ (dot_5 i arg2 arg3 arg9 kh X2 X3 X9 k S hS hi) slices_S128x256_o64_128_S64x128 o b)) (load10 arg10 f10 old (8 * k.val + 6) (fun y e => hold y (by omega) (by omega)) _ (off87 k 6) (k0_off87_inb i k kh 6) shapeCasts_S1x64x128_S64x128 o b) (load4 arg4 X4 ss hss (by decide) shapeCasts_S64x128_S64x128 o b) (load4 arg5 X5 bb hbb (by decide) shapeCasts_S64x128_S64x128 o b)) _ (off88 k 6) (k0_off88_inb i k kh 6)
  · exact piece4 _ _ _ bitsLt_bf16_f32 shapeCasts_S64x128_S1x1x64x128 (fun j o b => out (wts arg2 arg3 X2 X3) S (4 * ((i 0).val - 28)) old ss bb j o b) (8 * k.val + 5) (fun o b => out_val (wts arg2 arg3 X2 X3) S (4 * ((i 0).val - 28)) old ss bb (8 * k.val + 5) _ _ _ _ _ o b (cell_val (wts arg2 arg3 X2 X3) S (4 * ((i 0).val - 28)) (8 * k.val + 5) _ (dot_5 i arg2 arg3 arg9 kh X2 X3 X9 k S hS hi) _ slices_S128x256_o0_0_S64x128 slices_S128x256_o64_0_S64x128 o b (before_val (wts arg2 arg3 X2 X3) S (4 * ((i 0).val - 28)) (8 * k.val + 4) _ (dot_4 i arg2 arg3 arg9 kh X2 X3 X9 k S hS hi) slices_S128x256_o64_0_S64x128 o b)) (cell_val1 (wts arg2 arg3 X2 X3) S (4 * ((i 0).val - 28)) (8 * k.val + 5) _ (dot_5 i arg2 arg3 arg9 kh X2 X3 X9 k S hS hi) _ slices_S128x256_o0_128_S64x128 slices_S128x256_o64_128_S64x128 o b (before_val1 (wts arg2 arg3 X2 X3) S (4 * ((i 0).val - 28)) (8 * k.val + 4) _ (dot_4 i arg2 arg3 arg9 kh X2 X3 X9 k S hS hi) slices_S128x256_o64_128_S64x128 o b)) (load10 arg10 f10 old (8 * k.val + 5) (fun y e => hold y (by omega) (by omega)) _ (off87 k 5) (k0_off87_inb i k kh 5) shapeCasts_S1x64x128_S64x128 o b) (load4 arg4 X4 ss hss (by decide) shapeCasts_S64x128_S64x128 o b) (load4 arg5 X5 bb hbb (by decide) shapeCasts_S64x128_S64x128 o b)) _ (off88 k 5) (k0_off88_inb i k kh 5)
  · exact piece4 _ _ _ bitsLt_bf16_f32 shapeCasts_S64x128_S1x1x64x128 (fun j o b => out (wts arg2 arg3 X2 X3) S (4 * ((i 0).val - 28)) old ss bb j o b) (8 * k.val + 4) (fun o b => out_val (wts arg2 arg3 X2 X3) S (4 * ((i 0).val - 28)) old ss bb (8 * k.val + 4) _ _ _ _ _ o b (cell_val (wts arg2 arg3 X2 X3) S (4 * ((i 0).val - 28)) (8 * k.val + 4) _ (dot_4 i arg2 arg3 arg9 kh X2 X3 X9 k S hS hi) _ slices_S128x256_o0_0_S64x128 slices_S128x256_o64_0_S64x128 o b (before_val (wts arg2 arg3 X2 X3) S (4 * ((i 0).val - 28)) (8 * k.val + 3) _ (dot_3 i arg2 arg3 arg9 kh X2 X3 X9 k S hS hi) slices_S128x256_o64_0_S64x128 o b)) (cell_val1 (wts arg2 arg3 X2 X3) S (4 * ((i 0).val - 28)) (8 * k.val + 4) _ (dot_4 i arg2 arg3 arg9 kh X2 X3 X9 k S hS hi) _ slices_S128x256_o0_128_S64x128 slices_S128x256_o64_128_S64x128 o b (before_val1 (wts arg2 arg3 X2 X3) S (4 * ((i 0).val - 28)) (8 * k.val + 3) _ (dot_3 i arg2 arg3 arg9 kh X2 X3 X9 k S hS hi) slices_S128x256_o64_128_S64x128 o b)) (load10 arg10 f10 old (8 * k.val + 4) (fun y e => hold y (by omega) (by omega)) _ (off87 k 4) (k0_off87_inb i k kh 4) shapeCasts_S1x64x128_S64x128 o b) (load4 arg4 X4 ss hss (by decide) shapeCasts_S64x128_S64x128 o b) (load4 arg5 X5 bb hbb (by decide) shapeCasts_S64x128_S64x128 o b)) _ (off88 k 4) (k0_off88_inb i k kh 4)
  · exact piece4 _ _ _ bitsLt_bf16_f32 shapeCasts_S64x128_S1x1x64x128 (fun j o b => out (wts arg2 arg3 X2 X3) S (4 * ((i 0).val - 28)) old ss bb j o b) (8 * k.val + 3) (fun o b => out_val (wts arg2 arg3 X2 X3) S (4 * ((i 0).val - 28)) old ss bb (8 * k.val + 3) _ _ _ _ _ o b (cell_val (wts arg2 arg3 X2 X3) S (4 * ((i 0).val - 28)) (8 * k.val + 3) _ (dot_3 i arg2 arg3 arg9 kh X2 X3 X9 k S hS hi) _ slices_S128x256_o0_0_S64x128 slices_S128x256_o64_0_S64x128 o b (before_val (wts arg2 arg3 X2 X3) S (4 * ((i 0).val - 28)) (8 * k.val + 2) _ (dot_2 i arg2 arg3 arg9 kh X2 X3 X9 k S hS hi) slices_S128x256_o64_0_S64x128 o b)) (cell_val1 (wts arg2 arg3 X2 X3) S (4 * ((i 0).val - 28)) (8 * k.val + 3) _ (dot_3 i arg2 arg3 arg9 kh X2 X3 X9 k S hS hi) _ slices_S128x256_o0_128_S64x128 slices_S128x256_o64_128_S64x128 o b (before_val1 (wts arg2 arg3 X2 X3) S (4 * ((i 0).val - 28)) (8 * k.val + 2) _ (dot_2 i arg2 arg3 arg9 kh X2 X3 X9 k S hS hi) slices_S128x256_o64_128_S64x128 o b)) (load10 arg10 f10 old (8 * k.val + 3) (fun y e => hold y (by omega) (by omega)) _ (off87 k 3) (k0_off87_inb i k kh 3) shapeCasts_S1x64x128_S64x128 o b) (load4 arg4 X4 ss hss (by decide) shapeCasts_S64x128_S64x128 o b) (load4 arg5 X5 bb hbb (by decide) shapeCasts_S64x128_S64x128 o b)) _ (off88 k 3) (k0_off88_inb i k kh 3)
  · exact piece4 _ _ _ bitsLt_bf16_f32 shapeCasts_S64x128_S1x1x64x128 (fun j o b => out (wts arg2 arg3 X2 X3) S (4 * ((i 0).val - 28)) old ss bb j o b) (8 * k.val + 2) (fun o b => out_val (wts arg2 arg3 X2 X3) S (4 * ((i 0).val - 28)) old ss bb (8 * k.val + 2) _ _ _ _ _ o b (cell_val (wts arg2 arg3 X2 X3) S (4 * ((i 0).val - 28)) (8 * k.val + 2) _ (dot_2 i arg2 arg3 arg9 kh X2 X3 X9 k S hS hi) _ slices_S128x256_o0_0_S64x128 slices_S128x256_o64_0_S64x128 o b (before_val (wts arg2 arg3 X2 X3) S (4 * ((i 0).val - 28)) (8 * k.val + 1) _ (dot_1 i arg2 arg3 arg9 kh X2 X3 X9 k S hS hi) slices_S128x256_o64_0_S64x128 o b)) (cell_val1 (wts arg2 arg3 X2 X3) S (4 * ((i 0).val - 28)) (8 * k.val + 2) _ (dot_2 i arg2 arg3 arg9 kh X2 X3 X9 k S hS hi) _ slices_S128x256_o0_128_S64x128 slices_S128x256_o64_128_S64x128 o b (before_val1 (wts arg2 arg3 X2 X3) S (4 * ((i 0).val - 28)) (8 * k.val + 1) _ (dot_1 i arg2 arg3 arg9 kh X2 X3 X9 k S hS hi) slices_S128x256_o64_128_S64x128 o b)) (load10 arg10 f10 old (8 * k.val + 2) (fun y e => hold y (by omega) (by omega)) _ (off87 k 2) (k0_off87_inb i k kh 2) shapeCasts_S1x64x128_S64x128 o b) (load4 arg4 X4 ss hss (by decide) shapeCasts_S64x128_S64x128 o b) (load4 arg5 X5 bb hbb (by decide) shapeCasts_S64x128_S64x128 o b)) _ (off88 k 2) (k0_off88_inb i k kh 2)
  · exact piece4 _ _ _ bitsLt_bf16_f32 shapeCasts_S64x128_S1x1x64x128 (fun j o b => out (wts arg2 arg3 X2 X3) S (4 * ((i 0).val - 28)) old ss bb j o b) (8 * k.val + 1) (fun o b => out_val (wts arg2 arg3 X2 X3) S (4 * ((i 0).val - 28)) old ss bb (8 * k.val + 1) _ _ _ _ _ o b (cell_val (wts arg2 arg3 X2 X3) S (4 * ((i 0).val - 28)) (8 * k.val + 1) _ (dot_1 i arg2 arg3 arg9 kh X2 X3 X9 k S hS hi) _ slices_S128x256_o0_0_S64x128 slices_S128x256_o64_0_S64x128 o b (before_val (wts arg2 arg3 X2 X3) S (4 * ((i 0).val - 28)) (8 * k.val + 0) _ (dot_0 i arg2 arg3 arg9 kh X2 X3 X9 k S hS hi) slices_S128x256_o64_0_S64x128 o b)) (cell_val1 (wts arg2 arg3 X2 X3) S (4 * ((i 0).val - 28)) (8 * k.val + 1) _ (dot_1 i arg2 arg3 arg9 kh X2 X3 X9 k S hS hi) _ slices_S128x256_o0_128_S64x128 slices_S128x256_o64_128_S64x128 o b (before_val1 (wts arg2 arg3 X2 X3) S (4 * ((i 0).val - 28)) (8 * k.val + 0) _ (dot_0 i arg2 arg3 arg9 kh X2 X3 X9 k S hS hi) slices_S128x256_o64_128_S64x128 o b)) (load10 arg10 f10 old (8 * k.val + 1) (fun y e => hold y (by omega) (by omega)) _ (off87 k 1) (k0_off87_inb i k kh 1) shapeCasts_S1x64x128_S64x128 o b) (load4 arg4 X4 ss hss (by decide) shapeCasts_S64x128_S64x128 o b) (load4 arg5 X5 bb hbb (by decide) shapeCasts_S64x128_S64x128 o b)) _ (off88 k 1) (k0_off88_inb i k kh 1)
  · exact piece4 _ _ _ bitsLt_bf16_f32 shapeCasts_S64x128_S1x1x64x128 (fun j o b => out (wts arg2 arg3 X2 X3) S (4 * ((i 0).val - 28)) old ss bb j o b) (8 * k.val + 0) (fun o b => out_val (wts arg2 arg3 X2 X3) S (4 * ((i 0).val - 28)) old ss bb (8 * k.val + 0) _ _ _ _ _ o b (cell_val (wts arg2 arg3 X2 X3) S (4 * ((i 0).val - 28)) (8 * k.val + 0) _ (dot_0 i arg2 arg3 arg9 kh X2 X3 X9 k S hS hi) _ slices_S128x256_o0_0_S64x128 slices_S128x256_o64_0_S64x128 o b (load11 arg11 f11 (fun n o b => before (wts arg2 arg3 X2 X3) S (4 * ((i 0).val - 28)) n (8 * k.val) o b) 0 hprev (by decide) shapeCasts_S1x64x128_S64x128 o b)) (cell_val1 (wts arg2 arg3 X2 X3) S (4 * ((i 0).val - 28)) (8 * k.val + 0) _ (dot_0 i arg2 arg3 arg9 kh X2 X3 X9 k S hS hi) _ slices_S128x256_o0_128_S64x128 slices_S128x256_o64_128_S64x128 o b (load11 arg11 f11 (fun n o b => before (wts arg2 arg3 X2 X3) S (4 * ((i 0).val - 28)) n (8 * k.val) o b) 1 hprev (by decide) shapeCasts_S1x64x128_S64x128 o b)) (load10 arg10 f10 old (8 * k.val + 0) (fun y e => hold y (by omega) (by omega)) _ (off87 k 0) (k0_off87_inb i k kh 0) shapeCasts_S1x64x128_S64x128 o b) (load4 arg4 X4 ss hss (by decide) shapeCasts_S64x128_S64x128 o b) (load4 arg5 X5 bb hbb (by decide) shapeCasts_S64x128_S64x128 o b)) _ (off88 k 0) (k0_off88_inb i k kh 0)

theorem cover10 (y : S72x64x128.Idx) (ha : 8 * k.val ≤ (y 0).val) (hb : (y 0).val < 8 * k.val + 8) : ∃ p ∈ (lists c i arg1 h1 arg2 h2 arg3 h3 arg4 h4 arg5 h5 arg6 h6 arg7 h7 arg8 h8 arg9 h9 arg10 h10 arg11 h11 arg12 h12 arg13 h13 kh v1580 X2 X3 X4 X5 X9 k f6 f10 f11).2.1, y ∈ p.1.set := by
  obtain ⟨u, hu⟩ : ∃ u, (y 0).val = 8 * k.val + u := ⟨(y 0).val - 8 * k.val, by omega⟩
  have hu8 : u < 8 := by omega
  unfold lists tripL_k0_t4 trip_k0_t4
  dsimp only
  interval_cases u
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_row10 y (8 * k.val + 0) hu _ (off87 k 0) (k0_off87_inb i k kh 0)⟩
  · exact ⟨_, List.mem_cons_of_mem _ (List.mem_cons_of_mem _ (List.mem_cons_of_mem _ (List.mem_cons_of_mem _ (List.mem_cons_of_mem _ (List.mem_cons_of_mem _ (List.mem_cons_self)))))), mem_row10 y (8 * k.val + 1) hu _ (off87 k 1) (k0_off87_inb i k kh 1)⟩
  · exact ⟨_, List.mem_cons_of_mem _ (List.mem_cons_of_mem _ (List.mem_cons_of_mem _ (List.mem_cons_of_mem _ (List.mem_cons_of_mem _ (List.mem_cons_self))))), mem_row10 y (8 * k.val + 2) hu _ (off87 k 2) (k0_off87_inb i k kh 2)⟩
  · exact ⟨_, List.mem_cons_of_mem _ (List.mem_cons_of_mem _ (List.mem_cons_of_mem _ (List.mem_cons_of_mem _ (List.mem_cons_self)))), mem_row10 y (8 * k.val + 3) hu _ (off87 k 3) (k0_off87_inb i k kh 3)⟩
  · exact ⟨_, List.mem_cons_of_mem _ (List.mem_cons_of_mem _ (List.mem_cons_of_mem _ (List.mem_cons_self))), mem_row10 y (8 * k.val + 4) hu _ (off87 k 4) (k0_off87_inb i k kh 4)⟩
  · exact ⟨_, List.mem_cons_of_mem _ (List.mem_cons_of_mem _ (List.mem_cons_self)), mem_row10 y (8 * k.val + 5) hu _ (off87 k 5) (k0_off87_inb i k kh 5)⟩
  · exact ⟨_, List.mem_cons_of_mem _ (List.mem_cons_self), mem_row10 y (8 * k.val + 6) hu _ (off87 k 6) (k0_off87_inb i k kh 6)⟩
  · exact ⟨_, List.mem_cons_self, mem_row10 y (8 * k.val + 7) hu _ (off87 k 7) (k0_off87_inb i k kh 7)⟩

theorem within10 : ∀ p ∈ (lists c i arg1 h1 arg2 h2 arg3 h3 arg4 h4 arg5 h5 arg6 h6 arg7 h7 arg8 h8 arg9 h9 arg10 h10 arg11 h11 arg12 h12 arg13 h13 kh v1580 X2 X3 X4 X5 X9 k f6 f10 f11).2.1, ∀ y : S72x64x128.Idx, y ∈ p.1.set → 8 * k.val ≤ (y 0).val ∧ (y 0).val < 8 * k.val + 8 := by
  unfold lists tripL_k0_t4 trip_k0_t4
  dsimp only
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · intro y hy; have := row_mem10 y (8 * k.val + 7) _ (off87 k 7) (k0_off87_inb i k kh 7) hy; omega
  · intro y hy; have := row_mem10 y (8 * k.val + 6) _ (off87 k 6) (k0_off87_inb i k kh 6) hy; omega
  · intro y hy; have := row_mem10 y (8 * k.val + 5) _ (off87 k 5) (k0_off87_inb i k kh 5) hy; omega
  · intro y hy; have := row_mem10 y (8 * k.val + 4) _ (off87 k 4) (k0_off87_inb i k kh 4) hy; omega
  · intro y hy; have := row_mem10 y (8 * k.val + 3) _ (off87 k 3) (k0_off87_inb i k kh 3) hy; omega
  · intro y hy; have := row_mem10 y (8 * k.val + 2) _ (off87 k 2) (k0_off87_inb i k kh 2) hy; omega
  · intro y hy; have := row_mem10 y (8 * k.val + 1) _ (off87 k 1) (k0_off87_inb i k kh 1) hy; omega
  · intro y hy; have := row_mem10 y (8 * k.val + 0) _ (off87 k 0) (k0_off87_inb i k kh 0) hy; omega

theorem cover6 (y : S1x72x64x128.Idx) (ha : 8 * k.val ≤ (y 1).val) (hb : (y 1).val < 8 * k.val + 8) : ∃ p ∈ (lists c i arg1 h1 arg2 h2 arg3 h3 arg4 h4 arg5 h5 arg6 h6 arg7 h7 arg8 h8 arg9 h9 arg10 h10 arg11 h11 arg12 h12 arg13 h13 kh v1580 X2 X3 X4 X5 X9 k f6 f10 f11).1, y ∈ p.1.set := by
  obtain ⟨u, hu⟩ : ∃ u, (y 1).val = 8 * k.val + u := ⟨(y 1).val - 8 * k.val, by omega⟩
  have hu8 : u < 8 := by omega
  unfold lists tripL_k0_t4 trip_k0_t4
  dsimp only
  interval_cases u
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_row6 y (8 * k.val + 0) hu _ (off88 k 0) (k0_off88_inb i k kh 0)⟩
  · exact ⟨_, List.mem_cons_of_mem _ (List.mem_cons_of_mem _ (List.mem_cons_of_mem _ (List.mem_cons_of_mem _ (List.mem_cons_of_mem _ (List.mem_cons_of_mem _ (List.mem_cons_self)))))), mem_row6 y (8 * k.val + 1) hu _ (off88 k 1) (k0_off88_inb i k kh 1)⟩
  · exact ⟨_, List.mem_cons_of_mem _ (List.mem_cons_of_mem _ (List.mem_cons_of_mem _ (List.mem_cons_of_mem _ (List.mem_cons_of_mem _ (List.mem_cons_self))))), mem_row6 y (8 * k.val + 2) hu _ (off88 k 2) (k0_off88_inb i k kh 2)⟩
  · exact ⟨_, List.mem_cons_of_mem _ (List.mem_cons_of_mem _ (List.mem_cons_of_mem _ (List.mem_cons_of_mem _ (List.mem_cons_self)))), mem_row6 y (8 * k.val + 3) hu _ (off88 k 3) (k0_off88_inb i k kh 3)⟩
  · exact ⟨_, List.mem_cons_of_mem _ (List.mem_cons_of_mem _ (List.mem_cons_of_mem _ (List.mem_cons_self))), mem_row6 y (8 * k.val + 4) hu _ (off88 k 4) (k0_off88_inb i k kh 4)⟩
  · exact ⟨_, List.mem_cons_of_mem _ (List.mem_cons_of_mem _ (List.mem_cons_self)), mem_row6 y (8 * k.val + 5) hu _ (off88 k 5) (k0_off88_inb i k kh 5)⟩
  · exact ⟨_, List.mem_cons_of_mem _ (List.mem_cons_self), mem_row6 y (8 * k.val + 6) hu _ (off88 k 6) (k0_off88_inb i k kh 6)⟩
  · exact ⟨_, List.mem_cons_self, mem_row6 y (8 * k.val + 7) hu _ (off88 k 7) (k0_off88_inb i k kh 7)⟩

theorem within6 : ∀ p ∈ (lists c i arg1 h1 arg2 h2 arg3 h3 arg4 h4 arg5 h5 arg6 h6 arg7 h7 arg8 h8 arg9 h9 arg10 h10 arg11 h11 arg12 h12 arg13 h13 kh v1580 X2 X3 X4 X5 X9 k f6 f10 f11).1, ∀ y : S1x72x64x128.Idx, y ∈ p.1.set → 8 * k.val ≤ (y 1).val ∧ (y 1).val < 8 * k.val + 8 := by
  unfold lists tripL_k0_t4 trip_k0_t4
  dsimp only
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun _ h => absurd h List.not_mem_nil⟩⟩⟩⟩⟩⟩⟩⟩
  · intro y hy; have := row_mem6 y (8 * k.val + 7) _ (off88 k 7) (k0_off88_inb i k kh 7) hy; omega
  · intro y hy; have := row_mem6 y (8 * k.val + 6) _ (off88 k 6) (k0_off88_inb i k kh 6) hy; omega
  · intro y hy; have := row_mem6 y (8 * k.val + 5) _ (off88 k 5) (k0_off88_inb i k kh 5) hy; omega
  · intro y hy; have := row_mem6 y (8 * k.val + 4) _ (off88 k 4) (k0_off88_inb i k kh 4) hy; omega
  · intro y hy; have := row_mem6 y (8 * k.val + 3) _ (off88 k 3) (k0_off88_inb i k kh 3) hy; omega
  · intro y hy; have := row_mem6 y (8 * k.val + 2) _ (off88 k 2) (k0_off88_inb i k kh 2) hy; omega
  · intro y hy; have := row_mem6 y (8 * k.val + 1) _ (off88 k 1) (k0_off88_inb i k kh 1) hy; omega
  · intro y hy; have := row_mem6 y (8 * k.val + 0) _ (off88 k 0) (k0_off88_inb i k kh 0) hy; omega

theorem cover11 (y : S2x64x128.Idx) : ∃ p ∈ (lists c i arg1 h1 arg2 h2 arg3 h3 arg4 h4 arg5 h5 arg6 h6 arg7 h7 arg8 h8 arg9 h9 arg10 h10 arg11 h11 arg12 h12 arg13 h13 kh v1580 X2 X3 X4 X5 X9 k f6 f10 f11).2.2, y ∈ p.1.set := by
  have y0 : (y 0).val < 2 := (y 0).isLt
  have y1 : (y 1).val < 64 := (y 1).isLt
  have y2 : (y 2).val < 128 := (y 2).isLt
  unfold lists tripL_k0_t4 trip_k0_t4
  dsimp only
  obtain h | h : (y 0).val = 1 ∨ (y 0).val = 0 := by omega
  · exact ⟨_, List.mem_cons_self, mem_row3 (m := 2) y 1 h _ rfl (by decide)⟩
  · exact ⟨_, List.mem_cons_of_mem _ List.mem_cons_self, mem_row3 (m := 2) y 0 h _ rfl (by decide)⟩

end Pieces

end Cert.Proof.PoolTrip

end
-- ==== Proof.PoolLoop.lean ====
/-
  The loops of the second phase: the fill of the row kept at the first point, and the nine trips of eight pooled columns, which
  leave the output block, the row for the next point and the columns they ended at.
-/
module

public import proofs.«01_k».proof.Proof.PoolTrip
public import proofs.«01_k».proof.Proof.RowLoop

@[expose] public section

noncomputable section

namespace Cert.Proof.PoolLoop

open Cert.KernelIdeal Cert.KernelIdeal.Gen Cert.Proof.Trip Cert.Proof.Quantiser Cert.Proof.TripValue Cert.Proof.Rows Cert.Proof.Pool
open Cert.Proof.PoolTrip Cert.Proof.RowLoop
open Idealize.ShloMosaic Idealize.ShloMosaic.Pointwise

theorem ninf : Ideal.ofBits .f32 0xFF800000#32 = ⊥ := by simp [Ideal.ofBits, Ideal.ieee]

theorem pay12_apply (x : S1x64x128.Idx) : k0_pay12 (F := Ideal) x = ⊥ := by
  have e : x = ix3 (x 0) (x 1) (x 2) := by funext a; fin_cases a <;> rfl
  rw [e]
  pointwise [k0_pay12]
  exact ninf

theorem pay13_apply (x : S2x64x128.Idx) : k0_pay13 (F := Ideal) x = ⊥ := by
  have e : x = ix3 (x 0) (x 1) (x 2) := by funext a; fin_cases a <;> rfl
  rw [e]
  pointwise [k0_pay13]
  exact ninf

/-- Before the first trip nothing is left of the first column. -/
theorem fill11 (arg11 : Memref sig .tc .vmem S2x64x128 .f32) (f11 : BufTy.Contents (Elt Ideal) arg11.view.ty) (y : S2x64x128.Idx) :
    arg11.view.read (Elt Ideal) (arg11.view.writes (Elt Ideal) f11 [⟨Rect.unit ![0, 0, 0] S2x64x128.size inb_S2x64x128_S2x64x128_0_0_0, k0_pay13 (F := Ideal)⟩]) y = ⊥ := by
  refine writes_spec arg11.view f11 (fun _ => ⊥) _ ?_ y (.inl ⟨_, List.mem_cons_self, ?_⟩)
  · intro p hp x
    obtain rfl := List.mem_singleton.mp hp
    exact pay13_apply x
  · have y0 : (y 0).val < 2 := (y 0).isLt
    have y1 : (y 1).val < 64 := (y 1).isLt
    have y2 : (y 2).val < 128 := (y 2).isLt
    show y ∈ (Rect.unit (s := S2x64x128) ![0, 0, 0] S2x64x128.size inb_S2x64x128_S2x64x128_0_0_0).set
    refine Rect.mem_set_unit.mpr fun a => ?_
    fin_cases a
    · show 0 ≤ (y 0).val ∧ (y 0).val < 0 + 2; omega
    · show 0 ≤ (y 1).val ∧ (y 1).val < 0 + 64; omega
    · show 0 ≤ (y 2).val ∧ (y 2).val < 0 + 128; omega

theorem off84 : ∀ k : Fin k0_t3_loop.trips, k0_off84 k = ![k.val, 0, 0] := by
  have h : ∀ k : Fin k0_t3_loop.trips, (Scalar.indexCast (Scf.iv 0#32 1#32 k)).toNat = k.val := by decide +kernel
  intro k
  show ![_, 0, 0] = _
  rw [h k]

section Loops

variable (c : Dev nD) (i : grid0.Coords) (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole) (kh : k0_cond4 i = 1#1)

set_option maxRecDepth 65536 in
/-- The fill, after `n` rows. -/
theorem fill10 (kh5 : k0_cond5 i = 1#1) (f10 : BufTy.Contents (Elt Ideal) arg10.view.ty) (n : ℕ) (hn : n ≤ 72) :
    ∀ y : S72x64x128.Idx, (y 0).val < n → arg10.view.read (Elt Ideal) (arg10.view.writes (Elt Ideal) f10 (pb_k0_t3 (F := Ideal) 𝒱₀ c none i arg1 h1 arg2 h2 arg3 h3 arg4 h4 arg5 h5 arg6 h6 arg7 h7 arg8 h8 arg9 h9 arg10 h10 arg11 h11 arg12 h12 arg13 h13 kh kh5 n)) y = ⊥ := by
  induction n with
  | zero => intro y hy; omega
  | succ n ih =>
    intro y hy
    have hs := pb_k0_t3_succ (F := Ideal) 𝒱₀ c none i arg1 h1 arg2 h2 arg3 h3 arg4 h4 arg5 h5 arg6 h6 arg7 h7 arg8 h8 arg9 h9 arg10 h10 arg11 h11 arg12 h12 arg13 h13 kh kh5 ⟨n, by show n < 72; omega⟩
    have q : pb_k0_t3 (F := Ideal) 𝒱₀ c none i arg1 h1 arg2 h2 arg3 h3 arg4 h4 arg5 h5 arg6 h6 arg7 h7 arg8 h8 arg9 h9 arg10 h10 arg11 h11 arg12 h12 arg13 h13 kh kh5 (n + 1) = _ := hs
    rw [q, View.writes_append]
    unfold tripL_k0_t3 trip_k0_t3
    dsimp only
    refine writes_spec arg10.view _ (fun _ => ⊥) _ ?_ y ?_
    · intro p hp x
      obtain rfl := List.mem_singleton.mp hp
      exact pay12_apply x
    · by_cases h : (y 0).val = n
      · exact .inl ⟨_, List.mem_cons_self, mem_row10 y n h _ (off84 _) (k0_off84_inb i _ kh kh5)⟩
      · exact .inr (ih (by omega) y (by omega))

variable (v1580 : BitVec 32)
    (X2 : BufTy.Contents (Elt Ideal) arg2.view.ty) (X3 : BufTy.Contents (Elt Ideal) arg3.view.ty) (X4 : BufTy.Contents (Elt Ideal) arg4.view.ty)
    (X5 : BufTy.Contents (Elt Ideal) arg5.view.ty) (X9 : BufTy.Contents (Elt Ideal) arg9.view.ty)
    (G6 : BufTy.Contents (Elt Ideal) arg6.view.ty) (G10 : BufTy.Contents (Elt Ideal) arg10.view.ty) (G11 : BufTy.Contents (Elt Ideal) arg11.view.ty)
    (S : ℕ → ℕ → ℕ → ℕ → ℕ → EReal) (hS : ∀ y, arg9.view.read (Elt Ideal) X9 y = S (y 0).val (y 1).val (y 2).val (y 3).val (y 4).val)
    (hi : 28 ≤ (i 0).val) (old ss bb : ℕ → ℕ → ℕ → EReal)
    (hold : ∀ y : S72x64x128.Idx, arg10.view.read (Elt Ideal) G10 y = old (y 0).val (y 1).val (y 2).val)
    (hss : ∀ y : S64x128.Idx, arg4.view.read (Elt Ideal) X4 y = ss 0 (y 0).val (y 1).val)
    (hbb : ∀ y : S64x128.Idx, arg5.view.read (Elt Ideal) X5 y = bb 0 (y 0).val (y 1).val)
    (hprev : ∀ y : S2x64x128.Idx, arg11.view.read (Elt Ideal) G11 y = ⊥)

set_option maxRecDepth 65536 in
set_option maxHeartbeats 1000000 in
include hS hi hold hss hbb hprev in
/-- The pooled columns, after `n` trips. -/
theorem loop (n : ℕ) (hn : n ≤ 9) :
    (∀ y : S1x72x64x128.Idx, (y 1).val < 8 * n → arg6.view.read (Elt Ideal) (arg6.view.writes (Elt Ideal) G6 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).1) y
      = out (wts arg2 arg3 X2 X3) S (4 * ((i 0).val - 28)) old ss bb (y 1).val (y 2).val (y 3).val)
    ∧ (∀ y : S72x64x128.Idx, arg10.view.read (Elt Ideal) (arg10.view.writes (Elt Ideal) G10 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.1) y
      = if (y 0).val < 8 * n then cell (wts arg2 arg3 X2 X3) S (4 * ((i 0).val - 28)) 1 (y 0).val (y 1).val (y 2).val else old (y 0).val (y 1).val (y 2).val)
    ∧ (∀ y : S2x64x128.Idx, arg11.view.read (Elt Ideal) (arg11.view.writes (Elt Ideal) G11 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.2) y
      = before (wts arg2 arg3 X2 X3) S (4 * ((i 0).val - 28)) (y 0).val (8 * n) (y 1).val (y 2).val) := by
  induction n with
  | zero =>
    refine ⟨fun y hy => by omega, fun y => ?_, fun y => ?_⟩
    · rw [if_neg (by omega)]; exact hold y
    · exact (hprev y).trans (if_pos rfl).symm
  | succ n ih =>
    obtain ⟨i6, i10, i11⟩ := ih (by omega)
    have hn9 : n < k0_t4_loop.trips := by show n < 9; omega
    have hs := pb_k0_t4_succ (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 ⟨n, hn9⟩
    have q6 : (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 (n + 1)).1 = _ := fst_eq hs
    have q10 : (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 (n + 1)).2.1 = _ := fst_eq (snd_eq hs)
    have q11 : (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 (n + 1)).2.2 = _ := snd_eq (snd_eq hs)
    rw [q6, q10, q11, View.writes_append, View.writes_append, View.writes_append]
    have ho : ∀ y : S72x64x128.Idx, 8 * n ≤ (y 0).val → (y 0).val < 8 * n + 8 → arg10.view.read (Elt Ideal) (arg10.view.writes (Elt Ideal) G10 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.1) y = old (y 0).val (y 1).val (y 2).val :=
      fun y ha hb => (i10 y).trans (if_neg (by omega))
    have t6 := stored6 c i arg1 h1 arg2 h2 arg3 h3 arg4 h4 arg5 h5 arg6 h6 arg7 h7 arg8 h8 arg9 h9 arg10 h10 arg11 h11 arg12 h12 arg13 h13 kh v1580 X2 X3 X4 X5 X9 ⟨n, hn9⟩ (arg6.view.writes (Elt Ideal) G6 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).1) (arg10.view.writes (Elt Ideal) G10 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.1) (arg11.view.writes (Elt Ideal) G11 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.2) S hS hi old ss bb ho hss hbb i11
    have t10 := stored10 c i arg1 h1 arg2 h2 arg3 h3 arg4 h4 arg5 h5 arg6 h6 arg7 h7 arg8 h8 arg9 h9 arg10 h10 arg11 h11 arg12 h12 arg13 h13 kh v1580 X2 X3 X4 X5 X9 ⟨n, hn9⟩ (arg6.view.writes (Elt Ideal) G6 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).1) (arg10.view.writes (Elt Ideal) G10 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.1) (arg11.view.writes (Elt Ideal) G11 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.2) S hS hi i11
    have t11 := stored11 c i arg1 h1 arg2 h2 arg3 h3 arg4 h4 arg5 h5 arg6 h6 arg7 h7 arg8 h8 arg9 h9 arg10 h10 arg11 h11 arg12 h12 arg13 h13 kh v1580 X2 X3 X4 X5 X9 ⟨n, hn9⟩ (arg6.view.writes (Elt Ideal) G6 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).1) (arg10.view.writes (Elt Ideal) G10 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.1) (arg11.view.writes (Elt Ideal) G11 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.2) S hS hi
    have c6 := cover6 c i arg1 h1 arg2 h2 arg3 h3 arg4 h4 arg5 h5 arg6 h6 arg7 h7 arg8 h8 arg9 h9 arg10 h10 arg11 h11 arg12 h12 arg13 h13 kh v1580 X2 X3 X4 X5 X9 ⟨n, hn9⟩ (arg6.view.writes (Elt Ideal) G6 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).1) (arg10.view.writes (Elt Ideal) G10 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.1) (arg11.view.writes (Elt Ideal) G11 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.2)
    have c10 := cover10 c i arg1 h1 arg2 h2 arg3 h3 arg4 h4 arg5 h5 arg6 h6 arg7 h7 arg8 h8 arg9 h9 arg10 h10 arg11 h11 arg12 h12 arg13 h13 kh v1580 X2 X3 X4 X5 X9 ⟨n, hn9⟩ (arg6.view.writes (Elt Ideal) G6 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).1) (arg10.view.writes (Elt Ideal) G10 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.1) (arg11.view.writes (Elt Ideal) G11 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.2)
    have c11 := cover11 c i arg1 h1 arg2 h2 arg3 h3 arg4 h4 arg5 h5 arg6 h6 arg7 h7 arg8 h8 arg9 h9 arg10 h10 arg11 h11 arg12 h12 arg13 h13 kh v1580 X2 X3 X4 X5 X9 ⟨n, hn9⟩ (arg6.view.writes (Elt Ideal) G6 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).1) (arg10.view.writes (Elt Ideal) G10 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.1) (arg11.view.writes (Elt Ideal) G11 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.2)
    have w10 := within10 c i arg1 h1 arg2 h2 arg3 h3 arg4 h4 arg5 h5 arg6 h6 arg7 h7 arg8 h8 arg9 h9 arg10 h10 arg11 h11 arg12 h12 arg13 h13 kh v1580 X2 X3 X4 X5 X9 ⟨n, hn9⟩ (arg6.view.writes (Elt Ideal) G6 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).1) (arg10.view.writes (Elt Ideal) G10 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.1) (arg11.view.writes (Elt Ideal) G11 (pb_k0_t4 (F := Ideal) 𝒱₀ c none i arg1 h1 arg2 h2 arg3 h3 arg4 h4 arg5 h5 arg6 h6 arg7 h7 arg8 h8 arg9 h9 arg10 h10 arg11 h11 arg12 h12 arg13 h13 kh v1580 X2 X3 X4 X5 X9 G6 G10 G11 n).2.2)
    refine ⟨fun y hy => ?_, fun y => ?_, fun y => ?_⟩
    · refine writes_spec arg6.view _ (fun y : S1x72x64x128.Idx => out (wts arg2 arg3 X2 X3) S (4 * ((i 0).val - 28)) old ss bb (y 1).val (y 2).val (y 3).val) _ t6 y ?_
      by_cases h : 8 * n ≤ (y 1).val
      · exact .inl (c6 y h (by show (y 1).val < 8 * n + 8; omega))
      · exact .inr (i6 y (by omega))
    · by_cases h : 8 * n ≤ (y 0).val ∧ (y 0).val < 8 * n + 8
      · rw [if_pos (by omega)]
        exact View.read_writes_apply_of_pieces arg10.view _ (fun y : S72x64x128.Idx => cell (wts arg2 arg3 X2 X3) S (4 * ((i 0).val - 28)) 1 (y 0).val (y 1).val (y 2).val) _ t10 y (c10 y h.1 h.2)
      · rw [View.read_writes_apply_of_forall_not_mem arg10.view _ y _ (fun p hp hm => h (w10 p hp y hm)), i10 y]
        by_cases h' : (y 0).val < 8 * n
        · rw [if_pos h', if_pos (by omega)]
        · rw [if_neg h', if_neg (by omega)]
    · exact View.read_writes_apply_of_pieces arg11.view _ (fun y : S2x64x128.Idx => before (wts arg2 arg3 X2 X3) S (4 * ((i 0).val - 28)) (y 0).val (8 * n + 8) (y 1).val (y 2).val) _ t11 y (c11 y)

end Loops

/-! ## What a point of the second phase leaves -/

/-- The row kept before the point of output row `p`: nothing above the first. -/
def kept (Wv : Fin 128 → Fin 256 → EReal) (S : ℕ → ℕ → ℕ → ℕ → ℕ → EReal) (p : ℕ) (j o b : ℕ) : EReal :=
  if p = 0 then ⊥ else cell Wv S (4 * (p - 1)) 1 j o b

/-- The output row `p`. -/
def pooled (Wv : Fin 128 → Fin 256 → EReal) (S : ℕ → ℕ → ℕ → ℕ → ℕ → EReal) (ss bb : ℕ → ℕ → ℕ → EReal) (p : ℕ) (j o b : ℕ) : EReal :=
  out Wv S (4 * p) (kept Wv S p) ss bb j o b

/-- The stored codes as extended reals. -/
def taps (px : Img) (r j c p b : ℕ) : EReal := ((stored px r j c p b : ℝ) : EReal)

end Cert.Proof.PoolLoop

end
-- ==== Proof.RunBlocks.lean ====
/-
  The run of a point from 28 on: point 28 stores the scales and the shifts, and every one stores its block of codes and its
  row of outputs, and keeps its second row for the next point.
-/
module

public import proofs.«01_k».proof.Proof.RowLoop
public import proofs.«01_k».proof.Proof.Scales
public import proofs.«01_k».proof.Proof.PoolLoop

@[expose] public section

noncomputable section

namespace Cert.Proof.RunBlocks

open Cert.KernelIdeal Cert.KernelIdeal.Gen Cert.Proof.Trip Cert.Proof.Quantiser Cert.Proof.TripValue Cert.Proof.Rows Cert.Proof.RowLoop
open Cert.Proof.Blocks Cert.Proof.Scales Cert.Proof.PoolTrip Cert.Proof.PoolLoop
open Cert.Proof.KernelIdealFrame (cond1_iff cond2_iff cond3_iff cond4_iff cond5_iff)
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

open Idealize.ShloMosaic Idealize.ShloMosaic.Pointwise

local notation "𝕄" => MT nD τ sig Unit (Elt Ideal) ℕ (UR sig nD τ) ℕ

set_option maxHeartbeats 4000000 in
/-- Point 28. -/
theorem run_28 (px : Img) (c : Dev nD) (i : grid0.Coords)
    (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole)
    (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)
    (hp : ∀ h c w b, px h c w b ≤ 255) (ht : (i 0).val = 28) (hc : Codes px 224 (arg9.view.read (Elt Ideal) f9))
    (he : Extremes px 224 (arg12.view.read (Elt Ideal) f12))
    (Wv : Fin 128 → Fin 256 → EReal) (hw : wts arg2 arg3 f2 f3 = Wv) (ss bb : ℕ → ℕ → ℕ → EReal)
    (hss : ∀ y : S64x128.Idx, arg4.view.read (Elt Ideal) f4 y = ss 0 (y 0).val (y 1).val)
    (hbb : ∀ y : S64x128.Idx, arg5.view.read (Elt Ideal) f5 y = bb 0 (y 0).val (y 1).val)
    (E : Set ℕ) (K : PUnit → sProp 𝕄) :
    iprop(own c arg1 f1 ∗ own c arg2 f2 ∗ own c arg3 f3 ∗ own c arg4 f4 ∗ own c arg5 f5 ∗ own c arg6 f6 ∗ own c arg7 f7 ∗ own c arg8 f8 ∗ own c arg9 f9 ∗ own c arg10 f10 ∗ own c arg11 f11 ∗ own c arg12 f12 ∗ own c arg13 f13
        ∗ (iprop(own c arg1 f1 ∗ own c arg2 f2 ∗ own c arg3 f3 ∗ own c arg4 f4 ∗ own c arg5 f5 ∗ own c arg9 f9 ∗ own c arg12 f12 ∗ (∃ g6, own c arg6 g6 ∗ ⌜∀ y : S1x72x64x128.Idx, arg6.view.read (Elt Ideal) g6 y = pooled Wv (taps px) ss bb ((i 0).val - 28) (y 1).val (y 2).val (y 3).val⌝) ∗ (∃ g10, own c arg10 g10 ∗ ⌜∀ y : S72x64x128.Idx, arg10.view.read (Elt Ideal) g10 y = kept Wv (taps px) ((i 0).val - 28 + 1) (y 0).val (y 1).val (y 2).val⌝) ∗ (∃ g11, own c arg11 g11) ∗ (∃ g7, own c arg7 g7 ∗ ⌜CodesOut px ((i 0).val - 28) (arg7.view.read (Elt Ideal) g7)⌝) ∗ (∃ g8, own c arg8 g8 ∗ ⌜ScalesOut px (arg8.view.read (Elt Ideal) g8)⌝) ∗ (∃ g13, own c arg13 g13 ∗ ⌜Shift px (arg13.view.read (Elt Ideal) g13)⌝)) -∗ K ⟨⟩))
      ⊢ wp frame (wpE (defs₀ (F := Ideal)) 𝒱₀ (c : Thread nD τ) none) E (cc0_stem (F := Ideal) i arg1 h1 arg2 h2 arg3 h3 arg4 h4 arg5 h5 arg6 h6 arg7 h7 arg8 h8 arg9 h9 arg10 h10 arg11 h11 arg12 h12 arg13 h13) K := by
  have hc2 : ¬ k0_cond2 i = 1#1 := fun h => by have := (cond2_iff i).mp h; omega
  have hc1 : ¬ k0_cond1 i = 1#1 := fun h => by have := (cond1_iff i).mp h; omega
  have hc4 : k0_cond4 i = 1#1 := (cond4_iff i).mpr (by omega)
  have i0 : (i 0).val < 84 := (i 0).isLt
  have hip : (i 0).val - 28 < 56 := by omega
  have hi : 28 ≤ (i 0).val := by omega
  have hc3 : k0_cond3 i = 1#1 := (cond3_iff i).mpr ht
  have hc5 : k0_cond5 i = 1#1 := (cond5_iff i).mpr (by omega)
  have hk := shift_out px hp arg13 arg13.view.junk arg12 f12 he
  have hv7 := codes_out px arg7 arg7.view.junk arg9 arg13 f9 _ hc hk ((i 0).val - 28) hip
  rw [← blocks_28 i arg9 arg12 arg13 f9 f12 f13 hc4 hi hip] at hv7
  have hv8 := scales_out px hp arg8 arg8.view.junk arg12 f12 he
  have hS : ∀ y, arg9.view.read (Elt Ideal) f9 y = taps px (y 0).val (y 1).val (y 2).val (y 3).val (y 4).val := fun y => hc y (by omega)
  subst hw
  have hfill := fill10 c i arg1 h1 arg2 h2 arg3 h3 arg4 h4 arg5 h5 arg6 h6 arg7 h7 arg8 h8 arg9 h9 arg10 h10 arg11 h11 arg12 h12 arg13 h13 hc4 hc5 f10 72 le_rfl
  have hloop := fun v => loop c i arg1 h1 arg2 h2 arg3 h3 arg4 h4 arg5 h5 arg6 h6 arg7 h7 arg8 h8 arg9 h9 arg10 h10 arg11 h11 arg12 h12 arg13 h13 hc4 v f2 f3 f4 f5 f9 f6 (arg10.view.writes (Elt Ideal) f10 (pb_k0_t3 (F := Ideal) 𝒱₀ c none i arg1 h1 arg2 h2 arg3 h3 arg4 h4 arg5 h5 arg6 h6 arg7 h7 arg8 h8 arg9 h9 arg10 h10 arg11 h11 arg12 h12 arg13 h13 hc4 hc5 72)) (arg11.view.writes (Elt Ideal) arg11.view.junk [⟨Rect.unit ![0, 0, 0] S2x64x128.size inb_S2x64x128_S2x64x128_0_0_0, k0_pay13 (F := Ideal)⟩]) (taps px) hS (by omega) (kept (wts arg2 arg3 f2 f3) (taps px) ((i 0).val - 28)) ss bb (fun y => by rw [hfill y (y 0).isLt]; unfold kept; rw [if_pos (by omega)]) hss hbb (fill11 arg11 arg11.view.junk) 9 le_rfl
  iintro ⟨H1, H2, H3, H4, H5, H6, H7, H8, H9, H10, H11, H12, H13, Hk⟩
  sl_unfold [cc0_stem]
  sl_exec
  sl_step
  iapply Hk
  isplitl [H1]; · iexact H1
  isplitl [H2]; · iexact H2
  isplitl [H3]; · iexact H3
  isplitl [H4]; · iexact H4
  isplitl [H5]; · iexact H5
  isplitl [H9]; · iexact H9
  isplitl [H12]; · iexact H12
  isplitl [H6]
  · iexists _; isplitl [H6]; · iexact H6
    ipureintro; intro y; exact (hloop _).1 y (y 1).isLt
  isplitl [H10]
  · iexists _; isplitl [H10]; · iexact H10
    ipureintro; intro y; rw [View.writes_append]
    refine ((hloop _).2.1 y).trans ?_
    rw [if_pos (show (y 0).val < 8 * 9 from (y 0).isLt)]
    unfold kept
    rw [if_neg (by omega), Nat.add_sub_cancel]
  isplitl [H11]; · (iexists _; iexact H11)
  isplitl [H7]
  · iexists _; isplitl [H7]; · iexact H7
    ipureintro; exact hv7
  isplitl [H8]
  · iexists _; isplitl [H8]; · iexact H8
    ipureintro; exact hv8
  iexists _; isplitl [H13]; · iexact H13
  ipureintro; exact hk

set_option maxHeartbeats 4000000 in
/-- A later point. -/
theorem run_later (px : Img) (c : Dev nD) (i : grid0.Coords)
    (arg1 : Memref sig .tc .vmem S8x3x288x128 .i8) (h1 : arg1.IsWhole)
    (arg2 : Memref sig .tc .vmem S128x256 .fp8e4m3) (h2 : arg2.IsWhole)
    (arg3 : Memref sig .tc .vmem S128x256 .f32) (h3 : arg3.IsWhole)
    (arg4 : Memref sig .tc .vmem S64x128 .f32) (h4 : arg4.IsWhole)
    (arg5 : Memref sig .tc .vmem S64x128 .f32) (h5 : arg5.IsWhole)
    (arg6 : Memref sig .tc .vmem S1x72x64x128 .bf16) (h6 : arg6.IsWhole)
    (arg7 : Memref sig .tc .vmem S4x3x288x128 .fp8e4m3) (h7 : arg7.IsWhole)
    (arg8 : Memref sig .tc .vmem S3x128 .f32) (h8 : arg8.IsWhole)
    (arg9 : Memref sig .tc .vmem S230x75x3x4x128 .fp8e4m3) (h9 : arg9.IsWhole)
    (arg10 : Memref sig .tc .vmem S72x64x128 .f32) (h10 : arg10.IsWhole)
    (arg11 : Memref sig .tc .vmem S2x64x128 .f32) (h11 : arg11.IsWhole)
    (arg12 : Memref sig .tc .vmem S6x16x128 .bf16) (h12 : arg12.IsWhole)
    (arg13 : Memref sig .tc .vmem S3x8x128 .i32) (h13 : arg13.IsWhole)
    (f1 : BufTy.Contents (Elt Ideal) arg1.view.ty) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty)
    (hi : 28 < (i 0).val) (hc : Codes px 224 (arg9.view.read (Elt Ideal) f9))
    (hk : Shift px (arg13.view.read (Elt Ideal) f13))
    (Wv : Fin 128 → Fin 256 → EReal) (hw : wts arg2 arg3 f2 f3 = Wv) (ss bb : ℕ → ℕ → ℕ → EReal)
    (hss : ∀ y : S64x128.Idx, arg4.view.read (Elt Ideal) f4 y = ss 0 (y 0).val (y 1).val)
    (hbb : ∀ y : S64x128.Idx, arg5.view.read (Elt Ideal) f5 y = bb 0 (y 0).val (y 1).val)
    (hold : ∀ y : S72x64x128.Idx, arg10.view.read (Elt Ideal) f10 y = kept Wv (taps px) ((i 0).val - 28) (y 0).val (y 1).val (y 2).val)
    (E : Set ℕ) (K : PUnit → sProp 𝕄) :
    iprop(own c arg1 f1 ∗ own c arg2 f2 ∗ own c arg3 f3 ∗ own c arg4 f4 ∗ own c arg5 f5 ∗ own c arg6 f6 ∗ own c arg7 f7 ∗ own c arg8 f8 ∗ own c arg9 f9 ∗ own c arg10 f10 ∗ own c arg11 f11 ∗ own c arg12 f12 ∗ own c arg13 f13
        ∗ (iprop(own c arg1 f1 ∗ own c arg2 f2 ∗ own c arg3 f3 ∗ own c arg4 f4 ∗ own c arg5 f5 ∗ own c arg8 f8 ∗ own c arg9 f9 ∗ own c arg12 f12 ∗ own c arg13 f13 ∗ (∃ g6, own c arg6 g6 ∗ ⌜∀ y : S1x72x64x128.Idx, arg6.view.read (Elt Ideal) g6 y = pooled Wv (taps px) ss bb ((i 0).val - 28) (y 1).val (y 2).val (y 3).val⌝) ∗ (∃ g10, own c arg10 g10 ∗ ⌜∀ y : S72x64x128.Idx, arg10.view.read (Elt Ideal) g10 y = kept Wv (taps px) ((i 0).val - 28 + 1) (y 0).val (y 1).val (y 2).val⌝) ∗ (∃ g11, own c arg11 g11) ∗ (∃ g7, own c arg7 g7 ∗ ⌜CodesOut px ((i 0).val - 28) (arg7.view.read (Elt Ideal) g7)⌝)) -∗ K ⟨⟩))
      ⊢ wp frame (wpE (defs₀ (F := Ideal)) 𝒱₀ (c : Thread nD τ) none) E (cc0_stem (F := Ideal) i arg1 h1 arg2 h2 arg3 h3 arg4 h4 arg5 h5 arg6 h6 arg7 h7 arg8 h8 arg9 h9 arg10 h10 arg11 h11 arg12 h12 arg13 h13) K := by
  have hc2 : ¬ k0_cond2 i = 1#1 := fun h => by have := (cond2_iff i).mp h; omega
  have hc1 : ¬ k0_cond1 i = 1#1 := fun h => by have := (cond1_iff i).mp h; omega
  have hc4 : k0_cond4 i = 1#1 := (cond4_iff i).mpr (by omega)
  have i0 : (i 0).val < 84 := (i 0).isLt
  have hip : (i 0).val - 28 < 56 := by omega
  have hc3 : ¬ k0_cond3 i = 1#1 := fun h => by have := (cond3_iff i).mp h; omega
  have hc5 : ¬ k0_cond5 i = 1#1 := fun h => by have := (cond5_iff i).mp h; omega
  have hv7 := codes_out px arg7 arg7.view.junk arg9 arg13 f9 _ hc hk ((i 0).val - 28) hip
  rw [← blocks_later i arg9 arg12 arg13 f9 f12 f13 hc4 hi.le hip] at hv7
  have hS : ∀ y, arg9.view.read (Elt Ideal) f9 y = taps px (y 0).val (y 1).val (y 2).val (y 3).val (y 4).val := fun y => hc y (by omega)
  subst hw
  have hloop := fun v => loop c i arg1 h1 arg2 h2 arg3 h3 arg4 h4 arg5 h5 arg6 h6 arg7 h7 arg8 h8 arg9 h9 arg10 h10 arg11 h11 arg12 h12 arg13 h13 hc4 v f2 f3 f4 f5 f9 f6 f10 (arg11.view.writes (Elt Ideal) arg11.view.junk [⟨Rect.unit ![0, 0, 0] S2x64x128.size inb_S2x64x128_S2x64x128_0_0_0, k0_pay13 (F := Ideal)⟩]) (taps px) hS (by omega) (kept (wts arg2 arg3 f2 f3) (taps px) ((i 0).val - 28)) ss bb hold hss hbb (fill11 arg11 arg11.view.junk) 9 le_rfl
  iintro ⟨H1, H2, H3, H4, H5, H6, H7, H8, H9, H10, H11, H12, H13, Hk⟩
  sl_unfold [cc0_stem]
  sl_exec
  sl_step
  iapply Hk
  isplitl [H1]; · iexact H1
  isplitl [H2]; · iexact H2
  isplitl [H3]; · iexact H3
  isplitl [H4]; · iexact H4
  isplitl [H5]; · iexact H5
  isplitl [H8]; · iexact H8
  isplitl [H9]; · iexact H9
  isplitl [H12]; · iexact H12
  isplitl [H13]; · iexact H13
  isplitl [H6]
  · iexists _; isplitl [H6]; · iexact H6
    ipureintro; intro y; exact (hloop _).1 y (y 1).isLt
  isplitl [H10]
  · iexists _; isplitl [H10]; · iexact H10
    ipureintro; intro y
    refine ((hloop _).2.1 y).trans ?_
    rw [if_pos (show (y 0).val < 8 * 9 from (y 0).isLt)]
    unfold kept
    rw [if_neg (by omega), Nat.add_sub_cancel]
  isplitl [H11]; · (iexists _; iexact H11)
  iexists _; isplitl [H7]; · iexact H7
  ipureintro; exact hv7

end Cert.Proof.RunBlocks

end
-- ==== Proof.KernelValue.lean ====
/-
  The kernel's run with the pooled rows, the codes and the scales it leaves. The scratch carries the invariants of the codes and of
  the extremes from point to point; each point from 28 on writes its block of codes and its pooled row and keeps a row for the next, and the scales stay as point 28 left them.
-/
module

public import proofs.«01_k».proof.Proof.RunRows
public import proofs.«01_k».proof.Proof.RunBlocks
public import Idealize.ShloMosaic.Lib.Claim
public import Idealize.ShloMosaic.Lib.Pipeline.ValueKit
public import Idealize.ShloMosaic.Lib.Pipeline.TableIdle

@[expose] public section

noncomputable section

namespace Cert.Proof.KernelValue

open Cert.KernelIdeal Cert.KernelIdeal.Gen Cert.Proof.Trip Cert.Proof.Quantiser Cert.Proof.TripValue Cert.Proof.Rows Cert.Proof.Blocks Cert.Proof.Scales Cert.Proof.Pool Cert.Proof.PoolTrip Cert.Proof.PoolLoop
open Cert.Proof.KernelIdealFrame (scopedRest_own cond1_iff cond2_iff cond3_iff cond4_iff cond5_iff)
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

local notation "𝕄" => MT nD τ sig Unit (Elt Ideal) ℕ (UR sig nD τ) ℕ

/-- The pixels, as naturals. -/
def pxOf (A : S128x224x288x3.Idx → BitVec 8) : Img := fun h c w b =>
  if hh : h < 224 ∧ c < 3 ∧ w < 288 ∧ b < 128 then (A (ix4 ⟨b, hh.2.2.2⟩ ⟨h, hh.1⟩ ⟨w, hh.2.2.1⟩ ⟨c, hh.2.1⟩)).toNat else 0

theorem pxOf_le (A : S128x224x288x3.Idx → BitVec 8) : ∀ h c w b, pxOf A h c w b ≤ 255 := by
  intro h c w b
  unfold pxOf
  split
  · exact toNat_le _
  · omega

theorem pxOf_in (A : S128x224x288x3.Idx → BitVec 8) (h : Fin 224) (c : Fin 3) (w : Fin 288) (b : Fin 128) :
    pxOf A h.val c.val w.val b.val = (A (ix4 b h w c)).toNat := by
  unfold pxOf
  rw [dif_pos ⟨h.isLt, c.isLt, w.isLt, b.isLt⟩]

variable (m : (ℓ : Loc nD τ sig) → Buf (Elt Ideal) ℓ) (ρ : Dev nD → PrngReg)

/-- The image of a device. -/
abbrev img (c : Dev nD) : Img := pxOf (m ((c : Thread nD τ).loc main_arg0))

theorem V_v0 (c : Dev nD) : V m c main_v0 = transpose S224x3x288x128 [1, 3, 2, 0] (m ((c : Thread nD τ).loc main_arg0)) transposes_S128x224x288x3_S224x3x288x128_1_3_2_0 := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v0) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  rw [StableHlo.after_cons, StableHlo.after_of_forall_not_mem (b := Proc.devRef .tc main_v0) _ _ (List.forall_iff_forall_mem.mp (by
    simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))]
  rw [StableHlo.unary_result]

theorem V_v0_apply (c : Dev nD) (h : Fin 224) (k : Fin 3) (w : Fin 288) (b : Fin 128) :
    (V m c main_v0 (ix4 h k w b) : BitVec 8).toNat = img m c h.val k.val w.val b.val := by
  have e : transpose S224x3x288x128 [1, 3, 2, 0] (m ((c : Thread nD τ).loc main_arg0)) transposes_S128x224x288x3_S224x3x288x128_1_3_2_0 (ix4 h k w b) = m ((c : Thread nD τ).loc main_arg0) (ix4 b h w k) := by
    pointwise
  rw [V_v0]
  refine (congrArg (fun x : BitVec 8 => x.toNat) e).trans ?_
  exact (pxOf_in (m ((c : Thread nD τ).loc main_arg0)) h k w b).symm

theorem coords_val : ∀ t : Fin cfg0.N, (cfg0.grid.coords t 0).val = t.val := by decide +kernel

theorem idx_0 : ∀ t : Fin cfg0.N, win0_0.index t 0 = min t.val 27 ∧ win0_0.index t 1 = 0 ∧ win0_0.index t 2 = 0 ∧ win0_0.index t 3 = 0 := by decide +kernel

/-- The block of the image the first 28 points read. -/
theorem block_img (c : Dev nD) (t : Fin cfg0.N) (ht : t.val < 28) : Block (img m c) t.val (iblk m c 0 t) := by
  intro y
  obtain ⟨e0, e1, e2, e3⟩ := idx_0 t
  have hy : (y 0).val < 8 := (y 0).isLt
  unfold iblk
  blk_simp
  refine (congrArg (fun x => (V m c main_v0 x : BitVec 8).toNat) (?_ : (win0_0.blk t).view.emb y = ix4 ⟨8 * t.val + (y 0).val, by omega⟩ (y 1) (y 2) (y 3))).trans (V_v0_apply m c _ _ _ _)
  funext a
  fin_cases a <;> apply Fin.ext <;> blk_simp [e0, e1, e2, e3]
  all_goals simp
  omega

/-- The block of codes a point leaves. -/
def codesAt (c : Dev nD) (t : Fin cfg0.N) : S4x3x288x128.Idx → Ideal .fp8e4m3 := fun y =>
  ((code (img m c) (4 * (t.val - 28) + (y 0).val) (y 1).val (y 2).val (y 3).val : ℝ) : EReal)

def scalesAt (c : Dev nD) : S3x128.Idx → Ideal .f32 := fun y => ((scale (img m c) (y 0).val (y 1).val : ℝ) : EReal)

/-- The signed weights from the gathered ones and the signs: nothing where the sign is 0. -/
def signed (L : S128x256.Idx → Ideal .fp8e4m3) (M : S128x256.Idx → Ideal .f32) : Fin 128 → Fin 256 → EReal := fun o k =>
  if (M (ix2 o k) : EReal) = 0 then 0 else (L (ix2 o k) : EReal) * (M (ix2 o k) : EReal)

/-- A table of channels by images, as a function of naturals. -/
def table (A : S64x128.Idx → Ideal .f32) : ℕ → ℕ → ℕ → EReal := fun _ o b =>
  if h : o < 64 ∧ b < 128 then (A (ix2 ⟨o, h.1⟩ ⟨b, h.2⟩) : EReal) else 0

theorem table_apply (A : S64x128.Idx → Ideal .f32) (y : S64x128.Idx) : (A y : EReal) = table A 0 (y 0).val (y 1).val := by
  unfold table
  rw [dif_pos ⟨(y 0).isLt, (y 1).isLt⟩]
  refine congrArg A ?_
  funext a
  fin_cases a <;> rfl

theorem signs (L : FVec Ideal S128x256 .fp8e4m3) (M : FVec Ideal S128x256 .f32) (h1 h2 h3 h4) (z : Ideal .f32) (hz : (z : EReal) = 0) (o : Fin 128) (k : Fin 256) :
    (truncf FTy.fp8e4m3 (select (cmpf .oeq (shapeCast S128x256 M h1) (broadcast S128x256 z)) (broadcast S128x256 z) (mulf (extf FTy.f32 (shapeCast S128x256 L h2) h3) (shapeCast S128x256 M h1))) h4 : FVec Ideal S128x256 .fp8e4m3) (ix2 o k) = signed L M o k := by
  pointwise [signed]
  rw [hz]

theorem wts_eq (arg2 : Memref sig .tc .vmem S128x256 .fp8e4m3) (arg3 : Memref sig .tc .vmem S128x256 .f32)
    (f2 : BufTy.Contents (Elt Ideal) arg2.view.ty) (f3 : BufTy.Contents (Elt Ideal) arg3.view.ty) :
    wts arg2 arg3 f2 f3 = signed (arg2.view.read (Elt Ideal) f2) (arg3.view.read (Elt Ideal) f3) := by
  funext o k
  unfold wts
  have e2 : arg2.view.readAt (Elt Ideal) (Rect.unit (s := S128x256) ![0, 0] S128x256.size inb_S128x256_S128x256_0_0).toLoadRect f2 = arg2.view.read (Elt Ideal) f2 := by
    funext y
    show arg2.view.read (Elt Ideal) f2 _ = _
    congr 1
    funext a
    fin_cases a <;> apply Fin.ext <;> simp
  have e3 : arg3.view.readAt (Elt Ideal) (Rect.unit (s := S128x256) ![0, 0] S128x256.size inb_S128x256_S128x256_0_0).toLoadRect f3 = arg3.view.read (Elt Ideal) f3 := by
    funext y
    show arg3.view.read (Elt Ideal) f3 _ = _
    congr 1
    funext a
    fin_cases a <;> apply Fin.ext <;> simp
  unfold trip_k0_t4.sl.v1592 trip_k0_t4.sl.v1591 trip_k0_t4.sl.v1589 trip_k0_t4.sl.v1588 trip_k0_t4.sl.v1587 trip_k0_t4.sl.v1585 trip_k0_t4.sl.v1583 trip_k0_t4.sl.v1584
  rw [e2, e3]
  refine signs _ _ _ _ _ _ _ ?_ o k
  show Ideal.ofBits .f32 0#32 = 0
  simp [Ideal.ofBits, Ideal.ieee]
theorem idx_1 : ∀ t : Fin cfg0.N, win0_1.index t 0 = 0 ∧ win0_1.index t 1 = 0 := by decide +kernel
theorem idx_2 : ∀ t : Fin cfg0.N, win0_2.index t 0 = 0 ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = 0 ∧ win0_4.index t 1 = 0 := by decide +kernel

theorem block_1 (c : Dev nD) (t : Fin cfg0.N) : iblk m c 1 t = V m c main_v33 := by
  obtain ⟨e0, e1⟩ := idx_1 t
  funext y
  unfold iblk
  blk_simp
  refine congrArg (V m c main_v33) ?_
  funext a
  fin_cases a <;> apply Fin.ext <;> blk_simp [e0, e1]
  all_goals simp

theorem block_2 (c : Dev nD) (t : Fin cfg0.N) : iblk m c 2 t = V m c main_v62 := by
  obtain ⟨e0, e1⟩ := idx_2 t
  funext y
  unfold iblk
  blk_simp
  refine congrArg (V m c main_v62) ?_
  funext a
  fin_cases a <;> apply Fin.ext <;> blk_simp [e0, e1]
  all_goals simp

theorem block_3 (c : Dev nD) (t : Fin cfg0.N) : iblk m c 3 t = V m c main_v67 := by
  obtain ⟨e0, e1⟩ := idx_3 t
  funext y
  unfold iblk
  blk_simp
  refine congrArg (V m c main_v67) ?_
  funext a
  fin_cases a <;> apply Fin.ext <;> blk_simp [e0, e1]
  all_goals simp

theorem block_4 (c : Dev nD) (t : Fin cfg0.N) : iblk m c 4 t = V m c main_v69 := by
  obtain ⟨e0, e1⟩ := idx_4 t
  funext y
  unfold iblk
  blk_simp
  refine congrArg (V m c main_v69) ?_
  funext a
  fin_cases a <;> apply Fin.ext <;> blk_simp [e0, e1]
  all_goals simp

/-- The signed weights, the scales and the shifts of the normalisation, of a device. -/
def wtsOf (c : Dev nD) : Fin 128 → Fin 256 → EReal := signed (V m c main_v33) (V m c main_v62)
def ssOf (c : Dev nD) : ℕ → ℕ → ℕ → EReal := table (V m c main_v67)
def bbOf (c : Dev nD) : ℕ → ℕ → ℕ → EReal := table (V m c main_v69)

/-- The output row a point leaves. -/
def pooledAt (c : Dev nD) (t : Fin cfg0.N) : S1x72x64x128.Idx → Ideal .bf16 := fun y =>
  pooled (wtsOf m c) (taps (img m c)) (ssOf m c) (bbOf m c) (t.val - 28) (y 1).val (y 2).val (y 3).val

/-- What the scratch holds before point `n`. -/
def Inv (px : Img) (Wv : Fin 128 → Fin 256 → EReal) (n : ℕ) (g9 : S230x75x3x4x128.Idx → Ideal .fp8e4m3) (g10 : S72x64x128.Idx → Ideal .f32) (g12 : S6x16x128.Idx → Ideal .bf16) (g13 : S3x8x128.Idx → BitVec 32) : Prop :=
  (0 < n → Codes px (8 * min n 28) g9 ∧ Extremes px (8 * min n 28) g12) ∧ (28 < n → Shift px g13)
    ∧ (28 < n → ∀ y : S72x64x128.Idx, g10 y = kept Wv (taps px) (n - 28) (y 0).val (y 1).val (y 2).val)

/-- The invariant: the scratch at contents with `Inv`, and the rest of what the launch hands over. -/
def Φt (c : Dev nD) (n : ℕ) : sProp 𝕄 :=
  iprop((∃ f9 f10 f11 f12 f13, own c (Memref.whole cc0_scratch0) f9 ∗ own c (Memref.whole cc0_scratch1) f10 ∗ own c (Memref.whole cc0_scratch2) f11
      ∗ own c (Memref.whole cc0_scratch3) f12 ∗ own c (Memref.whole cc0_scratch4) f13 ∗ ⌜Inv (img m c) (wtsOf m c) n ((Memref.whole cc0_scratch0).view.read (Elt Ideal) f9) ((Memref.whole cc0_scratch1).view.read (Elt Ideal) f10) ((Memref.whole cc0_scratch3).view.read (Elt Ideal) f12) ((Memref.whole cc0_scratch4).view.read (Elt Ideal) f13)⌝) ∗ ∃ r, prngReg c r)

/-- The proof data: the input blocks left as they were, the pooled rows, the codes and the scales named. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => pooledAt m c t
    | ⟨6, _⟩ => codesAt m c t
    | ⟨7, _⟩ => scalesAt m c
  Φ t := Φt m c t.val
  q _ := fullShare
  owed _ := 0

/-- No window is forgotten. -/
def fgt (w : Fin cfg0.W) : Bool := match w with
  | ⟨0, _⟩ => false | ⟨1, _⟩ => false | ⟨2, _⟩ => false | ⟨3, _⟩ => false | ⟨4, _⟩ => false
  | ⟨5, _⟩ => false | ⟨6, _⟩ => false | ⟨7, _⟩ => false

theorem fgt_0 : fgt 0 = false := rfl
theorem fgt_1 : fgt 1 = false := rfl
theorem fgt_2 : fgt 2 = false := rfl
theorem fgt_3 : fgt 3 = false := rfl
theorem fgt_4 : fgt 4 = false := rfl
theorem fgt_5 : fgt 5 = false := rfl
theorem fgt_6 : fgt 6 = false := rfl
theorem fgt_7 : fgt 7 = false := rfl

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = pooledAt m c t := by dsimp only [dats]
theorem after0_6 (c : Dev nD) (t : Fin cfg0.N) : (dats m 0 c).after 6 t = codesAt m c t := by dsimp only [dats]
theorem after0_7 (c : Dev nD) (t : Fin cfg0.N) : (dats m 0 c).after 7 t = scalesAt m c := by dsimp only [dats]

theorem idle_0 (i) : cfg0.idle 0 i = false := rfl
theorem idle_1 (i) : cfg0.idle 1 i = false := rfl
theorem idle_2 (i) : cfg0.idle 2 i = false := rfl
theorem idle_3 (i) : cfg0.idle 3 i = false := rfl
theorem idle_4 (i) : cfg0.idle 4 i = false := rfl
theorem idle_5 : ∀ t : Fin cfg0.N, cfg0.idle 5 (cfg0.grid.coords t) = decide (t.val < 28) := by decide +kernel
theorem idle_6 : ∀ t : Fin cfg0.N, cfg0.idle 6 (cfg0.grid.coords t) = decide (t.val < 28) := by decide +kernel
theorem idle_7 : ∀ t : Fin cfg0.N, cfg0.idle 7 (cfg0.grid.coords t) = decide (t.val ≠ 28) := by decide +kernel
theorem flush_5 : ∀ t : Fin cfg0.N, (cfg0.win 5).flush t = decide (28 ≤ t.val) := by decide +kernel
theorem flush_6 : ∀ t : Fin cfg0.N, (cfg0.win 6).flush t = decide (28 ≤ t.val) := by decide +kernel
theorem flush_7 : ∀ t : Fin cfg0.N, (cfg0.win 7).flush t = decide (t.val = 83) := by decide +kernel
theorem fetch_7 : ∀ t : Fin cfg0.N, (cfg0.win 7).fetch t = false := (cfg0.win 7).fetch_out rfl

/-- From point 29 on the scales' buffer holds what point 28 left. -/
theorem before0_7 (c : Dev nD) (t : Fin cfg0.N) (ht : 28 < t.val) (d) : (dats m 0 c).before 7 t d = scalesAt m c := by
  have hN : t.val < 84 := t.isLt
  rw [(dats m 0 c).before_idle_run 7 fetch_7 d (t.val - 29) t (by omega) (fun j h1 h2 => ⟨by rw [idle_7]; exact decide_eq_true (by omega), by rw [flush_7]; exact decide_eq_false (by omega)⟩)]
  have e : (⟨t.val - (t.val - 29), by omega⟩ : Fin cfg0.N) = ⟨29, by decide⟩ := Fin.ext (by show t.val - (t.val - 29) = 29; omega)
  rw [e, (dats m 0 c).before_of_pos 7 ⟨29, by decide⟩ (by decide) (fetch_7 _), flush_7, if_neg (by decide)]
  unfold Dat.left
  rw [idle_7]
  show (dats m 0 c).kept 7 _ d = _
  unfold Dat.kept
  rw [Pipeline.fill_of_clip_none _ _ (fun _ => rfl) d ((dats m 0 c).after 7 _), Window.fill_cut, after0_7]

end Cert.Proof.KernelValue

end
-- ==== Proof.RefArrays.lean ====
/-
  The reference's region: the blocks it reads, the blocks it leaves, and the run with the codes and the scales.
-/
module

public import proofs.«01_k».proof.Proof.RefScale
public import proofs.«01_k».proof.Proof.KernelValue
public import Idealize.ShloMosaic.Lib.Claim
public import Idealize.ShloMosaic.Lib.Pipeline.ValueKit

@[expose] public section

noncomputable section

namespace Cert.Proof.RefArrays

open Cert.ReferenceIdeal Cert.ReferenceIdeal.Gen Cert.Proof.Quantiser Cert.Proof.Scales Cert.Proof.RefScale
open Idealize.ShloMosaic Idealize.ShloMosaic.Pointwise
open Idealize.ShloMosaic.TcCoe Idealize.ShloMosaic.Tactic
open Idealize.SL.Sem

/-- The image as the region reads it: channel first. -/
def Image (px : Img) (x0 : Vec Ideal S3x224x288x128 .i8) : Prop := ∀ c h w b, (x0 (ix4 c h w b) : BitVec 8).toNat = px h.val c.val w.val b.val

/-- The powers of two as the region reads them. -/
def Powers (x1 : Vec Ideal S254x128 .f32) : Prop := ∀ k b, x1 (ix2 k b) = (((2 : ℝ) ^ ((k.val : ℤ) - 126) : ℝ) : EReal)

variable (px : Img) (hp : ∀ h c w b, px h c w b ≤ 255)

theorem plane_0 (x0) (h : Image px x0) : Plane px 0 (View.ld (Val := Elt Ideal) x0 r0_1) := by
  intro a w b
  exact (congrArg (fun i => (x0 i : BitVec 8).toNat) (funext fun k => by fin_cases k <;> apply Fin.ext <;> simp [Rect.emb, Rect.unit] : r0_1.emb (ix4 0 a w b) = ix4 0 a w b)).trans (h 0 a w b)
theorem plane_1 (x0) (h : Image px x0) : Plane px 1 (View.ld (Val := Elt Ideal) x0 r0_3) := by
  intro a w b
  exact (congrArg (fun i => (x0 i : BitVec 8).toNat) (funext fun k => by fin_cases k <;> apply Fin.ext <;> simp [Rect.emb, Rect.unit] : r0_3.emb (ix4 0 a w b) = ix4 1 a w b)).trans (h 1 a w b)
theorem plane_2 (x0) (h : Image px x0) : Plane px 2 (View.ld (Val := Elt Ideal) x0 r0_5) := by
  intro a w b
  exact (congrArg (fun i => (x0 i : BitVec 8).toNat) (funext fun k => by fin_cases k <;> apply Fin.ext <;> simp [Rect.emb, Rect.unit] : r0_5.emb (ix4 0 a w b) = ix4 2 a w b)).trans (h 2 a w b)

theorem powers_all (x1) (h : Powers x1) (k : Fin 254) (b : Fin 128) : k0_pay1 (F := Ideal) (View.ld (Val := Elt Ideal) x1 r0_0) (ix2 k b) = (((2 : ℝ) ^ ((k.val : ℤ) - 126) : ℝ) : EReal) := by
  have e : k0_pay1 (F := Ideal) (View.ld (Val := Elt Ideal) x1 r0_0) (ix2 k b) = View.ld (Val := Elt Ideal) x1 r0_0 (ix2 k b) := by
    pointwise [k0_pay1]
  rw [e]
  exact (congrArg x1 (funext fun a => by fin_cases a <;> apply Fin.ext <;> simp [Rect.emb, Rect.unit] : r0_0.emb (ix2 k b) = ix2 k b)).trans (h k b)

include hp in
/-- The scale of one channel, from the plane it was loaded from. -/
theorem scale_plane (c : ℕ) (mn sd : Ideal .f32) (hm : mn = ((mean c : ℝ) : EReal)) (hs : sd = ((std c : ℝ) : EReal)) (v x1) (hv : Plane px c v) (hw : Powers x1)
    (b : Fin 128) : least (k0_pay1 (F := Ideal) (View.ld (Val := Elt Ideal) x1 r0_0)) (most mn sd v) (ix2 0 b) = ((scale px c b.val : ℝ) : EReal) :=
  least_value px c _ _ hp b (fun k => powers_all x1 hw k b) (most_value px c mn sd v hm hs hv b)

include hp in
/-- The codes of one channel, from the plane it was loaded from. -/
theorem quant_plane (c : ℕ) (mn sd : Ideal .f32) (hm : mn = ((mean c : ℝ) : EReal)) (hs : sd = ((std c : ℝ) : EReal)) (v x1) (hv : Plane px c v) (hw : Powers x1)
    (h : Fin 224) (w : Fin 288) (b : Fin 128) :
    quant (norm mn sd v) (least (k0_pay1 (F := Ideal) (View.ld (Val := Elt Ideal) x1 r0_0)) (most mn sd v)) (ix3 h w b) = ((code px h.val c w.val b.val : ℝ) : EReal) :=
  quant_value px c _ _ h w b (norm_value px c mn sd v hm hs hv h w b) (scale_plane px hp c mn sd hm hs v x1 hv hw b)

theorem fst_unit (x : S1x128.Idx) : ∃ b : Fin 128, x = ix2 0 b := by
  refine ⟨x 1, funext fun a => ?_⟩
  fin_cases a
  · exact Subsingleton.elim (α := Fin 1) _ _
  · rfl

theorem fst_unit4 (x : S1x224x288x128.Idx) : ∃ (h : Fin 224) (w : Fin 288) (b : Fin 128), x = ix4 0 h w b := by
  refine ⟨x 1, x 2, x 3, funext fun a => ?_⟩
  fin_cases a
  · exact Subsingleton.elim (α := Fin 1) _ _
  · rfl
  · rfl
  · rfl

theorem cast_code (q : FVec Ideal S224x288x128 .fp8e4m3) (h : Fin 224) (w : Fin 288) (b : Fin 128) :
    (shapeCast S1x224x288x128 q shapeCasts_S224x288x128_S1x224x288x128 : FVec Ideal S1x224x288x128 .fp8e4m3) (ix4 0 h w b) = q (ix3 h w b) := by
  pointwise

/-- The codes at an index of the channel-first array. -/
def codeAt (y : S3x224x288x128.Idx) : Ideal .fp8e4m3 := ((code px (y 1).val (y 0).val (y 2).val (y 3).val : ℝ) : EReal)

include hp in
theorem codes_block (x0 x1 x2) (hx : Image px x0) (hw : Powers x1) (y : S3x224x288x128.Idx) : out0_3 (F := Ideal) x0 x1 x2 y = codeAt px y := by
  unfold out0_3 k0_pay28 k0_pay27 k0_pay26 k0_pay25 k0_pay23 k0_pay22 k0_pay21 k0_pay18 k0_pay11 k0_pay5
  rw [quant_0, quant_1, quant_2, scale_0, scale_1, scale_2]
  refine View.canon_apply_of_pieces (Val := Elt Ideal) (codeAt px) _ ?_ y (cover0_3 _ _ _ y)
  intro p hp' x
  simp only [List.mem_cons, List.not_mem_nil, or_false] at hp'
  rcases hp' with rfl | rfl | rfl
  · obtain ⟨h, w, b, rfl⟩ := fst_unit4 x
    refine (cast_code _ h w b).trans ((quant_plane px hp 2 _ _ rfl rfl _ x1 (plane_2 px x0 hx) hw h w b).trans ?_)
    refine congrArg (fun r : ℝ => (r : EReal)) ?_
    show code px h.val 2 w.val b.val = code px (0 + 1 * h.val) (2 + 1 * 0) (0 + 1 * w.val) (0 + 1 * b.val)
    congr 1 <;> omega
  · obtain ⟨h, w, b, rfl⟩ := fst_unit4 x
    refine (cast_code _ h w b).trans ((quant_plane px hp 1 _ _ rfl rfl _ x1 (plane_1 px x0 hx) hw h w b).trans ?_)
    refine congrArg (fun r : ℝ => (r : EReal)) ?_
    show code px h.val 1 w.val b.val = code px (0 + 1 * h.val) (1 + 1 * 0) (0 + 1 * w.val) (0 + 1 * b.val)
    congr 1 <;> omega
  · obtain ⟨h, w, b, rfl⟩ := fst_unit4 x
    refine (cast_code _ h w b).trans ((quant_plane px hp 0 _ _ rfl rfl _ x1 (plane_0 px x0 hx) hw h w b).trans ?_)
    refine congrArg (fun r : ℝ => (r : EReal)) ?_
    show code px h.val 0 w.val b.val = code px (0 + 1 * h.val) (0 + 1 * 0) (0 + 1 * w.val) (0 + 1 * b.val)
    congr 1 <;> omega

/-- The scale at an index. -/
def scaleAt (y : S3x128.Idx) : Ideal .f32 := ((scale px (y 0).val (y 1).val : ℝ) : EReal)

theorem scale_emb_0 (b : Fin 128) : scaleAt px (r0_2.emb (ix2 0 b)) = ((scale px 0 b.val : ℝ) : EReal) := by
  refine congrArg (fun r : ℝ => (r : EReal)) ?_
  show scale px (0 + 1 * 0) (0 + 1 * b.val) = scale px 0 b.val
  congr 1 <;> omega
theorem scale_emb_1 (b : Fin 128) : scaleAt px (r0_4.emb (ix2 0 b)) = ((scale px 1 b.val : ℝ) : EReal) := by
  refine congrArg (fun r : ℝ => (r : EReal)) ?_
  show scale px (1 + 1 * 0) (0 + 1 * b.val) = scale px 1 b.val
  congr 1 <;> omega
theorem scale_emb_2 (b : Fin 128) : scaleAt px (r0_6.emb (ix2 0 b)) = ((scale px 2 b.val : ℝ) : EReal) := by
  refine congrArg (fun r : ℝ => (r : EReal)) ?_
  show scale px (2 + 1 * 0) (0 + 1 * b.val) = scale px 2 b.val
  congr 1 <;> omega

include hp in
theorem scales_block (x0 x1 x2) (hx : Image px x0) (hw : Powers x1) (y : S3x128.Idx) : out0_4 (F := Ideal) x0 x1 x2 y = scaleAt px y := by
  unfold out0_4 k0_pay28 k0_pay27 k0_pay24 k0_pay21
  rw [scale_0, scale_1, scale_2]
  refine View.canon_apply_of_pieces (Val := Elt Ideal) (scaleAt px) _ ?_ y (cover0_4 _ _ _ y)
  intro p hp' x
  simp only [List.mem_cons, List.not_mem_nil, or_false] at hp'
  rcases hp' with rfl | rfl | rfl
  · obtain ⟨b, rfl⟩ := fst_unit x
    have e := scale_plane px hp 2 (Named.named κ "mean2" 0x3ECFDF3B#32) (Named.named κ "std2" 0x3E666666#32) rfl rfl _ x1 (plane_2 px x0 hx) hw b
    dsimp only
    rw [scale_emb_2]
    exact e
  · obtain ⟨b, rfl⟩ := fst_unit x
    have e := scale_plane px hp 1 (Named.named κ "mean1" 0x3EE978D5#32) (Named.named κ "std1" 0x3E656042#32) rfl rfl _ x1 (plane_1 px x0 hx) hw b
    dsimp only
    rw [scale_emb_1]
    exact e
  · obtain ⟨b, rfl⟩ := fst_unit x
    have e := scale_plane px hp 0 (Named.named κ "mean0" 0x3EF851EC#32) (Named.named κ "std0" 0x3E6A7EFA#32) rfl rfl _ x1 (plane_0 px x0 hx) hw b
    dsimp only
    rw [scale_emb_0]
    exact e

/-! ## The run -/

variable (m : (ℓ : Loc nD τ sig) → Buf (Elt Ideal) ℓ) (ρ : Dev nD → PrngReg)

theorem V_v6 (c : Dev nD) : V m c main_v6 = transpose S3x224x288x128 [3, 1, 2, 0] (m ((c : Thread nD τ).loc main_arg0)) transposes_S128x224x288x3_S3x224x288x128_3_1_2_0 := by
  show StableHlo.after (List.flatten [hostOps0]) (fun b => m (c, b)) (Proc.devRef .tc main_v6) = _
  simp only [hostOps0, List.flatten_cons, List.flatten_nil, List.append_nil]
  after_results

theorem power_fields : ∀ k : Fin 254, (IntOp.shli ArithUnit.host (IntOp.addi (1#32) (BitVec.ofNat 32 k.val)) 23#32).extractLsb' 31 1 = 0#1
    ∧ ((IntOp.shli ArithUnit.host (IntOp.addi (1#32) (BitVec.ofNat 32 k.val)) 23#32).extractLsb' 23 8).toNat = k.val + 1
    ∧ ((IntOp.shli ArithUnit.host (IntOp.addi (1#32) (BitVec.ofNat 32 k.val)) 23#32).extractLsb' 0 23).toNat = 0 := by decide +kernel

/-- The float whose exponent field is `k + 1` and whose other bits are zero. -/
theorem power_bits (k : Fin 254) : Ideal.ofBits .f32 (IntOp.shli ArithUnit.host (IntOp.addi (1#32) (BitVec.ofNat 32 k.val)) 23#32) = (((2 : ℝ) ^ ((k.val : ℤ) - 126) : ℝ) : EReal) := by
  obtain ⟨e1, e2, e3⟩ := power_fields k
  have hk := k.isLt
  show Ideal.ieee 8 23 _ = _
  unfold Ideal.ieee
  simp only [show 8 + 23 = 31 from rfl, e1, e2, e3]
  rw [if_neg (by omega), if_neg (by omega)]
  refine congrArg (fun r : ℝ => (r : EReal)) ?_
  have e : ((k.val : ℤ) - 126) = (((k.val + 1 : ℕ) : ℤ) - (2 ^ (8 - 1) - 1) - 23) + 23 := by push_cast; omega
  rw [e, zpow_add₀ (by norm_num : (2 : ℝ) ≠ 0)]
  norm_num
  ring

theorem V_v8 (c : Dev nD) (k : Fin 254) (b : Fin 128) : V m c main_v8 (ix2 k b) = (((2 : ℝ) ^ ((k.val : ℤ) - 126) : ℝ) : EReal) := by
  show StableHlo.after (List.flatten [hostOps0]) (fun b => m (c, b)) (Proc.devRef .tc main_v8) (ix2 k b) = _
  simp only [hostOps0, List.flatten_cons, List.flatten_nil, List.append_nil]
  after_results
  pointwise
  exact power_bits k

/-- The pixels the reference reads. -/
abbrev rimg (c : Dev nD) : Img := KernelValue.pxOf (m ((c : Thread nD τ).loc main_arg0))

theorem idx_0 : ∀ t : Fin cfg0.N, win0_0.index t 0 = 0 ∧ win0_0.index t 1 = 0 ∧ win0_0.index t 2 = 0 ∧ win0_0.index t 3 = 0 := by decide +kernel
theorem idx_1 : ∀ t : Fin cfg0.N, win0_1.index t 0 = 0 ∧ win0_1.index t 1 = 0 := by decide +kernel
theorem idx_3 : ∀ t : Fin cfg0.N, win0_3.index t 0 = 0 ∧ win0_3.index t 1 = 0 ∧ win0_3.index t 2 = 0 ∧ win0_3.index t 3 = 0 := by decide +kernel
theorem idx_4 : ∀ t : Fin cfg0.N, win0_4.index t 0 = 0 ∧ win0_4.index t 1 = 0 := by decide +kernel

theorem image_block (c : Dev nD) (t : Fin cfg0.N) : Image (rimg m c) (iblk m c 0 t) := by
  intro k h w b
  obtain ⟨e0, e1, e2, e3⟩ := idx_0 t
  have e : transpose S3x224x288x128 [3, 1, 2, 0] (m ((c : Thread nD τ).loc main_arg0)) transposes_S128x224x288x3_S3x224x288x128_3_1_2_0 (ix4 k h w b) = m ((c : Thread nD τ).loc main_arg0) (ix4 b h w k) := by
    pointwise
  unfold iblk
  blk_simp
  rw [V_v6]
  refine (congrArg (fun x => (transpose S3x224x288x128 [3, 1, 2, 0] (m ((c : Thread nD τ).loc main_arg0)) transposes_S128x224x288x3_S3x224x288x128_3_1_2_0 x : BitVec 8).toNat)
    (?_ : (win0_0.blk t).view.emb (ix4 k h w b) = ix4 k h w b)).trans ((congrArg (fun x : BitVec 8 => x.toNat) e).trans ?_)
  · funext a
    fin_cases a <;> apply Fin.ext <;> blk_simp [e0, e1, e2, e3]
    all_goals simp
  · exact (KernelValue.pxOf_in (m ((c : Thread nD τ).loc main_arg0)) h k w b).symm

theorem powers_block (c : Dev nD) (t : Fin cfg0.N) : Powers (iblk m c 1 t) := by
  intro k b
  obtain ⟨e0, e1⟩ := idx_1 t
  unfold iblk
  blk_simp
  refine (congrArg (V m c main_v8) (?_ : (win0_1.blk t).view.emb (ix2 k b) = ix2 k b)).trans (V_v8 m c k b)
  funext a
  fin_cases a <;> apply Fin.ext <;> blk_simp [e0, e1]
  all_goals simp

theorem codes_final (c : Dev nD) : (dats m 0 c).arrAt 3 cfg0.N = codeAt (rimg m c) := by
  refine (dats m 0 c).arrAt_eq_of_covers 3 (codeAt (rimg m c)) (by decide +kernel) fun t hf y => ?_
  obtain ⟨e0, e1, e2, e3⟩ := idx_3 t
  blk_simp
  rw [after0_3]
  refine (codes_block (rimg m c) (KernelValue.pxOf_le _) _ _ _ (image_block m c t) (powers_block m c t) y).trans ?_
  unfold codeAt
  blk_simp [e0, e1, e2, e3]

theorem scales_final (c : Dev nD) : (dats m 0 c).arrAt 4 cfg0.N = scaleAt (rimg m c) := by
  refine (dats m 0 c).arrAt_eq_of_covers 4 (scaleAt (rimg m c)) (by decide +kernel) fun t hf y => ?_
  obtain ⟨e0, e1⟩ := idx_4 t
  blk_simp
  rw [after0_4]
  refine (scales_block (rimg m c) (KernelValue.pxOf_le _) _ _ _ (image_block m c t) (powers_block m c t) y).trans ?_
  unfold scaleAt
  blk_simp [e0, e1]

/-- The codes as the reference returns them: rows first. -/
def codesR (c : Dev nD) : S224x3x288x128.Idx → Ideal .fp8e4m3 := fun y =>
  ((code (rimg m c) (y 0).val (y 1).val (y 2).val (y 3).val : ℝ) : EReal)

theorem arr_inj : Function.Injective (Pipeline.arrRef spec0) := by decide

theorem codes_tail (c : Dev nD) : Pipeline.afterTail₀ cfgs (dats m) 0 (V0 m) [hostOps1, hostOps1_1, hostOps1_2] c main_v57 = codesR m c := by
  unfold Pipeline.afterTail₀
  simp only [hostOps1, hostOps1_1, hostOps1_2, List.flatten_cons, List.flatten_nil, List.append_nil, List.cons_append, List.nil_append]
  after_results
  have e : Pipeline.withArrays (cfgs 0).spec c (V0 m c) (fun w => (dats m 0 c).arrAt w (cfgs 0).N) (Proc.devRef .tc main_v9_0) = codeAt (rimg m c) :=
    (Pipeline.withArrays_arr (cfgs 0).spec arr_inj c (V0 m c) (fun w => (dats m 0 c).arrAt w (cfgs 0).N) 3).trans (codes_final m c)
  rw [e]
  funext y
  obtain ⟨h, k, w, b, rfl⟩ : ∃ (h : Fin 224) (k : Fin 3) (w : Fin 288) (b : Fin 128), y = ix4 h k w b := by
    refine ⟨y 0, y 1, y 2, y 3, funext fun a => ?_⟩
    fin_cases a <;> rfl
  have e' : transpose S224x3x288x128 [1, 0, 2, 3] (codeAt (rimg m c)) transposes_S3x224x288x128_S224x3x288x128_1_0_2_3 (ix4 h k w b) = codeAt (rimg m c) (ix4 k h w b) := by
    pointwise
  exact e'

/-- The reference's run: the codes, the scales, and the arguments unchanged. -/
theorem run : θ_run defs (onTc (τ := τ) (main (F := Ideal))) ⟨m, fun _ => 0, ρ⟩ (fun r => ∀ c : Dev nD,
      r.2.mem ((c.tc : Thread nD τ).loc main_v57) = codesR m c
      ∧ r.2.mem ((c.tc : Thread nD τ).loc main_v9_1) = scaleAt (rimg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact (θ_run defs _ _).mono (fun _ h c => ⟨((h c).2 main_v57 (Pipeline.mem_restRefs_of main_v57 (by decide) (by decide))).trans (codes_tail m c),
    ((h c).1 4).trans (scales_final m c),
    (((h c).2 main_arg0 (Pipeline.mem_restRefs_of main_arg0 (by decide) (by decide))).trans (W_main_arg0 m (dats m) c)),
    ((h c).1 2).trans (((dats m 0 c).arrAt_in 2 rfl _).trans ((A_eq m c 2).trans (V_main_arg1 m c))),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c))⟩) (run_main m ρ)

end Cert.Proof.RefArrays
-- ==== Proof.RefNorm.lean ====
/-
  The reference's region: the normalised image and the weights it leaves for the convolution.
-/
module

public import proofs.«01_k».proof.Proof.RefArrays

@[expose] public section

noncomputable section

namespace Cert.Proof.RefNorm

open Cert.ReferenceIdeal Cert.ReferenceIdeal.Gen Cert.Proof.Quantiser Cert.Proof.Scales Cert.Proof.RefScale Cert.Proof.RefArrays
open Idealize.ShloMosaic Idealize.ShloMosaic.Pointwise
open Idealize.ShloMosaic.TcCoe Idealize.ShloMosaic.Tactic
open Idealize.SL.Sem

variable (px : Img) (hp : ∀ h c w b, px h c w b ≤ 255)

/-- The normalised image at an index. -/
def normAt (y : S3x224x288x128.Idx) : Ideal .bf16 := ((nv (y 0).val (px (y 1).val (y 0).val (y 2).val (y 3).val) : ℝ) : EReal)

/-- One channel of the codes times its scale. -/
theorem scaled_apply (s : FVec Ideal S1x128 .f32) (q : FVec Ideal S224x288x128 .fp8e4m3) (h : Fin 224) (w : Fin 288) (b : Fin 128) :
    (k0_pay6 (F := Ideal) s q (ix4 0 h w b) : EReal) = (q (ix3 h w b) : EReal) * s (ix2 0 b) := by
  unfold k0_pay6
  pointwise

theorem scaled_1 (v56 v71 v74) : k0_pay12 (F := Ideal) v56 v71 v74 = k0_pay6 v71 (k0_pay10 v56 v74) := rfl
theorem scaled_2 (v1 v102 v105 v109 c) : k0_pay19 (F := Ideal) v1 v102 v105 v109 c = k0_pay6 (k0_pay16 v1 v105 v109 c) (k0_pay17 v1 v102 v105 v109 c) := rfl

include hp in
/-- One channel's codes times its scale is its normalised pixel. -/
theorem norm_plane (c : ℕ) (mn sd : Ideal .f32) (hm : mn = ((mean c : ℝ) : EReal)) (hs : sd = ((std c : ℝ) : EReal)) (v x1) (hv : Plane px c v) (hw : Powers x1)
    (h : Fin 224) (w : Fin 288) (b : Fin 128) :
    k0_pay6 (F := Ideal) (least (k0_pay1 (F := Ideal) (View.ld (Val := Elt Ideal) x1 r0_0)) (most mn sd v))
      (quant (norm mn sd v) (least (k0_pay1 (F := Ideal) (View.ld (Val := Elt Ideal) x1 r0_0)) (most mn sd v))) (ix4 0 h w b)
      = ((nv c (px h.val c w.val b.val) : ℝ) : EReal) := by
  refine (scaled_apply _ _ h w b).trans ?_
  rw [quant_plane px hp c mn sd hm hs v x1 hv hw h w b, scale_plane px hp c mn sd hm hs v x1 hv hw b, ← EReal.coe_mul, code_mul_scale]

include hp in
/-- The block of the normalised image the region leaves. -/
theorem norm_block (x0 x1 x2) (hx : Image px x0) (hw : Powers x1) (y : S3x224x288x128.Idx) : out0_5 (F := Ideal) x0 x1 x2 y = normAt px y := by
  unfold out0_5 k0_pay28 k0_pay27 k0_pay26 k0_pay25 k0_pay24 k0_pay23 k0_pay22 k0_pay21
  rw [scaled_1, scaled_2, quant_0, quant_1, quant_2, scale_0, scale_1, scale_2]
  refine View.canon_apply_of_pieces (Val := Elt Ideal) (normAt px) _ ?_ y (cover0_5 _ _ _ y)
  intro p hp' x
  simp only [List.mem_cons, List.not_mem_nil, or_false] at hp'
  rcases hp' with rfl | rfl | rfl
  · obtain ⟨h, w, b, rfl⟩ := fst_unit4 x
    refine ((norm_plane px hp 2 _ _ rfl rfl _ x1 (plane_2 px x0 hx) hw h w b).trans ?_)
    refine congrArg (fun r : ℝ => (r : EReal)) ?_
    show nv 2 (px h.val 2 w.val b.val) = nv (2 + 1 * 0) (px (0 + 1 * h.val) (2 + 1 * 0) (0 + 1 * w.val) (0 + 1 * b.val))
    simp only [Nat.mul_zero, Nat.add_zero, Nat.zero_add, Nat.one_mul]
  · obtain ⟨h, w, b, rfl⟩ := fst_unit4 x
    refine ((norm_plane px hp 1 _ _ rfl rfl _ x1 (plane_1 px x0 hx) hw h w b).trans ?_)
    refine congrArg (fun r : ℝ => (r : EReal)) ?_
    show nv 1 (px h.val 1 w.val b.val) = nv (1 + 1 * 0) (px (0 + 1 * h.val) (1 + 1 * 0) (0 + 1 * w.val) (0 + 1 * b.val))
    simp only [Nat.mul_zero, Nat.add_zero, Nat.zero_add, Nat.one_mul]
  · obtain ⟨h, w, b, rfl⟩ := fst_unit4 x
    refine ((norm_plane px hp 0 _ _ rfl rfl _ x1 (plane_0 px x0 hx) hw h w b).trans ?_)
    refine congrArg (fun r : ℝ => (r : EReal)) ?_
    show nv 0 (px h.val 0 w.val b.val) = nv (0 + 1 * 0) (px (0 + 1 * h.val) (0 + 1 * 0) (0 + 1 * w.val) (0 + 1 * b.val))
    simp only [Nat.mul_zero, Nat.add_zero, Nat.zero_add, Nat.one_mul]

/-- The block of the weights the region leaves. -/
theorem weights_block (x0 x1) (x2 : Vec Ideal S7x7x3x64 .fp8e4m3) (y : S7x7x3x64.Idx) : (out0_6 (F := Ideal) x0 x1 x2 y : EReal) = (x2 y : EReal) := by
  unfold out0_6
  refine View.canon_apply_of_pieces (Val := Elt Ideal) (e := .bf16) (fun y => (x2 y : EReal)) _ ?_ y (cover0_6 _ y)
  intro p hp' x
  simp only [List.mem_cons, List.not_mem_nil, or_false] at hp'
  subst hp'
  rfl

variable (m : (ℓ : Loc nD τ sig) → Buf (Elt Ideal) ℓ)

theorem idx_2 : ∀ t : Fin cfg0.N, win0_2.index t 0 = 0 ∧ win0_2.index t 1 = 0 ∧ win0_2.index t 2 = 0 ∧ win0_2.index t 3 = 0 := by decide +kernel
theorem idx_5 : ∀ t : Fin cfg0.N, win0_5.index t 0 = 0 ∧ win0_5.index t 1 = 0 ∧ win0_5.index t 2 = 0 ∧ win0_5.index t 3 = 0 := by decide +kernel
theorem idx_6 : ∀ t : Fin cfg0.N, win0_6.index t 0 = 0 ∧ win0_6.index t 1 = 0 ∧ win0_6.index t 2 = 0 ∧ win0_6.index t 3 = 0 := by decide +kernel

theorem norm_final (c : Dev nD) : (dats m 0 c).arrAt 5 cfg0.N = normAt (rimg m c) := by
  refine (dats m 0 c).arrAt_eq_of_covers 5 (normAt (rimg m c)) (by decide +kernel) fun t hf y => ?_
  obtain ⟨e0, e1, e2, e3⟩ := idx_5 t
  blk_simp
  rw [after0_5]
  refine (norm_block (rimg m c) (KernelValue.pxOf_le _) _ _ _ (image_block m c t) (powers_block m c t) y).trans ?_
  unfold normAt
  blk_simp [e0, e1, e2, e3]

/-- The weights as the region leaves them. -/
def weightsAt (c : Dev nD) : S7x7x3x64.Idx → Ideal .bf16 := fun y => (m ((c : Thread nD τ).loc main_arg1) y : EReal)

theorem weights_final (c : Dev nD) : (dats m 0 c).arrAt 6 cfg0.N = weightsAt m c := by
  refine (dats m 0 c).arrAt_eq_of_covers 6 (weightsAt m c) (by decide +kernel) fun t hf y => ?_
  obtain ⟨e0, e1, e2, e3⟩ := idx_6 t
  obtain ⟨f0, f1, f2, f3⟩ := idx_2 t
  blk_simp
  rw [after0_6]
  refine (weights_block _ _ _ y).trans ?_
  unfold weightsAt iblk
  blk_simp
  rw [V_main_arg1]
  refine congrArg (m ((c : Thread nD τ).loc main_arg1)) ?_
  funext a
  fin_cases a <;> apply Fin.ext <;> blk_simp [e0, e1, e2, e3, f0, f1, f2, f3]

end Cert.Proof.RefNorm

end
-- ==== Proof.RefTail.lean ====
/-
  The reference after its region: the seven by seven patches, the contraction with the weights, and the pooling, as functions of what the region leaves.
-/
module

public import proofs.«01_k».proof.Proof.RefNorm

@[expose] public section

noncomputable section

namespace Cert.Proof.RefTail

open Cert.ReferenceIdeal Cert.ReferenceIdeal.Gen Cert.Proof.Quantiser Cert.Proof.RefArrays Cert.Proof.RefNorm
open Idealize.ShloMosaic Idealize.ShloMosaic.Pointwise
open Idealize.ShloMosaic.TcCoe Idealize.ShloMosaic.Tactic

/-- Three rows and columns of zeros on every side. -/
def padOf (X : FVec Ideal S3x224x288x128 .bf16) : FVec Ideal S3x230x294x128 .bf16 :=
  pad S3x230x294x128 ![0, 3, 3, 0] ![0, 3, 3, 0] ![0, 0, 0, 0] X (sitofp (F := Ideal) .bf16 (constantI S_ 32 0#32)) pads_S3x224x288x128_S3x230x294x128_000_330_330_000 h_S_

/-- Every second row, from each of seven starts. -/
def rowsOf (P : FVec Ideal S3x230x294x128 .bf16) : FVec Ideal S7x3x112x294x128 .bf16 :=
  concatenate S7x3x112x294x128 0 [⟨S1x3x112x294x128, broadcastInDim S1x3x112x294x128 ![1, 2, 3, 4] bcast_S3x112x294x128_S1x3x112x294x128_1_2_3_4 (Host.slice S3x112x294x128 ![0, 0, 0, 0] ![1, 2, 1, 1] P slicesBy_S3x230x294x128_S3x112x294x128_0s1_0s2_0s1_0s1)⟩,
    ⟨S1x3x112x294x128, broadcastInDim S1x3x112x294x128 ![1, 2, 3, 4] bcast_S3x112x294x128_S1x3x112x294x128_1_2_3_4 (Host.slice S3x112x294x128 ![0, 1, 0, 0] ![1, 2, 1, 1] P slicesBy_S3x230x294x128_S3x112x294x128_0s1_1s2_0s1_0s1)⟩,
    ⟨S1x3x112x294x128, broadcastInDim S1x3x112x294x128 ![1, 2, 3, 4] bcast_S3x112x294x128_S1x3x112x294x128_1_2_3_4 (Host.slice S3x112x294x128 ![0, 2, 0, 0] ![1, 2, 1, 1] P slicesBy_S3x230x294x128_S3x112x294x128_0s1_2s2_0s1_0s1)⟩,
    ⟨S1x3x112x294x128, broadcastInDim S1x3x112x294x128 ![1, 2, 3, 4] bcast_S3x112x294x128_S1x3x112x294x128_1_2_3_4 (Host.slice S3x112x294x128 ![0, 3, 0, 0] ![1, 2, 1, 1] P slicesBy_S3x230x294x128_S3x112x294x128_0s1_3s2_0s1_0s1)⟩,
    ⟨S1x3x112x294x128, broadcastInDim S1x3x112x294x128 ![1, 2, 3, 4] bcast_S3x112x294x128_S1x3x112x294x128_1_2_3_4 (Host.slice S3x112x294x128 ![0, 4, 0, 0] ![1, 2, 1, 1] P slicesBy_S3x230x294x128_S3x112x294x128_0s1_4s2_0s1_0s1)⟩,
    ⟨S1x3x112x294x128, broadcastInDim S1x3x112x294x128 ![1, 2, 3, 4] bcast_S3x112x294x128_S1x3x112x294x128_1_2_3_4 (Host.slice S3x112x294x128 ![0, 5, 0, 0] ![1, 2, 1, 1] P slicesBy_S3x230x294x128_S3x112x294x128_0s1_5s2_0s1_0s1)⟩,
    ⟨S1x3x112x294x128, broadcastInDim S1x3x112x294x128 ![1, 2, 3, 4] bcast_S3x112x294x128_S1x3x112x294x128_1_2_3_4 (Host.slice S3x112x294x128 ![0, 6, 0, 0] ![1, 2, 1, 1] P slicesBy_S3x230x294x128_S3x112x294x128_0s1_6s2_0s1_0s1)⟩]
    concatenates_S1x3x112x294x128_S1x3x112x294x128_S1x3x112x294x128_S1x3x112x294x128_S1x3x112x294x128_S1x3x112x294x128_S1x3x112x294x128_S7x3x112x294x128_d0

/-- Every second column, from each of seven starts. -/
def colsOf (R : FVec Ideal S7x3x112x294x128 .bf16) : FVec Ideal S7x7x3x112x144x128 .bf16 :=
  concatenate S7x7x3x112x144x128 0 [⟨S1x7x3x112x144x128, broadcastInDim S1x7x3x112x144x128 ![1, 2, 3, 4, 5] bcast_S7x3x112x144x128_S1x7x3x112x144x128_1_2_3_4_5 (Host.slice S7x3x112x144x128 ![0, 0, 0, 0, 0] ![1, 1, 1, 2, 1] R slicesBy_S7x3x112x294x128_S7x3x112x144x128_0s1_0s1_0s1_0s2_0s1)⟩,
    ⟨S1x7x3x112x144x128, broadcastInDim S1x7x3x112x144x128 ![1, 2, 3, 4, 5] bcast_S7x3x112x144x128_S1x7x3x112x144x128_1_2_3_4_5 (Host.slice S7x3x112x144x128 ![0, 0, 0, 1, 0] ![1, 1, 1, 2, 1] R slicesBy_S7x3x112x294x128_S7x3x112x144x128_0s1_0s1_0s1_1s2_0s1)⟩,
    ⟨S1x7x3x112x144x128, broadcastInDim S1x7x3x112x144x128 ![1, 2, 3, 4, 5] bcast_S7x3x112x144x128_S1x7x3x112x144x128_1_2_3_4_5 (Host.slice S7x3x112x144x128 ![0, 0, 0, 2, 0] ![1, 1, 1, 2, 1] R slicesBy_S7x3x112x294x128_S7x3x112x144x128_0s1_0s1_0s1_2s2_0s1)⟩,
    ⟨S1x7x3x112x144x128, broadcastInDim S1x7x3x112x144x128 ![1, 2, 3, 4, 5] bcast_S7x3x112x144x128_S1x7x3x112x144x128_1_2_3_4_5 (Host.slice S7x3x112x144x128 ![0, 0, 0, 3, 0] ![1, 1, 1, 2, 1] R slicesBy_S7x3x112x294x128_S7x3x112x144x128_0s1_0s1_0s1_3s2_0s1)⟩,
    ⟨S1x7x3x112x144x128, broadcastInDim S1x7x3x112x144x128 ![1, 2, 3, 4, 5] bcast_S7x3x112x144x128_S1x7x3x112x144x128_1_2_3_4_5 (Host.slice S7x3x112x144x128 ![0, 0, 0, 4, 0] ![1, 1, 1, 2, 1] R slicesBy_S7x3x112x294x128_S7x3x112x144x128_0s1_0s1_0s1_4s2_0s1)⟩,
    ⟨S1x7x3x112x144x128, broadcastInDim S1x7x3x112x144x128 ![1, 2, 3, 4, 5] bcast_S7x3x112x144x128_S1x7x3x112x144x128_1_2_3_4_5 (Host.slice S7x3x112x144x128 ![0, 0, 0, 5, 0] ![1, 1, 1, 2, 1] R slicesBy_S7x3x112x294x128_S7x3x112x144x128_0s1_0s1_0s1_5s2_0s1)⟩,
    ⟨S1x7x3x112x144x128, broadcastInDim S1x7x3x112x144x128 ![1, 2, 3, 4, 5] bcast_S7x3x112x144x128_S1x7x3x112x144x128_1_2_3_4_5 (Host.slice S7x3x112x144x128 ![0, 0, 0, 6, 0] ![1, 1, 1, 2, 1] R slicesBy_S7x3x112x294x128_S7x3x112x144x128_0s1_0s1_0s1_6s2_0s1)⟩]
    concatenates_S1x7x3x112x144x128_S1x7x3x112x144x128_S1x7x3x112x144x128_S1x7x3x112x144x128_S1x7x3x112x144x128_S1x7x3x112x144x128_S1x7x3x112x144x128_S7x7x3x112x144x128_d0

/-- A vector over the output channels, at every pixel. -/
def spread (v : FVec Ideal S64 .f32) : FVec Ideal S112x144x128x64 .f32 :=
  broadcastInDim S112x144x128x64 ![0, 1, 2, 3] bcast_S1x1x1x64_S112x144x128x64_0_1_2_3 (broadcastInDim S1x1x1x64 ![3] bcast_S64_S1x1x1x64_3 v)

/-- The contraction of the patches with the weights. -/
def dotOf (T : FVec Ideal S7x7x3x112x144x128 .bf16) (W : FVec Ideal S7x7x3x64 .bf16) : FVec Ideal S112x144x128x64 .f32 :=
  Host.dotGeneral dot_S7x7x3x112x144x128_S7x7x3x64_S112x144x128x64_102_012_345_3_n_n none T W

/-- The gains, the bias and the cut at zero. -/
def actOf (D : FVec Ideal S112x144x128x64 .f32) (s g b : FVec Ideal S64 .f32) : FVec Ideal S112x144x128x64 .f32 :=
  maximumf (addf (mulf (mulf D (spread s)) (spread g)) (spread b)) (broadcastInDim S112x144x128x64 ![] bcast_S_S112x144x128x64 (constant (F := Ideal) S_ .f32 0x00000000#32))

/-- The three by three maximum at every second row and column. -/
def poolOf (A : FVec Ideal S112x144x128x64 .f32) : FVec Ideal S56x72x128x64 .f32 :=
  Host.reduceWindow FloatOps.maximumf ![3, 3, 1, 1] ![2, 2, 1, 1] ![1, 1, 0, 0] ![1, 1, 0, 0] A
    (broadcastInDim S_ ![] bcast_S_S_ (constant (F := Ideal) S_ .f32 0xFF800000#32)) reduceWindows_S112x144x128x64_S56x72x128x64_w3s2p1_1_w3s2p1_1_w1s1p0_0_w1s1p0_0 h_S_

/-- The result. -/
def tailOf (X : FVec Ideal S3x224x288x128 .bf16) (W : FVec Ideal S7x7x3x64 .bf16) (s g b : FVec Ideal S64 .f32) : FVec Ideal S56x72x64x128 .bf16 :=
  transpose S56x72x64x128 [0, 1, 3, 2] (truncf .bf16 (poolOf (actOf (dotOf (colsOf (rowsOf (padOf X))) W) s g b)) bitsLt_bf16_f32) transposes_S56x72x128x64_S56x72x64x128_0_1_3_2

end Cert.Proof.RefTail

end
-- ==== Proof.RefTailRead.lean ====
/-
  The reference's pooled result, read off its host operations after the region.
-/
module

public import proofs.«01_k».proof.Proof.RefTail

@[expose] public section

noncomputable section

namespace Cert.Proof.RefTailRead

open Cert.ReferenceIdeal Cert.ReferenceIdeal.Gen Cert.Proof.RefArrays Cert.Proof.RefNorm Cert.Proof.RefTail
open Idealize.ShloMosaic Idealize.ShloMosaic.Pointwise
open Idealize.ShloMosaic.TcCoe Idealize.ShloMosaic.Tactic

variable (m : (ℓ : Loc nD τ sig) → Buf (Elt Ideal) ℓ)

set_option maxHeartbeats 8000000 in
theorem tail_read (c : Dev nD) : Pipeline.afterTail₀ cfgs (dats m) 0 (V0 m) [hostOps1, hostOps1_1, hostOps1_2] c main_v56
    = tailOf (Pipeline.withArrays (cfgs 0).spec c (V0 m c) (fun w => (dats m 0 c).arrAt w (cfgs 0).N) (Proc.devRef .tc main_v9_2))
        (Pipeline.withArrays (cfgs 0).spec c (V0 m c) (fun w => (dats m 0 c).arrAt w (cfgs 0).N) (Proc.devRef .tc main_v9_3))
        (Pipeline.withArrays (cfgs 0).spec c (V0 m c) (fun w => (dats m 0 c).arrAt w (cfgs 0).N) (Proc.devRef .tc main_arg2))
        (Pipeline.withArrays (cfgs 0).spec c (V0 m c) (fun w => (dats m 0 c).arrAt w (cfgs 0).N) (Proc.devRef .tc main_arg3))
        (Pipeline.withArrays (cfgs 0).spec c (V0 m c) (fun w => (dats m 0 c).arrAt w (cfgs 0).N) (Proc.devRef .tc main_arg4)) := by
  unfold Pipeline.afterTail₀
  simp only [hostOps1, hostOps1_1, hostOps1_2, List.flatten_cons, List.flatten_nil, List.append_nil, List.cons_append, List.nil_append]
  after_results
  rfl

end Cert.Proof.RefTailRead

end
-- ==== Proof.Weights.lean ====
/-
  The kernel's host values: the weights gathered for the two halves of a word, the signs of the gains at the taps, the scales and the
  shifts of the normalisation.
-/
module

public import proofs.«01_k».proof.Proof.KernelValue

@[expose] public section

noncomputable section

namespace Cert.Proof.Weights

open Cert.KernelIdeal Cert.KernelIdeal.Gen Cert.Proof.Trip Cert.Proof.Quantiser Cert.Proof.TripValue Cert.Proof.Pool Cert.Proof.PoolTrip Cert.Proof.PoolLoop Cert.Proof.KernelValue
open Idealize.ShloMosaic Idealize.ShloMosaic.Pointwise
open Idealize.ShloMosaic.TcCoe Idealize.ShloMosaic.Tactic

variable (m : (ℓ : Loc nD τ sig) → Buf (Elt Ideal) ℓ)

/-- The gains. -/
def gain (S B : FVec Ideal S64 .f32) : FVec Ideal S64 .f32 := mulf S B
/-- The sign of each gain: −1 below 0, else 1. -/
def signs (G : FVec Ideal S64 .f32) : FVec Ideal S64 .f32 :=
  select (cmpf .olt G (broadcastInDim S64 ![] bcast_S_S64 (constant (F := Ideal) S_ .f32 0x00000000#32)))
    (broadcastInDim S64 ![] bcast_S_S64 (constant (F := Ideal) S_ .f32 0xBF800000#32)) (broadcastInDim S64 ![] bcast_S_S64 (constant (F := Ideal) S_ .f32 0x3F800000#32))
/-- The sign of each tap of each channel. -/
def signs4 (G : FVec Ideal S64 .f32) : FVec Ideal S64x7x7x3 .f32 :=
  broadcastInDim S64x7x7x3 ![0, 1, 2, 3] bcast_S64x1x1x1_S64x7x7x3_0_1_2_3 (broadcastInDim S64x1x1x1 ![0] bcast_S64_S64x1x1x1_0 (signs G))

/-- The rows of twelve pixels laid out as eight words and the ninth. -/
def nine {ty : EltTy} (A : S64x7x12x3.Idx → Elt Ideal ty) : S64x7x9x4.Idx → Elt Ideal ty :=
  shapeCast S64x7x9x4 (transpose S64x7x3x3x4 [0, 1, 2, 4, 3] (shapeCast S64x7x3x4x3 A shapeCasts_S64x7x12x3_S64x7x3x4x3) transposes_S64x7x3x4x3_S64x7x3x3x4_0_1_2_4_3) shapeCasts_S64x7x3x3x4_S64x7x9x4
def eight {ty : EltTy} (A : S64x7x9x4.Idx → Elt Ideal ty) : S64x224.Idx → Elt Ideal ty :=
  shapeCast S64x224 (extractStridedSlice S64x7x8x4 ![0, 0, 0, 0] A slices_S64x7x9x4_S64x7x8x4_0_0_0_0) shapeCasts_S64x7x8x4_S64x224
def ninth {ty : EltTy} (A : S64x7x9x4.Idx → Elt Ideal ty) : S64x7x4.Idx → Elt Ideal ty :=
  shapeCast S64x7x4 (extractStridedSlice S64x7x1x4 ![0, 0, 8, 0] A slices_S64x7x9x4_S64x7x1x4_0_0_8_0) shapeCasts_S64x7x1x4_S64x7x4

/-- The weights of one half of a word. -/
def side (A : FVec Ideal S64x7x12x3 .fp8e4m3) : FVec Ideal S64x256 .fp8e4m3 :=
  concatenate S64x256 1 [⟨S64x224, eight (ty := .fp8e4m3) (nine (ty := .fp8e4m3) A)⟩, ⟨S64x32, shapeCast S64x32 (concatenate S64x8x4 1 [⟨S64x7x4, ninth (ty := .fp8e4m3) (nine (ty := .fp8e4m3) A)⟩, ⟨S64x1x4, extractStridedSlice S64x1x4 ![0, 0, 0] (ninth (ty := .fp8e4m3) (nine (ty := .fp8e4m3) A)) slices_S64x7x4_S64x1x4_0_0_0⟩] concatenates_S64x7x4_S64x1x4_S64x8x4_d1) shapeCasts_S64x8x4_S64x32⟩] concatenates_S64x224_S64x32_S64x256_d1
/-- The signs of one half of a word. -/
def sideM (A : FVec Ideal S64x7x12x3 .f32) : FVec Ideal S64x256 .f32 :=
  concatenate S64x256 1 [⟨S64x224, eight (ty := .f32) (nine (ty := .f32) A)⟩, ⟨S64x32, shapeCast S64x32 (pad S64x8x4 ![0, 0, 0] ![0, 1, 0] ![0, 0, 0] (ninth (ty := .f32) (nine (ty := .f32) A)) (sitofp (F := Ideal) .f32 (constantI S_ 32 0#32)) pads_S64x7x4_S64x8x4_000_010_000 h_S_) shapeCasts_S64x8x4_S64x32⟩] concatenates_S64x224_S64x32_S64x256_d1

def wT (W : FVec Ideal S7x7x3x64 .fp8e4m3) : FVec Ideal S64x7x7x3 .fp8e4m3 := transpose S64x7x7x3 [3, 0, 1, 2] W transposes_S7x7x3x64_S64x7x7x3_3_0_1_2
def gathered (W : FVec Ideal S7x7x3x64 .fp8e4m3) : FVec Ideal S128x256 .fp8e4m3 :=
  concatenate S128x256 0 [⟨S64x256, side (concatenate S64x7x12x3 2 [⟨S64x7x1x3, extractStridedSlice S64x7x1x3 ![0, 0, 0, 0] (wT W) slices_S64x7x7x3_S64x7x1x3_0_0_0_0⟩, ⟨S64x7x7x3, wT W⟩, ⟨S64x7x4x3, extractStridedSlice S64x7x4x3 ![0, 0, 0, 0] (wT W) slices_S64x7x7x3_S64x7x4x3_0_0_0_0⟩] concatenates_S64x7x1x3_S64x7x7x3_S64x7x4x3_S64x7x12x3_d2)⟩,
    ⟨S64x256, side (concatenate S64x7x12x3 2 [⟨S64x7x3x3, extractStridedSlice S64x7x3x3 ![0, 0, 0, 0] (wT W) slices_S64x7x7x3_S64x7x3x3_0_0_0_0⟩, ⟨S64x7x7x3, wT W⟩, ⟨S64x7x2x3, extractStridedSlice S64x7x2x3 ![0, 0, 0, 0] (wT W) slices_S64x7x7x3_S64x7x2x3_0_0_0_0⟩] concatenates_S64x7x3x3_S64x7x7x3_S64x7x2x3_S64x7x12x3_d2)⟩] concatenates_S64x256_S64x256_S128x256_d0
def masks (M : FVec Ideal S64x7x7x3 .f32) : FVec Ideal S128x256 .f32 :=
  concatenate S128x256 0 [⟨S64x256, sideM (pad S64x7x12x3 ![0, 0, 1, 0] ![0, 0, 4, 0] ![0, 0, 0, 0] M (sitofp (F := Ideal) .f32 (constantI S_ 32 0#32)) pads_S64x7x7x3_S64x7x12x3_000_000_140_000 h_S_)⟩,
    ⟨S64x256, sideM (pad S64x7x12x3 ![0, 0, 3, 0] ![0, 0, 2, 0] ![0, 0, 0, 0] M (sitofp (F := Ideal) .f32 (constantI S_ 32 0#32)) pads_S64x7x7x3_S64x7x12x3_000_000_320_000 h_S_)⟩] concatenates_S64x256_S64x256_S128x256_d0

set_option maxHeartbeats 4000000 in
theorem V_v33 (c : Dev nD) : V m c main_v33 = gathered (m ((c : Thread nD τ).loc main_arg1)) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v33) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

set_option maxHeartbeats 4000000 in
theorem V_v62 (c : Dev nD) : V m c main_v62 = masks (signs4 (gain (m ((c : Thread nD τ).loc main_arg2)) (m ((c : Thread nD τ).loc main_arg3)))) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v62) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

set_option maxHeartbeats 4000000 in
theorem V_v67 (c : Dev nD) : V m c main_v67 = broadcastInDim S64x128 ![0, 1] bcast_S64x1_S64x128_0_1 (broadcastInDim S64x1 ![0] bcast_S64_S64x1_0 (mulf (Host.absf (gain (m ((c : Thread nD τ).loc main_arg2)) (m ((c : Thread nD τ).loc main_arg3)))) (broadcastInDim S64 ![] bcast_S_S64 (constant (F := Ideal) S_ .f32 0x3C000000#32)))) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v67) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results
  rfl

set_option maxHeartbeats 4000000 in
theorem V_v69 (c : Dev nD) : V m c main_v69 = broadcastInDim S64x128 ![0, 1] bcast_S64x1_S64x128_0_1 (broadcastInDim S64x1 ![0] bcast_S64_S64x1_0 (m ((c : Thread nD τ).loc main_arg4))) := by
  show StableHlo.after (List.flatten [hostOps0, hostOps0_1, hostOps0_2, hostOps0_3, hostOps0_4, hostOps0_5, hostOps0_6, hostOps0_7, hostOps0_8, hostOps0_9, hostOps0_10]) (fun b => m (c, b)) (Proc.devRef .tc main_v69) = _
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results

/-! ## Read at an index -/

theorem nine_apply {ty : EltTy} (A : S64x7x12x3.Idx → Elt Ideal ty) (ch : Fin 64) (r : Fin 7) (q : Fin 9) (p : Fin 4) :
    nine A (ix4 ch r q p) = A (ix4 ch r ⟨q.val / 3 * 4 + p.val, by omega⟩ ⟨q.val % 3, by omega⟩) := by
  pointwise [nine]
theorem eight_apply {ty : EltTy} (A : S64x7x9x4.Idx → Elt Ideal ty) (ch : Fin 64) (k : Fin 224) :
    eight A (ix2 ch k) = A (ix4 ch ⟨k.val / 32, by omega⟩ ⟨k.val / 4 % 8, by omega⟩ ⟨k.val % 4, by omega⟩) := by
  pointwise [eight]
theorem ninth_apply {ty : EltTy} (A : S64x7x9x4.Idx → Elt Ideal ty) (ch : Fin 64) (r : Fin 7) (p : Fin 4) :
    ninth A (ix3 ch r p) = A (ix4 ch r 8 p) := by
  pointwise [ninth]

theorem zeroI : (FloatOps.sitofp FTy.f32 0#32 : Ideal .f32) = (0 : EReal) := by
  show (((0#32 : BitVec 32).toInt : ℝ) : EReal) = 0
  simp

/-- The filled row of twelve at tap position `t`, for a row that starts at `l`. -/
def at12 (A : FVec Ideal S64x7x7x3 .f32) (l : ℕ) (ch : Fin 64) (r : Fin 7) (t : Fin 12) (c : Fin 3) : EReal :=
  if h : l ≤ t.val ∧ t.val - l < 7 then A (ix4 ch r ⟨t.val - l, h.2⟩ c) else 0

theorem pad1_apply (A : FVec Ideal S64x7x7x3 .f32) (ch : Fin 64) (r : Fin 7) (t : Fin 12) (c : Fin 3) :
    pad S64x7x12x3 ![0, 0, 1, 0] ![0, 0, 4, 0] ![0, 0, 0, 0] A (sitofp (F := Ideal) .f32 (constantI S_ 32 0#32)) pads_S64x7x7x3_S64x7x12x3_000_000_140_000 h_S_ (ix4 ch r t c) = at12 A 1 ch r t c := by
  pointwise
  rw [zeroI]
  rfl
theorem pad3_apply (A : FVec Ideal S64x7x7x3 .f32) (ch : Fin 64) (r : Fin 7) (t : Fin 12) (c : Fin 3) :
    pad S64x7x12x3 ![0, 0, 3, 0] ![0, 0, 2, 0] ![0, 0, 0, 0] A (sitofp (F := Ideal) .f32 (constantI S_ 32 0#32)) pads_S64x7x7x3_S64x7x12x3_000_000_320_000 h_S_ (ix4 ch r t c) = at12 A 3 ch r t c := by
  pointwise
  rw [zeroI]
  rfl

theorem neg_one_bits : Ideal.ofBits .f32 3212836864#32 = -1 := by
  simp [Ideal.ofBits, Ideal.ieee]
  rw [← EReal.coe_mul, ← EReal.coe_one]
  norm_num

theorem signs_apply (G : FVec Ideal S64 .f32) (ch : Fin 64) (a b : Fin 7) (c : Fin 3) : (signs4 G (ix4 ch a b c) : EReal) = if (G (ix1 ch) : EReal) < 0 then -1 else 1 := by
  pointwise [signs4, signs]
  rw [neg_one_bits]

theorem kr_lt (k : Fin 256) : kr k < 8 := by unfold kr; split <;> omega
theorem kt_lt (k : Fin 256) : 4 * kw k + k.val % 4 < 12 := by unfold kw; split <;> omega
theorem kc_lt (k : Fin 256) : kc k < 3 := by unfold kc; split <;> omega

theorem side_apply (A : FVec Ideal S64x7x12x3 .fp8e4m3) (ch : Fin 64) (k : Fin 256) (hr : kr k < 7) :
    side A (ix2 ch k) = A (ix4 ch ⟨kr k, hr⟩ ⟨4 * kw k + k.val % 4, kt_lt k⟩ ⟨kc k, kc_lt k⟩) := by
  have hk := k.isLt
  unfold kr at hr
  pointwise [side]
  by_cases h : k.val < 224
  · rw [dif_pos h]
    refine (eight_apply _ _ _).trans ((nine_apply _ _ _ _ _).trans ?_)
    congr 1
    funext a
    fin_cases a <;> apply Fin.ext
    · rfl
    · show k.val / 32 = kr k; unfold kr; rw [if_pos h]
    · show k.val / 4 % 8 / 3 * 4 + k.val % 4 = 4 * kw k + k.val % 4; unfold kw; rw [if_pos h]; omega
    · show k.val / 4 % 8 % 3 = kc k; unfold kc; rw [if_pos h]; omega
  · rw [dif_neg h]
    rw [if_neg h] at hr
    rw [dif_pos hr]
    refine (ninth_apply _ _ _ _).trans ((nine_apply _ _ _ _ _).trans ?_)
    congr 1
    funext a
    fin_cases a <;> apply Fin.ext
    · rfl
    · show (k.val - 224) / 4 = kr k; unfold kr; rw [if_neg h]
    · show 8 / 3 * 4 + (k.val - 224) % 4 = 4 * kw k + k.val % 4; unfold kw; rw [if_neg h]; omega
    · show 8 % 3 = kc k; unfold kc; rw [if_neg h]
theorem sideM_apply (A : FVec Ideal S64x7x12x3 .f32) (ch : Fin 64) (k : Fin 256) :
    (sideM A (ix2 ch k) : EReal) = if hr : kr k < 7 then A (ix4 ch ⟨kr k, hr⟩ ⟨4 * kw k + k.val % 4, kt_lt k⟩ ⟨kc k, kc_lt k⟩) else 0 := by
  pointwise [sideM]
  have hk := k.isLt
  have he : kr k = if k.val < 224 then k.val / 32 else (k.val - 224) / 4 := rfl
  rw [zeroI]
  by_cases h : k.val < 224
  · rw [if_pos h] at he
    rw [dif_pos h, dif_pos (show kr k < 7 by omega)]
    refine (eight_apply _ _ _).trans ((nine_apply _ _ _ _ _).trans ?_)
    congr 1
    funext a
    fin_cases a <;> apply Fin.ext
    · rfl
    · show k.val / 32 = kr k; unfold kr; rw [if_pos h]
    · show k.val / 4 % 8 / 3 * 4 + k.val % 4 = 4 * kw k + k.val % 4; unfold kw; rw [if_pos h]; omega
    · show k.val / 4 % 8 % 3 = kc k; unfold kc; rw [if_pos h]; omega
  · rw [if_neg h] at he
    rw [dif_neg h]
    by_cases hr : kr k < 7
    · rw [dif_pos hr, dif_pos ⟨by omega, by omega⟩]
      refine (ninth_apply _ _ _ _).trans ((nine_apply _ _ _ _ _).trans ?_)
      congr 1
      funext a
      fin_cases a <;> apply Fin.ext
      · rfl
      · exact he.symm
      · show 8 / 3 * 4 + (k.val - 224) % 4 = 4 * kw k + k.val % 4; unfold kw; rw [if_neg h]; omega
      · show 8 % 3 = kc k; unfold kc; rw [if_neg h]
    · rw [dif_neg hr, dif_neg (by omega)]

/-- Where the seven taps of row `o` start among the twelve pixels. -/
def left (o : ℕ) : ℕ := 1 + 2 * (o / 64)

/-- Column `k` of row `o` holds a tap. -/
def tap (o : ℕ) (k : ℕ) : Prop := kr k < 7 ∧ left o ≤ 4 * kw k + k % 4 ∧ 4 * kw k + k % 4 - left o < 7

instance (o k : ℕ) : Decidable (tap o k) := inferInstanceAs (Decidable (_ ∧ _))

theorem masks_apply (M : FVec Ideal S64x7x7x3 .f32) (o : Fin 128) (k : Fin 256) :
    (masks M (ix2 o k) : EReal) = if h : tap o k then M (ix4 ⟨o.val % 64, by omega⟩ ⟨kr k, h.1⟩ ⟨4 * kw k + k.val % 4 - left o, h.2.2⟩ ⟨kc k, kc_lt k⟩) else 0 := by
  have ho := o.isLt
  pointwise [masks]
  by_cases h : o.val < 64
  · have hl : left o = 1 := by unfold left; omega
    rw [dif_pos h]
    refine (sideM_apply _ _ k).trans ?_
    by_cases hr : kr k < 7
    · rw [dif_pos hr, pad1_apply]
      unfold at12
      by_cases ht : 1 ≤ 4 * kw k + k.val % 4 ∧ 4 * kw k + k.val % 4 - 1 < 7
      · rw [dif_pos ht, dif_pos ⟨hr, by omega, by omega⟩]
        congr 1
        funext a
        fin_cases a <;> apply Fin.ext
        · show o.val = o.val % 64; omega
        · rfl
        · show _ - 1 = _ - left o; rw [hl]
        · rfl
      · rw [dif_neg ht, dif_neg fun h' => ht ⟨by have := h'.2.1; omega, by have := h'.2.2; omega⟩]
    · rw [dif_neg hr, dif_neg fun h' => hr h'.1]
  · have hl : left o = 3 := by unfold left; omega
    rw [dif_neg h]
    refine (sideM_apply _ _ k).trans ?_
    by_cases hr : kr k < 7
    · rw [dif_pos hr, pad3_apply]
      unfold at12
      by_cases ht : 3 ≤ 4 * kw k + k.val % 4 ∧ 4 * kw k + k.val % 4 - 3 < 7
      · rw [dif_pos ht, dif_pos ⟨hr, by omega, by omega⟩]
        congr 1
        funext a
        fin_cases a <;> apply Fin.ext
        · show o.val - 64 = o.val % 64; omega
        · rfl
        · show _ - 3 = _ - left o; rw [hl]
        · rfl
      · rw [dif_neg ht, dif_neg fun h' => ht ⟨by have := h'.2.1; omega, by have := h'.2.2; omega⟩]
    · rw [dif_neg hr, dif_neg fun h' => hr h'.1]

theorem gathered_apply (W : FVec Ideal S7x7x3x64 .fp8e4m3) (o : Fin 128) (k : Fin 256) (h : tap o k) :
    gathered W (ix2 o k) = W (ix4 ⟨kr k, h.1⟩ ⟨4 * kw k + k.val % 4 - left o, h.2.2⟩ ⟨kc k, kc_lt k⟩ ⟨o.val % 64, by omega⟩) := by
  have ho := o.isLt
  obtain ⟨hr, h1, h2⟩ := h
  pointwise [gathered]
  by_cases h : o.val < 64
  · have hl : left o = 1 := by unfold left; omega
    rw [dif_pos h]
    refine (side_apply _ _ k hr).trans ?_
    pointwise [wT]
    rw [dif_neg (by omega), dif_pos (by omega)]
    congr 1
    funext a
    fin_cases a <;> apply Fin.ext
    · rfl
    · show _ - 1 = _ - left o; rw [hl]
    · rfl
    · show o.val = o.val % 64; omega
  · have hl : left o = 3 := by unfold left; omega
    rw [dif_neg h]
    refine (side_apply _ _ k hr).trans ?_
    pointwise [wT]
    rw [dif_neg (by omega), dif_pos (by omega)]
    congr 1
    funext a
    fin_cases a <;> apply Fin.ext
    · rfl
    · show _ - 3 = _ - left o; rw [hl]
    · rfl
    · show o.val - 64 = o.val % 64; omega

/-- The weights of a row with their signs: nothing off the taps. -/
theorem signed_apply (W : FVec Ideal S7x7x3x64 .fp8e4m3) (G : FVec Ideal S64 .f32) (o : Fin 128) (k : Fin 256) :
    signed (gathered W) (masks (signs4 G)) o k = if h : tap o k then (W (ix4 ⟨kr k, h.1⟩ ⟨4 * kw k + k.val % 4 - left o, h.2.2⟩ ⟨kc k, kc_lt k⟩ ⟨o.val % 64, by omega⟩) : EReal) * (if (G (ix1 ⟨o.val % 64, by omega⟩) : EReal) < 0 then -1 else 1) else 0 := by
  unfold signed
  rw [masks_apply]
  by_cases h : tap o k
  · rw [dif_pos h, dif_pos h, signs_apply, gathered_apply W o k h]
    have hn : (-1 : EReal) ≠ 0 := by
      rw [← EReal.coe_one, ← EReal.coe_neg, ← EReal.coe_zero]
      exact fun h => absurd (EReal.coe_injective h) (by norm_num)
    by_cases hg : (G (ix1 ⟨o.val % 64, by omega⟩) : EReal) < 0
    · rw [if_pos hg, if_neg hn]
    · rw [if_neg hg, if_neg one_ne_zero]
  · rw [dif_neg h, dif_neg h, if_pos rfl]

theorem eighth_bits : Ideal.ofBits .f32 1006632960#32 = ((1 / 128 : ℝ) : EReal) := by
  simp [Ideal.ofBits, Ideal.ieee]
  rw [← EReal.coe_mul]
  norm_num

theorem absf_eq (g : EReal) : (FloatOps.absf (F := Ideal) (φ := .f32) g : EReal) = if g < 0 then -g else g := by
  rw [Ideal.absf_def]
  by_cases h : g < 0
  · have h' : 0 ≤ -g := by simpa using EReal.neg_le_neg_iff.mpr h.le
    rw [if_pos h, max_eq_right (h.le.trans h')]
  · have h' : -g ≤ 0 := by simpa using EReal.neg_le_neg_iff.mpr (not_lt.mp h)
    rw [if_neg h, max_eq_left (h'.trans (not_lt.mp h))]

theorem scale_apply (G : FVec Ideal S64 .f32) (o : Fin 64) (b : Fin 128) :
    (broadcastInDim S64x128 ![0, 1] bcast_S64x1_S64x128_0_1 (broadcastInDim S64x1 ![0] bcast_S64_S64x1_0 (mulf (Host.absf G) (broadcastInDim S64 ![] bcast_S_S64 (constant (F := Ideal) S_ .f32 0x3C000000#32)))) (ix2 o b) : EReal)
      = (if (G (ix1 o) : EReal) < 0 then -(G (ix1 o) : EReal) else G (ix1 o)) * (((1 / 128 : ℝ)) : EReal) := by
  pointwise
  rw [eighth_bits]
  congr 1
  exact absf_eq _
theorem shift_apply (B : FVec Ideal S64 .f32) (o : Fin 64) (b : Fin 128) :
    broadcastInDim S64x128 ![0, 1] bcast_S64x1_S64x128_0_1 (broadcastInDim S64x1 ![0] bcast_S64_S64x1_0 B) (ix2 o b) = B (ix1 o) := by
  pointwise

end Cert.Proof.Weights

end
-- ==== Proof.Conv.lean ====
/-
  The convolution as a sum over the seven by seven by three taps, and the kernel's product of a row of weights with the stored codes
  as that sum times the shared power of two, in the channels whose gain is not negative. The weights may be any extended reals.
-/
module

public import proofs.«01_k».proof.Proof.Weights

@[expose] public section

noncomputable section

namespace Cert.Proof.Conv

open Cert.KernelIdeal Cert.KernelIdeal.Gen Cert.Proof.Quantiser Cert.Proof.TripValue Cert.Proof.Rows Cert.Proof.Pool Cert.Proof.PoolTrip Cert.Proof.PoolLoop Cert.Proof.KernelValue Cert.Proof.Weights
open Idealize.ShloMosaic Idealize.ShloMosaic.Pointwise

/-- A tap: row, column, channel. -/
abbrev Tap := Fin 7 × Fin 7 × Fin 3

/-- The normalised image with three rows and columns of zeros around it. -/
def padded (px : Img) (r q c b : ℕ) : ℝ :=
  if 3 ≤ r ∧ r < 227 ∧ 3 ≤ q ∧ q < 291 then nv c (px (r - 3) c (q - 3) b) else 0

/-- The convolution at row `h`, column `w`, output channel `o`, image `b`. -/
def conv (W : S7x7x3x64.Idx → EReal) (px : Img) (o : Fin 64) (h w b : ℕ) : EReal :=
  ∑ q : Tap, W (ix4 q.1 q.2.1 q.2.2 o) * ((padded px (2 * h + q.1.val) (2 * w + q.2.1.val) q.2.2.val b : ℝ) : EReal)

/-- The column that holds tap `q` for the side `s` of a word. -/
def column (s : ℕ) (q : Tap) : ℕ :=
  if (q.2.1.val + 1 + 2 * s) / 4 = 2 ∧ q.2.2.val = 2 then 224 + 4 * q.1.val + (q.2.1.val + 1 + 2 * s) % 4
  else 32 * q.1.val + 12 * ((q.2.1.val + 1 + 2 * s) / 4) + 4 * q.2.2.val + (q.2.1.val + 1 + 2 * s) % 4

theorem column_spec : ∀ (s : Fin 2) (q : Tap), column s q < 256 ∧ kr (column s q) = q.1.val ∧ 4 * kw (column s q) + column s q % 4 = q.2.1.val + 1 + 2 * s.val
    ∧ kc (column s q) = q.2.2.val := by decide +kernel

theorem column_of : ∀ (s : Fin 2) (k : Fin 256), tap (64 * s.val) k → ∃ q : Tap, column s q = k.val := by decide +kernel

/-- A sum over the columns that is zero off the taps, as a sum over the taps. -/
theorem sum_taps (s : Fin 2) (f : Fin 256 → EReal) (g : Tap → EReal) (h0 : ∀ k : Fin 256, ¬ tap (64 * s.val) k → f k = 0)
    (hg : ∀ (k : Fin 256) (q : Tap), column s q = k.val → f k = g q) : ∑ k, f k = ∑ q, g q := by
  refine (Finset.sum_of_injOn (fun q : Tap => (⟨column s q, (column_spec s q).1⟩ : Fin 256)) ?_ (fun _ _ => Finset.mem_coe.mpr (Finset.mem_univ _)) ?_ ?_).symm
  · intro q _ q' _ h
    have h' : column s q = column s q' := congrArg Fin.val h
    obtain ⟨_, r1, t1, c1⟩ := column_spec s q
    obtain ⟨_, r2, t2, c2⟩ := column_spec s q'
    rw [h'] at r1 t1 c1
    refine Prod.ext (Fin.ext ?_) (Prod.ext (Fin.ext ?_) (Fin.ext ?_)) <;> omega
  · intro k _ hk
    by_contra hne
    by_cases ht : tap (64 * s.val) k
    · obtain ⟨q, hq⟩ := column_of s k ht
      exact hk ⟨q, Finset.mem_coe.mpr (Finset.mem_univ _), Fin.ext hq⟩
    · exact hne (h0 k ht)
  · intro q _
    exact (hg _ q rfl).symm

/-- A positive real comes out of a sum of extended reals. -/
theorem mul_sum_real {ι : Type} (s : Finset ι) (r : ℝ) (hr : 0 ≤ r) (f : ι → EReal) : ∑ i ∈ s, (r : EReal) * f i = (r : EReal) * ∑ i ∈ s, f i := by
  classical
  induction s using Finset.induction_on with
  | empty => simp
  | insert a s ha ih =>
    rw [Finset.sum_insert ha, Finset.sum_insert ha, ih, EReal.left_distrib_of_nonneg_of_ne_top (EReal.coe_nonneg.mpr hr) (EReal.coe_ne_top r)]

/-- The kernel's product is the convolution times 128. -/
theorem prod_eq (W : FVec Ideal S7x7x3x64 .fp8e4m3) (G : FVec Ideal S64 .f32) (px : Img)
    (s : Fin 2) (o : Fin 64) (hG : (0 : EReal) ≤ G (ix1 o)) (m : Fin 128) (hm : m.val = 64 * s.val + o.val) (ip j n b : ℕ) :
    prod (signed (gathered W) (masks (signs4 G))) (taps px) (4 * ip) j m n b
      = ((128 : ℝ) : EReal) * conv (fun i => (W i : EReal)) px o (2 * ip + n) (2 * j + s.val) b := by
  have ho := o.isLt
  have hs := s.isLt
  have hmo : (⟨m.val % 64, by omega⟩ : Fin 64) = o := Fin.ext (by show m.val % 64 = o.val; omega)
  have hl : left m = 1 + 2 * s.val := by unfold left; omega
  have hl' : left (64 * s.val) = 1 + 2 * s.val := by unfold left; omega
  have ht : ∀ k, tap m k ↔ tap (64 * s.val) k := by intro k; unfold tap; rw [hl, hl']
  unfold prod
  have e : ∀ k : Fin 256, signed (gathered W) (masks (signs4 G)) m k * taps px (4 * ip + 2 * n + kr k) (j + kw k) (kc k) (k % 4) b
      = (if h : tap m k then (W (ix4 ⟨kr k, h.1⟩ ⟨4 * kw k + k.val % 4 - left m, h.2.2⟩ ⟨kc k, kc_lt k⟩ ⟨m.val % 64, by omega⟩) : EReal) else 0)
        * ((stored px (4 * ip + 2 * n + kr k) (j + kw k) (kc k) (k % 4) b : ℝ) : EReal) := by
    intro k
    rw [signed_apply]
    unfold taps
    congr 1
    by_cases h : tap m k
    · rw [dif_pos h, dif_pos h, hmo, if_neg (not_lt.mpr hG), mul_one]
    · rw [dif_neg h, dif_neg h]
  rw [Finset.sum_congr rfl fun k _ => e k]
  unfold conv
  rw [← mul_sum_real _ _ (by norm_num)]
  refine sum_taps s _ _ ?_ ?_
  · intro k hk
    rw [dif_neg fun h => hk ((ht k).mp h), zero_mul]
  · intro k q hq
    obtain ⟨_, hr, hT, hc⟩ := column_spec s q
    rw [hq] at hr hT hc
    have q1 := q.1.isLt
    have q2 := q.2.1.isLt
    have hk : tap m k := (ht k).mpr ⟨by omega, by omega, by omega⟩
    rw [dif_pos hk]
    have ei : (ix4 ⟨kr k, hk.1⟩ ⟨4 * kw k + k.val % 4 - left m, hk.2.2⟩ ⟨kc k, kc_lt k⟩ ⟨m.val % 64, by omega⟩ : S7x7x3x64.Idx) = ix4 q.1 q.2.1 q.2.2 o := by
      funext a
      fin_cases a <;> apply Fin.ext
      · exact hr
      · show 4 * kw k + k.val % 4 - left m = q.2.1.val; omega
      · exact hc
      · show m.val % 64 = o.val; omega
    rw [ei, hr, hc]
    have es : stored px (4 * ip + 2 * n + q.1.val) (j + kw k) q.2.2.val (k.val % 4) b = 128 * padded px (2 * (2 * ip + n) + q.1.val) (2 * (2 * j + s.val) + q.2.1.val) q.2.2.val b := by
      unfold stored padded
      have e1 : 2 * (2 * ip + n) + q.1.val = 4 * ip + 2 * n + q.1.val := by ring
      rw [e1]
      by_cases hv : 3 ≤ 4 * ip + 2 * n + q.1.val ∧ 4 * ip + 2 * n + q.1.val < 227 ∧ 1 ≤ j + kw k ∧ j + kw k < 73
      · rw [if_pos hv, if_pos ⟨hv.1, hv.2.1, by omega, by omega⟩]
        congr 3
        omega
      · rw [if_neg hv, if_neg (by omega), mul_zero]
    rw [es, EReal.coe_mul]
    exact mul_left_comm _ _ _

end Cert.Proof.Conv

end
-- ==== Proof.RefPatches.lean ====
/-
  The reference's patches and its contraction, at an index.
-/
module

public import proofs.«01_k».proof.Proof.RefTail
public import proofs.«01_k».proof.Proof.Conv

@[expose] public section

noncomputable section

namespace Cert.Proof.RefPatches

open Cert.ReferenceIdeal Cert.ReferenceIdeal.Gen Cert.Proof.Quantiser Cert.Proof.RefArrays Cert.Proof.RefNorm Cert.Proof.RefTail Cert.Proof.Conv
open Idealize.ShloMosaic Idealize.ShloMosaic.Pointwise
open Idealize.ShloMosaic.TcCoe Idealize.ShloMosaic.Tactic

theorem zeroB : (FloatOps.sitofp (F := Ideal) .bf16 (0#32) : EReal) = 0 := by
  show (((0#32 : BitVec 32).toInt : ℝ) : EReal) = 0
  simp

/-- The padded normalised image. -/
theorem pad_apply (px : Img) (c : Fin 3) (r : Fin 230) (q : Fin 294) (b : Fin 128) :
    (padOf (normAt px) (ix4 c r q b) : EReal) = ((padded px r.val q.val c.val b.val : ℝ) : EReal) := by
  unfold padOf
  pointwise
  unfold padded normAt
  by_cases h : 3 ≤ r.val ∧ r.val < 227 ∧ 3 ≤ q.val ∧ q.val < 291
  · rw [dif_pos (by omega), if_pos h]
    rfl
  · rw [dif_neg (by omega), if_neg h]
    exact zeroB

theorem rows_apply (P : FVec Ideal S3x230x294x128 .bf16) (d : Fin 7) (c : Fin 3) (h : Fin 112) (q : Fin 294) (b : Fin 128) :
    rowsOf P (ix5 d c h q b) = P (ix4 c ⟨2 * h.val + d.val, by omega⟩ q b) := by
  unfold rowsOf
  fin_cases d <;> pointwise
  all_goals
    congr 2
    apply Fin.ext
    dsimp only
    omega

theorem cols_apply (R : FVec Ideal S7x3x112x294x128 .bf16) (d e : Fin 7) (c : Fin 3) (h : Fin 112) (w : Fin 144) (b : Fin 128) :
    colsOf R (ix6 e d c h w b) = R (ix5 d c h ⟨2 * w.val + e.val, by omega⟩ b) := by
  unfold colsOf
  fin_cases e <;> pointwise
  all_goals
    congr 2
    apply Fin.ext
    dsimp only
    omega

/-- A patch's element is a padded pixel. -/
theorem patch_apply (px : Img) (d e : Fin 7) (c : Fin 3) (h : Fin 112) (w : Fin 144) (b : Fin 128) :
    (colsOf (rowsOf (padOf (normAt px))) (ix6 e d c h w b) : EReal) = ((padded px (2 * h.val + d.val) (2 * w.val + e.val) c.val b.val : ℝ) : EReal) := by
  rw [cols_apply, rows_apply]
  exact pad_apply px c _ _ b

/-- The contraction's dimensions. -/
abbrev D3 := dot_S7x7x3x112x144x128_S7x7x3x64_S112x144x128x64_102_012_345_3_n_n

theorem D3_rank : D3.contr.rank = 3 := rfl

/-- The contraction's index as a tap. -/
def tapOf (k : D3.contr.Idx) : Tap :=
  ((k ⟨0, by rw [D3_rank]; omega⟩).cast (show _ = 7 from rfl), (k ⟨1, by rw [D3_rank]; omega⟩).cast (show _ = 7 from rfl), (k ⟨2, by rw [D3_rank]; omega⟩).cast (show _ = 3 from rfl))

theorem tapOf_bij : Function.Bijective tapOf := by
  constructor
  · intro k k' hk
    have h0 := congrArg (fun q : Tap => q.1.val) hk
    have h1 := congrArg (fun q : Tap => q.2.1.val) hk
    have h2 := congrArg (fun q : Tap => q.2.2.val) hk
    funext ⟨a, ha⟩
    have ha' : a < 3 := ha
    apply Fin.ext
    rcases a with _ | _ | _ | a
    · exact h0
    · exact h1
    · exact h2
    · omega
  · intro q
    refine ⟨fun a => match a with
      | ⟨0, h⟩ => q.1.cast (show 7 = _ from rfl)
      | ⟨1, h⟩ => q.2.1.cast (show 7 = _ from rfl)
      | ⟨2, h⟩ => q.2.2.cast (show 3 = _ from rfl)
      | ⟨n + 3, h⟩ => absurd (show n + 3 < 3 from h) (by omega), ?_⟩
    rfl

/-- The contraction as a sum over the taps. -/
theorem dot_apply (T : FVec Ideal S7x7x3x112x144x128 .bf16) (W : FVec Ideal S7x7x3x64 .bf16) (h : Fin 112) (w : Fin 144) (b : Fin 128) (o : Fin 64) :
    (dotOf T W (ix4 h w b o) : EReal) = ∑ q : Tap, (T (ix6 q.2.1 q.1 q.2.2 h w b) : EReal) * W (ix4 q.1 q.2.1 q.2.2 o) := by
  unfold dotOf
  refine (Ideal.dotGeneral_apply D3 none _ T W (ix4 h w b o)).trans ?_
  refine Fintype.sum_bijective (M := EReal) tapOf tapOf_bij _ (fun q : Tap => (T (ix6 q.2.1 q.1 q.2.2 h w b) : EReal) * W (ix4 q.1 q.2.1 q.2.2 o)) fun k => ?_
  congr 1
  · refine congrArg T (funext fun a => ?_)
    fin_cases a <;> rfl
  · refine congrArg W (funext fun a => ?_)
    fin_cases a <;> rfl

/-- The contraction of the patches with the weights is the convolution. -/
theorem conv_apply (px : Img) (W : FVec Ideal S7x7x3x64 .bf16) (h : Fin 112) (w : Fin 144) (b : Fin 128) (o : Fin 64) :
    (dotOf (colsOf (rowsOf (padOf (normAt px)))) W (ix4 h w b o) : EReal) = conv (fun i => (W i : EReal)) px o h.val w.val b.val := by
  rw [dot_apply]
  unfold conv
  refine Finset.sum_congr rfl fun q _ => ?_
  rw [patch_apply, mul_comm]

/-- The activations at an index. -/
theorem act_apply (D : FVec Ideal S112x144x128x64 .f32) (s g b : FVec Ideal S64 .f32) (h : Fin 112) (w : Fin 144) (n : Fin 128) (o : Fin 64) :
    (actOf D s g b (ix4 h w n o) : EReal) = max (((D (ix4 h w n o) : EReal) * s (ix1 o)) * g (ix1 o) + b (ix1 o)) 0 := by
  unfold actOf spread
  pointwise

end Cert.Proof.RefPatches

end
-- ==== Proof.KernelRun.lean ====
/-
  The launch of the kernel with the pooled rows, the codes and the scales it leaves: one lemma per kind of grid point, then the run.
-/
module

public import proofs.«01_k».proof.Proof.KernelValue

@[expose] public section

noncomputable section

namespace Cert.Proof.KernelRun

open Cert.KernelIdeal Cert.KernelIdeal.Gen Cert.Proof.Trip Cert.Proof.Quantiser Cert.Proof.TripValue Cert.Proof.Rows Cert.Proof.Blocks Cert.Proof.Scales Cert.Proof.Pool Cert.Proof.PoolTrip Cert.Proof.PoolLoop Cert.Proof.KernelValue
open Cert.Proof.KernelIdealFrame (scopedRest_own cond1_iff cond2_iff cond3_iff cond4_iff cond5_iff)
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

local notation "𝕄" => MT nD τ sig Unit (Elt Ideal) ℕ (UR sig nD τ) ℕ

variable (m : (ℓ : Loc nD τ sig) → Buf (Elt Ideal) ℓ) (ρ : Dev nD → PrngReg)

/-- Before point `n < 28`, not the first: the codes of the rows so far. -/
theorem inv_codes {px : Img} {Wv} {n : ℕ} {g9 g10 g12 g13} (h : Inv px Wv n g9 g10 g12 g13) (h0 : 0 < n) (h1 : n < 28) : Codes px (8 * n) g9 := by
  have := (h.1 h0).1
  rwa [Nat.min_eq_left (by omega)] at this
theorem inv_extremes {px : Img} {Wv} {n : ℕ} {g9 g10 g12 g13} (h : Inv px Wv n g9 g10 g12 g13) (h0 : 0 < n) (h1 : n < 28) : Extremes px (8 * n) g12 := by
  have := (h.1 h0).2
  rwa [Nat.min_eq_left (by omega)] at this
/-- From point 28 on: the codes and the extremes of the whole image. -/
theorem inv_codes28 {px : Img} {Wv} {n : ℕ} {g9 g10 g12 g13} (h : Inv px Wv n g9 g10 g12 g13) (h1 : 28 ≤ n) : Codes px 224 g9 := by
  have := (h.1 (by omega)).1
  rwa [Nat.min_eq_right h1] at this
theorem inv_extremes28 {px : Img} {Wv} {n : ℕ} {g9 g10 g12 g13} (h : Inv px Wv n g9 g10 g12 g13) (h1 : 28 ≤ n) : Extremes px 224 g12 := by
  have := (h.1 (by omega)).2
  rwa [Nat.min_eq_right h1] at this
theorem inv_rows {px : Img} {Wv} {n : ℕ} {g9 g10 g12 g13} (h1 : n < 28) (hc : Codes px (8 * n + 8) g9) (he : Extremes px (8 * n + 8) g12) :
    Inv px Wv (n + 1) g9 g10 g12 g13 := by
  have e : 8 * min (n + 1) 28 = 8 * n + 8 := by omega
  refine ⟨fun _ => ?_, fun h => by omega, fun h => by omega⟩
  rw [e]
  exact ⟨hc, he⟩
theorem inv_later {px : Img} {Wv} {n : ℕ} {g9 g10 g10' g12 g13 g13'} (h1 : 28 ≤ n) (h : Inv px Wv n g9 g10 g12 g13) (hk : Shift px g13')
    (hg : ∀ y : S72x64x128.Idx, g10' y = kept Wv (taps px) (n - 28 + 1) (y 0).val (y 1).val (y 2).val) :
    Inv px Wv (n + 1) g9 g10' g12 g13' := by
  refine ⟨fun _ => ?_, fun _ => hk, fun _ => ?_⟩
  · rw [Nat.min_eq_right (by omega)]
    exact ⟨inv_codes28 h h1, inv_extremes28 h h1⟩
  · rw [show n + 1 - 28 = n - 28 + 1 by omega]
    exact hg

theorem codes_eq (c : Dev nD) (t : Fin cfg0.N) (g : S4x3x288x128.Idx → Ideal .fp8e4m3) (h : CodesOut (img m c) (t.val - 28) g) :
    g = codesAt m c t := funext h

theorem pooled_eq (c : Dev nD) (t : Fin cfg0.N) (g : S1x72x64x128.Idx → Ideal .bf16)
    (h : ∀ y : S1x72x64x128.Idx, g y = pooled (wtsOf m c) (taps (img m c)) (ssOf m c) (bbOf m c) (t.val - 28) (y 1).val (y 2).val (y 3).val) :
    g = pooledAt m c t := funext h

theorem weights_eq (c : Dev nD) (t : Fin cfg0.N) (arg2 : Memref sig .tc .vmem S128x256 .fp8e4m3) (arg3 : Memref sig .tc .vmem S128x256 .f32)
    (f2 : BufTy.Contents (Elt Ideal) arg2.view.ty) (f3 : BufTy.Contents (Elt Ideal) arg3.view.ty)
    (e2 : arg2.view.read (Elt Ideal) f2 = iblk m c 1 t) (e3 : arg3.view.read (Elt Ideal) f3 = iblk m c 2 t) : wts arg2 arg3 f2 f3 = wtsOf m c := by
  rw [wts_eq, e2, e3, block_1, block_2]
  rfl

theorem scales_eq (c : Dev nD) (t : Fin cfg0.N) (g : S64x128.Idx → Ideal .f32) (e : g = iblk m c 3 t) (y : S64x128.Idx) :
    g y = ssOf m c 0 (y 0).val (y 1).val := by
  rw [e, block_3]
  exact table_apply _ y
theorem shifts_eq (c : Dev nD) (t : Fin cfg0.N) (g : S64x128.Idx → Ideal .f32) (e : g = iblk m c 4 t) (y : S64x128.Idx) :
    g y = bbOf m c 0 (y 0).val (y 1).val := by
  rw [e, block_4]
  exact table_apply _ y

set_option maxHeartbeats 4000000 in
/-- The body's obligation: each kind of point by its run. -/
theorem body_obligation (c : Dev nD) : BodyObligationLoose (dats m 0 c) (defs₀ (F := Ideal)) 𝒱₀ () Set.univ fgt := fun t => by
  have hN : t.val < 84 := t.isLt
  have hv : (grid0.coords t 0).val = t.val := coords_val t
  rcases Nat.lt_or_ge t.val 28 with hlt | hge
  · have i5 : idle0 5 (grid0.coords t) = true := (idle_5 t).trans (decide_eq_true (by omega))
    have i6 : idle0 6 (grid0.coords t) = true := (idle_6 t).trans (decide_eq_true (by omega))
    have i7 : idle0 7 (grid0.coords t) = true := (idle_7 t).trans (decide_eq_true (by omega))
    have l5 : (cfg0.win 5).flush t = false := (flush_5 t).trans (decide_eq_false (by omega))
    have l6 : (cfg0.win 6).flush t = false := (flush_6 t).trans (decide_eq_false (by omega))
    have l7 : (cfg0.win 7).flush t = false := (flush_7 t).trans (decide_eq_false (by omega))
    rw [bigSep_W0, bigSep_W0]
    sl_whnfR [defs₀, Defs.onTc]
    simp only [fgt_0, fgt_1, fgt_2, fgt_3, fgt_4, fgt_5, fgt_6, fgt_7, before0_0, before0_1, before0_2, before0_3, before0_4, idle_0, idle_1, idle_2, idle_3, idle_4, i5, i6, i7, l5, l6, l7]
    rw [show (dats m 0 c).owesAt () t.succ = (dats m 0 c).owesAt () t.castSucc from rfl, after0_0, after0_1, after0_2, after0_3, after0_4]
    rw [show (dats m 0 c).Φ t.castSucc = Φt m c t.val from rfl, show (dats m 0 c).Φ t.succ = Φt m c (t.val + 1) from rfl]
    unfold Φt owns
    iintro ⟨⟨⟨%f9, %f10, %f11, %f12, %f13, H9, H10, H11, H12, H13, %hI⟩, Hr⟩, Ho, ⟨%d0, %f1, %e1, H1⟩, ⟨%d1, %f2, %e2, H2⟩, ⟨%d2, %f3, %e3, H3⟩, ⟨%d3, %f4, %e4, H4⟩, ⟨%d4, %f5, %e5, H5⟩, ⟨%d5, %f6, %e6, H6⟩, ⟨%d6, %f7, %e7, H7⟩, ⟨%d7, %f8, %e8, H8⟩⟩
    have hX := block_img m c t hlt
    rw [← e1, ← hv] at hX
    by_cases h0 : t.val = 0
    · iapply (RunRows.run_first (img m c) c (grid0.coords t) _ _ _ _ _ _ _ _ _ _ _ _ _ _ _ _ (Memref.whole cc0_scratch0) _ (Memref.whole cc0_scratch1) _ (Memref.whole cc0_scratch2) _ (Memref.whole cc0_scratch3) _ (Memref.whole cc0_scratch4) _ f1 f2 f3 f4 f5 f6 f7 f8 f9 f10 f11 f12 f13 ((cond1_iff _).mpr (hv.trans h0)) hX _ _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iintro ⟨H1, H2, H3, H4, H5, H6, H7, H8, H10, H11, H13, ⟨%g9, H9, %q9⟩, ⟨%g12, H12, %q12⟩⟩
      rw [hv] at q9 q12
      isplitl [H9 H10 H11 H12 H13 Hr]
      · isplitr [Hr]
        · iexists g9
          iexists f10
          iexists f11
          iexists g12
          iexists f13
          isplitl [H9]; · iexact H9
          isplitl [H10]; · iexact H10
          isplitl [H11]; · iexact H11
          isplitl [H12]; · iexact H12
          isplitl [H13]; · iexact H13
          ipureintro; exact inv_rows hlt q9 q12
        · iexact Hr
      isplitl [Ho]; · iexact Ho
      isplitl [H1]; · iexists f1; isplitr; · ipureintro; exact e1
                      iexact H1
      isplitl [H2]; · iexists f2; isplitr; · ipureintro; exact e2
                      iexact H2
      isplitl [H3]; · iexists f3; isplitr; · ipureintro; exact e3
                      iexact H3
      isplitl [H4]; · iexists f4; isplitr; · ipureintro; exact e4
                      iexact H4
      isplitl [H5]; · iexists f5; isplitr; · ipureintro; exact e5
                      iexact H5
      isplitl [H6]; · iexists d5; iexists f6; isplitr; · ipureintro; exact e6
                      iexact H6
      isplitl [H7]; · iexists d6; iexists f7; isplitr; · ipureintro; exact e7
                      iexact H7
      iexists d7; iexists f8; isplitr; · ipureintro; exact e8
      iexact H8
    · iapply (RunRows.run_rows (img m c) c (grid0.coords t) _ _ _ _ _ _ _ _ _ _ _ _ _ _ _ _ (Memref.whole cc0_scratch0) _ (Memref.whole cc0_scratch1) _ (Memref.whole cc0_scratch2) _ (Memref.whole cc0_scratch3) _ (Memref.whole cc0_scratch4) _ f1 f2 f3 f4 f5 f6 f7 f8 f9 f10 f11 f12 f13 (fun h => h0 (hv.symm.trans ((cond1_iff _).mp h))) ((cond2_iff _).mpr (by rw [hv]; exact hlt)) hX (by rw [hv]; exact inv_codes hI (by omega) hlt) (by rw [hv]; exact inv_extremes hI (by omega) hlt) _ _)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iintro ⟨H1, H2, H3, H4, H5, H6, H7, H8, H10, H11, H13, ⟨%g9, H9, %q9⟩, ⟨%g12, H12, %q12⟩⟩
      rw [hv] at q9 q12
      isplitl [H9 H10 H11 H12 H13 Hr]
      · isplitr [Hr]
        · iexists g9
          iexists f10
          iexists f11
          iexists g12
          iexists f13
          isplitl [H9]; · iexact H9
          isplitl [H10]; · iexact H10
          isplitl [H11]; · iexact H11
          isplitl [H12]; · iexact H12
          isplitl [H13]; · iexact H13
          ipureintro; exact inv_rows hlt q9 q12
        · iexact Hr
      isplitl [Ho]; · iexact Ho
      isplitl [H1]; · iexists f1; isplitr; · ipureintro; exact e1
                      iexact H1
      isplitl [H2]; · iexists f2; isplitr; · ipureintro; exact e2
                      iexact H2
      isplitl [H3]; · iexists f3; isplitr; · ipureintro; exact e3
                      iexact H3
      isplitl [H4]; · iexists f4; isplitr; · ipureintro; exact e4
                      iexact H4
      isplitl [H5]; · iexists f5; isplitr; · ipureintro; exact e5
                      iexact H5
      isplitl [H6]; · iexists d5; iexists f6; isplitr; · ipureintro; exact e6
                      iexact H6
      isplitl [H7]; · iexists d6; iexists f7; isplitr; · ipureintro; exact e7
                      iexact H7
      iexists d7; iexists f8; isplitr; · ipureintro; exact e8
      iexact H8
  by_cases h28 : t.val = 28
  · have i5 : idle0 5 (grid0.coords t) = false := (idle_5 t).trans (decide_eq_false (by omega))
    have i6 : idle0 6 (grid0.coords t) = false := (idle_6 t).trans (decide_eq_false (by omega))
    have i7 : idle0 7 (grid0.coords t) = false := (idle_7 t).trans (decide_eq_false (by omega))
    have l5 : (cfg0.win 5).flush t = true := (flush_5 t).trans (decide_eq_true (by omega))
    have l6 : (cfg0.win 6).flush t = true := (flush_6 t).trans (decide_eq_true (by omega))
    have l7 : (cfg0.win 7).flush t = false := (flush_7 t).trans (decide_eq_false (by omega))
    rw [bigSep_W0, bigSep_W0]
    sl_whnfR [defs₀, Defs.onTc]
    simp only [fgt_0, fgt_1, fgt_2, fgt_3, fgt_4, fgt_5, fgt_6, fgt_7, before0_0, before0_1, before0_2, before0_3, before0_4, idle_0, idle_1, idle_2, idle_3, idle_4, i5, i6, i7, l5, l6, l7]
    rw [show (dats m 0 c).owesAt () t.succ = (dats m 0 c).owesAt () t.castSucc from rfl, after0_0, after0_1, after0_2, after0_3, after0_4]
    rw [show (dats m 0 c).Φ t.castSucc = Φt m c t.val from rfl, show (dats m 0 c).Φ t.succ = Φt m c (t.val + 1) from rfl]
    unfold Φt owns
    rw [after0_5, after0_6, after0_7]
    iintro ⟨⟨⟨%f9, %f10, %f11, %f12, %f13, H9, H10, H11, H12, H13, %hI⟩, Hr⟩, Ho, ⟨%d0, %f1, %e1, H1⟩, ⟨%d1, %f2, %e2, H2⟩, ⟨%d2, %f3, %e3, H3⟩, ⟨%d3, %f4, %e4, H4⟩, ⟨%d4, %f5, %e5, H5⟩, ⟨%d5, %f6, %e6, H6⟩, ⟨%d6, %f7, %e7, H7⟩, ⟨%d7, %f8, %e8, H8⟩⟩
    iapply (RunBlocks.run_28 (img m c) c (grid0.coords t) _ _ _ _ _ _ _ _ _ _ _ _ _ _ _ _ (Memref.whole cc0_scratch0) _ (Memref.whole cc0_scratch1) _ (Memref.whole cc0_scratch2) _ (Memref.whole cc0_scratch3) _ (Memref.whole cc0_scratch4) _ f1 f2 f3 f4 f5 f6 f7 f8 f9 f10 f11 f12 f13 (pxOf_le _) (hv.trans h28) (inv_codes28 hI hge) (inv_extremes28 hI (by omega)) (wtsOf m c) (weights_eq m c t _ _ _ _ e2 e3) (ssOf m c) (bbOf m c) (scales_eq m c t _ e4) (shifts_eq m c t _ e5) _ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H1, H2, H3, H4, H5, H9, H12, ⟨%g6, H6, %q6⟩, ⟨%g10, H10, %q10⟩, ⟨%g11, H11⟩, ⟨%g7, H7, %q7⟩, ⟨%g8, H8, %q8⟩, ⟨%g13, H13, %q13⟩⟩
    rw [hv] at q6 q7 q10
    isplitl [H9 H10 H11 H12 H13 Hr]
    · isplitr [Hr]
      · iexists f9
        iexists g10
        iexists g11
        iexists f12
        iexists g13
        isplitl [H9]; · iexact H9
        isplitl [H10]; · iexact H10
        isplitl [H11]; · iexact H11
        isplitl [H12]; · iexact H12
        isplitl [H13]; · iexact H13
        ipureintro; exact inv_later hge hI q13 q10
      · iexact Hr
    isplitl [Ho]; · iexact Ho
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists g6; isplitr; · ipureintro; exact pooled_eq m c t _ q6
                    iexact H6
    isplitl [H7]; · iexists g7; isplitr; · ipureintro; exact codes_eq m c t _ q7
                    iexact H7
    iexists g8; isplitr; · ipureintro; exact funext q8
    iexact H8
  · have i5 : idle0 5 (grid0.coords t) = false := (idle_5 t).trans (decide_eq_false (by omega))
    have i6 : idle0 6 (grid0.coords t) = false := (idle_6 t).trans (decide_eq_false (by omega))
    have i7 : idle0 7 (grid0.coords t) = true := (idle_7 t).trans (decide_eq_true (by omega))
    have l5 : (cfg0.win 5).flush t = true := (flush_5 t).trans (decide_eq_true (by omega))
    have l6 : (cfg0.win 6).flush t = true := (flush_6 t).trans (decide_eq_true (by omega))
    rw [bigSep_W0, bigSep_W0]
    sl_whnfR [defs₀, Defs.onTc]
    simp only [fgt_0, fgt_1, fgt_2, fgt_3, fgt_4, fgt_5, fgt_6, fgt_7, before0_0, before0_1, before0_2, before0_3, before0_4, idle_0, idle_1, idle_2, idle_3, idle_4, i5, i6, i7, l5, l6, flush_7 t]
    rw [show (dats m 0 c).owesAt () t.succ = (dats m 0 c).owesAt () t.castSucc from rfl, after0_0, after0_1, after0_2, after0_3, after0_4]
    rw [show (dats m 0 c).Φ t.castSucc = Φt m c t.val from rfl, show (dats m 0 c).Φ t.succ = Φt m c (t.val + 1) from rfl]
    unfold Φt owns
    simp only [before0_7 m c t (by omega)]
    rw [after0_5, after0_6]
    iintro ⟨⟨⟨%f9, %f10, %f11, %f12, %f13, H9, H10, H11, H12, H13, %hI⟩, Hr⟩, Ho, ⟨%d0, %f1, %e1, H1⟩, ⟨%d1, %f2, %e2, H2⟩, ⟨%d2, %f3, %e3, H3⟩, ⟨%d3, %f4, %e4, H4⟩, ⟨%d4, %f5, %e5, H5⟩, ⟨%d5, %f6, %e6, H6⟩, ⟨%d6, %f7, %e7, H7⟩, ⟨%d7, %f8, %e8, H8⟩⟩
    iapply (RunBlocks.run_later (img m c) c (grid0.coords t) _ _ _ _ _ _ _ _ _ _ _ _ _ _ _ _ (Memref.whole cc0_scratch0) _ (Memref.whole cc0_scratch1) _ (Memref.whole cc0_scratch2) _ (Memref.whole cc0_scratch3) _ (Memref.whole cc0_scratch4) _ f1 f2 f3 f4 f5 f6 f7 f8 f9 f10 f11 f12 f13 (by rw [hv]; omega) (inv_codes28 hI hge) (hI.2.1 (by omega)) (wtsOf m c) (weights_eq m c t _ _ _ _ e2 e3) (ssOf m c) (bbOf m c) (scales_eq m c t _ e4) (shifts_eq m c t _ e5) (by rw [hv]; exact hI.2.2 (by omega)) _ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H1, H2, H3, H4, H5, H8, H9, H12, H13, ⟨%g6, H6, %q6⟩, ⟨%g10, H10, %q10⟩, ⟨%g11, H11⟩, ⟨%g7, H7, %q7⟩⟩
    rw [hv] at q6 q7 q10
    isplitl [H9 H10 H11 H12 H13 Hr]
    · isplitr [Hr]
      · iexists f9
        iexists g10
        iexists g11
        iexists f12
        iexists f13
        isplitl [H9]; · iexact H9
        isplitl [H10]; · iexact H10
        isplitl [H11]; · iexact H11
        isplitl [H12]; · iexact H12
        isplitl [H13]; · iexact H13
        ipureintro; exact inv_later hge hI (hI.2.1 (by omega)) q10
      · iexact Hr
    isplitl [Ho]; · iexact Ho
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    isplitl [H6]; · iexists g6; isplitr; · ipureintro; exact pooled_eq m c t _ q6
                    iexact H6
    isplitl [H7]; · iexists g7; isplitr; · ipureintro; exact codes_eq m c t _ q7
                    iexact H7
    by_cases h83 : t.val = 83
    · rw [decide_eq_true h83, after0_7]
      iexists f8; isplitr; · ipureintro; exact e8
      iexact H8
    · rw [decide_eq_false h83]
      iexists d7; iexists f8; isplitr; · ipureintro; exact e8
      iexact H8

end Cert.Proof.KernelRun
-- ==== Proof.KernelArrays.lean ====
/-
  What the kernel's run leaves in the arrays of the pooled rows, of the codes and of the scales.
-/
module

public import proofs.«01_k».proof.Proof.KernelRun

@[expose] public section

noncomputable section

namespace Cert.Proof.KernelArrays

open Cert.KernelIdeal Cert.KernelIdeal.Gen Cert.Proof.Trip Cert.Proof.Quantiser Cert.Proof.PoolLoop Cert.Proof.KernelValue Cert.Proof.KernelRun
open Cert.Proof.KernelIdealFrame (scopedRest_own)
open Idealize.ShloMosaic Idealize.ShloMosaic.Pointwise
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationLoose cellOf ΦA)

variable (m : (ℓ : Loc nD τ sig) → Buf (Elt Ideal) ℓ) (ρ : Dev nD → PrngReg)

theorem enter (c : Dev nD) : ΦA spec0 c ⊢ (dats m 0 c).Φ 0 := by
  rw [show (dats m 0 c).Φ 0 = Φt m c 0 from rfl]
  unfold ΦA Φt
  rw [scopedRest_own]
  iintro ⟨⟨⟨%f9, H9⟩, ⟨%f10, H10⟩, ⟨%f11, H11⟩, ⟨%f12, H12⟩, ⟨%f13, H13⟩⟩, Hr⟩
  isplitr [Hr]
  · iexists f9
    iexists f10
    iexists f11
    iexists f12
    iexists f13
    isplitl [H9]; · iexact H9
    isplitl [H10]; · iexact H10
    isplitl [H11]; · iexact H11
    isplitl [H12]; · iexact H12
    isplitl [H13]; · iexact H13
    ipureintro
    exact ⟨fun h => absurd h (by omega), fun h => absurd h (by omega), fun h => absurd h (by omega)⟩
  · iexact Hr

theorem leave (c : Dev nD) : (dats m 0 c).Φ (Fin.last cfg0.N) ⊢ ΦA spec0 c := by
  rw [show (dats m 0 c).Φ (Fin.last cfg0.N) = Φt m c (Fin.last cfg0.N).val from rfl]
  unfold ΦA Φt
  rw [scopedRest_own]
  iintro ⟨⟨%f9, %f10, %f11, %f12, %f13, H9, H10, H11, H12, H13, %hI⟩, Hr⟩
  isplitr [Hr]
  · isplitl [H9]; · iexists f9; iexact H9
    isplitl [H10]; · iexists f10; iexact H10
    isplitl [H11]; · iexists f11; iexact H11
    isplitl [H12]; · iexists f12; iexact H12
    iexists f13; iexact H13
  · iexact Hr

set_option backward.isDefEq.respectTransparency.types false in
/-- The run, with the arrays of the pooled rows, of the codes and of the scales tracked. -/
theorem run_main : θ_run defs (onTc (τ := τ) (main (F := Ideal))) (s₀ m ρ)
    (fun r => RDat.FramePost cfg0 (fun c => (dats m 0 c).toRForget fgt) (V m) r ∧ r.2.sem = fun _ => 0) :=
  Pipeline.θ_run_frame_track_forget (Q' := _) cfgs (dats m) (0 : Fin 1) launch0 defs₀ 𝒱₀ fgt m ρ main
    (hbody := fun c => body_obligation m c) (hshare := fun c => (dats m 0 c).share_full fun _ => rfl)
    (howed := fun _ _ => rfl) (V := V m) (hmain := hmain m 𝒱₀) (hA := fun _ _ => rfl) (hin := enter m) (hout := leave m)
    (hQ' := fun _ h => h)

/-- The codes of a device's image. -/
def codesOf (c : Dev nD) : S224x3x288x128.Idx → Ideal .fp8e4m3 := fun y =>
  ((code (img m c) (y 0).val (y 1).val (y 2).val (y 3).val : ℝ) : EReal)

theorem idx_6 : ∀ t : Fin cfg0.N, 28 ≤ t.val → win0_6.index t 0 = t.val - 28 ∧ win0_6.index t 1 = 0 ∧ win0_6.index t 2 = 0 ∧ win0_6.index t 3 = 0 := by decide +kernel
theorem idx_7 : ∀ t : Fin cfg0.N, win0_7.index t 0 = 0 ∧ win0_7.index t 1 = 0 := by decide +kernel

theorem idx_5 : ∀ t : Fin cfg0.N, 28 ≤ t.val → win0_5.index t 0 = t.val - 28 ∧ win0_5.index t 1 = 0 ∧ win0_5.index t 2 = 0 ∧ win0_5.index t 3 = 0 := by decide +kernel

/-- The pooled rows of a device's image. -/
def pooledOf (c : Dev nD) : S56x72x64x128.Idx → Ideal .bf16 := fun y =>
  pooled (wtsOf m c) (taps (img m c)) (ssOf m c) (bbOf m c) (y 0).val (y 1).val (y 2).val (y 3).val

theorem pooled_final (c : Dev nD) : (dats m 0 c).arrAt 5 cfg0.N = pooledOf m c := by
  refine (dats m 0 c).arrAt_eq_of_covers 5 (pooledOf m c) (by decide +kernel) fun t hf y => ?_
  have ht : 28 ≤ t.val := by rw [flush_5] at hf; exact of_decide_eq_true hf
  obtain ⟨e0, e1, e2, e3⟩ := idx_5 t ht
  have hy : (y 0).val < 1 := (y 0).isLt
  blk_simp
  rw [after0_5]
  unfold pooledAt pooledOf
  blk_simp [e0, e1, e2, e3]

theorem codes_final (c : Dev nD) : (dats m 0 c).arrAt 6 cfg0.N = codesOf m c := by
  refine (dats m 0 c).arrAt_eq_of_covers 6 (codesOf m c) (by decide +kernel) fun t hf y => ?_
  have ht : 28 ≤ t.val := by rw [flush_6] at hf; exact of_decide_eq_true hf
  obtain ⟨e0, e1, e2, e3⟩ := idx_6 t ht
  blk_simp
  rw [after0_6]
  unfold codesAt codesOf
  blk_simp [e0, e1, e2, e3]
  rw [Nat.mul_comm 4]

theorem scales_final (c : Dev nD) : (dats m 0 c).arrAt 7 cfg0.N = scalesAt m c := by
  refine (dats m 0 c).arrAt_eq_of_covers 7 (scalesAt m c) (by decide +kernel) fun t hf y => ?_
  obtain ⟨e0, e1⟩ := idx_7 t
  blk_simp
  rw [after0_7]
  unfold scalesAt
  blk_simp [e0, e1]

/-- The kernel's run: the pooled rows, the codes, the scales, and the arguments unchanged. -/
theorem run : θ_run defs (onTc (τ := τ) (main (F := Ideal))) ⟨m, fun _ => 0, ρ⟩ (fun r => ∀ c : Dev nD,
      r.2.mem ((c.tc : Thread nD τ).loc main_v70_0) = pooledOf m c
      ∧ r.2.mem ((c.tc : Thread nD τ).loc main_v70_1) = codesOf m c
      ∧ r.2.mem ((c.tc : Thread nD τ).loc main_v70_2) = scalesAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((((dats m 0 c).toRForget_arrAt_iff fgt_5 _ _).mp ((h.1 c).1 5)).trans (pooled_final m c)),
      ((((dats m 0 c).toRForget_arrAt_iff fgt_6 _ _).mp ((h.1 c).1 6)).trans (codes_final m c)),
      ((((dats m 0 c).toRForget_arrAt_iff fgt_7 _ _).mp ((h.1 c).1 7)).trans (scales_final m c)),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩) (run_main m ρ)

end Cert.Proof.KernelArrays
-- ==== Proof.Pooled.lean ====
/-
  The kernel's pooled row as a maximum over the window: it is below a bound exactly when every activation in the window is.
-/
module

public import proofs.«01_k».proof.Proof.Conv
public import proofs.«01_k».proof.Proof.KernelArrays

@[expose] public section

noncomputable section

namespace Cert.Proof.Pooled

open Cert.KernelIdeal Cert.KernelIdeal.Gen Cert.Proof.Quantiser Cert.Proof.TripValue Cert.Proof.Rows Cert.Proof.Pool Cert.Proof.PoolTrip Cert.Proof.PoolLoop Cert.Proof.KernelValue
  Cert.Proof.Weights Cert.Proof.Conv Cert.Proof.KernelArrays
open Idealize.ShloMosaic Idealize.ShloMosaic.Pointwise
open Idealize.ShloMosaic.TcCoe

/-- The activation: the convolution times the gain, plus the bias, cut at zero. -/
def act (W : S7x7x3x64.Idx → EReal) (px : Img) (G B : EReal) (o : Fin 64) (b h w : ℕ) : EReal :=
  max (conv W px o h w b * G + B) 0

/-- The rows and columns of the pooling window of an output element. -/
def InWindow (p j h w : ℕ) : Prop := h < 112 ∧ w < 144 ∧ 2 * p ≤ h + 1 ∧ h ≤ 2 * p + 1 ∧ 2 * j ≤ w + 1 ∧ w ≤ 2 * j + 1

/-- The size of a gain. -/
def size (g : EReal) : EReal := if g < 0 then -g else g

theorem size_nonneg (g : EReal) : 0 ≤ size g := by
  unfold size
  split
  · next h => exact EReal.neg_nonneg.mpr h.le
  · next h => exact not_lt.mp h

/-- Scale, shift and cut. -/
def fin' (s b x : EReal) : EReal := max (x * s + b) 0

theorem fin_mono (s b : EReal) (hs : 0 ≤ s) : Monotone (fin' s b) := fun x y h =>
  max_le_max (add_le_add_left (mul_le_mul_of_nonneg_right h hs) b) le_rfl

/-- The powers of two cancel. -/
theorem fin_prod (g b c : EReal) (hg : 0 ≤ g) : fin' (size g * ((1 / 128 : ℝ) : EReal)) b (((128 : ℝ) : EReal) * c) = max (c * g + b) 0 := by
  unfold fin' size
  rw [if_neg (not_lt.mpr hg)]
  congr 2
  rw [mul_comm ((128 : ℝ) : EReal) c, mul_comm g, mul_assoc, ← mul_assoc ((128 : ℝ) : EReal), ← EReal.coe_mul]
  norm_num

theorem pooled_le (W : FVec Ideal S7x7x3x64 .fp8e4m3) (G : FVec Ideal S64 .f32) (px : Img)
    (ss bb : ℕ → ℕ → ℕ → EReal) (B : EReal) (o : Fin 64) (hG : (0 : EReal) ≤ G (ix1 o)) (p j b : ℕ) (hp : p < 56) (hj : j < 72)
    (hss : ss 0 o.val b = size (G (ix1 o)) * ((1 / 128 : ℝ) : EReal)) (hbb : bb 0 o.val b = B) (z : EReal) :
    pooled (signed (gathered W) (masks (signs4 G))) (taps px) ss bb p j o.val b ≤ z
      ↔ ∀ h w, InWindow p j h w → act (fun i => (W i : EReal)) px (G (ix1 o)) B o b h w ≤ z := by
  have ho := o.isLt
  have ht : ∀ R j n : ℕ, prod (signed (gathered W) (masks (signs4 G))) (taps px) (4 * R) j (top o.val) n b
      = ((128 : ℝ) : EReal) * conv (fun i => (W i : EReal)) px o (2 * R + n) (2 * j) b := fun R j n =>
    prod_eq W G px 0 o hG (top o.val) (by show o.val % 64 = 64 * 0 + o.val; omega) R j n b
  have hb : ∀ R j n : ℕ, prod (signed (gathered W) (masks (signs4 G))) (taps px) (4 * R) j (bot o.val) n b
      = ((128 : ℝ) : EReal) * conv (fun i => (W i : EReal)) px o (2 * R + n) (2 * j + 1) b := fun R j n =>
    prod_eq W G px 1 o hG (bot o.val) (by show 64 + o.val % 64 = 64 * 1 + o.val; omega) R j n b
  have hm := fin_mono (size (G (ix1 o)) * ((1 / 128 : ℝ) : EReal)) B
    (mul_nonneg (size_nonneg _) (EReal.coe_nonneg.mpr (by norm_num)))
  have hA : ∀ h w, fin' (size (G (ix1 o)) * ((1 / 128 : ℝ) : EReal)) B (((128 : ℝ) : EReal) * conv (fun i => (W i : EReal)) px o h w b) = act (fun i => (W i : EReal)) px (G (ix1 o)) B o b h w :=
    fun h w => fin_prod _ _ _ hG
  unfold pooled out
  rw [hss, hbb]
  show fin' _ B _ ≤ z ↔ _
  unfold kept cell before
  simp only [ht, hb]
  constructor
  · intro hle h w hw
    unfold InWindow at hw
    rw [← hA]
    refine le_trans (hm ?_) hle
    have hr : h = 2 * p + 0 ∨ h = 2 * p + 1 ∨ (p ≠ 0 ∧ h = 2 * (p - 1) + 1) := by omega
    have hc : w = 2 * j ∨ w = 2 * j + 1 ∨ (j ≠ 0 ∧ w = 2 * (j - 1) + 1) := by omega
    rcases hr with rfl | rfl | ⟨hp0, rfl⟩ <;> rcases hc with rfl | rfl | ⟨hj0, rfl⟩ <;>
      first
      | simp only [le_max_iff, le_refl, true_or, or_true, Nat.add_zero]; done
      | simp only [if_neg hp0, le_max_iff, le_refl, true_or, or_true, Nat.add_zero]; done
      | simp only [if_neg hj0, le_max_iff, le_refl, true_or, or_true, Nat.add_zero]; done
      | simp only [if_neg hp0, if_neg hj0, le_max_iff, le_refl, true_or, or_true, Nat.add_zero]
  · intro hall
    by_cases hp0 : p = 0 <;> by_cases hj0 : j = 0 <;>
      simp only [hp0, hj0, if_true, if_false, max_bot_left, max_bot_right, hm.map_max, hA, max_le_iff] <;>
      subst_vars <;> (repeat' apply And.intro) <;> apply hall <;> unfold InWindow <;> omega

end Cert.Proof.Pooled

end
-- ==== Proof.RefPool.lean ====
/-
  The reference's pooled result: it is below a bound exactly when every activation in the window is.
-/
module

public import proofs.«01_k».proof.Proof.RefPatches
public import proofs.«01_k».proof.Proof.Pooled

@[expose] public section

noncomputable section

namespace Cert.Proof.RefPool

open Cert.ReferenceIdeal Cert.ReferenceIdeal.Gen Cert.Proof.Quantiser Cert.Proof.RefArrays Cert.Proof.RefNorm Cert.Proof.RefTail Cert.Proof.RefPatches Cert.Proof.Conv Cert.Proof.Pooled
open Idealize.ShloMosaic Idealize.ShloMosaic.Pointwise
open Idealize.ShloMosaic.TcCoe Idealize.ShloMosaic.Tactic

/-- A running maximum is below a bound exactly when its start and every entry are. -/
theorem fold_le {ι : Type} (v : ι → EReal) (z : EReal) : ∀ (l : List ι) (r : EReal), l.foldl (fun r n => max r (v n)) r ≤ z ↔ r ≤ z ∧ ∀ n ∈ l, v n ≤ z
  | [], r => by simp
  | a :: l, r => by
    rw [List.foldl_cons, fold_le v z l, max_le_iff]
    simp only [List.mem_cons, forall_eq_or_imp]
    tauto

theorem bot_bits : (Ideal.ofBits .f32 0xFF800000#32 : EReal) = ⊥ := by
  simp [Ideal.ofBits, Ideal.ieee]

theorem pool_le (A : FVec Ideal S112x144x128x64 .f32) (i : Fin 56) (j : Fin 72) (b : Fin 128) (o : Fin 64) (z : EReal) :
    (poolOf A (ix4 i j b o) : EReal) ≤ z ↔ ∀ (h w : ℕ) (hw : InWindow i.val j.val h w), (A (ix4 ⟨h, hw.1⟩ ⟨w, hw.2.1⟩ b o) : EReal) ≤ z := by
  unfold poolOf Host.reduceWindow
  refine (fold_le _ z _ _).trans ?_
  have hi := i.isLt
  have hj := j.isLt
  constructor
  · intro hall h w hw
    obtain ⟨w1, w2, w3, w4, w5, w6⟩ := hw
    have e := hall.2 ((⟨4, ![3, 3, 1, 1]⟩ : Shape).rowMajor (ix4 (⟨h + 1 - 2 * i.val, by omega⟩ : Fin 3) (⟨w + 1 - 2 * j.val, by omega⟩ : Fin 3) (0 : Fin 1) (0 : Fin 1))) (List.mem_finRange _)
    dsimp only at e
    simp only [Equiv.symm_apply_apply] at e
    rw [dif_pos] at e
    · refine le_trans (le_of_eq ?_) e
      refine congrArg A (funext fun a => Fin.ext ?_)
      fin_cases a
      · show h = i.val * 2 + (h + 1 - 2 * i.val) - 1; omega
      · show w = j.val * 2 + (w + 1 - 2 * j.val) - 1; omega
      · show b.val = b.val * 1 + 0 - 0; omega
      · show o.val = o.val * 1 + 0 - 0; omega
    · intro a
      have hb := b.isLt
      have ho := o.isLt
      fin_cases a
      · show 1 ≤ i.val * 2 + (h + 1 - 2 * i.val) ∧ i.val * 2 + (h + 1 - 2 * i.val) - 1 < 112; omega
      · show 1 ≤ j.val * 2 + (w + 1 - 2 * j.val) ∧ j.val * 2 + (w + 1 - 2 * j.val) - 1 < 144; omega
      · show 0 ≤ b.val * 1 + 0 ∧ b.val * 1 + 0 - 0 < 128; omega
      · show 0 ≤ o.val * 1 + 0 ∧ o.val * 1 + 0 - 0 < 64; omega
  · intro hall
    refine ⟨le_trans (le_of_eq bot_bits) bot_le, fun n _ => ?_⟩
    obtain ⟨k, hk⟩ : ∃ k : (⟨4, ![3, 3, 1, 1]⟩ : Shape).Idx, k = (Shape.rowMajor (⟨4, ![3, 3, 1, 1]⟩ : Shape)).symm n := ⟨_, rfl⟩
    have k0 : (k 0).val < 3 := (k 0).isLt
    have k1 : (k 1).val < 3 := (k 1).isLt
    have k2 : (k 2).val < 1 := (k 2).isLt
    have k3 : (k 3).val < 1 := (k 3).isLt
    split
    · next hin =>
      have h0 : 1 ≤ i.val * 2 + (k 0).val ∧ i.val * 2 + (k 0).val - 1 < 112 := by rw [hk]; exact hin 0
      have h1 : 1 ≤ j.val * 2 + (k 1).val ∧ j.val * 2 + (k 1).val - 1 < 144 := by rw [hk]; exact hin 1
      have e2 : b.val * 1 + (k 2).val - 0 = b.val := by omega
      have e3 : o.val * 1 + (k 3).val - 0 = o.val := by omega
      refine le_trans (le_of_eq ?_) (hall (i.val * 2 + (k 0).val - 1) (j.val * 2 + (k 1).val - 1) ⟨h0.2, h1.2, by omega, by omega, by omega, by omega⟩)
      refine congrArg A (funext fun a => Fin.ext ?_)
      subst hk
      fin_cases a
      · rfl
      · rfl
      · exact e2
      · exact e3
    · exact le_trans (le_of_eq bot_bits) bot_le

/-- The result at an index, as the pooled activations. -/
theorem tail_le (px : Img) (W : FVec Ideal S7x7x3x64 .bf16) (s g b : FVec Ideal S64 .f32)
    (p : Fin 56) (j : Fin 72) (o : Fin 64) (n : Fin 128) (z : EReal) :
    (tailOf (normAt px) W s g b (ix4 p j o n) : EReal) ≤ z ↔ ∀ h w, InWindow p.val j.val h w → act (fun i => (W i : EReal)) px ((s (ix1 o) : EReal) * g (ix1 o)) (b (ix1 o)) o n.val h w ≤ z := by
  have e : (tailOf (normAt px) W s g b (ix4 p j o n) : EReal) = poolOf (actOf (dotOf (colsOf (rowsOf (padOf (normAt px)))) W) s g b) (ix4 p j n o) := by
    unfold tailOf
    generalize poolOf (actOf (dotOf (colsOf (rowsOf (padOf (normAt px)))) W) s g b) = A
    pointwise
  rw [e, pool_le]
  refine forall_congr' fun h => forall_congr' fun w => forall_congr' fun hw => ?_
  rw [act_apply, conv_apply, mul_assoc]
  rfl

end Cert.Proof.RefPool

end
-- ==== Proof.RefRun.lean ====
/-
  The reference's run with all three results.
-/
module

public import proofs.«01_k».proof.Proof.RefTailRead
public import proofs.«01_k».proof.Proof.RefPool

@[expose] public section

noncomputable section

namespace Cert.Proof.RefRun

open Cert.ReferenceIdeal Cert.ReferenceIdeal.Gen Cert.Proof.RefArrays Cert.Proof.RefNorm Cert.Proof.RefTail
open Idealize.ShloMosaic Idealize.SL.Sem
open Idealize.ShloMosaic.TcCoe Idealize.ShloMosaic.Tactic

variable (m : (ℓ : Loc nD τ sig) → Buf (Elt Ideal) ℓ) (ρ : Dev nD → PrngReg)

/-- The reference's pooled result, from the arguments. -/
def pooledR (c : Dev nD) : FVec Ideal S56x72x64x128 .f32 :=
  tailOf (normAt (rimg m c)) (weightsAt m c) (m ((c : Thread nD τ).loc main_arg2)) (m ((c : Thread nD τ).loc main_arg3)) (m ((c : Thread nD τ).loc main_arg4))

theorem tail_final (c : Dev nD) :
    Pipeline.afterTail₀ cfgs (dats m) 0 (V0 m) [hostOps1, hostOps1_1, hostOps1_2] c main_v56 = pooledR m c := by
  have e5 : Pipeline.withArrays (cfgs 0).spec c (V0 m c) (fun w => (dats m 0 c).arrAt w (cfgs 0).N) (Proc.devRef .tc main_v9_2) = normAt (rimg m c) :=
    (Pipeline.withArrays_arr (cfgs 0).spec arr_inj c (V0 m c) (fun w => (dats m 0 c).arrAt w (cfgs 0).N) 5).trans (norm_final m c)
  have e6 : Pipeline.withArrays (cfgs 0).spec c (V0 m c) (fun w => (dats m 0 c).arrAt w (cfgs 0).N) (Proc.devRef .tc main_v9_3) = weightsAt m c :=
    (Pipeline.withArrays_arr (cfgs 0).spec arr_inj c (V0 m c) (fun w => (dats m 0 c).arrAt w (cfgs 0).N) 6).trans (weights_final m c)
  have e2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have e3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  have e4 : Pipeline.withArrays (cfgs 0).spec c (V0 m c) (fun w => (dats m 0 c).arrAt w (cfgs 0).N) (Proc.devRef .tc main_arg4) = m ((c : Thread nD τ).loc main_arg4) :=
    (Pipeline.withArrays_of_ne _ c (V0 m c) _ main_arg4 (by exact (by decide : ∀ w, Pipeline.arrRef spec0 w ≠ main_arg4))).trans (V_main_arg4 m c)
  rw [RefTailRead.tail_read, e5, e6, e2, e3, e4]
  rfl

/-- Every run of the reference ends with the pooled result, the codes and the scales, and its arguments as launched. -/
theorem run : θ_run defs (onTc (τ := τ) (main (F := Ideal))) ⟨m, fun _ => 0, ρ⟩ (fun r => ∀ c : Dev nD,
      r.2.mem ((c.tc : Thread nD τ).loc main_v56) = pooledR m c
      ∧ r.2.mem ((c.tc : Thread nD τ).loc main_v57) = codesR m c
      ∧ r.2.mem ((c.tc : Thread nD τ).loc main_v9_1) = scaleAt (rimg m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  exact (θ_run defs _ _).mono (fun _ h c => ⟨((h c).2 main_v56 (Pipeline.mem_restRefs_of main_v56 (by decide) (by decide))).trans (tail_final m c),
    ((h c).2 main_v57 (Pipeline.mem_restRefs_of main_v57 (by decide) (by decide))).trans (codes_tail m c),
    ((h c).1 4).trans (scales_final m c),
    (((h c).2 main_arg0 (Pipeline.mem_restRefs_of main_arg0 (by decide) (by decide))).trans (W_main_arg0 m (dats m) c)),
    ((h c).1 2).trans (((dats m 0 c).arrAt_in 2 rfl _).trans ((A_eq m c 2).trans (V_main_arg1 m c))),
    (((h c).2 main_arg2 (Pipeline.mem_restRefs_of main_arg2 (by decide) (by decide))).trans (W_main_arg2 m (dats m) c)),
    (((h c).2 main_arg3 (Pipeline.mem_restRefs_of main_arg3 (by decide) (by decide))).trans (W_main_arg3 m (dats m) c)),
    (((h c).2 main_arg4 (Pipeline.mem_restRefs_of main_arg4 (by decide) (by decide))).trans (W_main_arg4 m (dats m) c))⟩) (run_main m ρ)

end Cert.Proof.RefRun

end
-- ==== Proof.PooledAgree.lean ====
/-
  The pooled results of the two programs, equal in every channel whose gain is not negative.
-/
module

public import proofs.«01_k».proof.Proof.RefRun

@[expose] public section

noncomputable section

namespace Cert.Proof.PooledAgree

open Idealize.ShloMosaic Idealize.ShloMosaic.Pointwise
open Idealize.ShloMosaic.TcCoe Cert.Proof.KernelValue Cert.Proof.KernelArrays Cert.Proof.Weights Cert.Proof.Pooled

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel's pooled result is below a bound exactly when every activation in the window is. -/
theorem kernel_le (c : Dev Cert.KernelIdeal.nD) (p : Fin 56) (j : Fin 72) (o : Fin 64) (n : Fin 128) (z : EReal)
    (W : FVec Ideal Cert.KernelIdeal.S7x7x3x64 .fp8e4m3) (s g b : FVec Ideal Cert.KernelIdeal.S64 .f32)
    (hW : m ((c : Thread Cert.KernelIdeal.nD Cert.KernelIdeal.τ).loc Cert.KernelIdeal.main_arg1) = W)
    (hs : m ((c : Thread Cert.KernelIdeal.nD Cert.KernelIdeal.τ).loc Cert.KernelIdeal.main_arg2) = s)
    (hg : m ((c : Thread Cert.KernelIdeal.nD Cert.KernelIdeal.τ).loc Cert.KernelIdeal.main_arg3) = g)
    (hb : m ((c : Thread Cert.KernelIdeal.nD Cert.KernelIdeal.τ).loc Cert.KernelIdeal.main_arg4) = b)
    (h0 : (0 : EReal) ≤ (s (ix1 o) : EReal) * g (ix1 o)) :
    (pooledOf m c (ix4 p j o n) : EReal) ≤ z ↔ ∀ h w, InWindow p.val j.val h w →
      act (fun i => (W i : EReal)) (img m c) ((s (ix1 o) : EReal) * g (ix1 o)) (b (ix1 o)) o n.val h w ≤ z := by
  subst hW hs hg hb
  unfold pooledOf wtsOf ssOf bbOf
  rw [V_v33, V_v62, V_v67, V_v69]
  refine pooled_le _ (gain _ _) (img m c) _ _ _ o h0 p.val j.val n.val p.isLt j.isLt ?_ ?_ z
  · unfold table
    rw [dif_pos ⟨o.isLt, n.isLt⟩]
    exact scale_apply _ o n
  · unfold table
    rw [dif_pos ⟨o.isLt, n.isLt⟩]
    exact shift_apply _ o n

/-- Equal arguments, a gain that is not negative: equal pooled results. -/
theorem pooled_eq (c : Dev Cert.KernelIdeal.nD) (p : Fin 56) (j : Fin 72) (o : Fin 64) (n : Fin 128)
    (hi : RefArrays.rimg m' c = img m c)
    (hW : m' ((c : Thread Cert.ReferenceIdeal.nD Cert.ReferenceIdeal.τ).loc Cert.ReferenceIdeal.main_arg1) = m ((c : Thread Cert.KernelIdeal.nD Cert.KernelIdeal.τ).loc Cert.KernelIdeal.main_arg1))
    (hs : m' ((c : Thread Cert.ReferenceIdeal.nD Cert.ReferenceIdeal.τ).loc Cert.ReferenceIdeal.main_arg2) = m ((c : Thread Cert.KernelIdeal.nD Cert.KernelIdeal.τ).loc Cert.KernelIdeal.main_arg2))
    (hg : m' ((c : Thread Cert.ReferenceIdeal.nD Cert.ReferenceIdeal.τ).loc Cert.ReferenceIdeal.main_arg3) = m ((c : Thread Cert.KernelIdeal.nD Cert.KernelIdeal.τ).loc Cert.KernelIdeal.main_arg3))
    (hb : m' ((c : Thread Cert.ReferenceIdeal.nD Cert.ReferenceIdeal.τ).loc Cert.ReferenceIdeal.main_arg4) = m ((c : Thread Cert.KernelIdeal.nD Cert.KernelIdeal.τ).loc Cert.KernelIdeal.main_arg4))
    (h0 : (0 : EReal) ≤ gain (m ((c : Thread Cert.KernelIdeal.nD Cert.KernelIdeal.τ).loc Cert.KernelIdeal.main_arg2)) (m ((c : Thread Cert.KernelIdeal.nD Cert.KernelIdeal.τ).loc Cert.KernelIdeal.main_arg3)) (ix1 o)) :
    (RefRun.pooledR m' c (ix4 p j o n) : EReal) = pooledOf m c (ix4 p j o n) := by
  refine eq_of_forall_ge_iff fun z => ?_
  rw [kernel_le m c p j o n z _ _ _ _ hW.symm hs.symm hg.symm hb.symm (by rw [hs, hg]; exact h0)]
  unfold RefRun.pooledR
  refine (RefPool.tail_le _ _ _ _ _ p j o n z).trans ?_
  rw [hi]
  rfl

end Cert.Proof.PooledAgree

end
-- ==== Proof.Agreement.lean ====
/-
  The kernel and the reference compute the same codes, the same scales, and the same pooled result in every channel whose gain is
  not negative: both runs put together.
-/
module

public import proofs.«01_k».proof.Proof.PooledAgree
public import proofs.«01_k».proof.Defs

@[expose] public section

noncomputable section

namespace Cert.Proof.Agreement

open Idealize.ShloMosaic Idealize.SL.Sem Idealize.ShloMosaic.Pointwise

/-- The mask's shape relations: a channel's bit, or a single bit, broadcast to a whole array. -/
instance maskFacts : Cert.On_covered.Facts where
  bcast_S_S64 := by decide
  bcast_S64_S1x1x64x1_2 := by decide
  bcast_S1x1x64x1_S56x72x64x128_0_1_2_3 := by decide
  bcast_S_S224x3x288x128 := by decide
  bcast_S_S3x128 := by decide

/-- Where the mask of the pooled result is set, the gain is not negative. -/
theorem gain_of_mask (x : IVec Cert.On_covered.S128x224x288x3 8) (W : FVec Ideal Cert.On_covered.S7x7x3x64 .fp8e4m3) (s g b : FVec Ideal Cert.On_covered.S64 .f32)
    (p : Fin 56) (j : Fin 72) (o : Fin 64) (n : Fin 128) (h : (Cert.On_covered.fn (F := Ideal) x W s g b).1 (ix4 p j o n) = 1#1) :
    (0 : EReal) ≤ Weights.gain s g (ix1 o) := by
  have e : (Cert.On_covered.fn (F := Ideal) x W s g b).1 (ix4 p j o n) = BitVec.ofBool (decide ((0 : EReal) ≤ (s (ix1 o) : EReal) * g (ix1 o))) := by
    unfold Cert.On_covered.fn
    pointwise
  rw [e] at h
  show (0 : EReal) ≤ (s (ix1 o) : EReal) * g (ix1 o)
  by_contra hn
  rw [decide_eq_false hn] at h
  exact absurd h (by decide)

/-- Both programs end with the codes and the scales of the same image, and with the same pooled result where the mask is set. -/
theorem algebraic : Cert.algebraic_KernelIdeal_ReferenceIdeal_on_covered
    (hKernelIdeal := Cert.KernelIdeal.Gen.facts) (hReferenceIdeal := Cert.ReferenceIdeal.Gen.facts) (hOn_covered := maskFacts) := by
  intro m g m' g' _ hag
  have hr : ∀ c, RefArrays.rimg m' c = KernelValue.img m c := fun c => congrArg KernelValue.pxOf (hag c).1
  refine ⟨fun c => KernelArrays.pooledOf m c,
    fun c => KernelArrays.codesOf m c, fun c => KernelValue.scalesAt m c,
    (θ_run _ _ _).mono (fun r h c => ?_) (KernelArrays.run m g),
    (θ_run _ _ _).mono (fun r h c => ?_) (RefRun.run m' g')⟩
  · obtain ⟨h0, h1, h2, ha⟩ := h c
    exact ⟨fun i _ => congrFun h0 i, fun i _ => congrFun h1 i, fun i _ => congrFun h2 i, ha⟩
  · obtain ⟨h0, h1, h2, ha⟩ := h c
    obtain ⟨_, a1, a2, a3, a4⟩ := hag c
    refine ⟨fun i hi => (congrFun h0 i).trans ?_, fun i _ => (congrFun h1 i).trans ?_, fun i _ => (congrFun h2 i).trans ?_, ha⟩
    · have ei : i = ix4 (i 0) (i 1) (i 2) (i 3) := by
        funext a
        fin_cases a <;> rfl
      rw [ei] at hi ⊢
      have hg := gain_of_mask _ _ _ _ _ _ _ _ _ hi
      exact PooledAgree.pooled_eq m m' c (i 0) (i 1) (i 2) (i 3) (hr c) a1 a2 a3 a4 hg
    · unfold RefArrays.codesR KernelArrays.codesOf
      rw [hr]
    · unfold RefArrays.scaleAt KernelValue.scalesAt
      rw [hr]

end Cert.Proof.Agreement

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.Agreement
public import Idealize.ShloMosaic.Adequacy
public import Idealize.ShloMosaic.Init

@[expose] public section

noncomputable section

namespace Cert.Proof

open Idealize.ShloMosaic Idealize.SL.Sem Cert.Kernel

/-- The named constants of the idealized kernel are what its table gives them. -/
theorem preserves : Cert.preserves_Kernel_KernelIdeal :=
  ⟨IdealRules.named_const.statement Cert.KernelIdeal.κ "slope0" .f32 0x400C4936#32 ((25600 / 11679 : ℝ) : EReal) rfl,
   IdealRules.named_const.statement Cert.KernelIdeal.κ "offset0" .f32 0xC3878BBD#32 ((-62080 / 229 : ℝ) : EReal) rfl,
   IdealRules.named_const.statement Cert.KernelIdeal.κ "slope1" .f32 0x400F6AD9#32 ((800 / 357 : ℝ) : EReal) rfl,
   IdealRules.named_const.statement Cert.KernelIdeal.κ "offset1" .f32 0xC3824925#32 ((-1824 / 7 : ℝ) : EReal) rfl,
   IdealRules.named_const.statement Cert.KernelIdeal.κ "slope2" .f32 0xC00EC7AB#32 ((-1024 / 459 : ℝ) : EReal) rfl,
   IdealRules.named_const.statement Cert.KernelIdeal.κ "offset2" .f32 0xC366F809#32 ((-51968 / 225 : ℝ) : EReal) rfl,
   IdealRules.named_const.statement Cert.KernelIdeal.κ "mean0" .f32 0x3EF851EC#32 ((97 / 200 : ℝ) : EReal) rfl,
   IdealRules.named_const.statement Cert.KernelIdeal.κ "std0" .f32 0x3E6A7EFA#32 ((229 / 1000 : ℝ) : EReal) rfl,
   IdealRules.named_const.statement Cert.KernelIdeal.κ "mean1" .f32 0x3EE978D5#32 ((57 / 125 : ℝ) : EReal) rfl,
   IdealRules.named_const.statement Cert.KernelIdeal.κ "std1" .f32 0x3E656042#32 ((28 / 125 : ℝ) : EReal) rfl,
   IdealRules.named_const.statement Cert.KernelIdeal.κ "mean2" .f32 0x3ECFDF3B#32 ((203 / 500 : ℝ) : EReal) rfl,
   IdealRules.named_const.statement Cert.KernelIdeal.κ "std2" .f32 0x3E666666#32 ((9 / 40 : ℝ) : EReal) rfl⟩

theorem claim : Cert.Claim := ⟨Cert.Kernel.Gen.facts, Cert.KernelIdeal.Gen.facts, Cert.ReferenceIdeal.Gen.facts, Agreement.maskFacts,
  fun m ρ _ => KernelFrame.frame m ρ, fun m ρ _ => KernelIdealFrame.frame m ρ, fun m ρ _ => Cert.ReferenceIdeal.Gen.frame m ρ,
  preserves, Agreement.algebraic⟩

end Cert.Proof

end
